-- ==== Defs.lean ====
def Pre_KernelMla (m : (ℓ : Loc Cert.KernelMla.nD Cert.KernelMla.τ Cert.KernelMla.sig) → Buf (Elt Bits) ℓ) : Prop :=
  True

def Pre_KernelMlaIdeal (m : (ℓ : Loc Cert.KernelMlaIdeal.nD Cert.KernelMlaIdeal.τ Cert.KernelMlaIdeal.sig) → Buf (Elt Ideal) ℓ) : Prop :=
  True

def Pre_KernelMlaIdeal_mla_operands [hPre_mla_operands : Cert.Pre_mla_operands.Facts] (m : (ℓ : Loc Cert.KernelMlaIdeal.nD Cert.KernelMlaIdeal.τ Cert.KernelMlaIdeal.sig) → Buf (Elt Ideal) ℓ) : Prop :=
  ∀ c : Dev Cert.KernelMlaIdeal.nD,
    (Cert.Pre_mla_operands.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))).1 = (fun _ => 1#1)
    ∧ (Cert.Pre_mla_operands.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))).2.1 = (fun _ => 1#1)
    ∧ (Cert.Pre_mla_operands.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))).2.2 = (fun _ => 1#1)

def Pre_ReferenceMlaIdeal (m : (ℓ : Loc Cert.ReferenceMlaIdeal.nD Cert.ReferenceMlaIdeal.τ Cert.ReferenceMlaIdeal.sig) → Buf (Elt Ideal) ℓ) : Prop :=
  True

def Pre_ReferenceMlaIdeal_mla_operands [hPre_mla_operands : Cert.Pre_mla_operands.Facts] (m : (ℓ : Loc Cert.ReferenceMlaIdeal.nD Cert.ReferenceMlaIdeal.τ Cert.ReferenceMlaIdeal.sig) → Buf (Elt Ideal) ℓ) : Prop :=
  ∀ c : Dev Cert.ReferenceMlaIdeal.nD,
    (Cert.Pre_mla_operands.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))).1 = (fun _ => 1#1)
    ∧ (Cert.Pre_mla_operands.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))).2.1 = (fun _ => 1#1)
    ∧ (Cert.Pre_mla_operands.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))).2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelFfnB (m : (ℓ : Loc Cert.KernelFfnB.nD Cert.KernelFfnB.τ Cert.KernelFfnB.sig) → Buf (Elt Bits) ℓ) : Prop :=
  True

def Pre_KernelFfnBIdeal (m : (ℓ : Loc Cert.KernelFfnBIdeal.nD Cert.KernelFfnBIdeal.τ Cert.KernelFfnBIdeal.sig) → Buf (Elt Ideal) ℓ) : Prop :=
  True

def Pre_ReferenceFfnBIdeal (m : (ℓ : Loc Cert.ReferenceFfnBIdeal.nD Cert.ReferenceFfnBIdeal.τ Cert.ReferenceFfnBIdeal.sig) → Buf (Elt Ideal) ℓ) : Prop :=
  True

def Pre_KernelFfnC (m : (ℓ : Loc Cert.KernelFfnC.nD Cert.KernelFfnC.τ Cert.KernelFfnC.sig) → Buf (Elt Bits) ℓ) : Prop :=
  True

def Pre_KernelFfnCIdeal (m : (ℓ : Loc Cert.KernelFfnCIdeal.nD Cert.KernelFfnCIdeal.τ Cert.KernelFfnCIdeal.sig) → Buf (Elt Ideal) ℓ) : Prop :=
  True

def Pre_ReferenceFfnCIdeal (m : (ℓ : Loc Cert.ReferenceFfnCIdeal.nD Cert.ReferenceFfnCIdeal.τ Cert.ReferenceFfnCIdeal.sig) → Buf (Elt Ideal) ℓ) : Prop :=
  True

def Pre_KernelFfnD (m : (ℓ : Loc Cert.KernelFfnD.nD Cert.KernelFfnD.τ Cert.KernelFfnD.sig) → Buf (Elt Bits) ℓ) : Prop :=
  True

def Pre_KernelFfnDIdeal (m : (ℓ : Loc Cert.KernelFfnDIdeal.nD Cert.KernelFfnDIdeal.τ Cert.KernelFfnDIdeal.sig) → Buf (Elt Ideal) ℓ) : Prop :=
  True

def Pre_ReferenceFfnDIdeal (m : (ℓ : Loc Cert.ReferenceFfnDIdeal.nD Cert.ReferenceFfnDIdeal.τ Cert.ReferenceFfnDIdeal.sig) → Buf (Elt Ideal) ℓ) : Prop :=
  True

def Pre_KernelGqa (m : (ℓ : Loc Cert.KernelGqa.nD Cert.KernelGqa.τ Cert.KernelGqa.sig) → Buf (Elt Bits) ℓ) : Prop :=
  True

def Pre_KernelGqaIdeal (m : (ℓ : Loc Cert.KernelGqaIdeal.nD Cert.KernelGqaIdeal.τ Cert.KernelGqaIdeal.sig) → Buf (Elt Ideal) ℓ) : Prop :=
  True

def Pre_KernelGqaIdeal_gqa_operands [hPre_gqa_operands : Cert.Pre_gqa_operands.Facts] (m : (ℓ : Loc Cert.KernelGqaIdeal.nD Cert.KernelGqaIdeal.τ Cert.KernelGqaIdeal.sig) → Buf (Elt Ideal) ℓ) : Prop :=
  ∀ c : Dev Cert.KernelGqaIdeal.nD,
    (Cert.Pre_gqa_operands.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2))).1 = (fun _ => 1#1)
    ∧ (Cert.Pre_gqa_operands.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2))).2.1 = (fun _ => 1#1)
    ∧ (Cert.Pre_gqa_operands.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2))).2.2.1 = (fun _ => 1#1)
    ∧ (Cert.Pre_gqa_operands.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2))).2.2.2.1 = (fun _ => 1#1)
    ∧ (Cert.Pre_gqa_operands.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2))).2.2.2.2 = (fun _ => 1#1)

def Pre_ReferenceGqaIdeal (m : (ℓ : Loc Cert.ReferenceGqaIdeal.nD Cert.ReferenceGqaIdeal.τ Cert.ReferenceGqaIdeal.sig) → Buf (Elt Ideal) ℓ) : Prop :=
  True

def Pre_ReferenceGqaIdeal_gqa_operands [hPre_gqa_operands : Cert.Pre_gqa_operands.Facts] (m : (ℓ : Loc Cert.ReferenceGqaIdeal.nD Cert.ReferenceGqaIdeal.τ Cert.ReferenceGqaIdeal.sig) → Buf (Elt Ideal) ℓ) : Prop :=
  ∀ c : Dev Cert.ReferenceGqaIdeal.nD,
    (Cert.Pre_gqa_operands.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2))).1 = (fun _ => 1#1)
    ∧ (Cert.Pre_gqa_operands.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2))).2.1 = (fun _ => 1#1)
    ∧ (Cert.Pre_gqa_operands.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2))).2.2.1 = (fun _ => 1#1)
    ∧ (Cert.Pre_gqa_operands.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2))).2.2.2.1 = (fun _ => 1#1)
    ∧ (Cert.Pre_gqa_operands.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2))).2.2.2.2 = (fun _ => 1#1)

def Pre_KernelMlaP (m : (ℓ : Loc Cert.KernelMlaP.nD Cert.KernelMlaP.τ Cert.KernelMlaP.sig) → Buf (Elt Bits) ℓ) : Prop :=
  True

def Pre_KernelMlaPIdeal (m : (ℓ : Loc Cert.KernelMlaPIdeal.nD Cert.KernelMlaPIdeal.τ Cert.KernelMlaPIdeal.sig) → Buf (Elt Ideal) ℓ) : Prop :=
  True

def Pre_KernelMlaPIdeal_mla_operands [hPre_mla_operands : Cert.Pre_mla_operands.Facts] (m : (ℓ : Loc Cert.KernelMlaPIdeal.nD Cert.KernelMlaPIdeal.τ Cert.KernelMlaPIdeal.sig) → Buf (Elt Ideal) ℓ) : Prop :=
  ∀ c : Dev Cert.KernelMlaPIdeal.nD,
    (Cert.Pre_mla_operands.fn (F := Ideal) (m ((c.tc : Thread Cert.KernelMlaPIdeal.nD Cert.KernelMlaPIdeal.τ).loc Cert.KernelMlaPIdeal.main_arg0)) (m ((c.tc : Thread Cert.KernelMlaPIdeal.nD Cert.KernelMlaPIdeal.τ).loc Cert.KernelMlaPIdeal.main_arg1)) (m ((c.tc : Thread Cert.KernelMlaPIdeal.nD Cert.KernelMlaPIdeal.τ).loc Cert.KernelMlaPIdeal.main_arg2))).1 = (fun _ => 1#1)
    ∧ (Cert.Pre_mla_operands.fn (F := Ideal) (m ((c.tc : Thread Cert.KernelMlaPIdeal.nD Cert.KernelMlaPIdeal.τ).loc Cert.KernelMlaPIdeal.main_arg0)) (m ((c.tc : Thread Cert.KernelMlaPIdeal.nD Cert.KernelMlaPIdeal.τ).loc Cert.KernelMlaPIdeal.main_arg1)) (m ((c.tc : Thread Cert.KernelMlaPIdeal.nD Cert.KernelMlaPIdeal.τ).loc Cert.KernelMlaPIdeal.main_arg2))).2.1 = (fun _ => 1#1)
    ∧ (Cert.Pre_mla_operands.fn (F := Ideal) (m ((c.tc : Thread Cert.KernelMlaPIdeal.nD Cert.KernelMlaPIdeal.τ).loc Cert.KernelMlaPIdeal.main_arg0)) (m ((c.tc : Thread Cert.KernelMlaPIdeal.nD Cert.KernelMlaPIdeal.τ).loc Cert.KernelMlaPIdeal.main_arg1)) (m ((c.tc : Thread Cert.KernelMlaPIdeal.nD Cert.KernelMlaPIdeal.τ).loc Cert.KernelMlaPIdeal.main_arg2))).2.2 = (fun _ => 1#1)

def Pre_ReferenceMlaPIdeal (m : (ℓ : Loc Cert.ReferenceMlaPIdeal.nD Cert.ReferenceMlaPIdeal.τ Cert.ReferenceMlaPIdeal.sig) → Buf (Elt Ideal) ℓ) : Prop :=
  True

def Pre_ReferenceMlaPIdeal_mla_operands [hPre_mla_operands : Cert.Pre_mla_operands.Facts] (m : (ℓ : Loc Cert.ReferenceMlaPIdeal.nD Cert.ReferenceMlaPIdeal.τ Cert.ReferenceMlaPIdeal.sig) → Buf (Elt Ideal) ℓ) : Prop :=
  ∀ c : Dev Cert.ReferenceMlaPIdeal.nD,
    (Cert.Pre_mla_operands.fn (F := Ideal) (m ((c.tc : Thread Cert.ReferenceMlaPIdeal.nD Cert.ReferenceMlaPIdeal.τ).loc Cert.ReferenceMlaPIdeal.main_arg0)) (m ((c.tc : Thread Cert.ReferenceMlaPIdeal.nD Cert.ReferenceMlaPIdeal.τ).loc Cert.ReferenceMlaPIdeal.main_arg1)) (m ((c.tc : Thread Cert.ReferenceMlaPIdeal.nD Cert.ReferenceMlaPIdeal.τ).loc Cert.ReferenceMlaPIdeal.main_arg2))).1 = (fun _ => 1#1)
    ∧ (Cert.Pre_mla_operands.fn (F := Ideal) (m ((c.tc : Thread Cert.ReferenceMlaPIdeal.nD Cert.ReferenceMlaPIdeal.τ).loc Cert.ReferenceMlaPIdeal.main_arg0)) (m ((c.tc : Thread Cert.ReferenceMlaPIdeal.nD Cert.ReferenceMlaPIdeal.τ).loc Cert.ReferenceMlaPIdeal.main_arg1)) (m ((c.tc : Thread Cert.ReferenceMlaPIdeal.nD Cert.ReferenceMlaPIdeal.τ).loc Cert.ReferenceMlaPIdeal.main_arg2))).2.1 = (fun _ => 1#1)
    ∧ (Cert.Pre_mla_operands.fn (F := Ideal) (m ((c.tc : Thread Cert.ReferenceMlaPIdeal.nD Cert.ReferenceMlaPIdeal.τ).loc Cert.ReferenceMlaPIdeal.main_arg0)) (m ((c.tc : Thread Cert.ReferenceMlaPIdeal.nD Cert.ReferenceMlaPIdeal.τ).loc Cert.ReferenceMlaPIdeal.main_arg1)) (m ((c.tc : Thread Cert.ReferenceMlaPIdeal.nD Cert.ReferenceMlaPIdeal.τ).loc Cert.ReferenceMlaPIdeal.main_arg2))).2.2 = (fun _ => 1#1)

def quiescent_KernelMla [hKernelMla : Cert.KernelMla.Facts] : Prop :=
  ∀ (m : (ℓ : Loc Cert.KernelMla.nD Cert.KernelMla.τ Cert.KernelMla.sig) → Buf (Elt Bits) ℓ) (g : Dev Cert.KernelMla.nD → PrngReg), Pre_KernelMla m →
    θ_run (Cert.KernelMla.defs (F := Bits)) (onTc (τ := Cert.KernelMla.τ) (Cert.KernelMla.main (F := Bits))) ⟨m, fun _ => 0, g⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2))
      ∧ r.2.sem = fun _ => 0)

def quiescent_KernelMlaIdeal [hKernelMlaIdeal : Cert.KernelMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_KernelMlaIdeal_pre_mla_operands [hKernelMlaIdeal : Cert.KernelMlaIdeal.Facts] [hPre_mla_operands : Cert.Pre_mla_operands.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal_mla_operands m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_ReferenceMlaIdeal [hReferenceMlaIdeal : Cert.ReferenceMlaIdeal.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_ReferenceMlaIdeal_pre_mla_operands [hReferenceMlaIdeal : Cert.ReferenceMlaIdeal.Facts] [hPre_mla_operands : Cert.Pre_mla_operands.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal_mla_operands m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelFfnB [hKernelFfnB : Cert.KernelFfnB.Facts] : Prop :=
  ∀ (m : (ℓ : Loc Cert.KernelFfnB.nD Cert.KernelFfnB.τ Cert.KernelFfnB.sig) → Buf (Elt Bits) ℓ) (g : Dev Cert.KernelFfnB.nD → PrngReg), Pre_KernelFfnB m →
    θ_run (Cert.KernelFfnB.defs (F := Bits)) (onTc (τ := Cert.KernelFfnB.τ) (Cert.KernelFfnB.main (F := Bits))) ⟨m, fun _ => 0, g⟩ (fun r => (∀ c : Dev Cert.KernelFfnB.nD,
      r.2.mem ((c.tc : Thread Cert.KernelFfnB.nD Cert.KernelFfnB.τ).loc Cert.KernelFfnB.main_arg0) = m ((c.tc : Thread Cert.KernelFfnB.nD Cert.KernelFfnB.τ).loc Cert.KernelFfnB.main_arg0)
      ∧ r.2.mem ((c.tc : Thread Cert.KernelFfnB.nD Cert.KernelFfnB.τ).loc Cert.KernelFfnB.main_arg1) = m ((c.tc : Thread Cert.KernelFfnB.nD Cert.KernelFfnB.τ).loc Cert.KernelFfnB.main_arg1)
      ∧ r.2.mem ((c.tc : Thread Cert.KernelFfnB.nD Cert.KernelFfnB.τ).loc Cert.KernelFfnB.main_arg2) = m ((c.tc : Thread Cert.KernelFfnB.nD Cert.KernelFfnB.τ).loc Cert.KernelFfnB.main_arg2)
      ∧ r.2.mem ((c.tc : Thread Cert.KernelFfnB.nD Cert.KernelFfnB.τ).loc Cert.KernelFfnB.main_arg3) = m ((c.tc : Thread Cert.KernelFfnB.nD Cert.KernelFfnB.τ).loc Cert.KernelFfnB.main_arg3))
      ∧ r.2.sem = fun _ => 0)

def quiescent_KernelFfnBIdeal [hKernelFfnBIdeal : Cert.KernelFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg), Pre_KernelFfnBIdeal m →
    θ_run (Cert.KernelFfnBIdeal.defs (F := Ideal)) (onTc (τ := Cert.KernelFfnBIdeal.τ) (Cert.KernelFfnBIdeal.main (F := Ideal))) ⟨m, fun _ => 0, g⟩ (fun r => (∀ c : Dev Cert.KernelFfnBIdeal.nD,
      r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
      ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
      ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
      ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3))
      ∧ r.2.sem = fun _ => 0)

def quiescent_ReferenceFfnBIdeal [hReferenceFfnBIdeal : Cert.ReferenceFfnBIdeal.Facts] : Prop :=
  ∀ (m : (ℓ : Loc Cert.ReferenceFfnBIdeal.nD Cert.ReferenceFfnBIdeal.τ Cert.ReferenceFfnBIdeal.sig) → Buf (Elt Ideal) ℓ) (g : Dev Cert.ReferenceFfnBIdeal.nD → PrngReg), Pre_ReferenceFfnBIdeal m →
    θ_run (Cert.ReferenceFfnBIdeal.defs (F := Ideal)) (onTc (τ := Cert.ReferenceFfnBIdeal.τ) (Cert.ReferenceFfnBIdeal.main (F := Ideal))) ⟨m, fun _ => 0, g⟩ (fun r => (∀ c : Dev Cert.ReferenceFfnBIdeal.nD,
      r.2.mem ((c.tc : Thread Cert.ReferenceFfnBIdeal.nD Cert.ReferenceFfnBIdeal.τ).loc Cert.ReferenceFfnBIdeal.main_arg0) = m ((c.tc : Thread Cert.ReferenceFfnBIdeal.nD Cert.ReferenceFfnBIdeal.τ).loc Cert.ReferenceFfnBIdeal.main_arg0)
      ∧ r.2.mem ((c.tc : Thread Cert.ReferenceFfnBIdeal.nD Cert.ReferenceFfnBIdeal.τ).loc Cert.ReferenceFfnBIdeal.main_arg1) = m ((c.tc : Thread Cert.ReferenceFfnBIdeal.nD Cert.ReferenceFfnBIdeal.τ).loc Cert.ReferenceFfnBIdeal.main_arg1)
      ∧ r.2.mem ((c.tc : Thread Cert.ReferenceFfnBIdeal.nD Cert.ReferenceFfnBIdeal.τ).loc Cert.ReferenceFfnBIdeal.main_arg2) = m ((c.tc : Thread Cert.ReferenceFfnBIdeal.nD Cert.ReferenceFfnBIdeal.τ).loc Cert.ReferenceFfnBIdeal.main_arg2)
      ∧ r.2.mem ((c.tc : Thread Cert.ReferenceFfnBIdeal.nD Cert.ReferenceFfnBIdeal.τ).loc Cert.ReferenceFfnBIdeal.main_arg3) = m ((c.tc : Thread Cert.ReferenceFfnBIdeal.nD Cert.ReferenceFfnBIdeal.τ).loc Cert.ReferenceFfnBIdeal.main_arg3))
      ∧ r.2.sem = fun _ => 0)

def quiescent_KernelFfnC [hKernelFfnC : Cert.KernelFfnC.Facts] : Prop :=
  ∀ (m : (ℓ : Loc Cert.KernelFfnC.nD Cert.KernelFfnC.τ Cert.KernelFfnC.sig) → Buf (Elt Bits) ℓ) (g : Dev Cert.KernelFfnC.nD → PrngReg), Pre_KernelFfnC m →
    θ_run (Cert.KernelFfnC.defs (F := Bits)) (onTc (τ := Cert.KernelFfnC.τ) (Cert.KernelFfnC.main (F := Bits))) ⟨m, fun _ => 0, g⟩ (fun r => (∀ c : Dev Cert.KernelFfnC.nD,
      r.2.mem ((c.tc : Thread Cert.KernelFfnC.nD Cert.KernelFfnC.τ).loc Cert.KernelFfnC.main_arg0) = m ((c.tc : Thread Cert.KernelFfnC.nD Cert.KernelFfnC.τ).loc Cert.KernelFfnC.main_arg0)
      ∧ r.2.mem ((c.tc : Thread Cert.KernelFfnC.nD Cert.KernelFfnC.τ).loc Cert.KernelFfnC.main_arg1) = m ((c.tc : Thread Cert.KernelFfnC.nD Cert.KernelFfnC.τ).loc Cert.KernelFfnC.main_arg1)
      ∧ r.2.mem ((c.tc : Thread Cert.KernelFfnC.nD Cert.KernelFfnC.τ).loc Cert.KernelFfnC.main_arg2) = m ((c.tc : Thread Cert.KernelFfnC.nD Cert.KernelFfnC.τ).loc Cert.KernelFfnC.main_arg2)
      ∧ r.2.mem ((c.tc : Thread Cert.KernelFfnC.nD Cert.KernelFfnC.τ).loc Cert.KernelFfnC.main_arg3) = m ((c.tc : Thread Cert.KernelFfnC.nD Cert.KernelFfnC.τ).loc Cert.KernelFfnC.main_arg3)
      ∧ r.2.mem ((c.tc : Thread Cert.KernelFfnC.nD Cert.KernelFfnC.τ).loc Cert.KernelFfnC.main_arg4) = m ((c.tc : Thread Cert.KernelFfnC.nD Cert.KernelFfnC.τ).loc Cert.KernelFfnC.main_arg4)
      ∧ r.2.mem ((c.tc : Thread Cert.KernelFfnC.nD Cert.KernelFfnC.τ).loc Cert.KernelFfnC.main_arg5) = m ((c.tc : Thread Cert.KernelFfnC.nD Cert.KernelFfnC.τ).loc Cert.KernelFfnC.main_arg5)
      ∧ r.2.mem ((c.tc : Thread Cert.KernelFfnC.nD Cert.KernelFfnC.τ).loc Cert.KernelFfnC.main_arg6) = m ((c.tc : Thread Cert.KernelFfnC.nD Cert.KernelFfnC.τ).loc Cert.KernelFfnC.main_arg6)
      ∧ r.2.mem ((c.tc : Thread Cert.KernelFfnC.nD Cert.KernelFfnC.τ).loc Cert.KernelFfnC.main_arg7) = m ((c.tc : Thread Cert.KernelFfnC.nD Cert.KernelFfnC.τ).loc Cert.KernelFfnC.main_arg7)
      ∧ r.2.mem ((c.tc : Thread Cert.KernelFfnC.nD Cert.KernelFfnC.τ).loc Cert.KernelFfnC.main_arg8) = m ((c.tc : Thread Cert.KernelFfnC.nD Cert.KernelFfnC.τ).loc Cert.KernelFfnC.main_arg8)
      ∧ r.2.mem ((c.tc : Thread Cert.KernelFfnC.nD Cert.KernelFfnC.τ).loc Cert.KernelFfnC.main_arg9) = m ((c.tc : Thread Cert.KernelFfnC.nD Cert.KernelFfnC.τ).loc Cert.KernelFfnC.main_arg9)
      ∧ r.2.mem ((c.tc : Thread Cert.KernelFfnC.nD Cert.KernelFfnC.τ).loc Cert.KernelFfnC.main_arg10) = m ((c.tc : Thread Cert.KernelFfnC.nD Cert.KernelFfnC.τ).loc Cert.KernelFfnC.main_arg10)
      ∧ r.2.mem ((c.tc : Thread Cert.KernelFfnC.nD Cert.KernelFfnC.τ).loc Cert.KernelFfnC.main_arg11) = m ((c.tc : Thread Cert.KernelFfnC.nD Cert.KernelFfnC.τ).loc Cert.KernelFfnC.main_arg11)
      ∧ r.2.mem ((c.tc : Thread Cert.KernelFfnC.nD Cert.KernelFfnC.τ).loc Cert.KernelFfnC.main_arg12) = m ((c.tc : Thread Cert.KernelFfnC.nD Cert.KernelFfnC.τ).loc Cert.KernelFfnC.main_arg12)
      ∧ r.2.mem ((c.tc : Thread Cert.KernelFfnC.nD Cert.KernelFfnC.τ).loc Cert.KernelFfnC.main_arg13) = m ((c.tc : Thread Cert.KernelFfnC.nD Cert.KernelFfnC.τ).loc Cert.KernelFfnC.main_arg13)
      ∧ r.2.mem ((c.tc : Thread Cert.KernelFfnC.nD Cert.KernelFfnC.τ).loc Cert.KernelFfnC.main_arg14) = m ((c.tc : Thread Cert.KernelFfnC.nD Cert.KernelFfnC.τ).loc Cert.KernelFfnC.main_arg14)
      ∧ r.2.mem ((c.tc : Thread Cert.KernelFfnC.nD Cert.KernelFfnC.τ).loc Cert.KernelFfnC.main_arg15) = m ((c.tc : Thread Cert.KernelFfnC.nD Cert.KernelFfnC.τ).loc Cert.KernelFfnC.main_arg15)
      ∧ r.2.mem ((c.tc : Thread Cert.KernelFfnC.nD Cert.KernelFfnC.τ).loc Cert.KernelFfnC.main_arg16) = m ((c.tc : Thread Cert.KernelFfnC.nD Cert.KernelFfnC.τ).loc Cert.KernelFfnC.main_arg16))
      ∧ r.2.sem = fun _ => 0)

def quiescent_KernelFfnCIdeal [hKernelFfnCIdeal : Cert.KernelFfnCIdeal.Facts] : Prop :=
  ∀ (m : (ℓ : Loc Cert.KernelFfnCIdeal.nD Cert.KernelFfnCIdeal.τ Cert.KernelFfnCIdeal.sig) → Buf (Elt Ideal) ℓ) (g : Dev Cert.KernelFfnCIdeal.nD → PrngReg), Pre_KernelFfnCIdeal m →
    θ_run (Cert.KernelFfnCIdeal.defs (F := Ideal)) (onTc (τ := Cert.KernelFfnCIdeal.τ) (Cert.KernelFfnCIdeal.main (F := Ideal))) ⟨m, fun _ => 0, g⟩ (fun r => (∀ c : Dev Cert.KernelFfnCIdeal.nD,
      r.2.mem ((c.tc : Thread Cert.KernelFfnCIdeal.nD Cert.KernelFfnCIdeal.τ).loc Cert.KernelFfnCIdeal.main_arg0) = m ((c.tc : Thread Cert.KernelFfnCIdeal.nD Cert.KernelFfnCIdeal.τ).loc Cert.KernelFfnCIdeal.main_arg0)
      ∧ r.2.mem ((c.tc : Thread Cert.KernelFfnCIdeal.nD Cert.KernelFfnCIdeal.τ).loc Cert.KernelFfnCIdeal.main_arg1) = m ((c.tc : Thread Cert.KernelFfnCIdeal.nD Cert.KernelFfnCIdeal.τ).loc Cert.KernelFfnCIdeal.main_arg1)
      ∧ r.2.mem ((c.tc : Thread Cert.KernelFfnCIdeal.nD Cert.KernelFfnCIdeal.τ).loc Cert.KernelFfnCIdeal.main_arg2) = m ((c.tc : Thread Cert.KernelFfnCIdeal.nD Cert.KernelFfnCIdeal.τ).loc Cert.KernelFfnCIdeal.main_arg2)
      ∧ r.2.mem ((c.tc : Thread Cert.KernelFfnCIdeal.nD Cert.KernelFfnCIdeal.τ).loc Cert.KernelFfnCIdeal.main_arg3) = m ((c.tc : Thread Cert.KernelFfnCIdeal.nD Cert.KernelFfnCIdeal.τ).loc Cert.KernelFfnCIdeal.main_arg3)
      ∧ r.2.mem ((c.tc : Thread Cert.KernelFfnCIdeal.nD Cert.KernelFfnCIdeal.τ).loc Cert.KernelFfnCIdeal.main_arg4) = m ((c.tc : Thread Cert.KernelFfnCIdeal.nD Cert.KernelFfnCIdeal.τ).loc Cert.KernelFfnCIdeal.main_arg4)
      ∧ r.2.mem ((c.tc : Thread Cert.KernelFfnCIdeal.nD Cert.KernelFfnCIdeal.τ).loc Cert.KernelFfnCIdeal.main_arg5) = m ((c.tc : Thread Cert.KernelFfnCIdeal.nD Cert.KernelFfnCIdeal.τ).loc Cert.KernelFfnCIdeal.main_arg5)
      ∧ r.2.mem ((c.tc : Thread Cert.KernelFfnCIdeal.nD Cert.KernelFfnCIdeal.τ).loc Cert.KernelFfnCIdeal.main_arg6) = m ((c.tc : Thread Cert.KernelFfnCIdeal.nD Cert.KernelFfnCIdeal.τ).loc Cert.KernelFfnCIdeal.main_arg6)
      ∧ r.2.mem ((c.tc : Thread Cert.KernelFfnCIdeal.nD Cert.KernelFfnCIdeal.τ).loc Cert.KernelFfnCIdeal.main_arg7) = m ((c.tc : Thread Cert.KernelFfnCIdeal.nD Cert.KernelFfnCIdeal.τ).loc Cert.KernelFfnCIdeal.main_arg7)
      ∧ r.2.mem ((c.tc : Thread Cert.KernelFfnCIdeal.nD Cert.KernelFfnCIdeal.τ).loc Cert.KernelFfnCIdeal.main_arg8) = m ((c.tc : Thread Cert.KernelFfnCIdeal.nD Cert.KernelFfnCIdeal.τ).loc Cert.KernelFfnCIdeal.main_arg8)
      ∧ r.2.mem ((c.tc : Thread Cert.KernelFfnCIdeal.nD Cert.KernelFfnCIdeal.τ).loc Cert.KernelFfnCIdeal.main_arg9) = m ((c.tc : Thread Cert.KernelFfnCIdeal.nD Cert.KernelFfnCIdeal.τ).loc Cert.KernelFfnCIdeal.main_arg9)
      ∧ r.2.mem ((c.tc : Thread Cert.KernelFfnCIdeal.nD Cert.KernelFfnCIdeal.τ).loc Cert.KernelFfnCIdeal.main_arg10) = m ((c.tc : Thread Cert.KernelFfnCIdeal.nD Cert.KernelFfnCIdeal.τ).loc Cert.KernelFfnCIdeal.main_arg10)
      ∧ r.2.mem ((c.tc : Thread Cert.KernelFfnCIdeal.nD Cert.KernelFfnCIdeal.τ).loc Cert.KernelFfnCIdeal.main_arg11) = m ((c.tc : Thread Cert.KernelFfnCIdeal.nD Cert.KernelFfnCIdeal.τ).loc Cert.KernelFfnCIdeal.main_arg11)
      ∧ r.2.mem ((c.tc : Thread Cert.KernelFfnCIdeal.nD Cert.KernelFfnCIdeal.τ).loc Cert.KernelFfnCIdeal.main_arg12) = m ((c.tc : Thread Cert.KernelFfnCIdeal.nD Cert.KernelFfnCIdeal.τ).loc Cert.KernelFfnCIdeal.main_arg12)
      ∧ r.2.mem ((c.tc : Thread Cert.KernelFfnCIdeal.nD Cert.KernelFfnCIdeal.τ).loc Cert.KernelFfnCIdeal.main_arg13) = m ((c.tc : Thread Cert.KernelFfnCIdeal.nD Cert.KernelFfnCIdeal.τ).loc Cert.KernelFfnCIdeal.main_arg13)
      ∧ r.2.mem ((c.tc : Thread Cert.KernelFfnCIdeal.nD Cert.KernelFfnCIdeal.τ).loc Cert.KernelFfnCIdeal.main_arg14) = m ((c.tc : Thread Cert.KernelFfnCIdeal.nD Cert.KernelFfnCIdeal.τ).loc Cert.KernelFfnCIdeal.main_arg14)
      ∧ r.2.mem ((c.tc : Thread Cert.KernelFfnCIdeal.nD Cert.KernelFfnCIdeal.τ).loc Cert.KernelFfnCIdeal.main_arg15) = m ((c.tc : Thread Cert.KernelFfnCIdeal.nD Cert.KernelFfnCIdeal.τ).loc Cert.KernelFfnCIdeal.main_arg15)
      ∧ r.2.mem ((c.tc : Thread Cert.KernelFfnCIdeal.nD Cert.KernelFfnCIdeal.τ).loc Cert.KernelFfnCIdeal.main_arg16) = m ((c.tc : Thread Cert.KernelFfnCIdeal.nD Cert.KernelFfnCIdeal.τ).loc Cert.KernelFfnCIdeal.main_arg16))
      ∧ r.2.sem = fun _ => 0)

def quiescent_ReferenceFfnCIdeal [hReferenceFfnCIdeal : Cert.ReferenceFfnCIdeal.Facts] : Prop :=
  ∀ (m : (ℓ : Loc Cert.ReferenceFfnCIdeal.nD Cert.ReferenceFfnCIdeal.τ Cert.ReferenceFfnCIdeal.sig) → Buf (Elt Ideal) ℓ) (g : Dev Cert.ReferenceFfnCIdeal.nD → PrngReg), Pre_ReferenceFfnCIdeal m →
    θ_run (Cert.ReferenceFfnCIdeal.defs (F := Ideal)) (onTc (τ := Cert.ReferenceFfnCIdeal.τ) (Cert.ReferenceFfnCIdeal.main (F := Ideal))) ⟨m, fun _ => 0, g⟩ (fun r => (∀ c : Dev Cert.ReferenceFfnCIdeal.nD,
      r.2.mem ((c.tc : Thread Cert.ReferenceFfnCIdeal.nD Cert.ReferenceFfnCIdeal.τ).loc Cert.ReferenceFfnCIdeal.main_arg0) = m ((c.tc : Thread Cert.ReferenceFfnCIdeal.nD Cert.ReferenceFfnCIdeal.τ).loc Cert.ReferenceFfnCIdeal.main_arg0)
      ∧ r.2.mem ((c.tc : Thread Cert.ReferenceFfnCIdeal.nD Cert.ReferenceFfnCIdeal.τ).loc Cert.ReferenceFfnCIdeal.main_arg1) = m ((c.tc : Thread Cert.ReferenceFfnCIdeal.nD Cert.ReferenceFfnCIdeal.τ).loc Cert.ReferenceFfnCIdeal.main_arg1)
      ∧ r.2.mem ((c.tc : Thread Cert.ReferenceFfnCIdeal.nD Cert.ReferenceFfnCIdeal.τ).loc Cert.ReferenceFfnCIdeal.main_arg2) = m ((c.tc : Thread Cert.ReferenceFfnCIdeal.nD Cert.ReferenceFfnCIdeal.τ).loc Cert.ReferenceFfnCIdeal.main_arg2)
      ∧ r.2.mem ((c.tc : Thread Cert.ReferenceFfnCIdeal.nD Cert.ReferenceFfnCIdeal.τ).loc Cert.ReferenceFfnCIdeal.main_arg3) = m ((c.tc : Thread Cert.ReferenceFfnCIdeal.nD Cert.ReferenceFfnCIdeal.τ).loc Cert.ReferenceFfnCIdeal.main_arg3)
      ∧ r.2.mem ((c.tc : Thread Cert.ReferenceFfnCIdeal.nD Cert.ReferenceFfnCIdeal.τ).loc Cert.ReferenceFfnCIdeal.main_arg4) = m ((c.tc : Thread Cert.ReferenceFfnCIdeal.nD Cert.ReferenceFfnCIdeal.τ).loc Cert.ReferenceFfnCIdeal.main_arg4)
      ∧ r.2.mem ((c.tc : Thread Cert.ReferenceFfnCIdeal.nD Cert.ReferenceFfnCIdeal.τ).loc Cert.ReferenceFfnCIdeal.main_arg5) = m ((c.tc : Thread Cert.ReferenceFfnCIdeal.nD Cert.ReferenceFfnCIdeal.τ).loc Cert.ReferenceFfnCIdeal.main_arg5)
      ∧ r.2.mem ((c.tc : Thread Cert.ReferenceFfnCIdeal.nD Cert.ReferenceFfnCIdeal.τ).loc Cert.ReferenceFfnCIdeal.main_arg6) = m ((c.tc : Thread Cert.ReferenceFfnCIdeal.nD Cert.ReferenceFfnCIdeal.τ).loc Cert.ReferenceFfnCIdeal.main_arg6)
      ∧ r.2.mem ((c.tc : Thread Cert.ReferenceFfnCIdeal.nD Cert.ReferenceFfnCIdeal.τ).loc Cert.ReferenceFfnCIdeal.main_arg7) = m ((c.tc : Thread Cert.ReferenceFfnCIdeal.nD Cert.ReferenceFfnCIdeal.τ).loc Cert.ReferenceFfnCIdeal.main_arg7)
      ∧ r.2.mem ((c.tc : Thread Cert.ReferenceFfnCIdeal.nD Cert.ReferenceFfnCIdeal.τ).loc Cert.ReferenceFfnCIdeal.main_arg8) = m ((c.tc : Thread Cert.ReferenceFfnCIdeal.nD Cert.ReferenceFfnCIdeal.τ).loc Cert.ReferenceFfnCIdeal.main_arg8)
      ∧ r.2.mem ((c.tc : Thread Cert.ReferenceFfnCIdeal.nD Cert.ReferenceFfnCIdeal.τ).loc Cert.ReferenceFfnCIdeal.main_arg9) = m ((c.tc : Thread Cert.ReferenceFfnCIdeal.nD Cert.ReferenceFfnCIdeal.τ).loc Cert.ReferenceFfnCIdeal.main_arg9)
      ∧ r.2.mem ((c.tc : Thread Cert.ReferenceFfnCIdeal.nD Cert.ReferenceFfnCIdeal.τ).loc Cert.ReferenceFfnCIdeal.main_arg10) = m ((c.tc : Thread Cert.ReferenceFfnCIdeal.nD Cert.ReferenceFfnCIdeal.τ).loc Cert.ReferenceFfnCIdeal.main_arg10)
      ∧ r.2.mem ((c.tc : Thread Cert.ReferenceFfnCIdeal.nD Cert.ReferenceFfnCIdeal.τ).loc Cert.ReferenceFfnCIdeal.main_arg11) = m ((c.tc : Thread Cert.ReferenceFfnCIdeal.nD Cert.ReferenceFfnCIdeal.τ).loc Cert.ReferenceFfnCIdeal.main_arg11)
      ∧ r.2.mem ((c.tc : Thread Cert.ReferenceFfnCIdeal.nD Cert.ReferenceFfnCIdeal.τ).loc Cert.ReferenceFfnCIdeal.main_arg12) = m ((c.tc : Thread Cert.ReferenceFfnCIdeal.nD Cert.ReferenceFfnCIdeal.τ).loc Cert.ReferenceFfnCIdeal.main_arg12)
      ∧ r.2.mem ((c.tc : Thread Cert.ReferenceFfnCIdeal.nD Cert.ReferenceFfnCIdeal.τ).loc Cert.ReferenceFfnCIdeal.main_arg13) = m ((c.tc : Thread Cert.ReferenceFfnCIdeal.nD Cert.ReferenceFfnCIdeal.τ).loc Cert.ReferenceFfnCIdeal.main_arg13)
      ∧ r.2.mem ((c.tc : Thread Cert.ReferenceFfnCIdeal.nD Cert.ReferenceFfnCIdeal.τ).loc Cert.ReferenceFfnCIdeal.main_arg14) = m ((c.tc : Thread Cert.ReferenceFfnCIdeal.nD Cert.ReferenceFfnCIdeal.τ).loc Cert.ReferenceFfnCIdeal.main_arg14)
      ∧ r.2.mem ((c.tc : Thread Cert.ReferenceFfnCIdeal.nD Cert.ReferenceFfnCIdeal.τ).loc Cert.ReferenceFfnCIdeal.main_arg15) = m ((c.tc : Thread Cert.ReferenceFfnCIdeal.nD Cert.ReferenceFfnCIdeal.τ).loc Cert.ReferenceFfnCIdeal.main_arg15)
      ∧ r.2.mem ((c.tc : Thread Cert.ReferenceFfnCIdeal.nD Cert.ReferenceFfnCIdeal.τ).loc Cert.ReferenceFfnCIdeal.main_arg16) = m ((c.tc : Thread Cert.ReferenceFfnCIdeal.nD Cert.ReferenceFfnCIdeal.τ).loc Cert.ReferenceFfnCIdeal.main_arg16))
      ∧ r.2.sem = fun _ => 0)

def quiescent_KernelFfnD [hKernelFfnD : Cert.KernelFfnD.Facts] : Prop :=
  ∀ (m : (ℓ : Loc Cert.KernelFfnD.nD Cert.KernelFfnD.τ Cert.KernelFfnD.sig) → Buf (Elt Bits) ℓ) (g : Dev Cert.KernelFfnD.nD → PrngReg), Pre_KernelFfnD m →
    θ_run (Cert.KernelFfnD.defs (F := Bits)) (onTc (τ := Cert.KernelFfnD.τ) (Cert.KernelFfnD.main (F := Bits))) ⟨m, fun _ => 0, g⟩ (fun r => (∀ c : Dev Cert.KernelFfnD.nD,
      r.2.mem ((c.tc : Thread Cert.KernelFfnD.nD Cert.KernelFfnD.τ).loc Cert.KernelFfnD.main_arg0) = m ((c.tc : Thread Cert.KernelFfnD.nD Cert.KernelFfnD.τ).loc Cert.KernelFfnD.main_arg0)
      ∧ r.2.mem ((c.tc : Thread Cert.KernelFfnD.nD Cert.KernelFfnD.τ).loc Cert.KernelFfnD.main_arg1) = m ((c.tc : Thread Cert.KernelFfnD.nD Cert.KernelFfnD.τ).loc Cert.KernelFfnD.main_arg1)
      ∧ r.2.mem ((c.tc : Thread Cert.KernelFfnD.nD Cert.KernelFfnD.τ).loc Cert.KernelFfnD.main_arg2) = m ((c.tc : Thread Cert.KernelFfnD.nD Cert.KernelFfnD.τ).loc Cert.KernelFfnD.main_arg2)
      ∧ r.2.mem ((c.tc : Thread Cert.KernelFfnD.nD Cert.KernelFfnD.τ).loc Cert.KernelFfnD.main_arg3) = m ((c.tc : Thread Cert.KernelFfnD.nD Cert.KernelFfnD.τ).loc Cert.KernelFfnD.main_arg3)
      ∧ r.2.mem ((c.tc : Thread Cert.KernelFfnD.nD Cert.KernelFfnD.τ).loc Cert.KernelFfnD.main_arg4) = m ((c.tc : Thread Cert.KernelFfnD.nD Cert.KernelFfnD.τ).loc Cert.KernelFfnD.main_arg4)
      ∧ r.2.mem ((c.tc : Thread Cert.KernelFfnD.nD Cert.KernelFfnD.τ).loc Cert.KernelFfnD.main_arg5) = m ((c.tc : Thread Cert.KernelFfnD.nD Cert.KernelFfnD.τ).loc Cert.KernelFfnD.main_arg5)
      ∧ r.2.mem ((c.tc : Thread Cert.KernelFfnD.nD Cert.KernelFfnD.τ).loc Cert.KernelFfnD.main_arg6) = m ((c.tc : Thread Cert.KernelFfnD.nD Cert.KernelFfnD.τ).loc Cert.KernelFfnD.main_arg6)
      ∧ r.2.mem ((c.tc : Thread Cert.KernelFfnD.nD Cert.KernelFfnD.τ).loc Cert.KernelFfnD.main_arg7) = m ((c.tc : Thread Cert.KernelFfnD.nD Cert.KernelFfnD.τ).loc Cert.KernelFfnD.main_arg7)
      ∧ r.2.mem ((c.tc : Thread Cert.KernelFfnD.nD Cert.KernelFfnD.τ).loc Cert.KernelFfnD.main_arg8) = m ((c.tc : Thread Cert.KernelFfnD.nD Cert.KernelFfnD.τ).loc Cert.KernelFfnD.main_arg8)
      ∧ r.2.mem ((c.tc : Thread Cert.KernelFfnD.nD Cert.KernelFfnD.τ).loc Cert.KernelFfnD.main_arg9) = m ((c.tc : Thread Cert.KernelFfnD.nD Cert.KernelFfnD.τ).loc Cert.KernelFfnD.main_arg9)
      ∧ r.2.mem ((c.tc : Thread Cert.KernelFfnD.nD Cert.KernelFfnD.τ).loc Cert.KernelFfnD.main_arg10) = m ((c.tc : Thread Cert.KernelFfnD.nD Cert.KernelFfnD.τ).loc Cert.KernelFfnD.main_arg10)
      ∧ r.2.mem ((c.tc : Thread Cert.KernelFfnD.nD Cert.KernelFfnD.τ).loc Cert.KernelFfnD.main_arg11) = m ((c.tc : Thread Cert.KernelFfnD.nD Cert.KernelFfnD.τ).loc Cert.KernelFfnD.main_arg11)
      ∧ r.2.mem ((c.tc : Thread Cert.KernelFfnD.nD Cert.KernelFfnD.τ).loc Cert.KernelFfnD.main_arg12) = m ((c.tc : Thread Cert.KernelFfnD.nD Cert.KernelFfnD.τ).loc Cert.KernelFfnD.main_arg12)
      ∧ r.2.mem ((c.tc : Thread Cert.KernelFfnD.nD Cert.KernelFfnD.τ).loc Cert.KernelFfnD.main_arg13) = m ((c.tc : Thread Cert.KernelFfnD.nD Cert.KernelFfnD.τ).loc Cert.KernelFfnD.main_arg13)
      ∧ r.2.mem ((c.tc : Thread Cert.KernelFfnD.nD Cert.KernelFfnD.τ).loc Cert.KernelFfnD.main_arg14) = m ((c.tc : Thread Cert.KernelFfnD.nD Cert.KernelFfnD.τ).loc Cert.KernelFfnD.main_arg14)
      ∧ r.2.mem ((c.tc : Thread Cert.KernelFfnD.nD Cert.KernelFfnD.τ).loc Cert.KernelFfnD.main_arg15) = m ((c.tc : Thread Cert.KernelFfnD.nD Cert.KernelFfnD.τ).loc Cert.KernelFfnD.main_arg15)
      ∧ r.2.mem ((c.tc : Thread Cert.KernelFfnD.nD Cert.KernelFfnD.τ).loc Cert.KernelFfnD.main_arg16) = m ((c.tc : Thread Cert.KernelFfnD.nD Cert.KernelFfnD.τ).loc Cert.KernelFfnD.main_arg16)
      ∧ r.2.mem ((c.tc : Thread Cert.KernelFfnD.nD Cert.KernelFfnD.τ).loc Cert.KernelFfnD.main_arg17) = m ((c.tc : Thread Cert.KernelFfnD.nD Cert.KernelFfnD.τ).loc Cert.KernelFfnD.main_arg17))
      ∧ r.2.sem = fun _ => 0)

def quiescent_KernelFfnDIdeal [hKernelFfnDIdeal : Cert.KernelFfnDIdeal.Facts] : Prop :=
  ∀ (m : (ℓ : Loc Cert.KernelFfnDIdeal.nD Cert.KernelFfnDIdeal.τ Cert.KernelFfnDIdeal.sig) → Buf (Elt Ideal) ℓ) (g : Dev Cert.KernelFfnDIdeal.nD → PrngReg), Pre_KernelFfnDIdeal m →
    θ_run (Cert.KernelFfnDIdeal.defs (F := Ideal)) (onTc (τ := Cert.KernelFfnDIdeal.τ) (Cert.KernelFfnDIdeal.main (F := Ideal))) ⟨m, fun _ => 0, g⟩ (fun r => (∀ c : Dev Cert.KernelFfnDIdeal.nD,
      r.2.mem ((c.tc : Thread Cert.KernelFfnDIdeal.nD Cert.KernelFfnDIdeal.τ).loc Cert.KernelFfnDIdeal.main_arg0) = m ((c.tc : Thread Cert.KernelFfnDIdeal.nD Cert.KernelFfnDIdeal.τ).loc Cert.KernelFfnDIdeal.main_arg0)
      ∧ r.2.mem ((c.tc : Thread Cert.KernelFfnDIdeal.nD Cert.KernelFfnDIdeal.τ).loc Cert.KernelFfnDIdeal.main_arg1) = m ((c.tc : Thread Cert.KernelFfnDIdeal.nD Cert.KernelFfnDIdeal.τ).loc Cert.KernelFfnDIdeal.main_arg1)
      ∧ r.2.mem ((c.tc : Thread Cert.KernelFfnDIdeal.nD Cert.KernelFfnDIdeal.τ).loc Cert.KernelFfnDIdeal.main_arg2) = m ((c.tc : Thread Cert.KernelFfnDIdeal.nD Cert.KernelFfnDIdeal.τ).loc Cert.KernelFfnDIdeal.main_arg2)
      ∧ r.2.mem ((c.tc : Thread Cert.KernelFfnDIdeal.nD Cert.KernelFfnDIdeal.τ).loc Cert.KernelFfnDIdeal.main_arg3) = m ((c.tc : Thread Cert.KernelFfnDIdeal.nD Cert.KernelFfnDIdeal.τ).loc Cert.KernelFfnDIdeal.main_arg3)
      ∧ r.2.mem ((c.tc : Thread Cert.KernelFfnDIdeal.nD Cert.KernelFfnDIdeal.τ).loc Cert.KernelFfnDIdeal.main_arg4) = m ((c.tc : Thread Cert.KernelFfnDIdeal.nD Cert.KernelFfnDIdeal.τ).loc Cert.KernelFfnDIdeal.main_arg4)
      ∧ r.2.mem ((c.tc : Thread Cert.KernelFfnDIdeal.nD Cert.KernelFfnDIdeal.τ).loc Cert.KernelFfnDIdeal.main_arg5) = m ((c.tc : Thread Cert.KernelFfnDIdeal.nD Cert.KernelFfnDIdeal.τ).loc Cert.KernelFfnDIdeal.main_arg5)
      ∧ r.2.mem ((c.tc : Thread Cert.KernelFfnDIdeal.nD Cert.KernelFfnDIdeal.τ).loc Cert.KernelFfnDIdeal.main_arg6) = m ((c.tc : Thread Cert.KernelFfnDIdeal.nD Cert.KernelFfnDIdeal.τ).loc Cert.KernelFfnDIdeal.main_arg6)
      ∧ r.2.mem ((c.tc : Thread Cert.KernelFfnDIdeal.nD Cert.KernelFfnDIdeal.τ).loc Cert.KernelFfnDIdeal.main_arg7) = m ((c.tc : Thread Cert.KernelFfnDIdeal.nD Cert.KernelFfnDIdeal.τ).loc Cert.KernelFfnDIdeal.main_arg7)
      ∧ r.2.mem ((c.tc : Thread Cert.KernelFfnDIdeal.nD Cert.KernelFfnDIdeal.τ).loc Cert.KernelFfnDIdeal.main_arg8) = m ((c.tc : Thread Cert.KernelFfnDIdeal.nD Cert.KernelFfnDIdeal.τ).loc Cert.KernelFfnDIdeal.main_arg8)
      ∧ r.2.mem ((c.tc : Thread Cert.KernelFfnDIdeal.nD Cert.KernelFfnDIdeal.τ).loc Cert.KernelFfnDIdeal.main_arg9) = m ((c.tc : Thread Cert.KernelFfnDIdeal.nD Cert.KernelFfnDIdeal.τ).loc Cert.KernelFfnDIdeal.main_arg9)
      ∧ r.2.mem ((c.tc : Thread Cert.KernelFfnDIdeal.nD Cert.KernelFfnDIdeal.τ).loc Cert.KernelFfnDIdeal.main_arg10) = m ((c.tc : Thread Cert.KernelFfnDIdeal.nD Cert.KernelFfnDIdeal.τ).loc Cert.KernelFfnDIdeal.main_arg10)
      ∧ r.2.mem ((c.tc : Thread Cert.KernelFfnDIdeal.nD Cert.KernelFfnDIdeal.τ).loc Cert.KernelFfnDIdeal.main_arg11) = m ((c.tc : Thread Cert.KernelFfnDIdeal.nD Cert.KernelFfnDIdeal.τ).loc Cert.KernelFfnDIdeal.main_arg11)
      ∧ r.2.mem ((c.tc : Thread Cert.KernelFfnDIdeal.nD Cert.KernelFfnDIdeal.τ).loc Cert.KernelFfnDIdeal.main_arg12) = m ((c.tc : Thread Cert.KernelFfnDIdeal.nD Cert.KernelFfnDIdeal.τ).loc Cert.KernelFfnDIdeal.main_arg12)
      ∧ r.2.mem ((c.tc : Thread Cert.KernelFfnDIdeal.nD Cert.KernelFfnDIdeal.τ).loc Cert.KernelFfnDIdeal.main_arg13) = m ((c.tc : Thread Cert.KernelFfnDIdeal.nD Cert.KernelFfnDIdeal.τ).loc Cert.KernelFfnDIdeal.main_arg13)
      ∧ r.2.mem ((c.tc : Thread Cert.KernelFfnDIdeal.nD Cert.KernelFfnDIdeal.τ).loc Cert.KernelFfnDIdeal.main_arg14) = m ((c.tc : Thread Cert.KernelFfnDIdeal.nD Cert.KernelFfnDIdeal.τ).loc Cert.KernelFfnDIdeal.main_arg14)
      ∧ r.2.mem ((c.tc : Thread Cert.KernelFfnDIdeal.nD Cert.KernelFfnDIdeal.τ).loc Cert.KernelFfnDIdeal.main_arg15) = m ((c.tc : Thread Cert.KernelFfnDIdeal.nD Cert.KernelFfnDIdeal.τ).loc Cert.KernelFfnDIdeal.main_arg15)
      ∧ r.2.mem ((c.tc : Thread Cert.KernelFfnDIdeal.nD Cert.KernelFfnDIdeal.τ).loc Cert.KernelFfnDIdeal.main_arg16) = m ((c.tc : Thread Cert.KernelFfnDIdeal.nD Cert.KernelFfnDIdeal.τ).loc Cert.KernelFfnDIdeal.main_arg16)
      ∧ r.2.mem ((c.tc : Thread Cert.KernelFfnDIdeal.nD Cert.KernelFfnDIdeal.τ).loc Cert.KernelFfnDIdeal.main_arg17) = m ((c.tc : Thread Cert.KernelFfnDIdeal.nD Cert.KernelFfnDIdeal.τ).loc Cert.KernelFfnDIdeal.main_arg17))
      ∧ r.2.sem = fun _ => 0)

def quiescent_ReferenceFfnDIdeal [hReferenceFfnDIdeal : Cert.ReferenceFfnDIdeal.Facts] : Prop :=
  ∀ (m : (ℓ : Loc Cert.ReferenceFfnDIdeal.nD Cert.ReferenceFfnDIdeal.τ Cert.ReferenceFfnDIdeal.sig) → Buf (Elt Ideal) ℓ) (g : Dev Cert.ReferenceFfnDIdeal.nD → PrngReg), Pre_ReferenceFfnDIdeal m →
    θ_run (Cert.ReferenceFfnDIdeal.defs (F := Ideal)) (onTc (τ := Cert.ReferenceFfnDIdeal.τ) (Cert.ReferenceFfnDIdeal.main (F := Ideal))) ⟨m, fun _ => 0, g⟩ (fun r => (∀ c : Dev Cert.ReferenceFfnDIdeal.nD,
      r.2.mem ((c.tc : Thread Cert.ReferenceFfnDIdeal.nD Cert.ReferenceFfnDIdeal.τ).loc Cert.ReferenceFfnDIdeal.main_arg0) = m ((c.tc : Thread Cert.ReferenceFfnDIdeal.nD Cert.ReferenceFfnDIdeal.τ).loc Cert.ReferenceFfnDIdeal.main_arg0)
      ∧ r.2.mem ((c.tc : Thread Cert.ReferenceFfnDIdeal.nD Cert.ReferenceFfnDIdeal.τ).loc Cert.ReferenceFfnDIdeal.main_arg1) = m ((c.tc : Thread Cert.ReferenceFfnDIdeal.nD Cert.ReferenceFfnDIdeal.τ).loc Cert.ReferenceFfnDIdeal.main_arg1)
      ∧ r.2.mem ((c.tc : Thread Cert.ReferenceFfnDIdeal.nD Cert.ReferenceFfnDIdeal.τ).loc Cert.ReferenceFfnDIdeal.main_arg2) = m ((c.tc : Thread Cert.ReferenceFfnDIdeal.nD Cert.ReferenceFfnDIdeal.τ).loc Cert.ReferenceFfnDIdeal.main_arg2)
      ∧ r.2.mem ((c.tc : Thread Cert.ReferenceFfnDIdeal.nD Cert.ReferenceFfnDIdeal.τ).loc Cert.ReferenceFfnDIdeal.main_arg3) = m ((c.tc : Thread Cert.ReferenceFfnDIdeal.nD Cert.ReferenceFfnDIdeal.τ).loc Cert.ReferenceFfnDIdeal.main_arg3)
      ∧ r.2.mem ((c.tc : Thread Cert.ReferenceFfnDIdeal.nD Cert.ReferenceFfnDIdeal.τ).loc Cert.ReferenceFfnDIdeal.main_arg4) = m ((c.tc : Thread Cert.ReferenceFfnDIdeal.nD Cert.ReferenceFfnDIdeal.τ).loc Cert.ReferenceFfnDIdeal.main_arg4)
      ∧ r.2.mem ((c.tc : Thread Cert.ReferenceFfnDIdeal.nD Cert.ReferenceFfnDIdeal.τ).loc Cert.ReferenceFfnDIdeal.main_arg5) = m ((c.tc : Thread Cert.ReferenceFfnDIdeal.nD Cert.ReferenceFfnDIdeal.τ).loc Cert.ReferenceFfnDIdeal.main_arg5)
      ∧ r.2.mem ((c.tc : Thread Cert.ReferenceFfnDIdeal.nD Cert.ReferenceFfnDIdeal.τ).loc Cert.ReferenceFfnDIdeal.main_arg6) = m ((c.tc : Thread Cert.ReferenceFfnDIdeal.nD Cert.ReferenceFfnDIdeal.τ).loc Cert.ReferenceFfnDIdeal.main_arg6)
      ∧ r.2.mem ((c.tc : Thread Cert.ReferenceFfnDIdeal.nD Cert.ReferenceFfnDIdeal.τ).loc Cert.ReferenceFfnDIdeal.main_arg7) = m ((c.tc : Thread Cert.ReferenceFfnDIdeal.nD Cert.ReferenceFfnDIdeal.τ).loc Cert.ReferenceFfnDIdeal.main_arg7)
      ∧ r.2.mem ((c.tc : Thread Cert.ReferenceFfnDIdeal.nD Cert.ReferenceFfnDIdeal.τ).loc Cert.ReferenceFfnDIdeal.main_arg8) = m ((c.tc : Thread Cert.ReferenceFfnDIdeal.nD Cert.ReferenceFfnDIdeal.τ).loc Cert.ReferenceFfnDIdeal.main_arg8)
      ∧ r.2.mem ((c.tc : Thread Cert.ReferenceFfnDIdeal.nD Cert.ReferenceFfnDIdeal.τ).loc Cert.ReferenceFfnDIdeal.main_arg9) = m ((c.tc : Thread Cert.ReferenceFfnDIdeal.nD Cert.ReferenceFfnDIdeal.τ).loc Cert.ReferenceFfnDIdeal.main_arg9)
      ∧ r.2.mem ((c.tc : Thread Cert.ReferenceFfnDIdeal.nD Cert.ReferenceFfnDIdeal.τ).loc Cert.ReferenceFfnDIdeal.main_arg10) = m ((c.tc : Thread Cert.ReferenceFfnDIdeal.nD Cert.ReferenceFfnDIdeal.τ).loc Cert.ReferenceFfnDIdeal.main_arg10)
      ∧ r.2.mem ((c.tc : Thread Cert.ReferenceFfnDIdeal.nD Cert.ReferenceFfnDIdeal.τ).loc Cert.ReferenceFfnDIdeal.main_arg11) = m ((c.tc : Thread Cert.ReferenceFfnDIdeal.nD Cert.ReferenceFfnDIdeal.τ).loc Cert.ReferenceFfnDIdeal.main_arg11)
      ∧ r.2.mem ((c.tc : Thread Cert.ReferenceFfnDIdeal.nD Cert.ReferenceFfnDIdeal.τ).loc Cert.ReferenceFfnDIdeal.main_arg12) = m ((c.tc : Thread Cert.ReferenceFfnDIdeal.nD Cert.ReferenceFfnDIdeal.τ).loc Cert.ReferenceFfnDIdeal.main_arg12)
      ∧ r.2.mem ((c.tc : Thread Cert.ReferenceFfnDIdeal.nD Cert.ReferenceFfnDIdeal.τ).loc Cert.ReferenceFfnDIdeal.main_arg13) = m ((c.tc : Thread Cert.ReferenceFfnDIdeal.nD Cert.ReferenceFfnDIdeal.τ).loc Cert.ReferenceFfnDIdeal.main_arg13)
      ∧ r.2.mem ((c.tc : Thread Cert.ReferenceFfnDIdeal.nD Cert.ReferenceFfnDIdeal.τ).loc Cert.ReferenceFfnDIdeal.main_arg14) = m ((c.tc : Thread Cert.ReferenceFfnDIdeal.nD Cert.ReferenceFfnDIdeal.τ).loc Cert.ReferenceFfnDIdeal.main_arg14)
      ∧ r.2.mem ((c.tc : Thread Cert.ReferenceFfnDIdeal.nD Cert.ReferenceFfnDIdeal.τ).loc Cert.ReferenceFfnDIdeal.main_arg15) = m ((c.tc : Thread Cert.ReferenceFfnDIdeal.nD Cert.ReferenceFfnDIdeal.τ).loc Cert.ReferenceFfnDIdeal.main_arg15)
      ∧ r.2.mem ((c.tc : Thread Cert.ReferenceFfnDIdeal.nD Cert.ReferenceFfnDIdeal.τ).loc Cert.ReferenceFfnDIdeal.main_arg16) = m ((c.tc : Thread Cert.ReferenceFfnDIdeal.nD Cert.ReferenceFfnDIdeal.τ).loc Cert.ReferenceFfnDIdeal.main_arg16)
      ∧ r.2.mem ((c.tc : Thread Cert.ReferenceFfnDIdeal.nD Cert.ReferenceFfnDIdeal.τ).loc Cert.ReferenceFfnDIdeal.main_arg17) = m ((c.tc : Thread Cert.ReferenceFfnDIdeal.nD Cert.ReferenceFfnDIdeal.τ).loc Cert.ReferenceFfnDIdeal.main_arg17))
      ∧ r.2.sem = fun _ => 0)

def quiescent_KernelGqa [hKernelGqa : Cert.KernelGqa.Facts] : Prop :=
  ∀ (m : (ℓ : Loc Cert.KernelGqa.nD Cert.KernelGqa.τ Cert.KernelGqa.sig) → Buf (Elt Bits) ℓ) (g : Dev Cert.KernelGqa.nD → PrngReg), Pre_KernelGqa m →
    θ_run (Cert.KernelGqa.defs (F := Bits)) (onTc (τ := Cert.KernelGqa.τ) (Cert.KernelGqa.main (F := Bits))) ⟨m, fun _ => 0, g⟩ (fun r => (∀ c : Dev Cert.KernelGqa.nD,
      r.2.mem ((c.tc : Thread Cert.KernelGqa.nD Cert.KernelGqa.τ).loc Cert.KernelGqa.main_arg0) = m ((c.tc : Thread Cert.KernelGqa.nD Cert.KernelGqa.τ).loc Cert.KernelGqa.main_arg0)
      ∧ r.2.mem ((c.tc : Thread Cert.KernelGqa.nD Cert.KernelGqa.τ).loc Cert.KernelGqa.main_arg1) = m ((c.tc : Thread Cert.KernelGqa.nD Cert.KernelGqa.τ).loc Cert.KernelGqa.main_arg1)
      ∧ r.2.mem ((c.tc : Thread Cert.KernelGqa.nD Cert.KernelGqa.τ).loc Cert.KernelGqa.main_arg2) = m ((c.tc : Thread Cert.KernelGqa.nD Cert.KernelGqa.τ).loc Cert.KernelGqa.main_arg2))
      ∧ r.2.sem = fun _ => 0)

def quiescent_KernelGqaIdeal [hKernelGqaIdeal : Cert.KernelGqaIdeal.Facts] : Prop :=
  ∀ (m : (ℓ : Loc Cert.KernelGqaIdeal.nD Cert.KernelGqaIdeal.τ Cert.KernelGqaIdeal.sig) → Buf (Elt Ideal) ℓ) (g : Dev Cert.KernelGqaIdeal.nD → PrngReg), Pre_KernelGqaIdeal m →
    θ_run (Cert.KernelGqaIdeal.defs (F := Ideal)) (onTc (τ := Cert.KernelGqaIdeal.τ) (Cert.KernelGqaIdeal.main (F := Ideal))) ⟨m, fun _ => 0, g⟩ (fun r => (∀ c : Dev Cert.KernelGqaIdeal.nD,
      r.2.mem ((c.tc : Thread Cert.KernelGqaIdeal.nD Cert.KernelGqaIdeal.τ).loc Cert.KernelGqaIdeal.main_arg0) = m ((c.tc : Thread Cert.KernelGqaIdeal.nD Cert.KernelGqaIdeal.τ).loc Cert.KernelGqaIdeal.main_arg0)
      ∧ r.2.mem ((c.tc : Thread Cert.KernelGqaIdeal.nD Cert.KernelGqaIdeal.τ).loc Cert.KernelGqaIdeal.main_arg1) = m ((c.tc : Thread Cert.KernelGqaIdeal.nD Cert.KernelGqaIdeal.τ).loc Cert.KernelGqaIdeal.main_arg1)
      ∧ r.2.mem ((c.tc : Thread Cert.KernelGqaIdeal.nD Cert.KernelGqaIdeal.τ).loc Cert.KernelGqaIdeal.main_arg2) = m ((c.tc : Thread Cert.KernelGqaIdeal.nD Cert.KernelGqaIdeal.τ).loc Cert.KernelGqaIdeal.main_arg2))
      ∧ r.2.sem = fun _ => 0)

def quiescent_KernelGqaIdeal_pre_gqa_operands [hKernelGqaIdeal : Cert.KernelGqaIdeal.Facts] [hPre_gqa_operands : Cert.Pre_gqa_operands.Facts] : Prop :=
  ∀ (m : (ℓ : Loc Cert.KernelGqaIdeal.nD Cert.KernelGqaIdeal.τ Cert.KernelGqaIdeal.sig) → Buf (Elt Ideal) ℓ) (g : Dev Cert.KernelGqaIdeal.nD → PrngReg), Pre_KernelGqaIdeal_gqa_operands m →
    θ_run (Cert.KernelGqaIdeal.defs (F := Ideal)) (onTc (τ := Cert.KernelGqaIdeal.τ) (Cert.KernelGqaIdeal.main (F := Ideal))) ⟨m, fun _ => 0, g⟩ (fun r => (∀ c : Dev Cert.KernelGqaIdeal.nD,
      r.2.mem ((c.tc : Thread Cert.KernelGqaIdeal.nD Cert.KernelGqaIdeal.τ).loc Cert.KernelGqaIdeal.main_arg0) = m ((c.tc : Thread Cert.KernelGqaIdeal.nD Cert.KernelGqaIdeal.τ).loc Cert.KernelGqaIdeal.main_arg0)
      ∧ r.2.mem ((c.tc : Thread Cert.KernelGqaIdeal.nD Cert.KernelGqaIdeal.τ).loc Cert.KernelGqaIdeal.main_arg1) = m ((c.tc : Thread Cert.KernelGqaIdeal.nD Cert.KernelGqaIdeal.τ).loc Cert.KernelGqaIdeal.main_arg1)
      ∧ r.2.mem ((c.tc : Thread Cert.KernelGqaIdeal.nD Cert.KernelGqaIdeal.τ).loc Cert.KernelGqaIdeal.main_arg2) = m ((c.tc : Thread Cert.KernelGqaIdeal.nD Cert.KernelGqaIdeal.τ).loc Cert.KernelGqaIdeal.main_arg2))
      ∧ r.2.sem = fun _ => 0)

def quiescent_ReferenceGqaIdeal [hReferenceGqaIdeal : Cert.ReferenceGqaIdeal.Facts] : Prop :=
  ∀ (m : (ℓ : Loc Cert.ReferenceGqaIdeal.nD Cert.ReferenceGqaIdeal.τ Cert.ReferenceGqaIdeal.sig) → Buf (Elt Ideal) ℓ) (g : Dev Cert.ReferenceGqaIdeal.nD → PrngReg), Pre_ReferenceGqaIdeal m →
    θ_run (Cert.ReferenceGqaIdeal.defs (F := Ideal)) (onTc (τ := Cert.ReferenceGqaIdeal.τ) (Cert.ReferenceGqaIdeal.main (F := Ideal))) ⟨m, fun _ => 0, g⟩ (fun r => (∀ c : Dev Cert.ReferenceGqaIdeal.nD,
      r.2.mem ((c.tc : Thread Cert.ReferenceGqaIdeal.nD Cert.ReferenceGqaIdeal.τ).loc Cert.ReferenceGqaIdeal.main_arg0) = m ((c.tc : Thread Cert.ReferenceGqaIdeal.nD Cert.ReferenceGqaIdeal.τ).loc Cert.ReferenceGqaIdeal.main_arg0)
      ∧ r.2.mem ((c.tc : Thread Cert.ReferenceGqaIdeal.nD Cert.ReferenceGqaIdeal.τ).loc Cert.ReferenceGqaIdeal.main_arg1) = m ((c.tc : Thread Cert.ReferenceGqaIdeal.nD Cert.ReferenceGqaIdeal.τ).loc Cert.ReferenceGqaIdeal.main_arg1)
      ∧ r.2.mem ((c.tc : Thread Cert.ReferenceGqaIdeal.nD Cert.ReferenceGqaIdeal.τ).loc Cert.ReferenceGqaIdeal.main_arg2) = m ((c.tc : Thread Cert.ReferenceGqaIdeal.nD Cert.ReferenceGqaIdeal.τ).loc Cert.ReferenceGqaIdeal.main_arg2))
      ∧ r.2.sem = fun _ => 0)

def quiescent_ReferenceGqaIdeal_pre_gqa_operands [hReferenceGqaIdeal : Cert.ReferenceGqaIdeal.Facts] [hPre_gqa_operands : Cert.Pre_gqa_operands.Facts] : Prop :=
  ∀ (m : (ℓ : Loc Cert.ReferenceGqaIdeal.nD Cert.ReferenceGqaIdeal.τ Cert.ReferenceGqaIdeal.sig) → Buf (Elt Ideal) ℓ) (g : Dev Cert.ReferenceGqaIdeal.nD → PrngReg), Pre_ReferenceGqaIdeal_gqa_operands m →
    θ_run (Cert.ReferenceGqaIdeal.defs (F := Ideal)) (onTc (τ := Cert.ReferenceGqaIdeal.τ) (Cert.ReferenceGqaIdeal.main (F := Ideal))) ⟨m, fun _ => 0, g⟩ (fun r => (∀ c : Dev Cert.ReferenceGqaIdeal.nD,
      r.2.mem ((c.tc : Thread Cert.ReferenceGqaIdeal.nD Cert.ReferenceGqaIdeal.τ).loc Cert.ReferenceGqaIdeal.main_arg0) = m ((c.tc : Thread Cert.ReferenceGqaIdeal.nD Cert.ReferenceGqaIdeal.τ).loc Cert.ReferenceGqaIdeal.main_arg0)
      ∧ r.2.mem ((c.tc : Thread Cert.ReferenceGqaIdeal.nD Cert.ReferenceGqaIdeal.τ).loc Cert.ReferenceGqaIdeal.main_arg1) = m ((c.tc : Thread Cert.ReferenceGqaIdeal.nD Cert.ReferenceGqaIdeal.τ).loc Cert.ReferenceGqaIdeal.main_arg1)
      ∧ r.2.mem ((c.tc : Thread Cert.ReferenceGqaIdeal.nD Cert.ReferenceGqaIdeal.τ).loc Cert.ReferenceGqaIdeal.main_arg2) = m ((c.tc : Thread Cert.ReferenceGqaIdeal.nD Cert.ReferenceGqaIdeal.τ).loc Cert.ReferenceGqaIdeal.main_arg2))
      ∧ r.2.sem = fun _ => 0)

def quiescent_KernelMlaP [hKernelMlaP : Cert.KernelMlaP.Facts] : Prop :=
  ∀ (m : (ℓ : Loc Cert.KernelMlaP.nD Cert.KernelMlaP.τ Cert.KernelMlaP.sig) → Buf (Elt Bits) ℓ) (g : Dev Cert.KernelMlaP.nD → PrngReg), Pre_KernelMlaP m →
    θ_run (Cert.KernelMlaP.defs (F := Bits)) (onTc (τ := Cert.KernelMlaP.τ) (Cert.KernelMlaP.main (F := Bits))) ⟨m, fun _ => 0, g⟩ (fun r => (∀ c : Dev Cert.KernelMlaP.nD,
      r.2.mem ((c.tc : Thread Cert.KernelMlaP.nD Cert.KernelMlaP.τ).loc Cert.KernelMlaP.main_arg0) = m ((c.tc : Thread Cert.KernelMlaP.nD Cert.KernelMlaP.τ).loc Cert.KernelMlaP.main_arg0)
      ∧ r.2.mem ((c.tc : Thread Cert.KernelMlaP.nD Cert.KernelMlaP.τ).loc Cert.KernelMlaP.main_arg1) = m ((c.tc : Thread Cert.KernelMlaP.nD Cert.KernelMlaP.τ).loc Cert.KernelMlaP.main_arg1)
      ∧ r.2.mem ((c.tc : Thread Cert.KernelMlaP.nD Cert.KernelMlaP.τ).loc Cert.KernelMlaP.main_arg2) = m ((c.tc : Thread Cert.KernelMlaP.nD Cert.KernelMlaP.τ).loc Cert.KernelMlaP.main_arg2))
      ∧ r.2.sem = fun _ => 0)

def quiescent_KernelMlaPIdeal [hKernelMlaPIdeal : Cert.KernelMlaPIdeal.Facts] : Prop :=
  ∀ (m : (ℓ : Loc Cert.KernelMlaPIdeal.nD Cert.KernelMlaPIdeal.τ Cert.KernelMlaPIdeal.sig) → Buf (Elt Ideal) ℓ) (g : Dev Cert.KernelMlaPIdeal.nD → PrngReg), Pre_KernelMlaPIdeal m →
    θ_run (Cert.KernelMlaPIdeal.defs (F := Ideal)) (onTc (τ := Cert.KernelMlaPIdeal.τ) (Cert.KernelMlaPIdeal.main (F := Ideal))) ⟨m, fun _ => 0, g⟩ (fun r => (∀ c : Dev Cert.KernelMlaPIdeal.nD,
      r.2.mem ((c.tc : Thread Cert.KernelMlaPIdeal.nD Cert.KernelMlaPIdeal.τ).loc Cert.KernelMlaPIdeal.main_arg0) = m ((c.tc : Thread Cert.KernelMlaPIdeal.nD Cert.KernelMlaPIdeal.τ).loc Cert.KernelMlaPIdeal.main_arg0)
      ∧ r.2.mem ((c.tc : Thread Cert.KernelMlaPIdeal.nD Cert.KernelMlaPIdeal.τ).loc Cert.KernelMlaPIdeal.main_arg1) = m ((c.tc : Thread Cert.KernelMlaPIdeal.nD Cert.KernelMlaPIdeal.τ).loc Cert.KernelMlaPIdeal.main_arg1)
      ∧ r.2.mem ((c.tc : Thread Cert.KernelMlaPIdeal.nD Cert.KernelMlaPIdeal.τ).loc Cert.KernelMlaPIdeal.main_arg2) = m ((c.tc : Thread Cert.KernelMlaPIdeal.nD Cert.KernelMlaPIdeal.τ).loc Cert.KernelMlaPIdeal.main_arg2))
      ∧ r.2.sem = fun _ => 0)

def quiescent_KernelMlaPIdeal_pre_mla_operands [hKernelMlaPIdeal : Cert.KernelMlaPIdeal.Facts] [hPre_mla_operands : Cert.Pre_mla_operands.Facts] : Prop :=
  ∀ (m : (ℓ : Loc Cert.KernelMlaPIdeal.nD Cert.KernelMlaPIdeal.τ Cert.KernelMlaPIdeal.sig) → Buf (Elt Ideal) ℓ) (g : Dev Cert.KernelMlaPIdeal.nD → PrngReg), Pre_KernelMlaPIdeal_mla_operands m →
    θ_run (Cert.KernelMlaPIdeal.defs (F := Ideal)) (onTc (τ := Cert.KernelMlaPIdeal.τ) (Cert.KernelMlaPIdeal.main (F := Ideal))) ⟨m, fun _ => 0, g⟩ (fun r => (∀ c : Dev Cert.KernelMlaPIdeal.nD,
      r.2.mem ((c.tc : Thread Cert.KernelMlaPIdeal.nD Cert.KernelMlaPIdeal.τ).loc Cert.KernelMlaPIdeal.main_arg0) = m ((c.tc : Thread Cert.KernelMlaPIdeal.nD Cert.KernelMlaPIdeal.τ).loc Cert.KernelMlaPIdeal.main_arg0)
      ∧ r.2.mem ((c.tc : Thread Cert.KernelMlaPIdeal.nD Cert.KernelMlaPIdeal.τ).loc Cert.KernelMlaPIdeal.main_arg1) = m ((c.tc : Thread Cert.KernelMlaPIdeal.nD Cert.KernelMlaPIdeal.τ).loc Cert.KernelMlaPIdeal.main_arg1)
      ∧ r.2.mem ((c.tc : Thread Cert.KernelMlaPIdeal.nD Cert.KernelMlaPIdeal.τ).loc Cert.KernelMlaPIdeal.main_arg2) = m ((c.tc : Thread Cert.KernelMlaPIdeal.nD Cert.KernelMlaPIdeal.τ).loc Cert.KernelMlaPIdeal.main_arg2))
      ∧ r.2.sem = fun _ => 0)

def quiescent_ReferenceMlaPIdeal [hReferenceMlaPIdeal : Cert.ReferenceMlaPIdeal.Facts] : Prop :=
  ∀ (m : (ℓ : Loc Cert.ReferenceMlaPIdeal.nD Cert.ReferenceMlaPIdeal.τ Cert.ReferenceMlaPIdeal.sig) → Buf (Elt Ideal) ℓ) (g : Dev Cert.ReferenceMlaPIdeal.nD → PrngReg), Pre_ReferenceMlaPIdeal m →
    θ_run (Cert.ReferenceMlaPIdeal.defs (F := Ideal)) (onTc (τ := Cert.ReferenceMlaPIdeal.τ) (Cert.ReferenceMlaPIdeal.main (F := Ideal))) ⟨m, fun _ => 0, g⟩ (fun r => (∀ c : Dev Cert.ReferenceMlaPIdeal.nD,
      r.2.mem ((c.tc : Thread Cert.ReferenceMlaPIdeal.nD Cert.ReferenceMlaPIdeal.τ).loc Cert.ReferenceMlaPIdeal.main_arg0) = m ((c.tc : Thread Cert.ReferenceMlaPIdeal.nD Cert.ReferenceMlaPIdeal.τ).loc Cert.ReferenceMlaPIdeal.main_arg0)
      ∧ r.2.mem ((c.tc : Thread Cert.ReferenceMlaPIdeal.nD Cert.ReferenceMlaPIdeal.τ).loc Cert.ReferenceMlaPIdeal.main_arg1) = m ((c.tc : Thread Cert.ReferenceMlaPIdeal.nD Cert.ReferenceMlaPIdeal.τ).loc Cert.ReferenceMlaPIdeal.main_arg1)
      ∧ r.2.mem ((c.tc : Thread Cert.ReferenceMlaPIdeal.nD Cert.ReferenceMlaPIdeal.τ).loc Cert.ReferenceMlaPIdeal.main_arg2) = m ((c.tc : Thread Cert.ReferenceMlaPIdeal.nD Cert.ReferenceMlaPIdeal.τ).loc Cert.ReferenceMlaPIdeal.main_arg2))
      ∧ r.2.sem = fun _ => 0)

def quiescent_ReferenceMlaPIdeal_pre_mla_operands [hReferenceMlaPIdeal : Cert.ReferenceMlaPIdeal.Facts] [hPre_mla_operands : Cert.Pre_mla_operands.Facts] : Prop :=
  ∀ (m : (ℓ : Loc Cert.ReferenceMlaPIdeal.nD Cert.ReferenceMlaPIdeal.τ Cert.ReferenceMlaPIdeal.sig) → Buf (Elt Ideal) ℓ) (g : Dev Cert.ReferenceMlaPIdeal.nD → PrngReg), Pre_ReferenceMlaPIdeal_mla_operands m →
    θ_run (Cert.ReferenceMlaPIdeal.defs (F := Ideal)) (onTc (τ := Cert.ReferenceMlaPIdeal.τ) (Cert.ReferenceMlaPIdeal.main (F := Ideal))) ⟨m, fun _ => 0, g⟩ (fun r => (∀ c : Dev Cert.ReferenceMlaPIdeal.nD,
      r.2.mem ((c.tc : Thread Cert.ReferenceMlaPIdeal.nD Cert.ReferenceMlaPIdeal.τ).loc Cert.ReferenceMlaPIdeal.main_arg0) = m ((c.tc : Thread Cert.ReferenceMlaPIdeal.nD Cert.ReferenceMlaPIdeal.τ).loc Cert.ReferenceMlaPIdeal.main_arg0)
      ∧ r.2.mem ((c.tc : Thread Cert.ReferenceMlaPIdeal.nD Cert.ReferenceMlaPIdeal.τ).loc Cert.ReferenceMlaPIdeal.main_arg1) = m ((c.tc : Thread Cert.ReferenceMlaPIdeal.nD Cert.ReferenceMlaPIdeal.τ).loc Cert.ReferenceMlaPIdeal.main_arg1)
      ∧ r.2.mem ((c.tc : Thread Cert.ReferenceMlaPIdeal.nD Cert.ReferenceMlaPIdeal.τ).loc Cert.ReferenceMlaPIdeal.main_arg2) = m ((c.tc : Thread Cert.ReferenceMlaPIdeal.nD Cert.ReferenceMlaPIdeal.τ).loc Cert.ReferenceMlaPIdeal.main_arg2))
      ∧ r.2.sem = fun _ => 0)

def preserves_KernelMla_KernelMlaIdeal : Prop :=
  True

def algebraic_KernelMlaIdeal_ReferenceMlaIdeal_pre_mla_operands [hKernelMlaIdeal : Cert.KernelMlaIdeal.Facts] [hReferenceMlaIdeal : Cert.ReferenceMlaIdeal.Facts] [hPre_mla_operands : Cert.Pre_mla_operands.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg)
    (m' : (ℓ : Loc Cert.ReferenceMlaIdeal.nD Cert.ReferenceMlaIdeal.τ Cert.ReferenceMlaIdeal.sig) → Buf (Elt Ideal) ℓ) (g' : Dev Cert.ReferenceMlaIdeal.nD → PrngReg), Pre_KernelMlaIdeal_mla_operands m →
    (∀ c : Dev Cert.KernelMlaIdeal.nD,
      m' ((c.tc : Thread Cert.ReferenceMlaIdeal.nD Cert.ReferenceMlaIdeal.τ).loc Cert.ReferenceMlaIdeal.main_arg0) = m ((c.tc : Thread Cert.KernelMlaIdeal.nD Cert.KernelMlaIdeal.τ).loc Cert.KernelMlaIdeal.main_arg0)
      ∧ m' ((c.tc : Thread Cert.ReferenceMlaIdeal.nD Cert.ReferenceMlaIdeal.τ).loc Cert.ReferenceMlaIdeal.main_arg1) = m ((c.tc : Thread Cert.KernelMlaIdeal.nD Cert.KernelMlaIdeal.τ).loc Cert.KernelMlaIdeal.main_arg1)
      ∧ m' ((c.tc : Thread Cert.ReferenceMlaIdeal.nD Cert.ReferenceMlaIdeal.τ).loc Cert.ReferenceMlaIdeal.main_arg2) = m ((c.tc : Thread Cert.KernelMlaIdeal.nD Cert.KernelMlaIdeal.τ).loc Cert.KernelMlaIdeal.main_arg2)) →
    ∃ (v0 : (c : Dev Cert.KernelMlaIdeal.nD) → Buf (Elt Ideal) ((c.tc : Thread Cert.KernelMlaIdeal.nD Cert.KernelMlaIdeal.τ).loc Cert.KernelMlaIdeal.main_v0)),
      θ_run (Cert.KernelMlaIdeal.defs (F := Ideal)) (onTc (τ := Cert.KernelMlaIdeal.τ) (Cert.KernelMlaIdeal.main (F := Ideal))) ⟨m, fun _ => 0, g⟩ (fun r => ∀ c : Dev Cert.KernelMlaIdeal.nD,
          r.2.mem ((c.tc : Thread Cert.KernelMlaIdeal.nD Cert.KernelMlaIdeal.τ).loc Cert.KernelMlaIdeal.main_v0) = v0 c
          ∧ r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
          ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
          ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ θ_run (Cert.ReferenceMlaIdeal.defs (F := Ideal)) (onTc (τ := Cert.ReferenceMlaIdeal.τ) (Cert.ReferenceMlaIdeal.main (F := Ideal))) ⟨m', fun _ => 0, g'⟩ (fun r => ∀ c : Dev Cert.ReferenceMlaIdeal.nD,
          r.2.mem ((c.tc : Thread Cert.ReferenceMlaIdeal.nD Cert.ReferenceMlaIdeal.τ).loc Cert.ReferenceMlaIdeal.main_v35) = v0 c
          ∧ r.2.mem ((c.tc : Thread Cert.ReferenceMlaIdeal.nD Cert.ReferenceMlaIdeal.τ).loc Cert.ReferenceMlaIdeal.main_arg0) = m' ((c.tc : Thread Cert.ReferenceMlaIdeal.nD Cert.ReferenceMlaIdeal.τ).loc Cert.ReferenceMlaIdeal.main_arg0)
          ∧ r.2.mem ((c.tc : Thread Cert.ReferenceMlaIdeal.nD Cert.ReferenceMlaIdeal.τ).loc Cert.ReferenceMlaIdeal.main_arg1) = m' ((c.tc : Thread Cert.ReferenceMlaIdeal.nD Cert.ReferenceMlaIdeal.τ).loc Cert.ReferenceMlaIdeal.main_arg1)
          ∧ r.2.mem ((c.tc : Thread Cert.ReferenceMlaIdeal.nD Cert.ReferenceMlaIdeal.τ).loc Cert.ReferenceMlaIdeal.main_arg2) = m' ((c.tc : Thread Cert.ReferenceMlaIdeal.nD Cert.ReferenceMlaIdeal.τ).loc Cert.ReferenceMlaIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v22) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelFfnB_KernelFfnBIdeal : Prop :=
  True

def algebraic_KernelFfnBIdeal_ReferenceFfnBIdeal [hKernelFfnBIdeal : Cert.KernelFfnBIdeal.Facts] [hReferenceFfnBIdeal : Cert.ReferenceFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg)
    (m' : (ℓ : Loc Cert.ReferenceFfnBIdeal.nD Cert.ReferenceFfnBIdeal.τ Cert.ReferenceFfnBIdeal.sig) → Buf (Elt Ideal) ℓ) (g' : Dev Cert.ReferenceFfnBIdeal.nD → PrngReg), Pre_KernelFfnBIdeal m →
    (∀ c : Dev Cert.KernelFfnBIdeal.nD,
      m' ((c.tc : Thread Cert.ReferenceFfnBIdeal.nD Cert.ReferenceFfnBIdeal.τ).loc Cert.ReferenceFfnBIdeal.main_arg0) = m ((c.tc : Thread Cert.KernelFfnBIdeal.nD Cert.KernelFfnBIdeal.τ).loc Cert.KernelFfnBIdeal.main_arg0)
      ∧ m' ((c.tc : Thread Cert.ReferenceFfnBIdeal.nD Cert.ReferenceFfnBIdeal.τ).loc Cert.ReferenceFfnBIdeal.main_arg1) = m ((c.tc : Thread Cert.KernelFfnBIdeal.nD Cert.KernelFfnBIdeal.τ).loc Cert.KernelFfnBIdeal.main_arg1)
      ∧ m' ((c.tc : Thread Cert.ReferenceFfnBIdeal.nD Cert.ReferenceFfnBIdeal.τ).loc Cert.ReferenceFfnBIdeal.main_arg2) = m ((c.tc : Thread Cert.KernelFfnBIdeal.nD Cert.KernelFfnBIdeal.τ).loc Cert.KernelFfnBIdeal.main_arg2)
      ∧ m' ((c.tc : Thread Cert.ReferenceFfnBIdeal.nD Cert.ReferenceFfnBIdeal.τ).loc Cert.ReferenceFfnBIdeal.main_arg3) = m ((c.tc : Thread Cert.KernelFfnBIdeal.nD Cert.KernelFfnBIdeal.τ).loc Cert.KernelFfnBIdeal.main_arg3)) →
    ∃ (v0 : (c : Dev Cert.KernelFfnBIdeal.nD) → Buf (Elt Ideal) ((c.tc : Thread Cert.KernelFfnBIdeal.nD Cert.KernelFfnBIdeal.τ).loc Cert.KernelFfnBIdeal.main_v6)),
      θ_run (Cert.KernelFfnBIdeal.defs (F := Ideal)) (onTc (τ := Cert.KernelFfnBIdeal.τ) (Cert.KernelFfnBIdeal.main (F := Ideal))) ⟨m, fun _ => 0, g⟩ (fun r => ∀ c : Dev Cert.KernelFfnBIdeal.nD,
          r.2.mem ((c.tc : Thread Cert.KernelFfnBIdeal.nD Cert.KernelFfnBIdeal.τ).loc Cert.KernelFfnBIdeal.main_v6) = v0 c
          ∧ r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
          ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
          ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
          ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3))
      ∧ θ_run (Cert.ReferenceFfnBIdeal.defs (F := Ideal)) (onTc (τ := Cert.ReferenceFfnBIdeal.τ) (Cert.ReferenceFfnBIdeal.main (F := Ideal))) ⟨m', fun _ => 0, g'⟩ (fun r => ∀ c : Dev Cert.ReferenceFfnBIdeal.nD,
          r.2.mem ((c.tc : Thread Cert.ReferenceFfnBIdeal.nD Cert.ReferenceFfnBIdeal.τ).loc Cert.ReferenceFfnBIdeal.main_v21) = v0 c
          ∧ r.2.mem ((c.tc : Thread Cert.ReferenceFfnBIdeal.nD Cert.ReferenceFfnBIdeal.τ).loc Cert.ReferenceFfnBIdeal.main_arg0) = m' ((c.tc : Thread Cert.ReferenceFfnBIdeal.nD Cert.ReferenceFfnBIdeal.τ).loc Cert.ReferenceFfnBIdeal.main_arg0)
          ∧ r.2.mem ((c.tc : Thread Cert.ReferenceFfnBIdeal.nD Cert.ReferenceFfnBIdeal.τ).loc Cert.ReferenceFfnBIdeal.main_arg1) = m' ((c.tc : Thread Cert.ReferenceFfnBIdeal.nD Cert.ReferenceFfnBIdeal.τ).loc Cert.ReferenceFfnBIdeal.main_arg1)
          ∧ r.2.mem ((c.tc : Thread Cert.ReferenceFfnBIdeal.nD Cert.ReferenceFfnBIdeal.τ).loc Cert.ReferenceFfnBIdeal.main_arg2) = m' ((c.tc : Thread Cert.ReferenceFfnBIdeal.nD Cert.ReferenceFfnBIdeal.τ).loc Cert.ReferenceFfnBIdeal.main_arg2)
          ∧ r.2.mem ((c.tc : Thread Cert.ReferenceFfnBIdeal.nD Cert.ReferenceFfnBIdeal.τ).loc Cert.ReferenceFfnBIdeal.main_arg3) = m' ((c.tc : Thread Cert.ReferenceFfnBIdeal.nD Cert.ReferenceFfnBIdeal.τ).loc Cert.ReferenceFfnBIdeal.main_arg3))

def preserves_KernelFfnC_KernelFfnCIdeal : Prop :=
  True

def algebraic_KernelFfnCIdeal_ReferenceFfnCIdeal [hKernelFfnCIdeal : Cert.KernelFfnCIdeal.Facts] [hReferenceFfnCIdeal : Cert.ReferenceFfnCIdeal.Facts] : Prop :=
  ∀ (m : (ℓ : Loc Cert.KernelFfnCIdeal.nD Cert.KernelFfnCIdeal.τ Cert.KernelFfnCIdeal.sig) → Buf (Elt Ideal) ℓ) (g : Dev Cert.KernelFfnCIdeal.nD → PrngReg)
    (m' : (ℓ : Loc Cert.ReferenceFfnCIdeal.nD Cert.ReferenceFfnCIdeal.τ Cert.ReferenceFfnCIdeal.sig) → Buf (Elt Ideal) ℓ) (g' : Dev Cert.ReferenceFfnCIdeal.nD → PrngReg), Pre_KernelFfnCIdeal m →
    (∀ c : Dev Cert.KernelFfnCIdeal.nD,
      m' ((c.tc : Thread Cert.ReferenceFfnCIdeal.nD Cert.ReferenceFfnCIdeal.τ).loc Cert.ReferenceFfnCIdeal.main_arg0) = m ((c.tc : Thread Cert.KernelFfnCIdeal.nD Cert.KernelFfnCIdeal.τ).loc Cert.KernelFfnCIdeal.main_arg0)
      ∧ m' ((c.tc : Thread Cert.ReferenceFfnCIdeal.nD Cert.ReferenceFfnCIdeal.τ).loc Cert.ReferenceFfnCIdeal.main_arg1) = m ((c.tc : Thread Cert.KernelFfnCIdeal.nD Cert.KernelFfnCIdeal.τ).loc Cert.KernelFfnCIdeal.main_arg1)
      ∧ m' ((c.tc : Thread Cert.ReferenceFfnCIdeal.nD Cert.ReferenceFfnCIdeal.τ).loc Cert.ReferenceFfnCIdeal.main_arg2) = m ((c.tc : Thread Cert.KernelFfnCIdeal.nD Cert.KernelFfnCIdeal.τ).loc Cert.KernelFfnCIdeal.main_arg2)
      ∧ m' ((c.tc : Thread Cert.ReferenceFfnCIdeal.nD Cert.ReferenceFfnCIdeal.τ).loc Cert.ReferenceFfnCIdeal.main_arg3) = m ((c.tc : Thread Cert.KernelFfnCIdeal.nD Cert.KernelFfnCIdeal.τ).loc Cert.KernelFfnCIdeal.main_arg3)
      ∧ m' ((c.tc : Thread Cert.ReferenceFfnCIdeal.nD Cert.ReferenceFfnCIdeal.τ).loc Cert.ReferenceFfnCIdeal.main_arg4) = m ((c.tc : Thread Cert.KernelFfnCIdeal.nD Cert.KernelFfnCIdeal.τ).loc Cert.KernelFfnCIdeal.main_arg4)
      ∧ m' ((c.tc : Thread Cert.ReferenceFfnCIdeal.nD Cert.ReferenceFfnCIdeal.τ).loc Cert.ReferenceFfnCIdeal.main_arg5) = m ((c.tc : Thread Cert.KernelFfnCIdeal.nD Cert.KernelFfnCIdeal.τ).loc Cert.KernelFfnCIdeal.main_arg5)
      ∧ m' ((c.tc : Thread Cert.ReferenceFfnCIdeal.nD Cert.ReferenceFfnCIdeal.τ).loc Cert.ReferenceFfnCIdeal.main_arg6) = m ((c.tc : Thread Cert.KernelFfnCIdeal.nD Cert.KernelFfnCIdeal.τ).loc Cert.KernelFfnCIdeal.main_arg6)
      ∧ m' ((c.tc : Thread Cert.ReferenceFfnCIdeal.nD Cert.ReferenceFfnCIdeal.τ).loc Cert.ReferenceFfnCIdeal.main_arg7) = m ((c.tc : Thread Cert.KernelFfnCIdeal.nD Cert.KernelFfnCIdeal.τ).loc Cert.KernelFfnCIdeal.main_arg7)
      ∧ m' ((c.tc : Thread Cert.ReferenceFfnCIdeal.nD Cert.ReferenceFfnCIdeal.τ).loc Cert.ReferenceFfnCIdeal.main_arg8) = m ((c.tc : Thread Cert.KernelFfnCIdeal.nD Cert.KernelFfnCIdeal.τ).loc Cert.KernelFfnCIdeal.main_arg8)
      ∧ m' ((c.tc : Thread Cert.ReferenceFfnCIdeal.nD Cert.ReferenceFfnCIdeal.τ).loc Cert.ReferenceFfnCIdeal.main_arg9) = m ((c.tc : Thread Cert.KernelFfnCIdeal.nD Cert.KernelFfnCIdeal.τ).loc Cert.KernelFfnCIdeal.main_arg9)
      ∧ m' ((c.tc : Thread Cert.ReferenceFfnCIdeal.nD Cert.ReferenceFfnCIdeal.τ).loc Cert.ReferenceFfnCIdeal.main_arg10) = m ((c.tc : Thread Cert.KernelFfnCIdeal.nD Cert.KernelFfnCIdeal.τ).loc Cert.KernelFfnCIdeal.main_arg10)
      ∧ m' ((c.tc : Thread Cert.ReferenceFfnCIdeal.nD Cert.ReferenceFfnCIdeal.τ).loc Cert.ReferenceFfnCIdeal.main_arg11) = m ((c.tc : Thread Cert.KernelFfnCIdeal.nD Cert.KernelFfnCIdeal.τ).loc Cert.KernelFfnCIdeal.main_arg11)
      ∧ m' ((c.tc : Thread Cert.ReferenceFfnCIdeal.nD Cert.ReferenceFfnCIdeal.τ).loc Cert.ReferenceFfnCIdeal.main_arg12) = m ((c.tc : Thread Cert.KernelFfnCIdeal.nD Cert.KernelFfnCIdeal.τ).loc Cert.KernelFfnCIdeal.main_arg12)
      ∧ m' ((c.tc : Thread Cert.ReferenceFfnCIdeal.nD Cert.ReferenceFfnCIdeal.τ).loc Cert.ReferenceFfnCIdeal.main_arg13) = m ((c.tc : Thread Cert.KernelFfnCIdeal.nD Cert.KernelFfnCIdeal.τ).loc Cert.KernelFfnCIdeal.main_arg13)
      ∧ m' ((c.tc : Thread Cert.ReferenceFfnCIdeal.nD Cert.ReferenceFfnCIdeal.τ).loc Cert.ReferenceFfnCIdeal.main_arg14) = m ((c.tc : Thread Cert.KernelFfnCIdeal.nD Cert.KernelFfnCIdeal.τ).loc Cert.KernelFfnCIdeal.main_arg14)
      ∧ m' ((c.tc : Thread Cert.ReferenceFfnCIdeal.nD Cert.ReferenceFfnCIdeal.τ).loc Cert.ReferenceFfnCIdeal.main_arg15) = m ((c.tc : Thread Cert.KernelFfnCIdeal.nD Cert.KernelFfnCIdeal.τ).loc Cert.KernelFfnCIdeal.main_arg15)
      ∧ m' ((c.tc : Thread Cert.ReferenceFfnCIdeal.nD Cert.ReferenceFfnCIdeal.τ).loc Cert.ReferenceFfnCIdeal.main_arg16) = m ((c.tc : Thread Cert.KernelFfnCIdeal.nD Cert.KernelFfnCIdeal.τ).loc Cert.KernelFfnCIdeal.main_arg16)) →
    ∃ (v0 : (c : Dev Cert.KernelFfnCIdeal.nD) → Buf (Elt Ideal) ((c.tc : Thread Cert.KernelFfnCIdeal.nD Cert.KernelFfnCIdeal.τ).loc Cert.KernelFfnCIdeal.main_v10)),
      θ_run (Cert.KernelFfnCIdeal.defs (F := Ideal)) (onTc (τ := Cert.KernelFfnCIdeal.τ) (Cert.KernelFfnCIdeal.main (F := Ideal))) ⟨m, fun _ => 0, g⟩ (fun r => ∀ c : Dev Cert.KernelFfnCIdeal.nD,
          r.2.mem ((c.tc : Thread Cert.KernelFfnCIdeal.nD Cert.KernelFfnCIdeal.τ).loc Cert.KernelFfnCIdeal.main_v10) = v0 c
          ∧ r.2.mem ((c.tc : Thread Cert.KernelFfnCIdeal.nD Cert.KernelFfnCIdeal.τ).loc Cert.KernelFfnCIdeal.main_arg0) = m ((c.tc : Thread Cert.KernelFfnCIdeal.nD Cert.KernelFfnCIdeal.τ).loc Cert.KernelFfnCIdeal.main_arg0)
          ∧ r.2.mem ((c.tc : Thread Cert.KernelFfnCIdeal.nD Cert.KernelFfnCIdeal.τ).loc Cert.KernelFfnCIdeal.main_arg1) = m ((c.tc : Thread Cert.KernelFfnCIdeal.nD Cert.KernelFfnCIdeal.τ).loc Cert.KernelFfnCIdeal.main_arg1)
          ∧ r.2.mem ((c.tc : Thread Cert.KernelFfnCIdeal.nD Cert.KernelFfnCIdeal.τ).loc Cert.KernelFfnCIdeal.main_arg2) = m ((c.tc : Thread Cert.KernelFfnCIdeal.nD Cert.KernelFfnCIdeal.τ).loc Cert.KernelFfnCIdeal.main_arg2)
          ∧ r.2.mem ((c.tc : Thread Cert.KernelFfnCIdeal.nD Cert.KernelFfnCIdeal.τ).loc Cert.KernelFfnCIdeal.main_arg3) = m ((c.tc : Thread Cert.KernelFfnCIdeal.nD Cert.KernelFfnCIdeal.τ).loc Cert.KernelFfnCIdeal.main_arg3)
          ∧ r.2.mem ((c.tc : Thread Cert.KernelFfnCIdeal.nD Cert.KernelFfnCIdeal.τ).loc Cert.KernelFfnCIdeal.main_arg4) = m ((c.tc : Thread Cert.KernelFfnCIdeal.nD Cert.KernelFfnCIdeal.τ).loc Cert.KernelFfnCIdeal.main_arg4)
          ∧ r.2.mem ((c.tc : Thread Cert.KernelFfnCIdeal.nD Cert.KernelFfnCIdeal.τ).loc Cert.KernelFfnCIdeal.main_arg5) = m ((c.tc : Thread Cert.KernelFfnCIdeal.nD Cert.KernelFfnCIdeal.τ).loc Cert.KernelFfnCIdeal.main_arg5)
          ∧ r.2.mem ((c.tc : Thread Cert.KernelFfnCIdeal.nD Cert.KernelFfnCIdeal.τ).loc Cert.KernelFfnCIdeal.main_arg6) = m ((c.tc : Thread Cert.KernelFfnCIdeal.nD Cert.KernelFfnCIdeal.τ).loc Cert.KernelFfnCIdeal.main_arg6)
          ∧ r.2.mem ((c.tc : Thread Cert.KernelFfnCIdeal.nD Cert.KernelFfnCIdeal.τ).loc Cert.KernelFfnCIdeal.main_arg7) = m ((c.tc : Thread Cert.KernelFfnCIdeal.nD Cert.KernelFfnCIdeal.τ).loc Cert.KernelFfnCIdeal.main_arg7)
          ∧ r.2.mem ((c.tc : Thread Cert.KernelFfnCIdeal.nD Cert.KernelFfnCIdeal.τ).loc Cert.KernelFfnCIdeal.main_arg8) = m ((c.tc : Thread Cert.KernelFfnCIdeal.nD Cert.KernelFfnCIdeal.τ).loc Cert.KernelFfnCIdeal.main_arg8)
          ∧ r.2.mem ((c.tc : Thread Cert.KernelFfnCIdeal.nD Cert.KernelFfnCIdeal.τ).loc Cert.KernelFfnCIdeal.main_arg9) = m ((c.tc : Thread Cert.KernelFfnCIdeal.nD Cert.KernelFfnCIdeal.τ).loc Cert.KernelFfnCIdeal.main_arg9)
          ∧ r.2.mem ((c.tc : Thread Cert.KernelFfnCIdeal.nD Cert.KernelFfnCIdeal.τ).loc Cert.KernelFfnCIdeal.main_arg10) = m ((c.tc : Thread Cert.KernelFfnCIdeal.nD Cert.KernelFfnCIdeal.τ).loc Cert.KernelFfnCIdeal.main_arg10)
          ∧ r.2.mem ((c.tc : Thread Cert.KernelFfnCIdeal.nD Cert.KernelFfnCIdeal.τ).loc Cert.KernelFfnCIdeal.main_arg11) = m ((c.tc : Thread Cert.KernelFfnCIdeal.nD Cert.KernelFfnCIdeal.τ).loc Cert.KernelFfnCIdeal.main_arg11)
          ∧ r.2.mem ((c.tc : Thread Cert.KernelFfnCIdeal.nD Cert.KernelFfnCIdeal.τ).loc Cert.KernelFfnCIdeal.main_arg12) = m ((c.tc : Thread Cert.KernelFfnCIdeal.nD Cert.KernelFfnCIdeal.τ).loc Cert.KernelFfnCIdeal.main_arg12)
          ∧ r.2.mem ((c.tc : Thread Cert.KernelFfnCIdeal.nD Cert.KernelFfnCIdeal.τ).loc Cert.KernelFfnCIdeal.main_arg13) = m ((c.tc : Thread Cert.KernelFfnCIdeal.nD Cert.KernelFfnCIdeal.τ).loc Cert.KernelFfnCIdeal.main_arg13)
          ∧ r.2.mem ((c.tc : Thread Cert.KernelFfnCIdeal.nD Cert.KernelFfnCIdeal.τ).loc Cert.KernelFfnCIdeal.main_arg14) = m ((c.tc : Thread Cert.KernelFfnCIdeal.nD Cert.KernelFfnCIdeal.τ).loc Cert.KernelFfnCIdeal.main_arg14)
          ∧ r.2.mem ((c.tc : Thread Cert.KernelFfnCIdeal.nD Cert.KernelFfnCIdeal.τ).loc Cert.KernelFfnCIdeal.main_arg15) = m ((c.tc : Thread Cert.KernelFfnCIdeal.nD Cert.KernelFfnCIdeal.τ).loc Cert.KernelFfnCIdeal.main_arg15)
          ∧ r.2.mem ((c.tc : Thread Cert.KernelFfnCIdeal.nD Cert.KernelFfnCIdeal.τ).loc Cert.KernelFfnCIdeal.main_arg16) = m ((c.tc : Thread Cert.KernelFfnCIdeal.nD Cert.KernelFfnCIdeal.τ).loc Cert.KernelFfnCIdeal.main_arg16))
      ∧ θ_run (Cert.ReferenceFfnCIdeal.defs (F := Ideal)) (onTc (τ := Cert.ReferenceFfnCIdeal.τ) (Cert.ReferenceFfnCIdeal.main (F := Ideal))) ⟨m', fun _ => 0, g'⟩ (fun r => ∀ c : Dev Cert.ReferenceFfnCIdeal.nD,
          r.2.mem ((c.tc : Thread Cert.ReferenceFfnCIdeal.nD Cert.ReferenceFfnCIdeal.τ).loc Cert.ReferenceFfnCIdeal.main_v28) = v0 c
          ∧ r.2.mem ((c.tc : Thread Cert.ReferenceFfnCIdeal.nD Cert.ReferenceFfnCIdeal.τ).loc Cert.ReferenceFfnCIdeal.main_arg0) = m' ((c.tc : Thread Cert.ReferenceFfnCIdeal.nD Cert.ReferenceFfnCIdeal.τ).loc Cert.ReferenceFfnCIdeal.main_arg0)
          ∧ r.2.mem ((c.tc : Thread Cert.ReferenceFfnCIdeal.nD Cert.ReferenceFfnCIdeal.τ).loc Cert.ReferenceFfnCIdeal.main_arg1) = m' ((c.tc : Thread Cert.ReferenceFfnCIdeal.nD Cert.ReferenceFfnCIdeal.τ).loc Cert.ReferenceFfnCIdeal.main_arg1)
          ∧ r.2.mem ((c.tc : Thread Cert.ReferenceFfnCIdeal.nD Cert.ReferenceFfnCIdeal.τ).loc Cert.ReferenceFfnCIdeal.main_arg2) = m' ((c.tc : Thread Cert.ReferenceFfnCIdeal.nD Cert.ReferenceFfnCIdeal.τ).loc Cert.ReferenceFfnCIdeal.main_arg2)
          ∧ r.2.mem ((c.tc : Thread Cert.ReferenceFfnCIdeal.nD Cert.ReferenceFfnCIdeal.τ).loc Cert.ReferenceFfnCIdeal.main_arg3) = m' ((c.tc : Thread Cert.ReferenceFfnCIdeal.nD Cert.ReferenceFfnCIdeal.τ).loc Cert.ReferenceFfnCIdeal.main_arg3)
          ∧ r.2.mem ((c.tc : Thread Cert.ReferenceFfnCIdeal.nD Cert.ReferenceFfnCIdeal.τ).loc Cert.ReferenceFfnCIdeal.main_arg4) = m' ((c.tc : Thread Cert.ReferenceFfnCIdeal.nD Cert.ReferenceFfnCIdeal.τ).loc Cert.ReferenceFfnCIdeal.main_arg4)
          ∧ r.2.mem ((c.tc : Thread Cert.ReferenceFfnCIdeal.nD Cert.ReferenceFfnCIdeal.τ).loc Cert.ReferenceFfnCIdeal.main_arg5) = m' ((c.tc : Thread Cert.ReferenceFfnCIdeal.nD Cert.ReferenceFfnCIdeal.τ).loc Cert.ReferenceFfnCIdeal.main_arg5)
          ∧ r.2.mem ((c.tc : Thread Cert.ReferenceFfnCIdeal.nD Cert.ReferenceFfnCIdeal.τ).loc Cert.ReferenceFfnCIdeal.main_arg6) = m' ((c.tc : Thread Cert.ReferenceFfnCIdeal.nD Cert.ReferenceFfnCIdeal.τ).loc Cert.ReferenceFfnCIdeal.main_arg6)
          ∧ r.2.mem ((c.tc : Thread Cert.ReferenceFfnCIdeal.nD Cert.ReferenceFfnCIdeal.τ).loc Cert.ReferenceFfnCIdeal.main_arg7) = m' ((c.tc : Thread Cert.ReferenceFfnCIdeal.nD Cert.ReferenceFfnCIdeal.τ).loc Cert.ReferenceFfnCIdeal.main_arg7)
          ∧ r.2.mem ((c.tc : Thread Cert.ReferenceFfnCIdeal.nD Cert.ReferenceFfnCIdeal.τ).loc Cert.ReferenceFfnCIdeal.main_arg8) = m' ((c.tc : Thread Cert.ReferenceFfnCIdeal.nD Cert.ReferenceFfnCIdeal.τ).loc Cert.ReferenceFfnCIdeal.main_arg8)
          ∧ r.2.mem ((c.tc : Thread Cert.ReferenceFfnCIdeal.nD Cert.ReferenceFfnCIdeal.τ).loc Cert.ReferenceFfnCIdeal.main_arg9) = m' ((c.tc : Thread Cert.ReferenceFfnCIdeal.nD Cert.ReferenceFfnCIdeal.τ).loc Cert.ReferenceFfnCIdeal.main_arg9)
          ∧ r.2.mem ((c.tc : Thread Cert.ReferenceFfnCIdeal.nD Cert.ReferenceFfnCIdeal.τ).loc Cert.ReferenceFfnCIdeal.main_arg10) = m' ((c.tc : Thread Cert.ReferenceFfnCIdeal.nD Cert.ReferenceFfnCIdeal.τ).loc Cert.ReferenceFfnCIdeal.main_arg10)
          ∧ r.2.mem ((c.tc : Thread Cert.ReferenceFfnCIdeal.nD Cert.ReferenceFfnCIdeal.τ).loc Cert.ReferenceFfnCIdeal.main_arg11) = m' ((c.tc : Thread Cert.ReferenceFfnCIdeal.nD Cert.ReferenceFfnCIdeal.τ).loc Cert.ReferenceFfnCIdeal.main_arg11)
          ∧ r.2.mem ((c.tc : Thread Cert.ReferenceFfnCIdeal.nD Cert.ReferenceFfnCIdeal.τ).loc Cert.ReferenceFfnCIdeal.main_arg12) = m' ((c.tc : Thread Cert.ReferenceFfnCIdeal.nD Cert.ReferenceFfnCIdeal.τ).loc Cert.ReferenceFfnCIdeal.main_arg12)
          ∧ r.2.mem ((c.tc : Thread Cert.ReferenceFfnCIdeal.nD Cert.ReferenceFfnCIdeal.τ).loc Cert.ReferenceFfnCIdeal.main_arg13) = m' ((c.tc : Thread Cert.ReferenceFfnCIdeal.nD Cert.ReferenceFfnCIdeal.τ).loc Cert.ReferenceFfnCIdeal.main_arg13)
          ∧ r.2.mem ((c.tc : Thread Cert.ReferenceFfnCIdeal.nD Cert.ReferenceFfnCIdeal.τ).loc Cert.ReferenceFfnCIdeal.main_arg14) = m' ((c.tc : Thread Cert.ReferenceFfnCIdeal.nD Cert.ReferenceFfnCIdeal.τ).loc Cert.ReferenceFfnCIdeal.main_arg14)
          ∧ r.2.mem ((c.tc : Thread Cert.ReferenceFfnCIdeal.nD Cert.ReferenceFfnCIdeal.τ).loc Cert.ReferenceFfnCIdeal.main_arg15) = m' ((c.tc : Thread Cert.ReferenceFfnCIdeal.nD Cert.ReferenceFfnCIdeal.τ).loc Cert.ReferenceFfnCIdeal.main_arg15)
          ∧ r.2.mem ((c.tc : Thread Cert.ReferenceFfnCIdeal.nD Cert.ReferenceFfnCIdeal.τ).loc Cert.ReferenceFfnCIdeal.main_arg16) = m' ((c.tc : Thread Cert.ReferenceFfnCIdeal.nD Cert.ReferenceFfnCIdeal.τ).loc Cert.ReferenceFfnCIdeal.main_arg16))

def preserves_KernelFfnD_KernelFfnDIdeal : Prop :=
  True

def algebraic_KernelFfnDIdeal_ReferenceFfnDIdeal [hKernelFfnDIdeal : Cert.KernelFfnDIdeal.Facts] [hReferenceFfnDIdeal : Cert.ReferenceFfnDIdeal.Facts] : Prop :=
  ∀ (m : (ℓ : Loc Cert.KernelFfnDIdeal.nD Cert.KernelFfnDIdeal.τ Cert.KernelFfnDIdeal.sig) → Buf (Elt Ideal) ℓ) (g : Dev Cert.KernelFfnDIdeal.nD → PrngReg)
    (m' : (ℓ : Loc Cert.ReferenceFfnDIdeal.nD Cert.ReferenceFfnDIdeal.τ Cert.ReferenceFfnDIdeal.sig) → Buf (Elt Ideal) ℓ) (g' : Dev Cert.ReferenceFfnDIdeal.nD → PrngReg), Pre_KernelFfnDIdeal m →
    (∀ c : Dev Cert.KernelFfnDIdeal.nD,
      m' ((c.tc : Thread Cert.ReferenceFfnDIdeal.nD Cert.ReferenceFfnDIdeal.τ).loc Cert.ReferenceFfnDIdeal.main_arg0) = m ((c.tc : Thread Cert.KernelFfnDIdeal.nD Cert.KernelFfnDIdeal.τ).loc Cert.KernelFfnDIdeal.main_arg0)
      ∧ m' ((c.tc : Thread Cert.ReferenceFfnDIdeal.nD Cert.ReferenceFfnDIdeal.τ).loc Cert.ReferenceFfnDIdeal.main_arg1) = m ((c.tc : Thread Cert.KernelFfnDIdeal.nD Cert.KernelFfnDIdeal.τ).loc Cert.KernelFfnDIdeal.main_arg1)
      ∧ m' ((c.tc : Thread Cert.ReferenceFfnDIdeal.nD Cert.ReferenceFfnDIdeal.τ).loc Cert.ReferenceFfnDIdeal.main_arg2) = m ((c.tc : Thread Cert.KernelFfnDIdeal.nD Cert.KernelFfnDIdeal.τ).loc Cert.KernelFfnDIdeal.main_arg2)
      ∧ m' ((c.tc : Thread Cert.ReferenceFfnDIdeal.nD Cert.ReferenceFfnDIdeal.τ).loc Cert.ReferenceFfnDIdeal.main_arg3) = m ((c.tc : Thread Cert.KernelFfnDIdeal.nD Cert.KernelFfnDIdeal.τ).loc Cert.KernelFfnDIdeal.main_arg3)
      ∧ m' ((c.tc : Thread Cert.ReferenceFfnDIdeal.nD Cert.ReferenceFfnDIdeal.τ).loc Cert.ReferenceFfnDIdeal.main_arg4) = m ((c.tc : Thread Cert.KernelFfnDIdeal.nD Cert.KernelFfnDIdeal.τ).loc Cert.KernelFfnDIdeal.main_arg4)
      ∧ m' ((c.tc : Thread Cert.ReferenceFfnDIdeal.nD Cert.ReferenceFfnDIdeal.τ).loc Cert.ReferenceFfnDIdeal.main_arg5) = m ((c.tc : Thread Cert.KernelFfnDIdeal.nD Cert.KernelFfnDIdeal.τ).loc Cert.KernelFfnDIdeal.main_arg5)
      ∧ m' ((c.tc : Thread Cert.ReferenceFfnDIdeal.nD Cert.ReferenceFfnDIdeal.τ).loc Cert.ReferenceFfnDIdeal.main_arg6) = m ((c.tc : Thread Cert.KernelFfnDIdeal.nD Cert.KernelFfnDIdeal.τ).loc Cert.KernelFfnDIdeal.main_arg6)
      ∧ m' ((c.tc : Thread Cert.ReferenceFfnDIdeal.nD Cert.ReferenceFfnDIdeal.τ).loc Cert.ReferenceFfnDIdeal.main_arg7) = m ((c.tc : Thread Cert.KernelFfnDIdeal.nD Cert.KernelFfnDIdeal.τ).loc Cert.KernelFfnDIdeal.main_arg7)
      ∧ m' ((c.tc : Thread Cert.ReferenceFfnDIdeal.nD Cert.ReferenceFfnDIdeal.τ).loc Cert.ReferenceFfnDIdeal.main_arg8) = m ((c.tc : Thread Cert.KernelFfnDIdeal.nD Cert.KernelFfnDIdeal.τ).loc Cert.KernelFfnDIdeal.main_arg8)
      ∧ m' ((c.tc : Thread Cert.ReferenceFfnDIdeal.nD Cert.ReferenceFfnDIdeal.τ).loc Cert.ReferenceFfnDIdeal.main_arg9) = m ((c.tc : Thread Cert.KernelFfnDIdeal.nD Cert.KernelFfnDIdeal.τ).loc Cert.KernelFfnDIdeal.main_arg9)
      ∧ m' ((c.tc : Thread Cert.ReferenceFfnDIdeal.nD Cert.ReferenceFfnDIdeal.τ).loc Cert.ReferenceFfnDIdeal.main_arg10) = m ((c.tc : Thread Cert.KernelFfnDIdeal.nD Cert.KernelFfnDIdeal.τ).loc Cert.KernelFfnDIdeal.main_arg10)
      ∧ m' ((c.tc : Thread Cert.ReferenceFfnDIdeal.nD Cert.ReferenceFfnDIdeal.τ).loc Cert.ReferenceFfnDIdeal.main_arg11) = m ((c.tc : Thread Cert.KernelFfnDIdeal.nD Cert.KernelFfnDIdeal.τ).loc Cert.KernelFfnDIdeal.main_arg11)
      ∧ m' ((c.tc : Thread Cert.ReferenceFfnDIdeal.nD Cert.ReferenceFfnDIdeal.τ).loc Cert.ReferenceFfnDIdeal.main_arg12) = m ((c.tc : Thread Cert.KernelFfnDIdeal.nD Cert.KernelFfnDIdeal.τ).loc Cert.KernelFfnDIdeal.main_arg12)
      ∧ m' ((c.tc : Thread Cert.ReferenceFfnDIdeal.nD Cert.ReferenceFfnDIdeal.τ).loc Cert.ReferenceFfnDIdeal.main_arg13) = m ((c.tc : Thread Cert.KernelFfnDIdeal.nD Cert.KernelFfnDIdeal.τ).loc Cert.KernelFfnDIdeal.main_arg13)
      ∧ m' ((c.tc : Thread Cert.ReferenceFfnDIdeal.nD Cert.ReferenceFfnDIdeal.τ).loc Cert.ReferenceFfnDIdeal.main_arg14) = m ((c.tc : Thread Cert.KernelFfnDIdeal.nD Cert.KernelFfnDIdeal.τ).loc Cert.KernelFfnDIdeal.main_arg14)
      ∧ m' ((c.tc : Thread Cert.ReferenceFfnDIdeal.nD Cert.ReferenceFfnDIdeal.τ).loc Cert.ReferenceFfnDIdeal.main_arg15) = m ((c.tc : Thread Cert.KernelFfnDIdeal.nD Cert.KernelFfnDIdeal.τ).loc Cert.KernelFfnDIdeal.main_arg15)
      ∧ m' ((c.tc : Thread Cert.ReferenceFfnDIdeal.nD Cert.ReferenceFfnDIdeal.τ).loc Cert.ReferenceFfnDIdeal.main_arg16) = m ((c.tc : Thread Cert.KernelFfnDIdeal.nD Cert.KernelFfnDIdeal.τ).loc Cert.KernelFfnDIdeal.main_arg16)
      ∧ m' ((c.tc : Thread Cert.ReferenceFfnDIdeal.nD Cert.ReferenceFfnDIdeal.τ).loc Cert.ReferenceFfnDIdeal.main_arg17) = m ((c.tc : Thread Cert.KernelFfnDIdeal.nD Cert.KernelFfnDIdeal.τ).loc Cert.KernelFfnDIdeal.main_arg17)) →
    ∃ (v0 : (c : Dev Cert.KernelFfnDIdeal.nD) → Buf (Elt Ideal) ((c.tc : Thread Cert.KernelFfnDIdeal.nD Cert.KernelFfnDIdeal.τ).loc Cert.KernelFfnDIdeal.main_v11_0)) (v1 : (c : Dev Cert.KernelFfnDIdeal.nD) → Buf (Elt Ideal) ((c.tc : Thread Cert.KernelFfnDIdeal.nD Cert.KernelFfnDIdeal.τ).loc Cert.KernelFfnDIdeal.main_v11_1)),
      θ_run (Cert.KernelFfnDIdeal.defs (F := Ideal)) (onTc (τ := Cert.KernelFfnDIdeal.τ) (Cert.KernelFfnDIdeal.main (F := Ideal))) ⟨m, fun _ => 0, g⟩ (fun r => ∀ c : Dev Cert.KernelFfnDIdeal.nD,
          r.2.mem ((c.tc : Thread Cert.KernelFfnDIdeal.nD Cert.KernelFfnDIdeal.τ).loc Cert.KernelFfnDIdeal.main_v11_0) = v0 c
          ∧ r.2.mem ((c.tc : Thread Cert.KernelFfnDIdeal.nD Cert.KernelFfnDIdeal.τ).loc Cert.KernelFfnDIdeal.main_v11_1) = v1 c
          ∧ r.2.mem ((c.tc : Thread Cert.KernelFfnDIdeal.nD Cert.KernelFfnDIdeal.τ).loc Cert.KernelFfnDIdeal.main_arg0) = m ((c.tc : Thread Cert.KernelFfnDIdeal.nD Cert.KernelFfnDIdeal.τ).loc Cert.KernelFfnDIdeal.main_arg0)
          ∧ r.2.mem ((c.tc : Thread Cert.KernelFfnDIdeal.nD Cert.KernelFfnDIdeal.τ).loc Cert.KernelFfnDIdeal.main_arg1) = m ((c.tc : Thread Cert.KernelFfnDIdeal.nD Cert.KernelFfnDIdeal.τ).loc Cert.KernelFfnDIdeal.main_arg1)
          ∧ r.2.mem ((c.tc : Thread Cert.KernelFfnDIdeal.nD Cert.KernelFfnDIdeal.τ).loc Cert.KernelFfnDIdeal.main_arg2) = m ((c.tc : Thread Cert.KernelFfnDIdeal.nD Cert.KernelFfnDIdeal.τ).loc Cert.KernelFfnDIdeal.main_arg2)
          ∧ r.2.mem ((c.tc : Thread Cert.KernelFfnDIdeal.nD Cert.KernelFfnDIdeal.τ).loc Cert.KernelFfnDIdeal.main_arg3) = m ((c.tc : Thread Cert.KernelFfnDIdeal.nD Cert.KernelFfnDIdeal.τ).loc Cert.KernelFfnDIdeal.main_arg3)
          ∧ r.2.mem ((c.tc : Thread Cert.KernelFfnDIdeal.nD Cert.KernelFfnDIdeal.τ).loc Cert.KernelFfnDIdeal.main_arg4) = m ((c.tc : Thread Cert.KernelFfnDIdeal.nD Cert.KernelFfnDIdeal.τ).loc Cert.KernelFfnDIdeal.main_arg4)
          ∧ r.2.mem ((c.tc : Thread Cert.KernelFfnDIdeal.nD Cert.KernelFfnDIdeal.τ).loc Cert.KernelFfnDIdeal.main_arg5) = m ((c.tc : Thread Cert.KernelFfnDIdeal.nD Cert.KernelFfnDIdeal.τ).loc Cert.KernelFfnDIdeal.main_arg5)
          ∧ r.2.mem ((c.tc : Thread Cert.KernelFfnDIdeal.nD Cert.KernelFfnDIdeal.τ).loc Cert.KernelFfnDIdeal.main_arg6) = m ((c.tc : Thread Cert.KernelFfnDIdeal.nD Cert.KernelFfnDIdeal.τ).loc Cert.KernelFfnDIdeal.main_arg6)
          ∧ r.2.mem ((c.tc : Thread Cert.KernelFfnDIdeal.nD Cert.KernelFfnDIdeal.τ).loc Cert.KernelFfnDIdeal.main_arg7) = m ((c.tc : Thread Cert.KernelFfnDIdeal.nD Cert.KernelFfnDIdeal.τ).loc Cert.KernelFfnDIdeal.main_arg7)
          ∧ r.2.mem ((c.tc : Thread Cert.KernelFfnDIdeal.nD Cert.KernelFfnDIdeal.τ).loc Cert.KernelFfnDIdeal.main_arg8) = m ((c.tc : Thread Cert.KernelFfnDIdeal.nD Cert.KernelFfnDIdeal.τ).loc Cert.KernelFfnDIdeal.main_arg8)
          ∧ r.2.mem ((c.tc : Thread Cert.KernelFfnDIdeal.nD Cert.KernelFfnDIdeal.τ).loc Cert.KernelFfnDIdeal.main_arg9) = m ((c.tc : Thread Cert.KernelFfnDIdeal.nD Cert.KernelFfnDIdeal.τ).loc Cert.KernelFfnDIdeal.main_arg9)
          ∧ r.2.mem ((c.tc : Thread Cert.KernelFfnDIdeal.nD Cert.KernelFfnDIdeal.τ).loc Cert.KernelFfnDIdeal.main_arg10) = m ((c.tc : Thread Cert.KernelFfnDIdeal.nD Cert.KernelFfnDIdeal.τ).loc Cert.KernelFfnDIdeal.main_arg10)
          ∧ r.2.mem ((c.tc : Thread Cert.KernelFfnDIdeal.nD Cert.KernelFfnDIdeal.τ).loc Cert.KernelFfnDIdeal.main_arg11) = m ((c.tc : Thread Cert.KernelFfnDIdeal.nD Cert.KernelFfnDIdeal.τ).loc Cert.KernelFfnDIdeal.main_arg11)
          ∧ r.2.mem ((c.tc : Thread Cert.KernelFfnDIdeal.nD Cert.KernelFfnDIdeal.τ).loc Cert.KernelFfnDIdeal.main_arg12) = m ((c.tc : Thread Cert.KernelFfnDIdeal.nD Cert.KernelFfnDIdeal.τ).loc Cert.KernelFfnDIdeal.main_arg12)
          ∧ r.2.mem ((c.tc : Thread Cert.KernelFfnDIdeal.nD Cert.KernelFfnDIdeal.τ).loc Cert.KernelFfnDIdeal.main_arg13) = m ((c.tc : Thread Cert.KernelFfnDIdeal.nD Cert.KernelFfnDIdeal.τ).loc Cert.KernelFfnDIdeal.main_arg13)
          ∧ r.2.mem ((c.tc : Thread Cert.KernelFfnDIdeal.nD Cert.KernelFfnDIdeal.τ).loc Cert.KernelFfnDIdeal.main_arg14) = m ((c.tc : Thread Cert.KernelFfnDIdeal.nD Cert.KernelFfnDIdeal.τ).loc Cert.KernelFfnDIdeal.main_arg14)
          ∧ r.2.mem ((c.tc : Thread Cert.KernelFfnDIdeal.nD Cert.KernelFfnDIdeal.τ).loc Cert.KernelFfnDIdeal.main_arg15) = m ((c.tc : Thread Cert.KernelFfnDIdeal.nD Cert.KernelFfnDIdeal.τ).loc Cert.KernelFfnDIdeal.main_arg15)
          ∧ r.2.mem ((c.tc : Thread Cert.KernelFfnDIdeal.nD Cert.KernelFfnDIdeal.τ).loc Cert.KernelFfnDIdeal.main_arg16) = m ((c.tc : Thread Cert.KernelFfnDIdeal.nD Cert.KernelFfnDIdeal.τ).loc Cert.KernelFfnDIdeal.main_arg16)
          ∧ r.2.mem ((c.tc : Thread Cert.KernelFfnDIdeal.nD Cert.KernelFfnDIdeal.τ).loc Cert.KernelFfnDIdeal.main_arg17) = m ((c.tc : Thread Cert.KernelFfnDIdeal.nD Cert.KernelFfnDIdeal.τ).loc Cert.KernelFfnDIdeal.main_arg17))
      ∧ θ_run (Cert.ReferenceFfnDIdeal.defs (F := Ideal)) (onTc (τ := Cert.ReferenceFfnDIdeal.τ) (Cert.ReferenceFfnDIdeal.main (F := Ideal))) ⟨m', fun _ => 0, g'⟩ (fun r => ∀ c : Dev Cert.ReferenceFfnDIdeal.nD,
          r.2.mem ((c.tc : Thread Cert.ReferenceFfnDIdeal.nD Cert.ReferenceFfnDIdeal.τ).loc Cert.ReferenceFfnDIdeal.main_v42) = v0 c
          ∧ r.2.mem ((c.tc : Thread Cert.ReferenceFfnDIdeal.nD Cert.ReferenceFfnDIdeal.τ).loc Cert.ReferenceFfnDIdeal.main_v43) = v1 c
          ∧ r.2.mem ((c.tc : Thread Cert.ReferenceFfnDIdeal.nD Cert.ReferenceFfnDIdeal.τ).loc Cert.ReferenceFfnDIdeal.main_arg0) = m' ((c.tc : Thread Cert.ReferenceFfnDIdeal.nD Cert.ReferenceFfnDIdeal.τ).loc Cert.ReferenceFfnDIdeal.main_arg0)
          ∧ r.2.mem ((c.tc : Thread Cert.ReferenceFfnDIdeal.nD Cert.ReferenceFfnDIdeal.τ).loc Cert.ReferenceFfnDIdeal.main_arg1) = m' ((c.tc : Thread Cert.ReferenceFfnDIdeal.nD Cert.ReferenceFfnDIdeal.τ).loc Cert.ReferenceFfnDIdeal.main_arg1)
          ∧ r.2.mem ((c.tc : Thread Cert.ReferenceFfnDIdeal.nD Cert.ReferenceFfnDIdeal.τ).loc Cert.ReferenceFfnDIdeal.main_arg2) = m' ((c.tc : Thread Cert.ReferenceFfnDIdeal.nD Cert.ReferenceFfnDIdeal.τ).loc Cert.ReferenceFfnDIdeal.main_arg2)
          ∧ r.2.mem ((c.tc : Thread Cert.ReferenceFfnDIdeal.nD Cert.ReferenceFfnDIdeal.τ).loc Cert.ReferenceFfnDIdeal.main_arg3) = m' ((c.tc : Thread Cert.ReferenceFfnDIdeal.nD Cert.ReferenceFfnDIdeal.τ).loc Cert.ReferenceFfnDIdeal.main_arg3)
          ∧ r.2.mem ((c.tc : Thread Cert.ReferenceFfnDIdeal.nD Cert.ReferenceFfnDIdeal.τ).loc Cert.ReferenceFfnDIdeal.main_arg4) = m' ((c.tc : Thread Cert.ReferenceFfnDIdeal.nD Cert.ReferenceFfnDIdeal.τ).loc Cert.ReferenceFfnDIdeal.main_arg4)
          ∧ r.2.mem ((c.tc : Thread Cert.ReferenceFfnDIdeal.nD Cert.ReferenceFfnDIdeal.τ).loc Cert.ReferenceFfnDIdeal.main_arg5) = m' ((c.tc : Thread Cert.ReferenceFfnDIdeal.nD Cert.ReferenceFfnDIdeal.τ).loc Cert.ReferenceFfnDIdeal.main_arg5)
          ∧ r.2.mem ((c.tc : Thread Cert.ReferenceFfnDIdeal.nD Cert.ReferenceFfnDIdeal.τ).loc Cert.ReferenceFfnDIdeal.main_arg6) = m' ((c.tc : Thread Cert.ReferenceFfnDIdeal.nD Cert.ReferenceFfnDIdeal.τ).loc Cert.ReferenceFfnDIdeal.main_arg6)
          ∧ r.2.mem ((c.tc : Thread Cert.ReferenceFfnDIdeal.nD Cert.ReferenceFfnDIdeal.τ).loc Cert.ReferenceFfnDIdeal.main_arg7) = m' ((c.tc : Thread Cert.ReferenceFfnDIdeal.nD Cert.ReferenceFfnDIdeal.τ).loc Cert.ReferenceFfnDIdeal.main_arg7)
          ∧ r.2.mem ((c.tc : Thread Cert.ReferenceFfnDIdeal.nD Cert.ReferenceFfnDIdeal.τ).loc Cert.ReferenceFfnDIdeal.main_arg8) = m' ((c.tc : Thread Cert.ReferenceFfnDIdeal.nD Cert.ReferenceFfnDIdeal.τ).loc Cert.ReferenceFfnDIdeal.main_arg8)
          ∧ r.2.mem ((c.tc : Thread Cert.ReferenceFfnDIdeal.nD Cert.ReferenceFfnDIdeal.τ).loc Cert.ReferenceFfnDIdeal.main_arg9) = m' ((c.tc : Thread Cert.ReferenceFfnDIdeal.nD Cert.ReferenceFfnDIdeal.τ).loc Cert.ReferenceFfnDIdeal.main_arg9)
          ∧ r.2.mem ((c.tc : Thread Cert.ReferenceFfnDIdeal.nD Cert.ReferenceFfnDIdeal.τ).loc Cert.ReferenceFfnDIdeal.main_arg10) = m' ((c.tc : Thread Cert.ReferenceFfnDIdeal.nD Cert.ReferenceFfnDIdeal.τ).loc Cert.ReferenceFfnDIdeal.main_arg10)
          ∧ r.2.mem ((c.tc : Thread Cert.ReferenceFfnDIdeal.nD Cert.ReferenceFfnDIdeal.τ).loc Cert.ReferenceFfnDIdeal.main_arg11) = m' ((c.tc : Thread Cert.ReferenceFfnDIdeal.nD Cert.ReferenceFfnDIdeal.τ).loc Cert.ReferenceFfnDIdeal.main_arg11)
          ∧ r.2.mem ((c.tc : Thread Cert.ReferenceFfnDIdeal.nD Cert.ReferenceFfnDIdeal.τ).loc Cert.ReferenceFfnDIdeal.main_arg12) = m' ((c.tc : Thread Cert.ReferenceFfnDIdeal.nD Cert.ReferenceFfnDIdeal.τ).loc Cert.ReferenceFfnDIdeal.main_arg12)
          ∧ r.2.mem ((c.tc : Thread Cert.ReferenceFfnDIdeal.nD Cert.ReferenceFfnDIdeal.τ).loc Cert.ReferenceFfnDIdeal.main_arg13) = m' ((c.tc : Thread Cert.ReferenceFfnDIdeal.nD Cert.ReferenceFfnDIdeal.τ).loc Cert.ReferenceFfnDIdeal.main_arg13)
          ∧ r.2.mem ((c.tc : Thread Cert.ReferenceFfnDIdeal.nD Cert.ReferenceFfnDIdeal.τ).loc Cert.ReferenceFfnDIdeal.main_arg14) = m' ((c.tc : Thread Cert.ReferenceFfnDIdeal.nD Cert.ReferenceFfnDIdeal.τ).loc Cert.ReferenceFfnDIdeal.main_arg14)
          ∧ r.2.mem ((c.tc : Thread Cert.ReferenceFfnDIdeal.nD Cert.ReferenceFfnDIdeal.τ).loc Cert.ReferenceFfnDIdeal.main_arg15) = m' ((c.tc : Thread Cert.ReferenceFfnDIdeal.nD Cert.ReferenceFfnDIdeal.τ).loc Cert.ReferenceFfnDIdeal.main_arg15)
          ∧ r.2.mem ((c.tc : Thread Cert.ReferenceFfnDIdeal.nD Cert.ReferenceFfnDIdeal.τ).loc Cert.ReferenceFfnDIdeal.main_arg16) = m' ((c.tc : Thread Cert.ReferenceFfnDIdeal.nD Cert.ReferenceFfnDIdeal.τ).loc Cert.ReferenceFfnDIdeal.main_arg16)
          ∧ r.2.mem ((c.tc : Thread Cert.ReferenceFfnDIdeal.nD Cert.ReferenceFfnDIdeal.τ).loc Cert.ReferenceFfnDIdeal.main_arg17) = m' ((c.tc : Thread Cert.ReferenceFfnDIdeal.nD Cert.ReferenceFfnDIdeal.τ).loc Cert.ReferenceFfnDIdeal.main_arg17))

def preserves_KernelGqa_KernelGqaIdeal : Prop :=
  True

def algebraic_KernelGqaIdeal_ReferenceGqaIdeal_pre_gqa_operands [hKernelGqaIdeal : Cert.KernelGqaIdeal.Facts] [hReferenceGqaIdeal : Cert.ReferenceGqaIdeal.Facts] [hPre_gqa_operands : Cert.Pre_gqa_operands.Facts] : Prop :=
  ∀ (m : (ℓ : Loc Cert.KernelGqaIdeal.nD Cert.KernelGqaIdeal.τ Cert.KernelGqaIdeal.sig) → Buf (Elt Ideal) ℓ) (g : Dev Cert.KernelGqaIdeal.nD → PrngReg)
    (m' : (ℓ : Loc Cert.ReferenceGqaIdeal.nD Cert.ReferenceGqaIdeal.τ Cert.ReferenceGqaIdeal.sig) → Buf (Elt Ideal) ℓ) (g' : Dev Cert.ReferenceGqaIdeal.nD → PrngReg), Pre_KernelGqaIdeal_gqa_operands m →
    (∀ c : Dev Cert.KernelGqaIdeal.nD,
      m' ((c.tc : Thread Cert.ReferenceGqaIdeal.nD Cert.ReferenceGqaIdeal.τ).loc Cert.ReferenceGqaIdeal.main_arg0) = m ((c.tc : Thread Cert.KernelGqaIdeal.nD Cert.KernelGqaIdeal.τ).loc Cert.KernelGqaIdeal.main_arg0)
      ∧ m' ((c.tc : Thread Cert.ReferenceGqaIdeal.nD Cert.ReferenceGqaIdeal.τ).loc Cert.ReferenceGqaIdeal.main_arg1) = m ((c.tc : Thread Cert.KernelGqaIdeal.nD Cert.KernelGqaIdeal.τ).loc Cert.KernelGqaIdeal.main_arg1)
      ∧ m' ((c.tc : Thread Cert.ReferenceGqaIdeal.nD Cert.ReferenceGqaIdeal.τ).loc Cert.ReferenceGqaIdeal.main_arg2) = m ((c.tc : Thread Cert.KernelGqaIdeal.nD Cert.KernelGqaIdeal.τ).loc Cert.KernelGqaIdeal.main_arg2)) →
    ∃ (v0 : (c : Dev Cert.KernelGqaIdeal.nD) → Buf (Elt Ideal) ((c.tc : Thread Cert.KernelGqaIdeal.nD Cert.KernelGqaIdeal.τ).loc Cert.KernelGqaIdeal.main_v0)),
      θ_run (Cert.KernelGqaIdeal.defs (F := Ideal)) (onTc (τ := Cert.KernelGqaIdeal.τ) (Cert.KernelGqaIdeal.main (F := Ideal))) ⟨m, fun _ => 0, g⟩ (fun r => ∀ c : Dev Cert.KernelGqaIdeal.nD,
          r.2.mem ((c.tc : Thread Cert.KernelGqaIdeal.nD Cert.KernelGqaIdeal.τ).loc Cert.KernelGqaIdeal.main_v0) = v0 c
          ∧ r.2.mem ((c.tc : Thread Cert.KernelGqaIdeal.nD Cert.KernelGqaIdeal.τ).loc Cert.KernelGqaIdeal.main_arg0) = m ((c.tc : Thread Cert.KernelGqaIdeal.nD Cert.KernelGqaIdeal.τ).loc Cert.KernelGqaIdeal.main_arg0)
          ∧ r.2.mem ((c.tc : Thread Cert.KernelGqaIdeal.nD Cert.KernelGqaIdeal.τ).loc Cert.KernelGqaIdeal.main_arg1) = m ((c.tc : Thread Cert.KernelGqaIdeal.nD Cert.KernelGqaIdeal.τ).loc Cert.KernelGqaIdeal.main_arg1)
          ∧ r.2.mem ((c.tc : Thread Cert.KernelGqaIdeal.nD Cert.KernelGqaIdeal.τ).loc Cert.KernelGqaIdeal.main_arg2) = m ((c.tc : Thread Cert.KernelGqaIdeal.nD Cert.KernelGqaIdeal.τ).loc Cert.KernelGqaIdeal.main_arg2))
      ∧ θ_run (Cert.ReferenceGqaIdeal.defs (F := Ideal)) (onTc (τ := Cert.ReferenceGqaIdeal.τ) (Cert.ReferenceGqaIdeal.main (F := Ideal))) ⟨m', fun _ => 0, g'⟩ (fun r => ∀ c : Dev Cert.ReferenceGqaIdeal.nD,
          r.2.mem ((c.tc : Thread Cert.ReferenceGqaIdeal.nD Cert.ReferenceGqaIdeal.τ).loc Cert.ReferenceGqaIdeal.main_v42) = v0 c
          ∧ r.2.mem ((c.tc : Thread Cert.ReferenceGqaIdeal.nD Cert.ReferenceGqaIdeal.τ).loc Cert.ReferenceGqaIdeal.main_arg0) = m' ((c.tc : Thread Cert.ReferenceGqaIdeal.nD Cert.ReferenceGqaIdeal.τ).loc Cert.ReferenceGqaIdeal.main_arg0)
          ∧ r.2.mem ((c.tc : Thread Cert.ReferenceGqaIdeal.nD Cert.ReferenceGqaIdeal.τ).loc Cert.ReferenceGqaIdeal.main_arg1) = m' ((c.tc : Thread Cert.ReferenceGqaIdeal.nD Cert.ReferenceGqaIdeal.τ).loc Cert.ReferenceGqaIdeal.main_arg1)
          ∧ r.2.mem ((c.tc : Thread Cert.ReferenceGqaIdeal.nD Cert.ReferenceGqaIdeal.τ).loc Cert.ReferenceGqaIdeal.main_arg2) = m' ((c.tc : Thread Cert.ReferenceGqaIdeal.nD Cert.ReferenceGqaIdeal.τ).loc Cert.ReferenceGqaIdeal.main_arg2))

def preserves_KernelMlaP_KernelMlaPIdeal : Prop :=
  True

def algebraic_KernelMlaPIdeal_ReferenceMlaPIdeal_pre_mla_operands [hKernelMlaPIdeal : Cert.KernelMlaPIdeal.Facts] [hReferenceMlaPIdeal : Cert.ReferenceMlaPIdeal.Facts] [hPre_mla_operands : Cert.Pre_mla_operands.Facts] : Prop :=
  ∀ (m : (ℓ : Loc Cert.KernelMlaPIdeal.nD Cert.KernelMlaPIdeal.τ Cert.KernelMlaPIdeal.sig) → Buf (Elt Ideal) ℓ) (g : Dev Cert.KernelMlaPIdeal.nD → PrngReg)
    (m' : (ℓ : Loc Cert.ReferenceMlaPIdeal.nD Cert.ReferenceMlaPIdeal.τ Cert.ReferenceMlaPIdeal.sig) → Buf (Elt Ideal) ℓ) (g' : Dev Cert.ReferenceMlaPIdeal.nD → PrngReg), Pre_KernelMlaPIdeal_mla_operands m →
    (∀ c : Dev Cert.KernelMlaPIdeal.nD,
      m' ((c.tc : Thread Cert.ReferenceMlaPIdeal.nD Cert.ReferenceMlaPIdeal.τ).loc Cert.ReferenceMlaPIdeal.main_arg0) = m ((c.tc : Thread Cert.KernelMlaPIdeal.nD Cert.KernelMlaPIdeal.τ).loc Cert.KernelMlaPIdeal.main_arg0)
      ∧ m' ((c.tc : Thread Cert.ReferenceMlaPIdeal.nD Cert.ReferenceMlaPIdeal.τ).loc Cert.ReferenceMlaPIdeal.main_arg1) = m ((c.tc : Thread Cert.KernelMlaPIdeal.nD Cert.KernelMlaPIdeal.τ).loc Cert.KernelMlaPIdeal.main_arg1)
      ∧ m' ((c.tc : Thread Cert.ReferenceMlaPIdeal.nD Cert.ReferenceMlaPIdeal.τ).loc Cert.ReferenceMlaPIdeal.main_arg2) = m ((c.tc : Thread Cert.KernelMlaPIdeal.nD Cert.KernelMlaPIdeal.τ).loc Cert.KernelMlaPIdeal.main_arg2)) →
    ∃ (v0 : (c : Dev Cert.KernelMlaPIdeal.nD) → Buf (Elt Ideal) ((c.tc : Thread Cert.KernelMlaPIdeal.nD Cert.KernelMlaPIdeal.τ).loc Cert.KernelMlaPIdeal.main_v0)),
      θ_run (Cert.KernelMlaPIdeal.defs (F := Ideal)) (onTc (τ := Cert.KernelMlaPIdeal.τ) (Cert.KernelMlaPIdeal.main (F := Ideal))) ⟨m, fun _ => 0, g⟩ (fun r => ∀ c : Dev Cert.KernelMlaPIdeal.nD,
          r.2.mem ((c.tc : Thread Cert.KernelMlaPIdeal.nD Cert.KernelMlaPIdeal.τ).loc Cert.KernelMlaPIdeal.main_v0) = v0 c
          ∧ r.2.mem ((c.tc : Thread Cert.KernelMlaPIdeal.nD Cert.KernelMlaPIdeal.τ).loc Cert.KernelMlaPIdeal.main_arg0) = m ((c.tc : Thread Cert.KernelMlaPIdeal.nD Cert.KernelMlaPIdeal.τ).loc Cert.KernelMlaPIdeal.main_arg0)
          ∧ r.2.mem ((c.tc : Thread Cert.KernelMlaPIdeal.nD Cert.KernelMlaPIdeal.τ).loc Cert.KernelMlaPIdeal.main_arg1) = m ((c.tc : Thread Cert.KernelMlaPIdeal.nD Cert.KernelMlaPIdeal.τ).loc Cert.KernelMlaPIdeal.main_arg1)
          ∧ r.2.mem ((c.tc : Thread Cert.KernelMlaPIdeal.nD Cert.KernelMlaPIdeal.τ).loc Cert.KernelMlaPIdeal.main_arg2) = m ((c.tc : Thread Cert.KernelMlaPIdeal.nD Cert.KernelMlaPIdeal.τ).loc Cert.KernelMlaPIdeal.main_arg2))
      ∧ θ_run (Cert.ReferenceMlaPIdeal.defs (F := Ideal)) (onTc (τ := Cert.ReferenceMlaPIdeal.τ) (Cert.ReferenceMlaPIdeal.main (F := Ideal))) ⟨m', fun _ => 0, g'⟩ (fun r => ∀ c : Dev Cert.ReferenceMlaPIdeal.nD,
          r.2.mem ((c.tc : Thread Cert.ReferenceMlaPIdeal.nD Cert.ReferenceMlaPIdeal.τ).loc Cert.ReferenceMlaPIdeal.main_v35) = v0 c
          ∧ r.2.mem ((c.tc : Thread Cert.ReferenceMlaPIdeal.nD Cert.ReferenceMlaPIdeal.τ).loc Cert.ReferenceMlaPIdeal.main_arg0) = m' ((c.tc : Thread Cert.ReferenceMlaPIdeal.nD Cert.ReferenceMlaPIdeal.τ).loc Cert.ReferenceMlaPIdeal.main_arg0)
          ∧ r.2.mem ((c.tc : Thread Cert.ReferenceMlaPIdeal.nD Cert.ReferenceMlaPIdeal.τ).loc Cert.ReferenceMlaPIdeal.main_arg1) = m' ((c.tc : Thread Cert.ReferenceMlaPIdeal.nD Cert.ReferenceMlaPIdeal.τ).loc Cert.ReferenceMlaPIdeal.main_arg1)
          ∧ r.2.mem ((c.tc : Thread Cert.ReferenceMlaPIdeal.nD Cert.ReferenceMlaPIdeal.τ).loc Cert.ReferenceMlaPIdeal.main_arg2) = m' ((c.tc : Thread Cert.ReferenceMlaPIdeal.nD Cert.ReferenceMlaPIdeal.τ).loc Cert.ReferenceMlaPIdeal.main_arg2))

def Claim : Prop :=
  ∃ (hKernelMla : Cert.KernelMla.Facts) (hKernelMlaIdeal : Cert.KernelMlaIdeal.Facts) (hReferenceMlaIdeal : Cert.ReferenceMlaIdeal.Facts) (hKernelFfn : Cert.KernelFfn.Facts) (hKernelFfnIdeal : Cert.KernelFfnIdeal.Facts) (hReferenceFfnIdeal : Cert.ReferenceFfnIdeal.Facts) (hKernelFfnB : Cert.KernelFfnB.Facts) (hKernelFfnBIdeal : Cert.KernelFfnBIdeal.Facts) (hReferenceFfnBIdeal : Cert.ReferenceFfnBIdeal.Facts) (hKernelFfnC : Cert.KernelFfnC.Facts) (hKernelFfnCIdeal : Cert.KernelFfnCIdeal.Facts) (hReferenceFfnCIdeal : Cert.ReferenceFfnCIdeal.Facts) (hKernelFfnD : Cert.KernelFfnD.Facts) (hKernelFfnDIdeal : Cert.KernelFfnDIdeal.Facts) (hReferenceFfnDIdeal : Cert.ReferenceFfnDIdeal.Facts) (hKernelGqa : Cert.KernelGqa.Facts) (hKernelGqaIdeal : Cert.KernelGqaIdeal.Facts) (hReferenceGqaIdeal : Cert.ReferenceGqaIdeal.Facts) (hKernelMlaP : Cert.KernelMlaP.Facts) (hKernelMlaPIdeal : Cert.KernelMlaPIdeal.Facts) (hReferenceMlaPIdeal : Cert.ReferenceMlaPIdeal.Facts) (hPre_mla_operands : Cert.Pre_mla_operands.Facts) (hPre_gqa_operands : Cert.Pre_gqa_operands.Facts),
    quiescent_KernelMla (hKernelMla := hKernelMla)
    ∧ quiescent_KernelMlaIdeal (hKernelMlaIdeal := hKernelMlaIdeal)
    ∧ quiescent_KernelMlaIdeal_pre_mla_operands (hKernelMlaIdeal := hKernelMlaIdeal) (hPre_mla_operands := hPre_mla_operands)
    ∧ quiescent_ReferenceMlaIdeal (hReferenceMlaIdeal := hReferenceMlaIdeal)
    ∧ quiescent_ReferenceMlaIdeal_pre_mla_operands (hReferenceMlaIdeal := hReferenceMlaIdeal) (hPre_mla_operands := hPre_mla_operands)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelFfnB (hKernelFfnB := hKernelFfnB)
    ∧ quiescent_KernelFfnBIdeal (hKernelFfnBIdeal := hKernelFfnBIdeal)
    ∧ quiescent_ReferenceFfnBIdeal (hReferenceFfnBIdeal := hReferenceFfnBIdeal)
    ∧ quiescent_KernelFfnC (hKernelFfnC := hKernelFfnC)
    ∧ quiescent_KernelFfnCIdeal (hKernelFfnCIdeal := hKernelFfnCIdeal)
    ∧ quiescent_ReferenceFfnCIdeal (hReferenceFfnCIdeal := hReferenceFfnCIdeal)
    ∧ quiescent_KernelFfnD (hKernelFfnD := hKernelFfnD)
    ∧ quiescent_KernelFfnDIdeal (hKernelFfnDIdeal := hKernelFfnDIdeal)
    ∧ quiescent_ReferenceFfnDIdeal (hReferenceFfnDIdeal := hReferenceFfnDIdeal)
    ∧ quiescent_KernelGqa (hKernelGqa := hKernelGqa)
    ∧ quiescent_KernelGqaIdeal (hKernelGqaIdeal := hKernelGqaIdeal)
    ∧ quiescent_KernelGqaIdeal_pre_gqa_operands (hKernelGqaIdeal := hKernelGqaIdeal) (hPre_gqa_operands := hPre_gqa_operands)
    ∧ quiescent_ReferenceGqaIdeal (hReferenceGqaIdeal := hReferenceGqaIdeal)
    ∧ quiescent_ReferenceGqaIdeal_pre_gqa_operands (hReferenceGqaIdeal := hReferenceGqaIdeal) (hPre_gqa_operands := hPre_gqa_operands)
    ∧ quiescent_KernelMlaP (hKernelMlaP := hKernelMlaP)
    ∧ quiescent_KernelMlaPIdeal (hKernelMlaPIdeal := hKernelMlaPIdeal)
    ∧ quiescent_KernelMlaPIdeal_pre_mla_operands (hKernelMlaPIdeal := hKernelMlaPIdeal) (hPre_mla_operands := hPre_mla_operands)
    ∧ quiescent_ReferenceMlaPIdeal (hReferenceMlaPIdeal := hReferenceMlaPIdeal)
    ∧ quiescent_ReferenceMlaPIdeal_pre_mla_operands (hReferenceMlaPIdeal := hReferenceMlaPIdeal) (hPre_mla_operands := hPre_mla_operands)
    ∧ preserves_KernelMla_KernelMlaIdeal
    ∧ algebraic_KernelMlaIdeal_ReferenceMlaIdeal_pre_mla_operands (hKernelMlaIdeal := hKernelMlaIdeal) (hReferenceMlaIdeal := hReferenceMlaIdeal) (hPre_mla_operands := hPre_mla_operands)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelFfnB_KernelFfnBIdeal
    ∧ algebraic_KernelFfnBIdeal_ReferenceFfnBIdeal (hKernelFfnBIdeal := hKernelFfnBIdeal) (hReferenceFfnBIdeal := hReferenceFfnBIdeal)
    ∧ preserves_KernelFfnC_KernelFfnCIdeal
    ∧ algebraic_KernelFfnCIdeal_ReferenceFfnCIdeal (hKernelFfnCIdeal := hKernelFfnCIdeal) (hReferenceFfnCIdeal := hReferenceFfnCIdeal)
    ∧ preserves_KernelFfnD_KernelFfnDIdeal
    ∧ algebraic_KernelFfnDIdeal_ReferenceFfnDIdeal (hKernelFfnDIdeal := hKernelFfnDIdeal) (hReferenceFfnDIdeal := hReferenceFfnDIdeal)
    ∧ preserves_KernelGqa_KernelGqaIdeal
    ∧ algebraic_KernelGqaIdeal_ReferenceGqaIdeal_pre_gqa_operands (hKernelGqaIdeal := hKernelGqaIdeal) (hReferenceGqaIdeal := hReferenceGqaIdeal) (hPre_gqa_operands := hPre_gqa_operands)
    ∧ preserves_KernelMlaP_KernelMlaPIdeal
    ∧ algebraic_KernelMlaPIdeal_ReferenceMlaPIdeal_pre_mla_operands (hKernelMlaPIdeal := hKernelMlaPIdeal) (hReferenceMlaPIdeal := hReferenceMlaPIdeal) (hPre_mla_operands := hPre_mla_operands)
-- ==== Pre_gqa_operands.lean ====
abbrev S99328x768 : Shape := ⟨2, ![99328, 768]⟩
abbrev S99328x128 : Shape := ⟨2, ![99328, 128]⟩
abbrev S194x160x512 : Shape := ⟨3, ![194, 160, 512]⟩
abbrev S194x2x80x512 : Shape := ⟨4, ![194, 2, 80, 512]⟩
abbrev S194x2x16x512 : Shape := ⟨4, ![194, 2, 16, 512]⟩
abbrev S99328x6x128 : Shape := ⟨3, ![99328, 6, 128]⟩
abbrev S_ : Shape := ⟨0, ![]⟩
abbrev S99328x3x64 : Shape := ⟨3, ![99328, 3, 64]⟩

class Facts : Prop where
  shapeCasts_S194x160x512_S194x2x80x512 : S194x160x512.ShapeCasts S194x2x80x512
  slices_S194x2x80x512_S194x2x16x512_0_0_0_0 : S194x2x80x512.Slices ![0, 0, 0, 0] S194x2x16x512
  shapeCasts_S99328x768_S99328x6x128 : S99328x768.ShapeCasts S99328x6x128
  bcast_S_S99328x768 : S_.BroadcastsInDim S99328x768 (![] : Fin 0 → Fin S99328x768.rank)
  bcast_S_S99328x128 : S_.BroadcastsInDim S99328x128 (![] : Fin 0 → Fin S99328x128.rank)
  bcast_S_S194x2x16x512 : S_.BroadcastsInDim S194x2x16x512 (![] : Fin 0 → Fin S194x2x16x512.rank)
  slices_S99328x6x128_S99328x3x64_0_0_64 : S99328x6x128.Slices ![0, 0, 64] S99328x3x64
  bcast_S_S99328x3x64 : S_.BroadcastsInDim S99328x3x64 (![] : Fin 0 → Fin S99328x3x64.rank)
  slices_S99328x6x128_S99328x3x64_0_3_0 : S99328x6x128.Slices ![0, 3, 0] S99328x3x64

variable [Facts]

def fn {F : FTy → Type} [FloatOps F] (main_arg0 : FVec F S99328x768 .bf16) (main_arg1 : FVec F S99328x128 .bf16) (main_arg2 : FVec F S194x160x512 .bf16) : IVec S99328x768 1 × IVec S99328x128 1 × IVec S194x2x16x512 1 × IVec S99328x3x64 1 × IVec S99328x3x64 1 :=
  let main_v0 : FVec F S194x2x80x512 .bf16 := shapeCast S194x2x80x512 main_arg2 shapeCasts_S194x160x512_S194x2x80x512
  let main_v1 : FVec F S194x2x16x512 .bf16 := (extractStridedSlice S194x2x16x512 ![0, 0, 0, 0] · slices_S194x2x80x512_S194x2x16x512_0_0_0_0) main_v0
  let main_v2 : FVec F S99328x6x128 .bf16 := shapeCast S99328x6x128 main_arg0 shapeCasts_S99328x768_S99328x6x128
  let main_v3 : FVec F S99328x768 .bf16 := Host.absf main_arg0
  let main_cst : FVec F S_ .bf16 := constant S_ .bf16 0x7F80#16
  let main_v4 : FVec F S99328x768 .bf16 := broadcastInDim S99328x768 ![] bcast_S_S99328x768 main_cst
  let main_v5 : IVec S99328x768 1 := cmpf .olt main_v3 main_v4
  let main_v6 : FVec F S99328x128 .bf16 := Host.absf main_arg1
  let main_cst_0 : FVec F S_ .bf16 := constant S_ .bf16 0x7F80#16
  let main_v7 : FVec F S99328x128 .bf16 := broadcastInDim S99328x128 ![] bcast_S_S99328x128 main_cst_0
  let main_v8 : IVec S99328x128 1 := cmpf .olt main_v6 main_v7
  let main_cst_1 : FVec F S_ .bf16 := constant S_ .bf16 0x3F80#16
  let main_v9 : FVec F S194x2x16x512 .bf16 := broadcastInDim S194x2x16x512 ![] bcast_S_S194x2x16x512 main_cst_1
  let main_v10 : IVec S194x2x16x512 1 := cmpf .oeq main_v1 main_v9
  let main_v11 : FVec F S99328x3x64 .bf16 := (extractStridedSlice S99328x3x64 ![0, 0, 64] · slices_S99328x6x128_S99328x3x64_0_0_64) main_v2
  let main_cst_2 : FVec F S_ .bf16 := constant S_ .bf16 0x0000#16
  let main_v12 : FVec F S99328x3x64 .bf16 := broadcastInDim S99328x3x64 ![] bcast_S_S99328x3x64 main_cst_2
  let main_v13 : IVec S99328x3x64 1 := cmpf .oeq main_v11 main_v12
  let main_v14 : FVec F S99328x3x64 .bf16 := (extractStridedSlice S99328x3x64 ![0, 3, 0] · slices_S99328x6x128_S99328x3x64_0_3_0) main_v2
  let main_cst_3 : FVec F S_ .bf16 := constant S_ .bf16 0x0000#16
  let main_v15 : FVec F S99328x3x64 .bf16 := broadcastInDim S99328x3x64 ![] bcast_S_S99328x3x64 main_cst_3
  let main_v16 : IVec S99328x3x64 1 := cmpf .oeq main_v14 main_v15
  (main_v5, main_v8, main_v10, main_v13, main_v16)
-- ==== Pre_mla_operands.lean ====
abbrev S99328x768 : Shape := ⟨2, ![99328, 768]⟩
abbrev S194x480x512 : Shape := ⟨3, ![194, 480, 512]⟩
abbrev S194x6x80x512 : Shape := ⟨4, ![194, 6, 80, 512]⟩
abbrev S194x6x16x512 : Shape := ⟨4, ![194, 6, 16, 512]⟩
abbrev S_ : Shape := ⟨0, ![]⟩

class Facts : Prop where
  shapeCasts_S194x480x512_S194x6x80x512 : S194x480x512.ShapeCasts S194x6x80x512
  slices_S194x6x80x512_S194x6x16x512_0_0_0_0 : S194x6x80x512.Slices ![0, 0, 0, 0] S194x6x16x512
  bcast_S_S99328x768 : S_.BroadcastsInDim S99328x768 (![] : Fin 0 → Fin S99328x768.rank)
  bcast_S_S194x6x16x512 : S_.BroadcastsInDim S194x6x16x512 (![] : Fin 0 → Fin S194x6x16x512.rank)

variable [Facts]

def fn {F : FTy → Type} [FloatOps F] (main_arg0 : FVec F S99328x768 .bf16) (main_arg1 : FVec F S99328x768 .bf16) (main_arg2 : FVec F S194x480x512 .bf16) : IVec S99328x768 1 × IVec S99328x768 1 × IVec S194x6x16x512 1 :=
  let main_v0 : FVec F S194x6x80x512 .bf16 := shapeCast S194x6x80x512 main_arg2 shapeCasts_S194x480x512_S194x6x80x512
  let main_v1 : FVec F S194x6x16x512 .bf16 := (extractStridedSlice S194x6x16x512 ![0, 0, 0, 0] · slices_S194x6x80x512_S194x6x16x512_0_0_0_0) main_v0
  let main_v2 : FVec F S99328x768 .bf16 := Host.absf main_arg0
  let main_cst : FVec F S_ .bf16 := constant S_ .bf16 0x7F80#16
  let main_v3 : FVec F S99328x768 .bf16 := broadcastInDim S99328x768 ![] bcast_S_S99328x768 main_cst
  let main_v4 : IVec S99328x768 1 := cmpf .olt main_v2 main_v3
  let main_v5 : FVec F S99328x768 .bf16 := Host.absf main_arg1
  let main_cst_0 : FVec F S_ .bf16 := constant S_ .bf16 0x7F80#16
  let main_v6 : FVec F S99328x768 .bf16 := broadcastInDim S99328x768 ![] bcast_S_S99328x768 main_cst_0
  let main_v7 : IVec S99328x768 1 := cmpf .olt main_v5 main_v6
  let main_cst_1 : FVec F S_ .bf16 := constant S_ .bf16 0x3F80#16
  let main_v8 : FVec F S194x6x16x512 .bf16 := broadcastInDim S194x6x16x512 ![] bcast_S_S194x6x16x512 main_cst_1
  let main_v9 : IVec S194x6x16x512 1 := cmpf .oeq main_v1 main_v8
  (main_v4, main_v7, main_v9)
-- ==== KernelMla.lean ====
abbrev S99328x768 : Shape := ⟨2, ![99328, 768]⟩
abbrev S194x480x512 : Shape := ⟨3, ![194, 480, 512]⟩
abbrev S32768x384 : Shape := ⟨2, ![32768, 384]⟩
abbrev S512x256 : Shape := ⟨2, ![512, 256]⟩
abbrev S16384x256 : Shape := ⟨2, ![16384, 256]⟩
abbrev S128x256 : Shape := ⟨2, ![128, 256]⟩
abbrev S32x160x512 : Shape := ⟨3, ![32, 160, 512]⟩
abbrev S1x160x128 : Shape := ⟨3, ![1, 160, 128]⟩
abbrev S512x128 : Shape := ⟨2, ![512, 128]⟩
abbrev S2x2x512x512 : Shape := ⟨4, ![2, 2, 512, 512]⟩
abbrev S128x1 : Shape := ⟨2, ![128, 1]⟩
abbrev S80x512 : Shape := ⟨2, ![80, 512]⟩
abbrev S512x512 : Shape := ⟨2, ![512, 512]⟩
abbrev S1x1x512x512 : Shape := ⟨4, ![1, 1, 512, 512]⟩
abbrev S1x512 : Shape := ⟨2, ![1, 512]⟩
abbrev S1x80x512 : Shape := ⟨3, ![1, 80, 512]⟩
abbrev S512 : Shape := ⟨1, ![512]⟩
abbrev S128x128 : Shape := ⟨2, ![128, 128]⟩
abbrev S128x512 : Shape := ⟨2, ![128, 512]⟩
abbrev S1x80x128 : Shape := ⟨3, ![1, 80, 128]⟩
abbrev S80x128 : Shape := ⟨2, ![80, 128]⟩
abbrev S64x512 : Shape := ⟨2, ![64, 512]⟩

abbrev nBuf : Space → Nat
  | .hbm => 4
  | .vmem => 13
  | .smem => 0
  | _ => 0

abbrev bufTy : (tb : Table) → Fin (tcTables nBuf tb) → BufTy
  | .hbm, ⟨0, _⟩ => ⟨S99328x768, .bf16⟩
  | .hbm, ⟨1, _⟩ => ⟨S99328x768, .bf16⟩
  | .hbm, ⟨2, _⟩ => ⟨S194x480x512, .bf16⟩
  | .hbm, ⟨3, _⟩ => ⟨S32768x384, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S128x256, .bf16⟩
  | .local _ .vmem, ⟨5, _⟩ => ⟨S128x256, .bf16⟩
  | .local _ .vmem, ⟨6, _⟩ => ⟨S32x160x512, .bf16⟩
  | .local _ .vmem, ⟨7, _⟩ => ⟨S32x160x512, .bf16⟩
  | .local _ .vmem, ⟨8, _⟩ => ⟨S1x160x128, .bf16⟩
  | .local _ .vmem, ⟨9, _⟩ => ⟨S1x160x128, .bf16⟩
  | .local _ .vmem, ⟨10, _⟩ => ⟨S512x128, .bf16⟩
  | .local _ .vmem, ⟨11, _⟩ => ⟨S512x128, .bf16⟩
  | .local _ .vmem, ⟨12, _⟩ => ⟨S2x2x512x512, .f32⟩
  | _, _ => ⟨S99328x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 3, 32], ![false, false, false]⟩

def k0_mult1 : BitVec 32 :=
  let c0_i32_11 : BitVec 32 := 0#32
  c0_i32_11
def k0_mult2 : BitVec 32 :=
  let c0_i32_19 : BitVec 32 := 0#32
  c0_i32_19
@[reducible] def k0_t1_loop : Scf.Loop 32 :=
  let c0_i32_26 : BitVec 32 := 0#32
  let c2_i32 : BitVec 32 := 2#32
  let v56 : BitVec 32 := Scalar.addi c0_i32_26 c2_i32
  let c1_i32_27 : BitVec 32 := 1#32
  ⟨c0_i32_26, v56, c1_i32_27⟩
def k0_mult3 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_48 : BitVec 32 := 16#32
  let v112 : BitVec 32 := Scalar.muli arg10 c16_i32_48
  let c0_i32_49 : BitVec 32 := 0#32
  let v113 : BitVec 32 := Scalar.addi v112 c0_i32_49
  let c1_i32_50 : BitVec 32 := 1#32
  let v114 : BitVec 32 := Scalar.addi v113 c1_i32_50
  let c31_i32 : BitVec 32 := 31#32
  let v115 : BitVec 32 := Scalar.minsi v114 c31_i32
  let c512_i32 : BitVec 32 := 512#32
  let v116 : BitVec 32 := Scalar.muli v115 c512_i32
  v116
def k0_off1 (k0_t1 : Fin k0_t1_loop.trips) (c0_i32_49 : BitVec 32) : Fin 2 → Nat :=
  let c0_i32_26 : BitVec 32 := 0#32
  let c1_i32_27 : BitVec 32 := 1#32
  let arg10 : BitVec 32 := Scf.iv c0_i32_26 c1_i32_27 k0_t1
  let c16_i32_48 : BitVec 32 := 16#32
  let v112 : BitVec 32 := Scalar.muli arg10 c16_i32_48
  let v113 : BitVec 32 := Scalar.addi v112 c0_i32_49
  let c1_i32_50 : BitVec 32 := 1#32
  let v114 : BitVec 32 := Scalar.addi v113 c1_i32_50
  let c31_i32 : BitVec 32 := 31#32
  let v115 : BitVec 32 := Scalar.minsi v114 c31_i32
  let c512_i32 : BitVec 32 := 512#32
  let v116 : BitVec 32 := Scalar.muli v115 c512_i32
  let v117 : BitVec 32 := v116
  let v118 : Index := Scalar.indexCast v117
  let c0_51 : Index := 0#32
  ![v118.toNat, 0]
def k0_off2 (k0_t1 : Fin k0_t1_loop.trips) (c0_i32_62 : BitVec 32) : Fin 3 → Nat :=
  let c0_i32_26 : BitVec 32 := 0#32
  let c1_i32_27 : BitVec 32 := 1#32
  let arg10 : BitVec 32 := Scf.iv c0_i32_26 c1_i32_27 k0_t1
  let c16_i32_61 : BitVec 32 := 16#32
  let v126 : BitVec 32 := Scalar.muli arg10 c16_i32_61
  let v127 : BitVec 32 := Scalar.addi v126 c0_i32_62
  let v128 : Index := Scalar.indexCast v127
  let c0_63 : Index := 0#32
  let c0_64 : Index := 0#32
  ![v128.toNat, 0, 0]
def k0_mult4 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_48 : BitVec 32 := 16#32
  let v112 : BitVec 32 := Scalar.muli arg10 c16_i32_48
  let c0_i32_49 : BitVec 32 := 0#32
  let v113 : BitVec 32 := Scalar.addi v112 c0_i32_49
  let c1_i32_67 : BitVec 32 := 1#32
  let v144 : BitVec 32 := Scalar.addi v113 c1_i32_67
  let c31_i32_68 : BitVec 32 := 31#32
  let v145 : BitVec 32 := Scalar.minsi v144 c31_i32_68
  let c512_i32_69 : BitVec 32 := 512#32
  let v146 : BitVec 32 := Scalar.muli v145 c512_i32_69
  v146
def k0_off3 (k0_t1 : Fin k0_t1_loop.trips) (c0_i32_49 : BitVec 32) : Fin 2 → Nat :=
  let c0_i32_26 : BitVec 32 := 0#32
  let c1_i32_27 : BitVec 32 := 1#32
  let arg10 : BitVec 32 := Scf.iv c0_i32_26 c1_i32_27 k0_t1
  let c16_i32_48 : BitVec 32 := 16#32
  let v112 : BitVec 32 := Scalar.muli arg10 c16_i32_48
  let v113 : BitVec 32 := Scalar.addi v112 c0_i32_49
  let c1_i32_67 : BitVec 32 := 1#32
  let v144 : BitVec 32 := Scalar.addi v113 c1_i32_67
  let c31_i32_68 : BitVec 32 := 31#32
  let v145 : BitVec 32 := Scalar.minsi v144 c31_i32_68
  let c512_i32_69 : BitVec 32 := 512#32
  let v146 : BitVec 32 := Scalar.muli v145 c512_i32_69
  let v147 : BitVec 32 := v146
  let v148 : Index := Scalar.indexCast v147
  let c128_70 : Index := 128#32
  ![v148.toNat, 128]
def k0_off4 (k0_t1 : Fin k0_t1_loop.trips) (c0_i32_81 : BitVec 32) : Fin 3 → Nat :=
  let c0_i32_26 : BitVec 32 := 0#32
  let c1_i32_27 : BitVec 32 := 1#32
  let arg10 : BitVec 32 := Scf.iv c0_i32_26 c1_i32_27 k0_t1
  let c16_i32_80 : BitVec 32 := 16#32
  let v156 : BitVec 32 := Scalar.muli arg10 c16_i32_80
  let v157 : BitVec 32 := Scalar.addi v156 c0_i32_81
  let v158 : Index := Scalar.indexCast v157
  let c80_82 : Index := 80#32
  let c0_83 : Index := 0#32
  ![v158.toNat, 80, 0]
def k0_mult5 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_86 : BitVec 32 := 16#32
  let v174 : BitVec 32 := Scalar.muli arg10 c16_i32_86
  let c1_i32_87 : BitVec 32 := 1#32
  let v175 : BitVec 32 := Scalar.addi v174 c1_i32_87
  let c1_i32_88 : BitVec 32 := 1#32
  let v176 : BitVec 32 := Scalar.addi v175 c1_i32_88
  let c31_i32_89 : BitVec 32 := 31#32
  let v177 : BitVec 32 := Scalar.minsi v176 c31_i32_89
  let c512_i32_90 : BitVec 32 := 512#32
  let v178 : BitVec 32 := Scalar.muli v177 c512_i32_90
  v178
def k0_mult6 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_86 : BitVec 32 := 16#32
  let v174 : BitVec 32 := Scalar.muli arg10 c16_i32_86
  let c1_i32_87 : BitVec 32 := 1#32
  let v175 : BitVec 32 := Scalar.addi v174 c1_i32_87
  let c1_i32_107 : BitVec 32 := 1#32
  let v206 : BitVec 32 := Scalar.addi v175 c1_i32_107
  let c31_i32_108 : BitVec 32 := 31#32
  let v207 : BitVec 32 := Scalar.minsi v206 c31_i32_108
  let c512_i32_109 : BitVec 32 := 512#32
  let v208 : BitVec 32 := Scalar.muli v207 c512_i32_109
  v208
def k0_mult7 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_126 : BitVec 32 := 16#32
  let v236 : BitVec 32 := Scalar.muli arg10 c16_i32_126
  let c2_i32_127 : BitVec 32 := 2#32
  let v237 : BitVec 32 := Scalar.addi v236 c2_i32_127
  let c1_i32_128 : BitVec 32 := 1#32
  let v238 : BitVec 32 := Scalar.addi v237 c1_i32_128
  let c31_i32_129 : BitVec 32 := 31#32
  let v239 : BitVec 32 := Scalar.minsi v238 c31_i32_129
  let c512_i32_130 : BitVec 32 := 512#32
  let v240 : BitVec 32 := Scalar.muli v239 c512_i32_130
  v240
def k0_mult8 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_126 : BitVec 32 := 16#32
  let v236 : BitVec 32 := Scalar.muli arg10 c16_i32_126
  let c2_i32_127 : BitVec 32 := 2#32
  let v237 : BitVec 32 := Scalar.addi v236 c2_i32_127
  let c1_i32_147 : BitVec 32 := 1#32
  let v268 : BitVec 32 := Scalar.addi v237 c1_i32_147
  let c31_i32_148 : BitVec 32 := 31#32
  let v269 : BitVec 32 := Scalar.minsi v268 c31_i32_148
  let c512_i32_149 : BitVec 32 := 512#32
  let v270 : BitVec 32 := Scalar.muli v269 c512_i32_149
  v270
def k0_mult9 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_166 : BitVec 32 := 16#32
  let v298 : BitVec 32 := Scalar.muli arg10 c16_i32_166
  let c3_i32 : BitVec 32 := 3#32
  let v299 : BitVec 32 := Scalar.addi v298 c3_i32
  let c1_i32_167 : BitVec 32 := 1#32
  let v300 : BitVec 32 := Scalar.addi v299 c1_i32_167
  let c31_i32_168 : BitVec 32 := 31#32
  let v301 : BitVec 32 := Scalar.minsi v300 c31_i32_168
  let c512_i32_169 : BitVec 32 := 512#32
  let v302 : BitVec 32 := Scalar.muli v301 c512_i32_169
  v302
def k0_mult10 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_166 : BitVec 32 := 16#32
  let v298 : BitVec 32 := Scalar.muli arg10 c16_i32_166
  let c3_i32 : BitVec 32 := 3#32
  let v299 : BitVec 32 := Scalar.addi v298 c3_i32
  let c1_i32_186 : BitVec 32 := 1#32
  let v330 : BitVec 32 := Scalar.addi v299 c1_i32_186
  let c31_i32_187 : BitVec 32 := 31#32
  let v331 : BitVec 32 := Scalar.minsi v330 c31_i32_187
  let c512_i32_188 : BitVec 32 := 512#32
  let v332 : BitVec 32 := Scalar.muli v331 c512_i32_188
  v332
def k0_mult11 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_205 : BitVec 32 := 16#32
  let v360 : BitVec 32 := Scalar.muli arg10 c16_i32_205
  let c4_i32 : BitVec 32 := 4#32
  let v361 : BitVec 32 := Scalar.addi v360 c4_i32
  let c1_i32_206 : BitVec 32 := 1#32
  let v362 : BitVec 32 := Scalar.addi v361 c1_i32_206
  let c31_i32_207 : BitVec 32 := 31#32
  let v363 : BitVec 32 := Scalar.minsi v362 c31_i32_207
  let c512_i32_208 : BitVec 32 := 512#32
  let v364 : BitVec 32 := Scalar.muli v363 c512_i32_208
  v364
def k0_mult12 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_205 : BitVec 32 := 16#32
  let v360 : BitVec 32 := Scalar.muli arg10 c16_i32_205
  let c4_i32 : BitVec 32 := 4#32
  let v361 : BitVec 32 := Scalar.addi v360 c4_i32
  let c1_i32_225 : BitVec 32 := 1#32
  let v392 : BitVec 32 := Scalar.addi v361 c1_i32_225
  let c31_i32_226 : BitVec 32 := 31#32
  let v393 : BitVec 32 := Scalar.minsi v392 c31_i32_226
  let c512_i32_227 : BitVec 32 := 512#32
  let v394 : BitVec 32 := Scalar.muli v393 c512_i32_227
  v394
def k0_mult13 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_244 : BitVec 32 := 16#32
  let v422 : BitVec 32 := Scalar.muli arg10 c16_i32_244
  let c5_i32 : BitVec 32 := 5#32
  let v423 : BitVec 32 := Scalar.addi v422 c5_i32
  let c1_i32_245 : BitVec 32 := 1#32
  let v424 : BitVec 32 := Scalar.addi v423 c1_i32_245
  let c31_i32_246 : BitVec 32 := 31#32
  let v425 : BitVec 32 := Scalar.minsi v424 c31_i32_246
  let c512_i32_247 : BitVec 32 := 512#32
  let v426 : BitVec 32 := Scalar.muli v425 c512_i32_247
  v426
def k0_mult14 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_244 : BitVec 32 := 16#32
  let v422 : BitVec 32 := Scalar.muli arg10 c16_i32_244
  let c5_i32 : BitVec 32 := 5#32
  let v423 : BitVec 32 := Scalar.addi v422 c5_i32
  let c1_i32_264 : BitVec 32 := 1#32
  let v454 : BitVec 32 := Scalar.addi v423 c1_i32_264
  let c31_i32_265 : BitVec 32 := 31#32
  let v455 : BitVec 32 := Scalar.minsi v454 c31_i32_265
  let c512_i32_266 : BitVec 32 := 512#32
  let v456 : BitVec 32 := Scalar.muli v455 c512_i32_266
  v456
def k0_mult15 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_283 : BitVec 32 := 16#32
  let v484 : BitVec 32 := Scalar.muli arg10 c16_i32_283
  let c6_i32 : BitVec 32 := 6#32
  let v485 : BitVec 32 := Scalar.addi v484 c6_i32
  let c1_i32_284 : BitVec 32 := 1#32
  let v486 : BitVec 32 := Scalar.addi v485 c1_i32_284
  let c31_i32_285 : BitVec 32 := 31#32
  let v487 : BitVec 32 := Scalar.minsi v486 c31_i32_285
  let c512_i32_286 : BitVec 32 := 512#32
  let v488 : BitVec 32 := Scalar.muli v487 c512_i32_286
  v488
def k0_mult16 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_283 : BitVec 32 := 16#32
  let v484 : BitVec 32 := Scalar.muli arg10 c16_i32_283
  let c6_i32 : BitVec 32 := 6#32
  let v485 : BitVec 32 := Scalar.addi v484 c6_i32
  let c1_i32_303 : BitVec 32 := 1#32
  let v516 : BitVec 32 := Scalar.addi v485 c1_i32_303
  let c31_i32_304 : BitVec 32 := 31#32
  let v517 : BitVec 32 := Scalar.minsi v516 c31_i32_304
  let c512_i32_305 : BitVec 32 := 512#32
  let v518 : BitVec 32 := Scalar.muli v517 c512_i32_305
  v518
def k0_mult17 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_322 : BitVec 32 := 16#32
  let v546 : BitVec 32 := Scalar.muli arg10 c16_i32_322
  let c7_i32 : BitVec 32 := 7#32
  let v547 : BitVec 32 := Scalar.addi v546 c7_i32
  let c1_i32_323 : BitVec 32 := 1#32
  let v548 : BitVec 32 := Scalar.addi v547 c1_i32_323
  let c31_i32_324 : BitVec 32 := 31#32
  let v549 : BitVec 32 := Scalar.minsi v548 c31_i32_324
  let c512_i32_325 : BitVec 32 := 512#32
  let v550 : BitVec 32 := Scalar.muli v549 c512_i32_325
  v550
def k0_mult18 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_322 : BitVec 32 := 16#32
  let v546 : BitVec 32 := Scalar.muli arg10 c16_i32_322
  let c7_i32 : BitVec 32 := 7#32
  let v547 : BitVec 32 := Scalar.addi v546 c7_i32
  let c1_i32_342 : BitVec 32 := 1#32
  let v578 : BitVec 32 := Scalar.addi v547 c1_i32_342
  let c31_i32_343 : BitVec 32 := 31#32
  let v579 : BitVec 32 := Scalar.minsi v578 c31_i32_343
  let c512_i32_344 : BitVec 32 := 512#32
  let v580 : BitVec 32 := Scalar.muli v579 c512_i32_344
  v580
def k0_mult19 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_361 : BitVec 32 := 16#32
  let v608 : BitVec 32 := Scalar.muli arg10 c16_i32_361
  let c8_i32_362 : BitVec 32 := 8#32
  let v609 : BitVec 32 := Scalar.addi v608 c8_i32_362
  let c1_i32_363 : BitVec 32 := 1#32
  let v610 : BitVec 32 := Scalar.addi v609 c1_i32_363
  let c31_i32_364 : BitVec 32 := 31#32
  let v611 : BitVec 32 := Scalar.minsi v610 c31_i32_364
  let c512_i32_365 : BitVec 32 := 512#32
  let v612 : BitVec 32 := Scalar.muli v611 c512_i32_365
  v612
def k0_mult20 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_361 : BitVec 32 := 16#32
  let v608 : BitVec 32 := Scalar.muli arg10 c16_i32_361
  let c8_i32_362 : BitVec 32 := 8#32
  let v609 : BitVec 32 := Scalar.addi v608 c8_i32_362
  let c1_i32_382 : BitVec 32 := 1#32
  let v640 : BitVec 32 := Scalar.addi v609 c1_i32_382
  let c31_i32_383 : BitVec 32 := 31#32
  let v641 : BitVec 32 := Scalar.minsi v640 c31_i32_383
  let c512_i32_384 : BitVec 32 := 512#32
  let v642 : BitVec 32 := Scalar.muli v641 c512_i32_384
  v642
def k0_mult21 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_401 : BitVec 32 := 16#32
  let v670 : BitVec 32 := Scalar.muli arg10 c16_i32_401
  let c9_i32 : BitVec 32 := 9#32
  let v671 : BitVec 32 := Scalar.addi v670 c9_i32
  let c1_i32_402 : BitVec 32 := 1#32
  let v672 : BitVec 32 := Scalar.addi v671 c1_i32_402
  let c31_i32_403 : BitVec 32 := 31#32
  let v673 : BitVec 32 := Scalar.minsi v672 c31_i32_403
  let c512_i32_404 : BitVec 32 := 512#32
  let v674 : BitVec 32 := Scalar.muli v673 c512_i32_404
  v674
def k0_mult22 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_401 : BitVec 32 := 16#32
  let v670 : BitVec 32 := Scalar.muli arg10 c16_i32_401
  let c9_i32 : BitVec 32 := 9#32
  let v671 : BitVec 32 := Scalar.addi v670 c9_i32
  let c1_i32_421 : BitVec 32 := 1#32
  let v702 : BitVec 32 := Scalar.addi v671 c1_i32_421
  let c31_i32_422 : BitVec 32 := 31#32
  let v703 : BitVec 32 := Scalar.minsi v702 c31_i32_422
  let c512_i32_423 : BitVec 32 := 512#32
  let v704 : BitVec 32 := Scalar.muli v703 c512_i32_423
  v704
def k0_mult23 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_440 : BitVec 32 := 16#32
  let v732 : BitVec 32 := Scalar.muli arg10 c16_i32_440
  let c10_i32 : BitVec 32 := 10#32
  let v733 : BitVec 32 := Scalar.addi v732 c10_i32
  let c1_i32_441 : BitVec 32 := 1#32
  let v734 : BitVec 32 := Scalar.addi v733 c1_i32_441
  let c31_i32_442 : BitVec 32 := 31#32
  let v735 : BitVec 32 := Scalar.minsi v734 c31_i32_442
  let c512_i32_443 : BitVec 32 := 512#32
  let v736 : BitVec 32 := Scalar.muli v735 c512_i32_443
  v736
def k0_mult24 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_440 : BitVec 32 := 16#32
  let v732 : BitVec 32 := Scalar.muli arg10 c16_i32_440
  let c10_i32 : BitVec 32 := 10#32
  let v733 : BitVec 32 := Scalar.addi v732 c10_i32
  let c1_i32_460 : BitVec 32 := 1#32
  let v764 : BitVec 32 := Scalar.addi v733 c1_i32_460
  let c31_i32_461 : BitVec 32 := 31#32
  let v765 : BitVec 32 := Scalar.minsi v764 c31_i32_461
  let c512_i32_462 : BitVec 32 := 512#32
  let v766 : BitVec 32 := Scalar.muli v765 c512_i32_462
  v766
def k0_mult25 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_479 : BitVec 32 := 16#32
  let v794 : BitVec 32 := Scalar.muli arg10 c16_i32_479
  let c11_i32 : BitVec 32 := 11#32
  let v795 : BitVec 32 := Scalar.addi v794 c11_i32
  let c1_i32_480 : BitVec 32 := 1#32
  let v796 : BitVec 32 := Scalar.addi v795 c1_i32_480
  let c31_i32_481 : BitVec 32 := 31#32
  let v797 : BitVec 32 := Scalar.minsi v796 c31_i32_481
  let c512_i32_482 : BitVec 32 := 512#32
  let v798 : BitVec 32 := Scalar.muli v797 c512_i32_482
  v798
def k0_mult26 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_479 : BitVec 32 := 16#32
  let v794 : BitVec 32 := Scalar.muli arg10 c16_i32_479
  let c11_i32 : BitVec 32 := 11#32
  let v795 : BitVec 32 := Scalar.addi v794 c11_i32
  let c1_i32_499 : BitVec 32 := 1#32
  let v826 : BitVec 32 := Scalar.addi v795 c1_i32_499
  let c31_i32_500 : BitVec 32 := 31#32
  let v827 : BitVec 32 := Scalar.minsi v826 c31_i32_500
  let c512_i32_501 : BitVec 32 := 512#32
  let v828 : BitVec 32 := Scalar.muli v827 c512_i32_501
  v828
def k0_mult27 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_518 : BitVec 32 := 16#32
  let v856 : BitVec 32 := Scalar.muli arg10 c16_i32_518
  let c12_i32 : BitVec 32 := 12#32
  let v857 : BitVec 32 := Scalar.addi v856 c12_i32
  let c1_i32_519 : BitVec 32 := 1#32
  let v858 : BitVec 32 := Scalar.addi v857 c1_i32_519
  let c31_i32_520 : BitVec 32 := 31#32
  let v859 : BitVec 32 := Scalar.minsi v858 c31_i32_520
  let c512_i32_521 : BitVec 32 := 512#32
  let v860 : BitVec 32 := Scalar.muli v859 c512_i32_521
  v860
def k0_mult28 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_518 : BitVec 32 := 16#32
  let v856 : BitVec 32 := Scalar.muli arg10 c16_i32_518
  let c12_i32 : BitVec 32 := 12#32
  let v857 : BitVec 32 := Scalar.addi v856 c12_i32
  let c1_i32_538 : BitVec 32 := 1#32
  let v888 : BitVec 32 := Scalar.addi v857 c1_i32_538
  let c31_i32_539 : BitVec 32 := 31#32
  let v889 : BitVec 32 := Scalar.minsi v888 c31_i32_539
  let c512_i32_540 : BitVec 32 := 512#32
  let v890 : BitVec 32 := Scalar.muli v889 c512_i32_540
  v890
def k0_mult29 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_557 : BitVec 32 := 16#32
  let v918 : BitVec 32 := Scalar.muli arg10 c16_i32_557
  let c13_i32 : BitVec 32 := 13#32
  let v919 : BitVec 32 := Scalar.addi v918 c13_i32
  let c1_i32_558 : BitVec 32 := 1#32
  let v920 : BitVec 32 := Scalar.addi v919 c1_i32_558
  let c31_i32_559 : BitVec 32 := 31#32
  let v921 : BitVec 32 := Scalar.minsi v920 c31_i32_559
  let c512_i32_560 : BitVec 32 := 512#32
  let v922 : BitVec 32 := Scalar.muli v921 c512_i32_560
  v922
def k0_mult30 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_557 : BitVec 32 := 16#32
  let v918 : BitVec 32 := Scalar.muli arg10 c16_i32_557
  let c13_i32 : BitVec 32 := 13#32
  let v919 : BitVec 32 := Scalar.addi v918 c13_i32
  let c1_i32_577 : BitVec 32 := 1#32
  let v950 : BitVec 32 := Scalar.addi v919 c1_i32_577
  let c31_i32_578 : BitVec 32 := 31#32
  let v951 : BitVec 32 := Scalar.minsi v950 c31_i32_578
  let c512_i32_579 : BitVec 32 := 512#32
  let v952 : BitVec 32 := Scalar.muli v951 c512_i32_579
  v952
def k0_mult31 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_596 : BitVec 32 := 16#32
  let v980 : BitVec 32 := Scalar.muli arg10 c16_i32_596
  let c14_i32 : BitVec 32 := 14#32
  let v981 : BitVec 32 := Scalar.addi v980 c14_i32
  let c1_i32_597 : BitVec 32 := 1#32
  let v982 : BitVec 32 := Scalar.addi v981 c1_i32_597
  let c31_i32_598 : BitVec 32 := 31#32
  let v983 : BitVec 32 := Scalar.minsi v982 c31_i32_598
  let c512_i32_599 : BitVec 32 := 512#32
  let v984 : BitVec 32 := Scalar.muli v983 c512_i32_599
  v984
def k0_mult32 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_596 : BitVec 32 := 16#32
  let v980 : BitVec 32 := Scalar.muli arg10 c16_i32_596
  let c14_i32 : BitVec 32 := 14#32
  let v981 : BitVec 32 := Scalar.addi v980 c14_i32
  let c1_i32_616 : BitVec 32 := 1#32
  let v1012 : BitVec 32 := Scalar.addi v981 c1_i32_616
  let c31_i32_617 : BitVec 32 := 31#32
  let v1013 : BitVec 32 := Scalar.minsi v1012 c31_i32_617
  let c512_i32_618 : BitVec 32 := 512#32
  let v1014 : BitVec 32 := Scalar.muli v1013 c512_i32_618
  v1014
def k0_mult33 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_635 : BitVec 32 := 16#32
  let v1042 : BitVec 32 := Scalar.muli arg10 c16_i32_635
  let c15_i32 : BitVec 32 := 15#32
  let v1043 : BitVec 32 := Scalar.addi v1042 c15_i32
  let c1_i32_636 : BitVec 32 := 1#32
  let v1044 : BitVec 32 := Scalar.addi v1043 c1_i32_636
  let c31_i32_637 : BitVec 32 := 31#32
  let v1045 : BitVec 32 := Scalar.minsi v1044 c31_i32_637
  let c512_i32_638 : BitVec 32 := 512#32
  let v1046 : BitVec 32 := Scalar.muli v1045 c512_i32_638
  v1046
def k0_mult34 (k0_t1 : Fin k0_t1_loop.trips) : BitVec 32 :=
  let c0_i32_26 : BitVec 32 := 0#32
  let c1_i32_27 : BitVec 32 := 1#32
  let arg10 : BitVec 32 := Scf.iv c0_i32_26 c1_i32_27 k0_t1
  let c16_i32_635 : BitVec 32 := 16#32
  let v1042 : BitVec 32 := Scalar.muli arg10 c16_i32_635
  let c15_i32 : BitVec 32 := 15#32
  let v1043 : BitVec 32 := Scalar.addi v1042 c15_i32
  let c1_i32_655 : BitVec 32 := 1#32
  let v1074 : BitVec 32 := Scalar.addi v1043 c1_i32_655
  let c31_i32_656 : BitVec 32 := 31#32
  let v1075 : BitVec 32 := Scalar.minsi v1074 c31_i32_656
  let c512_i32_657 : BitVec 32 := 512#32
  let v1076 : BitVec 32 := Scalar.muli v1075 c512_i32_657
  v1076
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16384_i32 : BitVec 32 := 16384#32
  let v0 : BitVec 32 := Scalar.muli arg0 c16384_i32
  let c65536_i32 : BitVec 32 := 65536#32
  let v1 : BitVec 32 := Scalar.addi c65536_i32 v0
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_4 : BitVec 32 := 0#32
  ![v19.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c772_i32 : BitVec 32 := 772#32
  let v17 : BitVec 32 := Scalar.addi c772_i32 v16
  let c0_i32_4 : BitVec 32 := 0#32
  ![v17.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c193_i32 : BitVec 32 := 193#32
  let v18 : BitVec 32 := Scalar.addi c193_i32 v17
  let c16_i32_4 : BitVec 32 := 16#32
  let v19 : BitVec 32 := Scalar.muli arg0 c16_i32_4
  let c512_i32_5 : BitVec 32 := 512#32
  let c0_i32_6 : BitVec 32 := 0#32
  let v20 : BitVec 1 := Scalar.cmpi .eq c512_i32_5 c0_i32_6
  let c1_i32_7 : BitVec 32 := 1#32
  let v21 : BitVec 32 := Scalar.select v20 c1_i32_7 c512_i32_5
  let v22 : BitVec 32 := Scalar.remsi v19 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.divsi v29 c128_i32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c0_i32_17 : BitVec 32 := 0#32
  ![v18.toNat, arg1.toNat, v46.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x160x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x160x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceMlaIdeal.lean ====
abbrev S99328x768 : Shape := ⟨2, ![99328, 768]⟩
abbrev S194x480x512 : Shape := ⟨3, ![194, 480, 512]⟩
abbrev S194x6x80x512 : Shape := ⟨4, ![194, 6, 80, 512]⟩
abbrev S194x6x64x512 : Shape := ⟨4, ![194, 6, 64, 512]⟩
abbrev S194x512x6x64 : Shape := ⟨4, ![194, 512, 6, 64]⟩
abbrev S99328x384 : Shape := ⟨2, ![99328, 384]⟩
abbrev S32768x768 : Shape := ⟨2, ![32768, 768]⟩
abbrev S2x16384x6x128 : Shape := ⟨4, ![2, 16384, 6, 128]⟩
abbrev S32x768 : Shape := ⟨2, ![32, 768]⟩
abbrev S2x16x6x128 : Shape := ⟨4, ![2, 16, 6, 128]⟩
abbrev S2x16400x6x128 : Shape := ⟨4, ![2, 16400, 6, 128]⟩
abbrev S32x384 : Shape := ⟨2, ![32, 384]⟩
abbrev S2x16x6x64 : Shape := ⟨4, ![2, 16, 6, 64]⟩
abbrev S32768x384 : Shape := ⟨2, ![32768, 384]⟩
abbrev S2x16384x6x64 : Shape := ⟨4, ![2, 16384, 6, 64]⟩
abbrev S2x16400x6x64 : Shape := ⟨4, ![2, 16400, 6, 64]⟩
abbrev S2x6x16384x16400 : Shape := ⟨4, ![2, 6, 16384, 16400]⟩
abbrev S_ : Shape := ⟨0, ![]⟩
abbrev S2x6x16384 : Shape := ⟨3, ![2, 6, 16384]⟩
abbrev S2x6x16384x1 : Shape := ⟨4, ![2, 6, 16384, 1]⟩
abbrev S2x6x64x16384 : Shape := ⟨4, ![2, 6, 64, 16384]⟩

abbrev nBuf : Space → Nat
  | .hbm => 43
  | .vmem => 0
  | .smem => 0
  | _ => 0

abbrev bufTy : (tb : Table) → Fin (tcTables nBuf tb) → BufTy
  | .hbm, ⟨0, _⟩ => ⟨S99328x768, .bf16⟩
  | .hbm, ⟨1, _⟩ => ⟨S99328x768, .bf16⟩
  | .hbm, ⟨2, _⟩ => ⟨S194x480x512, .bf16⟩
  | .hbm, ⟨3, _⟩ => ⟨S194x6x80x512, .bf16⟩
  | .hbm, ⟨4, _⟩ => ⟨S194x6x64x512, .bf16⟩
  | .hbm, ⟨5, _⟩ => ⟨S194x512x6x64, .bf16⟩
  | .hbm, ⟨6, _⟩ => ⟨S99328x384, .bf16⟩
  | .hbm, ⟨7, _⟩ => ⟨S32768x768, .bf16⟩
  | .hbm, ⟨8, _⟩ => ⟨S2x16384x6x128, .bf16⟩
  | .hbm, ⟨9, _⟩ => ⟨S32x768, .bf16⟩
  | .hbm, ⟨10, _⟩ => ⟨S2x16x6x128, .bf16⟩
  | .hbm, ⟨11, _⟩ => ⟨S32768x768, .bf16⟩
  | .hbm, ⟨12, _⟩ => ⟨S2x16384x6x128, .bf16⟩
  | .hbm, ⟨13, _⟩ => ⟨S2x16400x6x128, .bf16⟩
  | .hbm, ⟨14, _⟩ => ⟨S32x384, .bf16⟩
  | .hbm, ⟨15, _⟩ => ⟨S2x16x6x64, .bf16⟩
  | .hbm, ⟨16, _⟩ => ⟨S32768x384, .bf16⟩
  | .hbm, ⟨17, _⟩ => ⟨S2x16384x6x64, .bf16⟩
  | .hbm, ⟨18, _⟩ => ⟨S2x16400x6x64, .bf16⟩
  | .hbm, ⟨19, _⟩ => ⟨S2x6x16384x16400, .f32⟩
  | .hbm, ⟨20, _⟩ => ⟨S_, .f32⟩
  | .hbm, ⟨21, _⟩ => ⟨S_, .f32⟩
  | .hbm, ⟨22, _⟩ => ⟨S2x6x16384x16400, .f32⟩
  | .hbm, ⟨23, _⟩ => ⟨S2x6x16384x16400, .f32⟩
  | .hbm, ⟨24, _⟩ => ⟨S_, .f32⟩
  | .hbm, ⟨25, _⟩ => ⟨S2x6x16384, .f32⟩
  | .hbm, ⟨26, _⟩ => ⟨S_, .f32⟩
  | .hbm, ⟨27, _⟩ => ⟨S2x6x16384, .f32⟩
  | .hbm, ⟨28, _⟩ => ⟨S2x6x16384, .f32⟩
  | .hbm, ⟨29, _⟩ => ⟨S2x6x16384x1, .f32⟩
  | .hbm, ⟨30, _⟩ => ⟨S2x6x16384x16400, .f32⟩
  | .hbm, ⟨31, _⟩ => ⟨S2x6x16384x16400, .f32⟩
  | .hbm, ⟨32, _⟩ => ⟨S2x6x16384x16400, .f32⟩
  | .hbm, ⟨33, _⟩ => ⟨S_, .f32⟩
  | .hbm, ⟨34, _⟩ => ⟨S2x6x16384, .f32⟩
  | .hbm, ⟨35, _⟩ => ⟨S2x6x16384x1, .f32⟩
  | .hbm, ⟨36, _⟩ => ⟨S2x6x16384x16400, .f32⟩
  | .hbm, ⟨37, _⟩ => ⟨S2x6x16384x16400, .f32⟩
  | .hbm, ⟨38, _⟩ => ⟨S2x6x16384x16400, .bf16⟩
  | .hbm, ⟨39, _⟩ => ⟨S2x6x64x16384, .f32⟩
  | .hbm, ⟨40, _⟩ => ⟨S2x16384x6x64, .f32⟩
  | .hbm, ⟨41, _⟩ => ⟨S2x16384x6x64, .bf16⟩
  | .hbm, ⟨42, _⟩ => ⟨S32768x384, .bf16⟩
  | _, _ => ⟨S99328x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== KernelFfn.lean ====
abbrev S65536x1024 : Shape := ⟨2, ![65536, 1024]⟩
abbrev S32768x1024 : Shape := ⟨2, ![32768, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S99328x1024 : Shape := ⟨2, ![99328, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 14
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S32768x1024, .f32⟩
  | .hbm, ⟨2, _⟩ => ⟨S512x1024, .f32⟩
  | .hbm, ⟨3, _⟩ => ⟨S512x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S99328x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![194], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c192_i32 : BitVec 32 := 192#32
  let v0 : BitVec 32 := Scalar.subi arg0 c192_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c193_i32 : BitVec 32 := 193#32
  let v0 : BitVec 32 := Scalar.subi arg0 c193_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceFfnIdeal.lean ====
abbrev S65536x1024 : Shape := ⟨2, ![65536, 1024]⟩
abbrev S32768x1024 : Shape := ⟨2, ![32768, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S99328x1024 : Shape := ⟨2, ![99328, 1024]⟩
abbrev S_ : Shape := ⟨0, ![]⟩
abbrev S99328 : Shape := ⟨1, ![99328]⟩
abbrev S99328x1 : Shape := ⟨2, ![99328, 1]⟩
abbrev S1x1024 : Shape := ⟨2, ![1, 1024]⟩
abbrev S99328x5632 : Shape := ⟨2, ![99328, 5632]⟩
abbrev S99328x2816 : Shape := ⟨2, ![99328, 2816]⟩

abbrev nBuf : Space → Nat
  | .hbm => 42
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32768x1024, .f32⟩
  | .hbm, ⟨2, _⟩ => ⟨S512x1024, .f32⟩
  | .hbm, ⟨3, _⟩ => ⟨S512x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S99328x1024, .f32⟩
  | .hbm, ⟨8, _⟩ => ⟨S99328x1024, .f32⟩
  | .hbm, ⟨9, _⟩ => ⟨S_, .f32⟩
  | .hbm, ⟨10, _⟩ => ⟨S99328, .f32⟩
  | .hbm, ⟨11, _⟩ => ⟨S99328x1, .f32⟩
  | .hbm, ⟨12, _⟩ => ⟨S_, .f32⟩
  | .hbm, ⟨13, _⟩ => ⟨S99328x1, .f32⟩
  | .hbm, ⟨14, _⟩ => ⟨S99328x1, .f32⟩
  | .hbm, ⟨15, _⟩ => ⟨S_, .f32⟩
  | .hbm, ⟨16, _⟩ => ⟨S99328x1, .f32⟩
  | .hbm, ⟨17, _⟩ => ⟨S99328x1, .f32⟩
  | .hbm, ⟨18, _⟩ => ⟨S99328x1, .f32⟩
  | .hbm, ⟨19, _⟩ => ⟨S99328x1024, .f32⟩
  | .hbm, ⟨20, _⟩ => ⟨S99328x1024, .f32⟩
  | .hbm, ⟨21, _⟩ => ⟨S1x1024, .f32⟩
  | .hbm, ⟨22, _⟩ => ⟨S99328x1024, .f32⟩
  | .hbm, ⟨23, _⟩ => ⟨S99328x1024, .f32⟩
  | .hbm, ⟨24, _⟩ => ⟨S99328x5632, .f32⟩
  | .hbm, ⟨25, _⟩ => ⟨S99328x2816, .f32⟩
  | .hbm, ⟨26, _⟩ => ⟨S99328x2816, .f32⟩
  | .hbm, ⟨27, _⟩ => ⟨S99328x2816, .f32⟩
  | .hbm, ⟨28, _⟩ => ⟨S99328x2816, .f32⟩
  | .hbm, ⟨29, _⟩ => ⟨S_, .f32⟩
  | .hbm, ⟨30, _⟩ => ⟨S99328x2816, .f32⟩
  | .hbm, ⟨31, _⟩ => ⟨S99328x2816, .f32⟩
  | .hbm, ⟨32, _⟩ => ⟨S_, .f32⟩
  | .hbm, ⟨33, _⟩ => ⟨S99328x2816, .f32⟩
  | .hbm, ⟨34, _⟩ => ⟨S99328x2816, .f32⟩
  | .hbm, ⟨35, _⟩ => ⟨S99328x2816, .f32⟩
  | .hbm, ⟨36, _⟩ => ⟨S99328x2816, .f32⟩
  | .hbm, ⟨37, _⟩ => ⟨S99328x1024, .f32⟩
  | .hbm, ⟨38, _⟩ => ⟨S_, .f32⟩
  | .hbm, ⟨39, _⟩ => ⟨S99328x1024, .f32⟩
  | .hbm, ⟨40, _⟩ => ⟨S99328x1024, .f32⟩
  | .hbm, ⟨41, _⟩ => ⟨S99328x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== KernelFfnB.lean ====
abbrev S99328x1024 : Shape := ⟨2, ![99328, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 11
  | .vmem => 8
  | .smem => 0
  | _ => 0

abbrev bufTy : (tb : Table) → Fin (tcTables nBuf tb) → BufTy
  | .hbm, ⟨0, _⟩ => ⟨S99328x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S2816x1024, .bf16⟩
  | .hbm, ⟨10, _⟩ => ⟨S99328x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S99328x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![194], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c193_i32 : BitVec 32 := 193#32
  let v1 : BitVec 32 := Scalar.maxsi c0_i32_0 v0
  let v2 : BitVec 32 := Scalar.minsi c193_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnBIdeal.lean ====
abbrev S99328x1024 : Shape := ⟨2, ![99328, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S99328 : Shape := ⟨1, ![99328]⟩
abbrev S99328x1 : Shape := ⟨2, ![99328, 1]⟩
abbrev S1x1024 : Shape := ⟨2, ![1, 1024]⟩
abbrev S99328x5632 : Shape := ⟨2, ![99328, 5632]⟩
abbrev S99328x2816 : Shape := ⟨2, ![99328, 2816]⟩

abbrev nBuf : Space → Nat
  | .hbm => 38
  | .vmem => 0
  | .smem => 0
  | _ => 0

abbrev bufTy : (tb : Table) → Fin (tcTables nBuf tb) → BufTy
  | .hbm, ⟨0, _⟩ => ⟨S99328x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S99328x1024, .f32⟩
  | .hbm, ⟨5, _⟩ => ⟨S_, .f32⟩
  | .hbm, ⟨6, _⟩ => ⟨S99328, .f32⟩
  | .hbm, ⟨7, _⟩ => ⟨S99328x1, .f32⟩
  | .hbm, ⟨8, _⟩ => ⟨S_, .f32⟩
  | .hbm, ⟨9, _⟩ => ⟨S99328x1, .f32⟩
  | .hbm, ⟨10, _⟩ => ⟨S99328x1, .f32⟩
  | .hbm, ⟨11, _⟩ => ⟨S_, .f32⟩
  | .hbm, ⟨12, _⟩ => ⟨S99328x1, .f32⟩
  | .hbm, ⟨13, _⟩ => ⟨S99328x1, .f32⟩
  | .hbm, ⟨14, _⟩ => ⟨S99328x1, .f32⟩
  | .hbm, ⟨15, _⟩ => ⟨S99328x1024, .f32⟩
  | .hbm, ⟨16, _⟩ => ⟨S99328x1024, .f32⟩
  | .hbm, ⟨17, _⟩ => ⟨S1x1024, .f32⟩
  | .hbm, ⟨18, _⟩ => ⟨S99328x1024, .f32⟩
  | .hbm, ⟨19, _⟩ => ⟨S99328x1024, .f32⟩
  | .hbm, ⟨20, _⟩ => ⟨S99328x5632, .f32⟩
  | .hbm, ⟨21, _⟩ => ⟨S99328x2816, .f32⟩
  | .hbm, ⟨22, _⟩ => ⟨S99328x2816, .f32⟩
  | .hbm, ⟨23, _⟩ => ⟨S99328x2816, .f32⟩
  | .hbm, ⟨24, _⟩ => ⟨S99328x2816, .f32⟩
  | .hbm, ⟨25, _⟩ => ⟨S_, .f32⟩
  | .hbm, ⟨26, _⟩ => ⟨S99328x2816, .f32⟩
  | .hbm, ⟨27, _⟩ => ⟨S99328x2816, .f32⟩
  | .hbm, ⟨28, _⟩ => ⟨S_, .f32⟩
  | .hbm, ⟨29, _⟩ => ⟨S99328x2816, .f32⟩
  | .hbm, ⟨30, _⟩ => ⟨S99328x2816, .f32⟩
  | .hbm, ⟨31, _⟩ => ⟨S99328x2816, .f32⟩
  | .hbm, ⟨32, _⟩ => ⟨S99328x2816, .f32⟩
  | .hbm, ⟨33, _⟩ => ⟨S99328x1024, .f32⟩
  | .hbm, ⟨34, _⟩ => ⟨S_, .f32⟩
  | .hbm, ⟨35, _⟩ => ⟨S99328x1024, .f32⟩
  | .hbm, ⟨36, _⟩ => ⟨S99328x1024, .f32⟩
  | .hbm, ⟨37, _⟩ => ⟨S99328x1024, .f32⟩
  | _, _ => ⟨S99328x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== KernelFfnC.lean ====
abbrev S99328x1024 : Shape := ⟨2, ![99328, 1024]⟩
abbrev S65536x384 : Shape := ⟨2, ![65536, 384]⟩
abbrev S32768x384 : Shape := ⟨2, ![32768, 384]⟩
abbrev S512x384 : Shape := ⟨2, ![512, 384]⟩
abbrev S65536x256 : Shape := ⟨2, ![65536, 256]⟩
abbrev S32768x256 : Shape := ⟨2, ![32768, 256]⟩
abbrev S512x256 : Shape := ⟨2, ![512, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S384x1024 : Shape := ⟨2, ![384, 1024]⟩
abbrev S256x1024 : Shape := ⟨2, ![256, 1024]⟩
abbrev S1x1024 : Shape := ⟨2, ![1, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 28
  | .vmem => 35
  | .smem => 0
  | _ => 0

abbrev bufTy : (tb : Table) → Fin (tcTables nBuf tb) → BufTy
  | .hbm, ⟨0, _⟩ => ⟨S99328x1024, .f32⟩
  | .hbm, ⟨1, _⟩ => ⟨S65536x384, .bf16⟩
  | .hbm, ⟨2, _⟩ => ⟨S32768x384, .bf16⟩
  | .hbm, ⟨3, _⟩ => ⟨S512x384, .bf16⟩
  | .hbm, ⟨4, _⟩ => ⟨S512x384, .bf16⟩
  | .hbm, ⟨5, _⟩ => ⟨S65536x384, .bf16⟩
  | .hbm, ⟨6, _⟩ => ⟨S32768x384, .bf16⟩
  | .hbm, ⟨7, _⟩ => ⟨S512x384, .bf16⟩
  | .hbm, ⟨8, _⟩ => ⟨S512x384, .bf16⟩
  | .hbm, ⟨9, _⟩ => ⟨S65536x256, .bf16⟩
  | .hbm, ⟨10, _⟩ => ⟨S32768x256, .bf16⟩
  | .hbm, ⟨11, _⟩ => ⟨S512x256, .bf16⟩
  | .hbm, ⟨12, _⟩ => ⟨S512x256, .bf16⟩
  | .hbm, ⟨13, _⟩ => ⟨S1024x1024, .f32⟩
  | .hbm, ⟨14, _⟩ => ⟨S1024, .f32⟩
  | .hbm, ⟨15, _⟩ => ⟨S1024x5632, .f32⟩
  | .hbm, ⟨16, _⟩ => ⟨S2816x1024, .f32⟩
  | .hbm, ⟨17, _⟩ => ⟨S1024x1024, .bf16⟩
  | .hbm, ⟨18, _⟩ => ⟨S384x1024, .bf16⟩
  | .hbm, ⟨19, _⟩ => ⟨S384x1024, .bf16⟩
  | .hbm, ⟨20, _⟩ => ⟨S256x1024, .bf16⟩
  | .hbm, ⟨21, _⟩ => ⟨S1x1024, .f32⟩
  | .hbm, ⟨22, _⟩ => ⟨S1024x2816, .f32⟩
  | .hbm, ⟨23, _⟩ => ⟨S1024x2816, .bf16⟩
  | .hbm, ⟨24, _⟩ => ⟨S1024x2816, .f32⟩
  | .hbm, ⟨25, _⟩ => ⟨S1024x2816, .bf16⟩
  | .hbm, ⟨26, _⟩ => ⟨S2816x1024, .bf16⟩
  | .hbm, ⟨27, _⟩ => ⟨S99328x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S512x384, .bf16⟩
  | .local _ .vmem, ⟨17, _⟩ => ⟨S512x384, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S384x1024, .bf16⟩
  | .local _ .vmem, ⟨27, _⟩ => ⟨S384x1024, .bf16⟩
  | .local _ .vmem, ⟨28, _⟩ => ⟨S256x1024, .bf16⟩
  | .local _ .vmem, ⟨29, _⟩ => ⟨S1x1024, .f32⟩
  | .local _ .vmem, ⟨30, _⟩ => ⟨S1024x2816, .bf16⟩
  | .local _ .vmem, ⟨31, _⟩ => ⟨S1024x2816, .bf16⟩
  | .local _ .vmem, ⟨32, _⟩ => ⟨S2816x1024, .bf16⟩
  | .local _ .vmem, ⟨33, _⟩ => ⟨S512x1024, .f32⟩
  | .local _ .vmem, ⟨34, _⟩ => ⟨S512x1024, .f32⟩
  | _, _ => ⟨S99328x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![194], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c193_i32 : BitVec 32 := 193#32
  let v1 : BitVec 32 := Scalar.maxsi c0_i32_0 v0
  let v2 : BitVec 32 := Scalar.minsi c193_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c192_i32 : BitVec 32 := 192#32
  let v0 : BitVec 32 := Scalar.subi arg0 c192_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c193_i32 : BitVec 32 := 193#32
  let v0 : BitVec 32 := Scalar.subi arg0 c193_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c192_i32 : BitVec 32 := 192#32
  let v0 : BitVec 32 := Scalar.subi arg0 c192_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c193_i32 : BitVec 32 := 193#32
  let v0 : BitVec 32 := Scalar.subi arg0 c193_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_10 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c192_i32 : BitVec 32 := 192#32
  let v0 : BitVec 32 := Scalar.subi arg0 c192_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_12 (i : grid0.Coords) : Fin 2 → Nat :=
  let arg0 : BitVec 32 := BitVec.ofNat 32 (i 0).val
  let c193_i32 : BitVec 32 := 193#32
  let v0 : BitVec 32 := Scalar.subi arg0 c193_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x2816 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceFfnCIdeal.lean ====
abbrev S99328x1024 : Shape := ⟨2, ![99328, 1024]⟩
abbrev S65536x384 : Shape := ⟨2, ![65536, 384]⟩
abbrev S32768x384 : Shape := ⟨2, ![32768, 384]⟩
abbrev S512x384 : Shape := ⟨2, ![512, 384]⟩
abbrev S65536x256 : Shape := ⟨2, ![65536, 256]⟩
abbrev S32768x256 : Shape := ⟨2, ![32768, 256]⟩
abbrev S512x256 : Shape := ⟨2, ![512, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S99328x384 : Shape := ⟨2, ![99328, 384]⟩
abbrev S99328x256 : Shape := ⟨2, ![99328, 256]⟩
abbrev S_ : Shape := ⟨0, ![]⟩
abbrev S99328 : Shape := ⟨1, ![99328]⟩
abbrev S99328x1 : Shape := ⟨2, ![99328, 1]⟩
abbrev S1x1024 : Shape := ⟨2, ![1, 1024]⟩
abbrev S99328x5632 : Shape := ⟨2, ![99328, 5632]⟩
abbrev S99328x2816 : Shape := ⟨2, ![99328, 2816]⟩

abbrev nBuf : Space → Nat
  | .hbm => 58
  | .vmem => 0
  | .smem => 0
  | _ => 0

abbrev bufTy : (tb : Table) → Fin (tcTables nBuf tb) → BufTy
  | .hbm, ⟨0, _⟩ => ⟨S99328x1024, .f32⟩
  | .hbm, ⟨1, _⟩ => ⟨S65536x384, .bf16⟩
  | .hbm, ⟨2, _⟩ => ⟨S32768x384, .bf16⟩
  | .hbm, ⟨3, _⟩ => ⟨S512x384, .bf16⟩
  | .hbm, ⟨4, _⟩ => ⟨S512x384, .bf16⟩
  | .hbm, ⟨5, _⟩ => ⟨S65536x384, .bf16⟩
  | .hbm, ⟨6, _⟩ => ⟨S32768x384, .bf16⟩
  | .hbm, ⟨7, _⟩ => ⟨S512x384, .bf16⟩
  | .hbm, ⟨8, _⟩ => ⟨S512x384, .bf16⟩
  | .hbm, ⟨9, _⟩ => ⟨S65536x256, .bf16⟩
  | .hbm, ⟨10, _⟩ => ⟨S32768x256, .bf16⟩
  | .hbm, ⟨11, _⟩ => ⟨S512x256, .bf16⟩
  | .hbm, ⟨12, _⟩ => ⟨S512x256, .bf16⟩
  | .hbm, ⟨13, _⟩ => ⟨S1024x1024, .f32⟩
  | .hbm, ⟨14, _⟩ => ⟨S1024, .f32⟩
  | .hbm, ⟨15, _⟩ => ⟨S1024x5632, .f32⟩
  | .hbm, ⟨16, _⟩ => ⟨S2816x1024, .f32⟩
  | .hbm, ⟨17, _⟩ => ⟨S99328x384, .bf16⟩
  | .hbm, ⟨18, _⟩ => ⟨S99328x384, .bf16⟩
  | .hbm, ⟨19, _⟩ => ⟨S99328x256, .bf16⟩
  | .hbm, ⟨20, _⟩ => ⟨S99328x1024, .bf16⟩
  | .hbm, ⟨21, _⟩ => ⟨S99328x1024, .f32⟩
  | .hbm, ⟨22, _⟩ => ⟨S99328x1024, .f32⟩
  | .hbm, ⟨23, _⟩ => ⟨S99328x1024, .f32⟩
  | .hbm, ⟨24, _⟩ => ⟨S99328x1024, .f32⟩
  | .hbm, ⟨25, _⟩ => ⟨S_, .f32⟩
  | .hbm, ⟨26, _⟩ => ⟨S99328, .f32⟩
  | .hbm, ⟨27, _⟩ => ⟨S99328x1, .f32⟩
  | .hbm, ⟨28, _⟩ => ⟨S_, .f32⟩
  | .hbm, ⟨29, _⟩ => ⟨S99328x1, .f32⟩
  | .hbm, ⟨30, _⟩ => ⟨S99328x1, .f32⟩
  | .hbm, ⟨31, _⟩ => ⟨S_, .f32⟩
  | .hbm, ⟨32, _⟩ => ⟨S99328x1, .f32⟩
  | .hbm, ⟨33, _⟩ => ⟨S99328x1, .f32⟩
  | .hbm, ⟨34, _⟩ => ⟨S99328x1, .f32⟩
  | .hbm, ⟨35, _⟩ => ⟨S99328x1024, .f32⟩
  | .hbm, ⟨36, _⟩ => ⟨S99328x1024, .f32⟩
  | .hbm, ⟨37, _⟩ => ⟨S1x1024, .f32⟩
  | .hbm, ⟨38, _⟩ => ⟨S99328x1024, .f32⟩
  | .hbm, ⟨39, _⟩ => ⟨S99328x1024, .f32⟩
  | .hbm, ⟨40, _⟩ => ⟨S99328x5632, .f32⟩
  | .hbm, ⟨41, _⟩ => ⟨S99328x2816, .f32⟩
  | .hbm, ⟨42, _⟩ => ⟨S99328x2816, .f32⟩
  | .hbm, ⟨43, _⟩ => ⟨S99328x2816, .f32⟩
  | .hbm, ⟨44, _⟩ => ⟨S99328x2816, .f32⟩
  | .hbm, ⟨45, _⟩ => ⟨S_, .f32⟩
  | .hbm, ⟨46, _⟩ => ⟨S99328x2816, .f32⟩
  | .hbm, ⟨47, _⟩ => ⟨S99328x2816, .f32⟩
  | .hbm, ⟨48, _⟩ => ⟨S_, .f32⟩
  | .hbm, ⟨49, _⟩ => ⟨S99328x2816, .f32⟩
  | .hbm, ⟨50, _⟩ => ⟨S99328x2816, .f32⟩
  | .hbm, ⟨51, _⟩ => ⟨S99328x2816, .f32⟩
  | .hbm, ⟨52, _⟩ => ⟨S99328x2816, .f32⟩
  | .hbm, ⟨53, _⟩ => ⟨S99328x1024, .f32⟩
  | .hbm, ⟨54, _⟩ => ⟨S_, .f32⟩
  | .hbm, ⟨55, _⟩ => ⟨S99328x1024, .f32⟩
  | .hbm, ⟨56, _⟩ => ⟨S99328x1024, .f32⟩
  | .hbm, ⟨57, _⟩ => ⟨S99328x1024, .f32⟩
  | _, _ => ⟨S99328x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== KernelFfnD.lean ====
abbrev S99328x1024 : Shape := ⟨2, ![99328, 1024]⟩
abbrev S65536x384 : Shape := ⟨2, ![65536, 384]⟩
abbrev S32768x384 : Shape := ⟨2, ![32768, 384]⟩
abbrev S512x384 : Shape := ⟨2, ![512, 384]⟩
abbrev S65536x256 : Shape := ⟨2, ![65536, 256]⟩
abbrev S32768x256 : Shape := ⟨2, ![32768, 256]⟩
abbrev S512x256 : Shape := ⟨2, ![512, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S384x1024 : Shape := ⟨2, ![384, 1024]⟩
abbrev S256x1024 : Shape := ⟨2, ![256, 1024]⟩
abbrev S1x1024 : Shape := ⟨2, ![1, 1024]⟩
abbrev S1024x2816 : Shape := ⟨2, ![1024, 2816]⟩
abbrev S65536x1024 : Shape := ⟨2, ![65536, 1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 31
  | .vmem => 38
  | .smem => 0
  | _ => 0

abbrev bufTy : (tb : Table) → Fin (tcTables nBuf tb) → BufTy
  | .hbm, ⟨0, _⟩ => ⟨S99328x1024, .f32⟩
  | .hbm, ⟨1, _⟩ => ⟨S65536x384, .bf16⟩
  | .hbm, ⟨2, _⟩ => ⟨S32768x384, .bf16⟩
  | .hbm, ⟨3, _⟩ => ⟨S512x384, .bf16⟩
  | .hbm, ⟨4, _⟩ => ⟨S512x384, .bf16⟩
  | .hbm, ⟨5, _⟩ => ⟨S65536x384, .bf16⟩
  | .hbm, ⟨6, _⟩ => ⟨S32768x384, .bf16⟩
  | .hbm, ⟨7, _⟩ => ⟨S512x384, .bf16⟩
  | .hbm, ⟨8, _⟩ => ⟨S512x384, .bf16⟩
  | .hbm, ⟨9, _⟩ => ⟨S65536x256, .bf16⟩
  | .hbm, ⟨10, _⟩ => ⟨S32768x256, .bf16⟩
  | .hbm, ⟨11, _⟩ => ⟨S512x256, .bf16⟩
  | .hbm, ⟨12, _⟩ => ⟨S512x256, .bf16⟩
  | .hbm, ⟨13, _⟩ => ⟨S1024x1024, .f32⟩
  | .hbm, ⟨14, _⟩ => ⟨S1024, .f32⟩
  | .hbm, ⟨15, _⟩ => ⟨S1024x5632, .f32⟩
  | .hbm, ⟨16, _⟩ => ⟨S2816x1024, .f32⟩
  | .hbm, ⟨17, _⟩ => ⟨S1024, .f32⟩
  | .hbm, ⟨18, _⟩ => ⟨S1024x1024, .bf16⟩
  | .hbm, ⟨19, _⟩ => ⟨S384x1024, .bf16⟩
  | .hbm, ⟨20, _⟩ => ⟨S384x1024, .bf16⟩
  | .hbm, ⟨21, _⟩ => ⟨S256x1024, .bf16⟩
  | .hbm, ⟨22, _⟩ => ⟨S1x1024, .f32⟩
  | .hbm, ⟨23, _⟩ => ⟨S1024x2816, .f32⟩
  | .hbm, ⟨24, _⟩ => ⟨S1024x2816, .bf16⟩
  | .hbm, ⟨25, _⟩ => ⟨S1024x2816, .f32⟩
  | .hbm, ⟨26, _⟩ => ⟨S1024x2816, .bf16⟩
  | .hbm, ⟨27, _⟩ => ⟨S2816x1024, .bf16⟩
  | .hbm, ⟨28, _⟩ => ⟨S1x1024, .f32⟩
  | .hbm, ⟨29, _⟩ => ⟨S65536x1024, .f32⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S512x384, .bf16⟩
  | .local _ .vmem, ⟨17, _⟩ => ⟨S512x384, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S384x1024, .bf16⟩
  | .local _ .vmem, ⟨27, _⟩ => ⟨S384x1024, .bf16⟩
  | .local _ .vmem, ⟨28, _⟩ => ⟨S256x1024, .bf16⟩
  | .local _ .vmem, ⟨29, _⟩ => ⟨S1x1024, .f32⟩
  | .local _ .vmem, ⟨30, _⟩ => ⟨S1024x2816, .bf16⟩
  | .local _ .vmem, ⟨31, _⟩ => ⟨S1024x2816, .bf16⟩
  | .local _ .vmem, ⟨32, _⟩ => ⟨S2816x1024, .bf16⟩
  | .local _ .vmem, ⟨33, _⟩ => ⟨S1x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | _, _ => ⟨S99328x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem21_1 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨1, ![194], ![false]⟩

def k0_cond1 (i : grid0.Coords) : BitVec 1 :=
  let arg0 : BitVec 32 := BitVec.ofNat 32 (i 0).val
  let c128_i32_68 : BitVec 32 := 128#32
  let v104 : BitVec 1 := Scalar.cmpi .slt arg0 c128_i32_68
  let v105 : BitVec 32 := Scalar.extui v104
  let c0_i32 : BitVec 32 := 0#32
  let v106 : BitVec 1 := Scalar.cmpi .ne v105 c0_i32
  v106

def k0_cond2 (i : grid0.Coords) : BitVec 1 :=
  let arg0 : BitVec 32 := BitVec.ofNat 32 (i 0).val
  let c128_i32_69 : BitVec 32 := 128#32
  let v107 : BitVec 1 := Scalar.cmpi .sge arg0 c128_i32_69
  let c192_i32_70 : BitVec 32 := 192#32
  let v108 : BitVec 1 := Scalar.cmpi .slt arg0 c192_i32_70
  let v109 : BitVec 1 := Scalar.andi v107 v108
  let v110 : BitVec 32 := Scalar.extui v109
  let c0_i32_71 : BitVec 32 := 0#32
  let v111 : BitVec 1 := Scalar.cmpi .ne v110 c0_i32_71
  v111

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c193_i32 : BitVec 32 := 193#32
  let v1 : BitVec 32 := Scalar.maxsi c0_i32_0 v0
  let v2 : BitVec 32 := Scalar.minsi c193_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c192_i32 : BitVec 32 := 192#32
  let v0 : BitVec 32 := Scalar.subi arg0 c192_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c193_i32 : BitVec 32 := 193#32
  let v0 : BitVec 32 := Scalar.subi arg0 c193_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c192_i32 : BitVec 32 := 192#32
  let v0 : BitVec 32 := Scalar.subi arg0 c192_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c193_i32 : BitVec 32 := 193#32
  let v0 : BitVec 32 := Scalar.subi arg0 c193_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_10 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c192_i32 : BitVec 32 := 192#32
  let v0 : BitVec 32 := Scalar.subi arg0 c192_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_12 (i : grid0.Coords) : Fin 2 → Nat :=
  let arg0 : BitVec 32 := BitVec.ofNat 32 (i 0).val
  let c193_i32 : BitVec 32 := 193#32
  let v0 : BitVec 32 := Scalar.subi arg0 c193_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c0_i32_1 : BitVec 32 := 0#32
  let c0_i32_2 : BitVec 32 := 0#32
  ![v2.toNat, c0_i32_1.toNat]

def cc0_transform_22 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x2816 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceFfnDIdeal.lean ====
abbrev S99328x1024 : Shape := ⟨2, ![99328, 1024]⟩
abbrev S65536x384 : Shape := ⟨2, ![65536, 384]⟩
abbrev S32768x384 : Shape := ⟨2, ![32768, 384]⟩
abbrev S512x384 : Shape := ⟨2, ![512, 384]⟩
abbrev S65536x256 : Shape := ⟨2, ![65536, 256]⟩
abbrev S32768x256 : Shape := ⟨2, ![32768, 256]⟩
abbrev S512x256 : Shape := ⟨2, ![512, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S99328x384 : Shape := ⟨2, ![99328, 384]⟩
abbrev S99328x256 : Shape := ⟨2, ![99328, 256]⟩
abbrev S_ : Shape := ⟨0, ![]⟩
abbrev S99328 : Shape := ⟨1, ![99328]⟩
abbrev S99328x1 : Shape := ⟨2, ![99328, 1]⟩
abbrev S1x1024 : Shape := ⟨2, ![1, 1024]⟩
abbrev S99328x5632 : Shape := ⟨2, ![99328, 5632]⟩
abbrev S99328x2816 : Shape := ⟨2, ![99328, 2816]⟩
abbrev S65536x1024 : Shape := ⟨2, ![65536, 1024]⟩
abbrev S32768x1024 : Shape := ⟨2, ![32768, 1024]⟩

abbrev nBuf : Space → Nat
  | .hbm => 77
  | .vmem => 0
  | .smem => 0
  | _ => 0

abbrev bufTy : (tb : Table) → Fin (tcTables nBuf tb) → BufTy
  | .hbm, ⟨0, _⟩ => ⟨S99328x1024, .f32⟩
  | .hbm, ⟨1, _⟩ => ⟨S65536x384, .bf16⟩
  | .hbm, ⟨2, _⟩ => ⟨S32768x384, .bf16⟩
  | .hbm, ⟨3, _⟩ => ⟨S512x384, .bf16⟩
  | .hbm, ⟨4, _⟩ => ⟨S512x384, .bf16⟩
  | .hbm, ⟨5, _⟩ => ⟨S65536x384, .bf16⟩
  | .hbm, ⟨6, _⟩ => ⟨S32768x384, .bf16⟩
  | .hbm, ⟨7, _⟩ => ⟨S512x384, .bf16⟩
  | .hbm, ⟨8, _⟩ => ⟨S512x384, .bf16⟩
  | .hbm, ⟨9, _⟩ => ⟨S65536x256, .bf16⟩
  | .hbm, ⟨10, _⟩ => ⟨S32768x256, .bf16⟩
  | .hbm, ⟨11, _⟩ => ⟨S512x256, .bf16⟩
  | .hbm, ⟨12, _⟩ => ⟨S512x256, .bf16⟩
  | .hbm, ⟨13, _⟩ => ⟨S1024x1024, .f32⟩
  | .hbm, ⟨14, _⟩ => ⟨S1024, .f32⟩
  | .hbm, ⟨15, _⟩ => ⟨S1024x5632, .f32⟩
  | .hbm, ⟨16, _⟩ => ⟨S2816x1024, .f32⟩
  | .hbm, ⟨17, _⟩ => ⟨S1024, .f32⟩
  | .hbm, ⟨18, _⟩ => ⟨S99328x384, .bf16⟩
  | .hbm, ⟨19, _⟩ => ⟨S99328x384, .bf16⟩
  | .hbm, ⟨20, _⟩ => ⟨S99328x256, .bf16⟩
  | .hbm, ⟨21, _⟩ => ⟨S99328x1024, .bf16⟩
  | .hbm, ⟨22, _⟩ => ⟨S99328x1024, .f32⟩
  | .hbm, ⟨23, _⟩ => ⟨S99328x1024, .f32⟩
  | .hbm, ⟨24, _⟩ => ⟨S99328x1024, .f32⟩
  | .hbm, ⟨25, _⟩ => ⟨S99328x1024, .f32⟩
  | .hbm, ⟨26, _⟩ => ⟨S_, .f32⟩
  | .hbm, ⟨27, _⟩ => ⟨S99328, .f32⟩
  | .hbm, ⟨28, _⟩ => ⟨S99328x1, .f32⟩
  | .hbm, ⟨29, _⟩ => ⟨S_, .f32⟩
  | .hbm, ⟨30, _⟩ => ⟨S99328x1, .f32⟩
  | .hbm, ⟨31, _⟩ => ⟨S99328x1, .f32⟩
  | .hbm, ⟨32, _⟩ => ⟨S_, .f32⟩
  | .hbm, ⟨33, _⟩ => ⟨S99328x1, .f32⟩
  | .hbm, ⟨34, _⟩ => ⟨S99328x1, .f32⟩
  | .hbm, ⟨35, _⟩ => ⟨S99328x1, .f32⟩
  | .hbm, ⟨36, _⟩ => ⟨S99328x1024, .f32⟩
  | .hbm, ⟨37, _⟩ => ⟨S99328x1024, .f32⟩
  | .hbm, ⟨38, _⟩ => ⟨S1x1024, .f32⟩
  | .hbm, ⟨39, _⟩ => ⟨S99328x1024, .f32⟩
  | .hbm, ⟨40, _⟩ => ⟨S99328x1024, .f32⟩
  | .hbm, ⟨41, _⟩ => ⟨S99328x5632, .f32⟩
  | .hbm, ⟨42, _⟩ => ⟨S99328x2816, .f32⟩
  | .hbm, ⟨43, _⟩ => ⟨S99328x2816, .f32⟩
  | .hbm, ⟨44, _⟩ => ⟨S99328x2816, .f32⟩
  | .hbm, ⟨45, _⟩ => ⟨S99328x2816, .f32⟩
  | .hbm, ⟨46, _⟩ => ⟨S_, .f32⟩
  | .hbm, ⟨47, _⟩ => ⟨S99328x2816, .f32⟩
  | .hbm, ⟨48, _⟩ => ⟨S99328x2816, .f32⟩
  | .hbm, ⟨49, _⟩ => ⟨S_, .f32⟩
  | .hbm, ⟨50, _⟩ => ⟨S99328x2816, .f32⟩
  | .hbm, ⟨51, _⟩ => ⟨S99328x2816, .f32⟩
  | .hbm, ⟨52, _⟩ => ⟨S99328x2816, .f32⟩
  | .hbm, ⟨53, _⟩ => ⟨S99328x2816, .f32⟩
  | .hbm, ⟨54, _⟩ => ⟨S99328x1024, .f32⟩
  | .hbm, ⟨55, _⟩ => ⟨S_, .f32⟩
  | .hbm, ⟨56, _⟩ => ⟨S99328x1024, .f32⟩
  | .hbm, ⟨57, _⟩ => ⟨S99328x1024, .f32⟩
  | .hbm, ⟨58, _⟩ => ⟨S99328x1024, .f32⟩
  | .hbm, ⟨59, _⟩ => ⟨S99328x1024, .f32⟩
  | .hbm, ⟨60, _⟩ => ⟨S_, .f32⟩
  | .hbm, ⟨61, _⟩ => ⟨S99328, .f32⟩
  | .hbm, ⟨62, _⟩ => ⟨S99328x1, .f32⟩
  | .hbm, ⟨63, _⟩ => ⟨S_, .f32⟩
  | .hbm, ⟨64, _⟩ => ⟨S99328x1, .f32⟩
  | .hbm, ⟨65, _⟩ => ⟨S99328x1, .f32⟩
  | .hbm, ⟨66, _⟩ => ⟨S_, .f32⟩
  | .hbm, ⟨67, _⟩ => ⟨S99328x1, .f32⟩
  | .hbm, ⟨68, _⟩ => ⟨S99328x1, .f32⟩
  | .hbm, ⟨69, _⟩ => ⟨S99328x1, .f32⟩
  | .hbm, ⟨70, _⟩ => ⟨S99328x1024, .f32⟩
  | .hbm, ⟨71, _⟩ => ⟨S99328x1024, .f32⟩
  | .hbm, ⟨72, _⟩ => ⟨S1x1024, .f32⟩
  | .hbm, ⟨73, _⟩ => ⟨S99328x1024, .f32⟩
  | .hbm, ⟨74, _⟩ => ⟨S99328x1024, .f32⟩
  | .hbm, ⟨75, _⟩ => ⟨S65536x1024, .f32⟩
  | .hbm, ⟨76, _⟩ => ⟨S32768x1024, .f32⟩
  | _, _ => ⟨S99328x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_cst_5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]
-- ==== KernelGqa.lean ====
abbrev S99328x768 : Shape := ⟨2, ![99328, 768]⟩
abbrev S99328x128 : Shape := ⟨2, ![99328, 128]⟩
abbrev S194x160x512 : Shape := ⟨3, ![194, 160, 512]⟩
abbrev S32768x384 : Shape := ⟨2, ![32768, 384]⟩
abbrev S512x256 : Shape := ⟨2, ![512, 256]⟩
abbrev S16384x128 : Shape := ⟨2, ![16384, 128]⟩
abbrev S128x128 : Shape := ⟨2, ![128, 128]⟩
abbrev S32x160x512 : Shape := ⟨3, ![32, 160, 512]⟩
abbrev S1x160x128 : Shape := ⟨3, ![1, 160, 128]⟩
abbrev S512x128 : Shape := ⟨2, ![512, 128]⟩
abbrev S2x2x512x512 : Shape := ⟨4, ![2, 2, 512, 512]⟩
abbrev S128x1 : Shape := ⟨2, ![128, 1]⟩
abbrev S80x512 : Shape := ⟨2, ![80, 512]⟩
abbrev S512x512 : Shape := ⟨2, ![512, 512]⟩
abbrev S1x1x512x512 : Shape := ⟨4, ![1, 1, 512, 512]⟩
abbrev S1x512 : Shape := ⟨2, ![1, 512]⟩
abbrev S1x80x512 : Shape := ⟨3, ![1, 80, 512]⟩
abbrev S512 : Shape := ⟨1, ![512]⟩
abbrev S128x512 : Shape := ⟨2, ![128, 512]⟩
abbrev S1x80x128 : Shape := ⟨3, ![1, 80, 128]⟩
abbrev S80x128 : Shape := ⟨2, ![80, 128]⟩
abbrev S64x512 : Shape := ⟨2, ![64, 512]⟩

abbrev nBuf : Space → Nat
  | .hbm => 4
  | .vmem => 13
  | .smem => 0
  | _ => 0

abbrev bufTy : (tb : Table) → Fin (tcTables nBuf tb) → BufTy
  | .hbm, ⟨0, _⟩ => ⟨S99328x768, .bf16⟩
  | .hbm, ⟨1, _⟩ => ⟨S99328x128, .bf16⟩
  | .hbm, ⟨2, _⟩ => ⟨S194x160x512, .bf16⟩
  | .hbm, ⟨3, _⟩ => ⟨S32768x384, .bf16⟩
  | .local _ .vmem, ⟨0, _⟩ => ⟨S512x256, .bf16⟩
  | .local _ .vmem, ⟨1, _⟩ => ⟨S512x256, .bf16⟩
  | .local _ .vmem, ⟨2, _⟩ => ⟨S16384x128, .bf16⟩
  | .local _ .vmem, ⟨3, _⟩ => ⟨S16384x128, .bf16⟩
  | .local _ .vmem, ⟨4, _⟩ => ⟨S128x128, .bf16⟩
  | .local _ .vmem, ⟨5, _⟩ => ⟨S128x128, .bf16⟩
  | .local _ .vmem, ⟨6, _⟩ => ⟨S32x160x512, .bf16⟩
  | .local _ .vmem, ⟨7, _⟩ => ⟨S32x160x512, .bf16⟩
  | .local _ .vmem, ⟨8, _⟩ => ⟨S1x160x128, .bf16⟩
  | .local _ .vmem, ⟨9, _⟩ => ⟨S1x160x128, .bf16⟩
  | .local _ .vmem, ⟨10, _⟩ => ⟨S512x128, .bf16⟩
  | .local _ .vmem, ⟨11, _⟩ => ⟨S512x128, .bf16⟩
  | .local _ .vmem, ⟨12, _⟩ => ⟨S2x2x512x512, .f32⟩
  | _, _ => ⟨S99328x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 3, 32], ![false, false, false]⟩

def k0_mult1 (i : grid0.Coords) : BitVec 32 :=
  let c2_i32 : BitVec 32 := 2#32
  let arg1 : BitVec 32 := BitVec.ofNat 32 (i 1).val
  let v40 : BitVec 32 := Scalar.muli c2_i32 arg1
  let c0_i32_11 : BitVec 32 := 0#32
  let v41 : BitVec 32 := Scalar.addi v40 c0_i32_11
  let c0_i32_12 : BitVec 32 := 0#32
  let v43 : BitVec 1 := Scalar.cmpi .sgt v41 c0_i32_12
  let v44 : BitVec 32 := Scalar.extui v43
  let c0_i32_13 : BitVec 32 := 0#32
  let v45 : BitVec 1 := Scalar.cmpi .slt v41 c0_i32_13
  let v46 : BitVec 32 := Scalar.extui v45
  let v47 : BitVec 32 := Scalar.subi v44 v46
  let c3_i32 : BitVec 32 := 3#32
  let c0_i32_14 : BitVec 32 := 0#32
  let v48 : BitVec 1 := Scalar.cmpi .sgt c3_i32 c0_i32_14
  let v49 : BitVec 32 := Scalar.extui v48
  let c0_i32_15 : BitVec 32 := 0#32
  let v50 : BitVec 1 := Scalar.cmpi .slt c3_i32 c0_i32_15
  let v51 : BitVec 32 := Scalar.extui v50
  let v52 : BitVec 32 := Scalar.subi v49 v51
  let v53 : BitVec 1 := Scalar.cmpi .ne v47 v52
  let v54 : BitVec 32 := Scalar.remsi v41 c3_i32
  let c0_i32_16 : BitVec 32 := 0#32
  let v55 : BitVec 1 := Scalar.cmpi .ne v54 c0_i32_16
  let v56 : BitVec 1 := Scalar.andi v53 v55
  let v42 : BitVec 32 := Scalar.divsi v41 c3_i32
  let c1_i32_17 : BitVec 32 := 1#32
  let v57 : BitVec 32 := Scalar.subi v42 c1_i32_17
  let v58 : BitVec 32 := Scalar.select v56 v57 v42
  let c80_i32 : BitVec 32 := 80#32
  let v78 : BitVec 32 := Scalar.muli v58 c80_i32
  v78
def k0_mult2 (i : grid0.Coords) : BitVec 32 :=
  let c2_i32_18 : BitVec 32 := 2#32
  let arg1 : BitVec 32 := BitVec.ofNat 32 (i 1).val
  let v59 : BitVec 32 := Scalar.muli c2_i32_18 arg1
  let c1_i32_19 : BitVec 32 := 1#32
  let v60 : BitVec 32 := Scalar.addi v59 c1_i32_19
  let c0_i32_21 : BitVec 32 := 0#32
  let v62 : BitVec 1 := Scalar.cmpi .sgt v60 c0_i32_21
  let v63 : BitVec 32 := Scalar.extui v62
  let c0_i32_22 : BitVec 32 := 0#32
  let v64 : BitVec 1 := Scalar.cmpi .slt v60 c0_i32_22
  let v65 : BitVec 32 := Scalar.extui v64
  let v66 : BitVec 32 := Scalar.subi v63 v65
  let c3_i32_20 : BitVec 32 := 3#32
  let c0_i32_23 : BitVec 32 := 0#32
  let v67 : BitVec 1 := Scalar.cmpi .sgt c3_i32_20 c0_i32_23
  let v68 : BitVec 32 := Scalar.extui v67
  let c0_i32_24 : BitVec 32 := 0#32
  let v69 : BitVec 1 := Scalar.cmpi .slt c3_i32_20 c0_i32_24
  let v70 : BitVec 32 := Scalar.extui v69
  let v71 : BitVec 32 := Scalar.subi v68 v70
  let v72 : BitVec 1 := Scalar.cmpi .ne v66 v71
  let v73 : BitVec 32 := Scalar.remsi v60 c3_i32_20
  let c0_i32_25 : BitVec 32 := 0#32
  let v74 : BitVec 1 := Scalar.cmpi .ne v73 c0_i32_25
  let v75 : BitVec 1 := Scalar.andi v72 v74
  let v61 : BitVec 32 := Scalar.divsi v60 c3_i32_20
  let c1_i32_26 : BitVec 32 := 1#32
  let v76 : BitVec 32 := Scalar.subi v61 c1_i32_26
  let v77 : BitVec 32 := Scalar.select v75 v76 v61
  let c80_i32_27 : BitVec 32 := 80#32
  let v80 : BitVec 32 := Scalar.muli v77 c80_i32_27
  v80
def k0_mult3 : BitVec 32 :=
  let c0_i32_28 : BitVec 32 := 0#32
  c0_i32_28
def k0_mult4 : BitVec 32 :=
  let c0_i32_36 : BitVec 32 := 0#32
  c0_i32_36
@[reducible] def k0_t1_loop : Scf.Loop 32 :=
  let c0_i32_43 : BitVec 32 := 0#32
  let c2_i32_44 : BitVec 32 := 2#32
  let v98 : BitVec 32 := Scalar.addi c0_i32_43 c2_i32_44
  let c1_i32_45 : BitVec 32 := 1#32
  ⟨c0_i32_43, v98, c1_i32_45⟩
def k0_mult5 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_65 : BitVec 32 := 16#32
  let v156 : BitVec 32 := Scalar.muli arg10 c16_i32_65
  let c0_i32_66 : BitVec 32 := 0#32
  let v157 : BitVec 32 := Scalar.addi v156 c0_i32_66
  let c1_i32_67 : BitVec 32 := 1#32
  let v158 : BitVec 32 := Scalar.addi v157 c1_i32_67
  let c31_i32 : BitVec 32 := 31#32
  let v159 : BitVec 32 := Scalar.minsi v158 c31_i32
  let c512_i32 : BitVec 32 := 512#32
  let v160 : BitVec 32 := Scalar.muli v159 c512_i32
  v160
def k0_off1 (k0_t1 : Fin k0_t1_loop.trips) (c0_i32_66 : BitVec 32) : Fin 2 → Nat :=
  let c0_i32_43 : BitVec 32 := 0#32
  let c1_i32_45 : BitVec 32 := 1#32
  let arg10 : BitVec 32 := Scf.iv c0_i32_43 c1_i32_45 k0_t1
  let c16_i32_65 : BitVec 32 := 16#32
  let v156 : BitVec 32 := Scalar.muli arg10 c16_i32_65
  let v157 : BitVec 32 := Scalar.addi v156 c0_i32_66
  let c1_i32_67 : BitVec 32 := 1#32
  let v158 : BitVec 32 := Scalar.addi v157 c1_i32_67
  let c31_i32 : BitVec 32 := 31#32
  let v159 : BitVec 32 := Scalar.minsi v158 c31_i32
  let c512_i32 : BitVec 32 := 512#32
  let v160 : BitVec 32 := Scalar.muli v159 c512_i32
  let v161 : BitVec 32 := v160
  let v162 : Index := Scalar.indexCast v161
  let c0_68 : Index := 0#32
  ![v162.toNat, 0]
def k0_off2 (i : grid0.Coords) (k0_t1 : Fin k0_t1_loop.trips) (c0_i32_79 : BitVec 32) (c0_i32_11 : BitVec 32) : Fin 3 → Nat :=
  let c0_i32_43 : BitVec 32 := 0#32
  let c1_i32_45 : BitVec 32 := 1#32
  let arg10 : BitVec 32 := Scf.iv c0_i32_43 c1_i32_45 k0_t1
  let c16_i32_78 : BitVec 32 := 16#32
  let v170 : BitVec 32 := Scalar.muli arg10 c16_i32_78
  let v171 : BitVec 32 := Scalar.addi v170 c0_i32_79
  let v172 : Index := Scalar.indexCast v171
  let c2_i32 : BitVec 32 := 2#32
  let arg1 : BitVec 32 := BitVec.ofNat 32 (i 1).val
  let v40 : BitVec 32 := Scalar.muli c2_i32 arg1
  let v41 : BitVec 32 := Scalar.addi v40 c0_i32_11
  let c0_i32_12 : BitVec 32 := 0#32
  let v43 : BitVec 1 := Scalar.cmpi .sgt v41 c0_i32_12
  let v44 : BitVec 32 := Scalar.extui v43
  let c0_i32_13 : BitVec 32 := 0#32
  let v45 : BitVec 1 := Scalar.cmpi .slt v41 c0_i32_13
  let v46 : BitVec 32 := Scalar.extui v45
  let v47 : BitVec 32 := Scalar.subi v44 v46
  let c3_i32 : BitVec 32 := 3#32
  let c0_i32_14 : BitVec 32 := 0#32
  let v48 : BitVec 1 := Scalar.cmpi .sgt c3_i32 c0_i32_14
  let v49 : BitVec 32 := Scalar.extui v48
  let c0_i32_15 : BitVec 32 := 0#32
  let v50 : BitVec 1 := Scalar.cmpi .slt c3_i32 c0_i32_15
  let v51 : BitVec 32 := Scalar.extui v50
  let v52 : BitVec 32 := Scalar.subi v49 v51
  let v53 : BitVec 1 := Scalar.cmpi .ne v47 v52
  let v54 : BitVec 32 := Scalar.remsi v41 c3_i32
  let c0_i32_16 : BitVec 32 := 0#32
  let v55 : BitVec 1 := Scalar.cmpi .ne v54 c0_i32_16
  let v56 : BitVec 1 := Scalar.andi v53 v55
  let v42 : BitVec 32 := Scalar.divsi v41 c3_i32
  let c1_i32_17 : BitVec 32 := 1#32
  let v57 : BitVec 32 := Scalar.subi v42 c1_i32_17
  let v58 : BitVec 32 := Scalar.select v56 v57 v42
  let c80_i32 : BitVec 32 := 80#32
  let v78 : BitVec 32 := Scalar.muli v58 c80_i32
  let v79 : BitVec 32 := v78
  let v173 : Index := Scalar.indexCast v79
  let c0_80 : Index := 0#32
  ![v172.toNat, v173.toNat, 0]
def k0_mult6 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_65 : BitVec 32 := 16#32
  let v156 : BitVec 32 := Scalar.muli arg10 c16_i32_65
  let c0_i32_66 : BitVec 32 := 0#32
  let v157 : BitVec 32 := Scalar.addi v156 c0_i32_66
  let c1_i32_83 : BitVec 32 := 1#32
  let v189 : BitVec 32 := Scalar.addi v157 c1_i32_83
  let c31_i32_84 : BitVec 32 := 31#32
  let v190 : BitVec 32 := Scalar.minsi v189 c31_i32_84
  let c512_i32_85 : BitVec 32 := 512#32
  let v191 : BitVec 32 := Scalar.muli v190 c512_i32_85
  v191
def k0_mult7 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_101 : BitVec 32 := 16#32
  let v220 : BitVec 32 := Scalar.muli arg10 c16_i32_101
  let c1_i32_102 : BitVec 32 := 1#32
  let v221 : BitVec 32 := Scalar.addi v220 c1_i32_102
  let c1_i32_103 : BitVec 32 := 1#32
  let v222 : BitVec 32 := Scalar.addi v221 c1_i32_103
  let c31_i32_104 : BitVec 32 := 31#32
  let v223 : BitVec 32 := Scalar.minsi v222 c31_i32_104
  let c512_i32_105 : BitVec 32 := 512#32
  let v224 : BitVec 32 := Scalar.muli v223 c512_i32_105
  v224
def k0_mult8 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_101 : BitVec 32 := 16#32
  let v220 : BitVec 32 := Scalar.muli arg10 c16_i32_101
  let c1_i32_102 : BitVec 32 := 1#32
  let v221 : BitVec 32 := Scalar.addi v220 c1_i32_102
  let c1_i32_121 : BitVec 32 := 1#32
  let v253 : BitVec 32 := Scalar.addi v221 c1_i32_121
  let c31_i32_122 : BitVec 32 := 31#32
  let v254 : BitVec 32 := Scalar.minsi v253 c31_i32_122
  let c512_i32_123 : BitVec 32 := 512#32
  let v255 : BitVec 32 := Scalar.muli v254 c512_i32_123
  v255
def k0_mult9 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_139 : BitVec 32 := 16#32
  let v284 : BitVec 32 := Scalar.muli arg10 c16_i32_139
  let c2_i32_140 : BitVec 32 := 2#32
  let v285 : BitVec 32 := Scalar.addi v284 c2_i32_140
  let c1_i32_141 : BitVec 32 := 1#32
  let v286 : BitVec 32 := Scalar.addi v285 c1_i32_141
  let c31_i32_142 : BitVec 32 := 31#32
  let v287 : BitVec 32 := Scalar.minsi v286 c31_i32_142
  let c512_i32_143 : BitVec 32 := 512#32
  let v288 : BitVec 32 := Scalar.muli v287 c512_i32_143
  v288
def k0_mult10 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_139 : BitVec 32 := 16#32
  let v284 : BitVec 32 := Scalar.muli arg10 c16_i32_139
  let c2_i32_140 : BitVec 32 := 2#32
  let v285 : BitVec 32 := Scalar.addi v284 c2_i32_140
  let c1_i32_159 : BitVec 32 := 1#32
  let v317 : BitVec 32 := Scalar.addi v285 c1_i32_159
  let c31_i32_160 : BitVec 32 := 31#32
  let v318 : BitVec 32 := Scalar.minsi v317 c31_i32_160
  let c512_i32_161 : BitVec 32 := 512#32
  let v319 : BitVec 32 := Scalar.muli v318 c512_i32_161
  v319
def k0_mult11 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_177 : BitVec 32 := 16#32
  let v348 : BitVec 32 := Scalar.muli arg10 c16_i32_177
  let c3_i32_178 : BitVec 32 := 3#32
  let v349 : BitVec 32 := Scalar.addi v348 c3_i32_178
  let c1_i32_179 : BitVec 32 := 1#32
  let v350 : BitVec 32 := Scalar.addi v349 c1_i32_179
  let c31_i32_180 : BitVec 32 := 31#32
  let v351 : BitVec 32 := Scalar.minsi v350 c31_i32_180
  let c512_i32_181 : BitVec 32 := 512#32
  let v352 : BitVec 32 := Scalar.muli v351 c512_i32_181
  v352
def k0_mult12 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_177 : BitVec 32 := 16#32
  let v348 : BitVec 32 := Scalar.muli arg10 c16_i32_177
  let c3_i32_178 : BitVec 32 := 3#32
  let v349 : BitVec 32 := Scalar.addi v348 c3_i32_178
  let c1_i32_197 : BitVec 32 := 1#32
  let v381 : BitVec 32 := Scalar.addi v349 c1_i32_197
  let c31_i32_198 : BitVec 32 := 31#32
  let v382 : BitVec 32 := Scalar.minsi v381 c31_i32_198
  let c512_i32_199 : BitVec 32 := 512#32
  let v383 : BitVec 32 := Scalar.muli v382 c512_i32_199
  v383
def k0_mult13 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_215 : BitVec 32 := 16#32
  let v412 : BitVec 32 := Scalar.muli arg10 c16_i32_215
  let c4_i32 : BitVec 32 := 4#32
  let v413 : BitVec 32 := Scalar.addi v412 c4_i32
  let c1_i32_216 : BitVec 32 := 1#32
  let v414 : BitVec 32 := Scalar.addi v413 c1_i32_216
  let c31_i32_217 : BitVec 32 := 31#32
  let v415 : BitVec 32 := Scalar.minsi v414 c31_i32_217
  let c512_i32_218 : BitVec 32 := 512#32
  let v416 : BitVec 32 := Scalar.muli v415 c512_i32_218
  v416
def k0_mult14 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_215 : BitVec 32 := 16#32
  let v412 : BitVec 32 := Scalar.muli arg10 c16_i32_215
  let c4_i32 : BitVec 32 := 4#32
  let v413 : BitVec 32 := Scalar.addi v412 c4_i32
  let c1_i32_234 : BitVec 32 := 1#32
  let v445 : BitVec 32 := Scalar.addi v413 c1_i32_234
  let c31_i32_235 : BitVec 32 := 31#32
  let v446 : BitVec 32 := Scalar.minsi v445 c31_i32_235
  let c512_i32_236 : BitVec 32 := 512#32
  let v447 : BitVec 32 := Scalar.muli v446 c512_i32_236
  v447
def k0_mult15 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_252 : BitVec 32 := 16#32
  let v476 : BitVec 32 := Scalar.muli arg10 c16_i32_252
  let c5_i32 : BitVec 32 := 5#32
  let v477 : BitVec 32 := Scalar.addi v476 c5_i32
  let c1_i32_253 : BitVec 32 := 1#32
  let v478 : BitVec 32 := Scalar.addi v477 c1_i32_253
  let c31_i32_254 : BitVec 32 := 31#32
  let v479 : BitVec 32 := Scalar.minsi v478 c31_i32_254
  let c512_i32_255 : BitVec 32 := 512#32
  let v480 : BitVec 32 := Scalar.muli v479 c512_i32_255
  v480
def k0_mult16 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_252 : BitVec 32 := 16#32
  let v476 : BitVec 32 := Scalar.muli arg10 c16_i32_252
  let c5_i32 : BitVec 32 := 5#32
  let v477 : BitVec 32 := Scalar.addi v476 c5_i32
  let c1_i32_271 : BitVec 32 := 1#32
  let v509 : BitVec 32 := Scalar.addi v477 c1_i32_271
  let c31_i32_272 : BitVec 32 := 31#32
  let v510 : BitVec 32 := Scalar.minsi v509 c31_i32_272
  let c512_i32_273 : BitVec 32 := 512#32
  let v511 : BitVec 32 := Scalar.muli v510 c512_i32_273
  v511
def k0_mult17 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_289 : BitVec 32 := 16#32
  let v540 : BitVec 32 := Scalar.muli arg10 c16_i32_289
  let c6_i32 : BitVec 32 := 6#32
  let v541 : BitVec 32 := Scalar.addi v540 c6_i32
  let c1_i32_290 : BitVec 32 := 1#32
  let v542 : BitVec 32 := Scalar.addi v541 c1_i32_290
  let c31_i32_291 : BitVec 32 := 31#32
  let v543 : BitVec 32 := Scalar.minsi v542 c31_i32_291
  let c512_i32_292 : BitVec 32 := 512#32
  let v544 : BitVec 32 := Scalar.muli v543 c512_i32_292
  v544
def k0_mult18 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_289 : BitVec 32 := 16#32
  let v540 : BitVec 32 := Scalar.muli arg10 c16_i32_289
  let c6_i32 : BitVec 32 := 6#32
  let v541 : BitVec 32 := Scalar.addi v540 c6_i32
  let c1_i32_308 : BitVec 32 := 1#32
  let v573 : BitVec 32 := Scalar.addi v541 c1_i32_308
  let c31_i32_309 : BitVec 32 := 31#32
  let v574 : BitVec 32 := Scalar.minsi v573 c31_i32_309
  let c512_i32_310 : BitVec 32 := 512#32
  let v575 : BitVec 32 := Scalar.muli v574 c512_i32_310
  v575
def k0_mult19 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_326 : BitVec 32 := 16#32
  let v604 : BitVec 32 := Scalar.muli arg10 c16_i32_326
  let c7_i32 : BitVec 32 := 7#32
  let v605 : BitVec 32 := Scalar.addi v604 c7_i32
  let c1_i32_327 : BitVec 32 := 1#32
  let v606 : BitVec 32 := Scalar.addi v605 c1_i32_327
  let c31_i32_328 : BitVec 32 := 31#32
  let v607 : BitVec 32 := Scalar.minsi v606 c31_i32_328
  let c512_i32_329 : BitVec 32 := 512#32
  let v608 : BitVec 32 := Scalar.muli v607 c512_i32_329
  v608
def k0_mult20 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_326 : BitVec 32 := 16#32
  let v604 : BitVec 32 := Scalar.muli arg10 c16_i32_326
  let c7_i32 : BitVec 32 := 7#32
  let v605 : BitVec 32 := Scalar.addi v604 c7_i32
  let c1_i32_345 : BitVec 32 := 1#32
  let v637 : BitVec 32 := Scalar.addi v605 c1_i32_345
  let c31_i32_346 : BitVec 32 := 31#32
  let v638 : BitVec 32 := Scalar.minsi v637 c31_i32_346
  let c512_i32_347 : BitVec 32 := 512#32
  let v639 : BitVec 32 := Scalar.muli v638 c512_i32_347
  v639
def k0_mult21 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_363 : BitVec 32 := 16#32
  let v668 : BitVec 32 := Scalar.muli arg10 c16_i32_363
  let c8_i32_364 : BitVec 32 := 8#32
  let v669 : BitVec 32 := Scalar.addi v668 c8_i32_364
  let c1_i32_365 : BitVec 32 := 1#32
  let v670 : BitVec 32 := Scalar.addi v669 c1_i32_365
  let c31_i32_366 : BitVec 32 := 31#32
  let v671 : BitVec 32 := Scalar.minsi v670 c31_i32_366
  let c512_i32_367 : BitVec 32 := 512#32
  let v672 : BitVec 32 := Scalar.muli v671 c512_i32_367
  v672
def k0_mult22 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_363 : BitVec 32 := 16#32
  let v668 : BitVec 32 := Scalar.muli arg10 c16_i32_363
  let c8_i32_364 : BitVec 32 := 8#32
  let v669 : BitVec 32 := Scalar.addi v668 c8_i32_364
  let c1_i32_383 : BitVec 32 := 1#32
  let v701 : BitVec 32 := Scalar.addi v669 c1_i32_383
  let c31_i32_384 : BitVec 32 := 31#32
  let v702 : BitVec 32 := Scalar.minsi v701 c31_i32_384
  let c512_i32_385 : BitVec 32 := 512#32
  let v703 : BitVec 32 := Scalar.muli v702 c512_i32_385
  v703
def k0_mult23 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_401 : BitVec 32 := 16#32
  let v732 : BitVec 32 := Scalar.muli arg10 c16_i32_401
  let c9_i32 : BitVec 32 := 9#32
  let v733 : BitVec 32 := Scalar.addi v732 c9_i32
  let c1_i32_402 : BitVec 32 := 1#32
  let v734 : BitVec 32 := Scalar.addi v733 c1_i32_402
  let c31_i32_403 : BitVec 32 := 31#32
  let v735 : BitVec 32 := Scalar.minsi v734 c31_i32_403
  let c512_i32_404 : BitVec 32 := 512#32
  let v736 : BitVec 32 := Scalar.muli v735 c512_i32_404
  v736
def k0_mult24 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_401 : BitVec 32 := 16#32
  let v732 : BitVec 32 := Scalar.muli arg10 c16_i32_401
  let c9_i32 : BitVec 32 := 9#32
  let v733 : BitVec 32 := Scalar.addi v732 c9_i32
  let c1_i32_420 : BitVec 32 := 1#32
  let v765 : BitVec 32 := Scalar.addi v733 c1_i32_420
  let c31_i32_421 : BitVec 32 := 31#32
  let v766 : BitVec 32 := Scalar.minsi v765 c31_i32_421
  let c512_i32_422 : BitVec 32 := 512#32
  let v767 : BitVec 32 := Scalar.muli v766 c512_i32_422
  v767
def k0_mult25 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_438 : BitVec 32 := 16#32
  let v796 : BitVec 32 := Scalar.muli arg10 c16_i32_438
  let c10_i32 : BitVec 32 := 10#32
  let v797 : BitVec 32 := Scalar.addi v796 c10_i32
  let c1_i32_439 : BitVec 32 := 1#32
  let v798 : BitVec 32 := Scalar.addi v797 c1_i32_439
  let c31_i32_440 : BitVec 32 := 31#32
  let v799 : BitVec 32 := Scalar.minsi v798 c31_i32_440
  let c512_i32_441 : BitVec 32 := 512#32
  let v800 : BitVec 32 := Scalar.muli v799 c512_i32_441
  v800
def k0_mult26 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_438 : BitVec 32 := 16#32
  let v796 : BitVec 32 := Scalar.muli arg10 c16_i32_438
  let c10_i32 : BitVec 32 := 10#32
  let v797 : BitVec 32 := Scalar.addi v796 c10_i32
  let c1_i32_457 : BitVec 32 := 1#32
  let v829 : BitVec 32 := Scalar.addi v797 c1_i32_457
  let c31_i32_458 : BitVec 32 := 31#32
  let v830 : BitVec 32 := Scalar.minsi v829 c31_i32_458
  let c512_i32_459 : BitVec 32 := 512#32
  let v831 : BitVec 32 := Scalar.muli v830 c512_i32_459
  v831
def k0_mult27 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_475 : BitVec 32 := 16#32
  let v860 : BitVec 32 := Scalar.muli arg10 c16_i32_475
  let c11_i32 : BitVec 32 := 11#32
  let v861 : BitVec 32 := Scalar.addi v860 c11_i32
  let c1_i32_476 : BitVec 32 := 1#32
  let v862 : BitVec 32 := Scalar.addi v861 c1_i32_476
  let c31_i32_477 : BitVec 32 := 31#32
  let v863 : BitVec 32 := Scalar.minsi v862 c31_i32_477
  let c512_i32_478 : BitVec 32 := 512#32
  let v864 : BitVec 32 := Scalar.muli v863 c512_i32_478
  v864
def k0_mult28 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_475 : BitVec 32 := 16#32
  let v860 : BitVec 32 := Scalar.muli arg10 c16_i32_475
  let c11_i32 : BitVec 32 := 11#32
  let v861 : BitVec 32 := Scalar.addi v860 c11_i32
  let c1_i32_494 : BitVec 32 := 1#32
  let v893 : BitVec 32 := Scalar.addi v861 c1_i32_494
  let c31_i32_495 : BitVec 32 := 31#32
  let v894 : BitVec 32 := Scalar.minsi v893 c31_i32_495
  let c512_i32_496 : BitVec 32 := 512#32
  let v895 : BitVec 32 := Scalar.muli v894 c512_i32_496
  v895
def k0_mult29 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_512 : BitVec 32 := 16#32
  let v924 : BitVec 32 := Scalar.muli arg10 c16_i32_512
  let c12_i32 : BitVec 32 := 12#32
  let v925 : BitVec 32 := Scalar.addi v924 c12_i32
  let c1_i32_513 : BitVec 32 := 1#32
  let v926 : BitVec 32 := Scalar.addi v925 c1_i32_513
  let c31_i32_514 : BitVec 32 := 31#32
  let v927 : BitVec 32 := Scalar.minsi v926 c31_i32_514
  let c512_i32_515 : BitVec 32 := 512#32
  let v928 : BitVec 32 := Scalar.muli v927 c512_i32_515
  v928
def k0_mult30 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_512 : BitVec 32 := 16#32
  let v924 : BitVec 32 := Scalar.muli arg10 c16_i32_512
  let c12_i32 : BitVec 32 := 12#32
  let v925 : BitVec 32 := Scalar.addi v924 c12_i32
  let c1_i32_531 : BitVec 32 := 1#32
  let v957 : BitVec 32 := Scalar.addi v925 c1_i32_531
  let c31_i32_532 : BitVec 32 := 31#32
  let v958 : BitVec 32 := Scalar.minsi v957 c31_i32_532
  let c512_i32_533 : BitVec 32 := 512#32
  let v959 : BitVec 32 := Scalar.muli v958 c512_i32_533
  v959
def k0_mult31 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_549 : BitVec 32 := 16#32
  let v988 : BitVec 32 := Scalar.muli arg10 c16_i32_549
  let c13_i32 : BitVec 32 := 13#32
  let v989 : BitVec 32 := Scalar.addi v988 c13_i32
  let c1_i32_550 : BitVec 32 := 1#32
  let v990 : BitVec 32 := Scalar.addi v989 c1_i32_550
  let c31_i32_551 : BitVec 32 := 31#32
  let v991 : BitVec 32 := Scalar.minsi v990 c31_i32_551
  let c512_i32_552 : BitVec 32 := 512#32
  let v992 : BitVec 32 := Scalar.muli v991 c512_i32_552
  v992
def k0_mult32 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_549 : BitVec 32 := 16#32
  let v988 : BitVec 32 := Scalar.muli arg10 c16_i32_549
  let c13_i32 : BitVec 32 := 13#32
  let v989 : BitVec 32 := Scalar.addi v988 c13_i32
  let c1_i32_568 : BitVec 32 := 1#32
  let v1021 : BitVec 32 := Scalar.addi v989 c1_i32_568
  let c31_i32_569 : BitVec 32 := 31#32
  let v1022 : BitVec 32 := Scalar.minsi v1021 c31_i32_569
  let c512_i32_570 : BitVec 32 := 512#32
  let v1023 : BitVec 32 := Scalar.muli v1022 c512_i32_570
  v1023
def k0_mult33 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_586 : BitVec 32 := 16#32
  let v1052 : BitVec 32 := Scalar.muli arg10 c16_i32_586
  let c14_i32 : BitVec 32 := 14#32
  let v1053 : BitVec 32 := Scalar.addi v1052 c14_i32
  let c1_i32_587 : BitVec 32 := 1#32
  let v1054 : BitVec 32 := Scalar.addi v1053 c1_i32_587
  let c31_i32_588 : BitVec 32 := 31#32
  let v1055 : BitVec 32 := Scalar.minsi v1054 c31_i32_588
  let c512_i32_589 : BitVec 32 := 512#32
  let v1056 : BitVec 32 := Scalar.muli v1055 c512_i32_589
  v1056
def k0_mult34 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_586 : BitVec 32 := 16#32
  let v1052 : BitVec 32 := Scalar.muli arg10 c16_i32_586
  let c14_i32 : BitVec 32 := 14#32
  let v1053 : BitVec 32 := Scalar.addi v1052 c14_i32
  let c1_i32_605 : BitVec 32 := 1#32
  let v1085 : BitVec 32 := Scalar.addi v1053 c1_i32_605
  let c31_i32_606 : BitVec 32 := 31#32
  let v1086 : BitVec 32 := Scalar.minsi v1085 c31_i32_606
  let c512_i32_607 : BitVec 32 := 512#32
  let v1087 : BitVec 32 := Scalar.muli v1086 c512_i32_607
  v1087
def k0_mult35 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_623 : BitVec 32 := 16#32
  let v1116 : BitVec 32 := Scalar.muli arg10 c16_i32_623
  let c15_i32 : BitVec 32 := 15#32
  let v1117 : BitVec 32 := Scalar.addi v1116 c15_i32
  let c1_i32_624 : BitVec 32 := 1#32
  let v1118 : BitVec 32 := Scalar.addi v1117 c1_i32_624
  let c31_i32_625 : BitVec 32 := 31#32
  let v1119 : BitVec 32 := Scalar.minsi v1118 c31_i32_625
  let c512_i32_626 : BitVec 32 := 512#32
  let v1120 : BitVec 32 := Scalar.muli v1119 c512_i32_626
  v1120
def k0_mult36 (k0_t1 : Fin k0_t1_loop.trips) : BitVec 32 :=
  let c0_i32_43 : BitVec 32 := 0#32
  let c1_i32_45 : BitVec 32 := 1#32
  let arg10 : BitVec 32 := Scf.iv c0_i32_43 c1_i32_45 k0_t1
  let c16_i32_623 : BitVec 32 := 16#32
  let v1116 : BitVec 32 := Scalar.muli arg10 c16_i32_623
  let c15_i32 : BitVec 32 := 15#32
  let v1117 : BitVec 32 := Scalar.addi v1116 c15_i32
  let c1_i32_642 : BitVec 32 := 1#32
  let v1149 : BitVec 32 := Scalar.addi v1117 c1_i32_642
  let c31_i32_643 : BitVec 32 := 31#32
  let v1150 : BitVec 32 := Scalar.minsi v1149 c31_i32_643
  let c512_i32_644 : BitVec 32 := 512#32
  let v1151 : BitVec 32 := Scalar.muli v1150 c512_i32_644
  v1151
def k0_off3 (i : grid0.Coords) (c0_i32_11 : BitVec 32) : Fin 3 → Nat :=
  let c0_51 : Index := 0#32
  let c2_i32 : BitVec 32 := 2#32
  let arg1 : BitVec 32 := BitVec.ofNat 32 (i 1).val
  let v40 : BitVec 32 := Scalar.muli c2_i32 arg1
  let v41 : BitVec 32 := Scalar.addi v40 c0_i32_11
  let c0_i32_12 : BitVec 32 := 0#32
  let v43 : BitVec 1 := Scalar.cmpi .sgt v41 c0_i32_12
  let v44 : BitVec 32 := Scalar.extui v43
  let c0_i32_13 : BitVec 32 := 0#32
  let v45 : BitVec 1 := Scalar.cmpi .slt v41 c0_i32_13
  let v46 : BitVec 32 := Scalar.extui v45
  let v47 : BitVec 32 := Scalar.subi v44 v46
  let c3_i32 : BitVec 32 := 3#32
  let c0_i32_14 : BitVec 32 := 0#32
  let v48 : BitVec 1 := Scalar.cmpi .sgt c3_i32 c0_i32_14
  let v49 : BitVec 32 := Scalar.extui v48
  let c0_i32_15 : BitVec 32 := 0#32
  let v50 : BitVec 1 := Scalar.cmpi .slt c3_i32 c0_i32_15
  let v51 : BitVec 32 := Scalar.extui v50
  let v52 : BitVec 32 := Scalar.subi v49 v51
  let v53 : BitVec 1 := Scalar.cmpi .ne v47 v52
  let v54 : BitVec 32 := Scalar.remsi v41 c3_i32
  let c0_i32_16 : BitVec 32 := 0#32
  let v55 : BitVec 1 := Scalar.cmpi .ne v54 c0_i32_16
  let v56 : BitVec 1 := Scalar.andi v53 v55
  let v42 : BitVec 32 := Scalar.divsi v41 c3_i32
  let c1_i32_17 : BitVec 32 := 1#32
  let v57 : BitVec 32 := Scalar.subi v42 c1_i32_17
  let v58 : BitVec 32 := Scalar.select v56 v57 v42
  let c80_i32 : BitVec 32 := 80#32
  let v78 : BitVec 32 := Scalar.muli v58 c80_i32
  let v79 : BitVec 32 := v78
  let v106 : Index := Scalar.indexCast v79
  let c0_52 : Index := 0#32
  ![0, v106.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16384_i32 : BitVec 32 := 16384#32
  let v0 : BitVec 32 := Scalar.muli arg0 c16384_i32
  let c65536_i32 : BitVec 32 := 65536#32
  let v1 : BitVec 32 := Scalar.addi c65536_i32 v0
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_4 : BitVec 32 := 0#32
  ![v19.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c772_i32 : BitVec 32 := 772#32
  let v17 : BitVec 32 := Scalar.addi c772_i32 v16
  let c0_i32_4 : BitVec 32 := 0#32
  let c0_i32_5 : BitVec 32 := 0#32
  ![v17.toNat, c0_i32_4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c193_i32 : BitVec 32 := 193#32
  let v18 : BitVec 32 := Scalar.addi c193_i32 v17
  let c16_i32_4 : BitVec 32 := 16#32
  let v19 : BitVec 32 := Scalar.muli arg0 c16_i32_4
  let c512_i32_5 : BitVec 32 := 512#32
  let c0_i32_6 : BitVec 32 := 0#32
  let v20 : BitVec 1 := Scalar.cmpi .eq c512_i32_5 c0_i32_6
  let c1_i32_7 : BitVec 32 := 1#32
  let v21 : BitVec 32 := Scalar.select v20 c1_i32_7 c512_i32_5
  let v22 : BitVec 32 := Scalar.remsi v19 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.divsi v29 c128_i32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c0_i32_17 : BitVec 32 := 0#32
  let c0_i32_18 : BitVec 32 := 0#32
  ![v18.toNat, c0_i32_17.toNat, v46.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S32x160x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x160x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceGqaIdeal.lean ====
abbrev S99328x768 : Shape := ⟨2, ![99328, 768]⟩
abbrev S99328x128 : Shape := ⟨2, ![99328, 128]⟩
abbrev S194x160x512 : Shape := ⟨3, ![194, 160, 512]⟩
abbrev S194x2x80x512 : Shape := ⟨4, ![194, 2, 80, 512]⟩
abbrev S194x2x64x512 : Shape := ⟨4, ![194, 2, 64, 512]⟩
abbrev S194x512x2x64 : Shape := ⟨4, ![194, 512, 2, 64]⟩
abbrev S32768x768 : Shape := ⟨2, ![32768, 768]⟩
abbrev S2x16384x6x128 : Shape := ⟨4, ![2, 16384, 6, 128]⟩
abbrev S2x16384x3x64 : Shape := ⟨4, ![2, 16384, 3, 64]⟩
abbrev S2x16384x6x64 : Shape := ⟨4, ![2, 16384, 6, 64]⟩
abbrev S32x128 : Shape := ⟨2, ![32, 128]⟩
abbrev S2x16x2x64 : Shape := ⟨4, ![2, 16, 2, 64]⟩
abbrev S32768x128 : Shape := ⟨2, ![32768, 128]⟩
abbrev S2x16384x2x64 : Shape := ⟨4, ![2, 16384, 2, 64]⟩
abbrev S2x16400x2x64 : Shape := ⟨4, ![2, 16400, 2, 64]⟩
abbrev S2x16400x2x3x64 : Shape := ⟨5, ![2, 16400, 2, 3, 64]⟩
abbrev S2x16400x6x64 : Shape := ⟨4, ![2, 16400, 6, 64]⟩
abbrev S2x6x16384x16400 : Shape := ⟨4, ![2, 6, 16384, 16400]⟩
abbrev S_ : Shape := ⟨0, ![]⟩
abbrev S2x6x16384 : Shape := ⟨3, ![2, 6, 16384]⟩
abbrev S2x6x16384x1 : Shape := ⟨4, ![2, 6, 16384, 1]⟩
abbrev S2x6x64x16384 : Shape := ⟨4, ![2, 6, 64, 16384]⟩
abbrev S32768x384 : Shape := ⟨2, ![32768, 384]⟩

abbrev nBuf : Space → Nat
  | .hbm => 50
  | .vmem => 0
  | .smem => 0
  | _ => 0

abbrev bufTy : (tb : Table) → Fin (tcTables nBuf tb) → BufTy
  | .hbm, ⟨0, _⟩ => ⟨S99328x768, .bf16⟩
  | .hbm, ⟨1, _⟩ => ⟨S99328x128, .bf16⟩
  | .hbm, ⟨2, _⟩ => ⟨S194x160x512, .bf16⟩
  | .hbm, ⟨3, _⟩ => ⟨S194x2x80x512, .bf16⟩
  | .hbm, ⟨4, _⟩ => ⟨S194x2x64x512, .bf16⟩
  | .hbm, ⟨5, _⟩ => ⟨S194x512x2x64, .bf16⟩
  | .hbm, ⟨6, _⟩ => ⟨S99328x128, .bf16⟩
  | .hbm, ⟨7, _⟩ => ⟨S32768x768, .bf16⟩
  | .hbm, ⟨8, _⟩ => ⟨S2x16384x6x128, .bf16⟩
  | .hbm, ⟨9, _⟩ => ⟨S2x16384x3x64, .bf16⟩
  | .hbm, ⟨10, _⟩ => ⟨S2x16384x3x64, .bf16⟩
  | .hbm, ⟨11, _⟩ => ⟨S2x16384x6x64, .bf16⟩
  | .hbm, ⟨12, _⟩ => ⟨S32x128, .bf16⟩
  | .hbm, ⟨13, _⟩ => ⟨S2x16x2x64, .bf16⟩
  | .hbm, ⟨14, _⟩ => ⟨S32768x128, .bf16⟩
  | .hbm, ⟨15, _⟩ => ⟨S2x16384x2x64, .bf16⟩
  | .hbm, ⟨16, _⟩ => ⟨S2x16400x2x64, .bf16⟩
  | .hbm, ⟨17, _⟩ => ⟨S2x16400x2x3x64, .bf16⟩
  | .hbm, ⟨18, _⟩ => ⟨S2x16400x6x64, .bf16⟩
  | .hbm, ⟨19, _⟩ => ⟨S32x128, .bf16⟩
  | .hbm, ⟨20, _⟩ => ⟨S2x16x2x64, .bf16⟩
  | .hbm, ⟨21, _⟩ => ⟨S32768x128, .bf16⟩
  | .hbm, ⟨22, _⟩ => ⟨S2x16384x2x64, .bf16⟩
  | .hbm, ⟨23, _⟩ => ⟨S2x16400x2x64, .bf16⟩
  | .hbm, ⟨24, _⟩ => ⟨S2x16400x2x3x64, .bf16⟩
  | .hbm, ⟨25, _⟩ => ⟨S2x16400x6x64, .bf16⟩
  | .hbm, ⟨26, _⟩ => ⟨S2x6x16384x16400, .f32⟩
  | .hbm, ⟨27, _⟩ => ⟨S_, .f32⟩
  | .hbm, ⟨28, _⟩ => ⟨S_, .f32⟩
  | .hbm, ⟨29, _⟩ => ⟨S2x6x16384x16400, .f32⟩
  | .hbm, ⟨30, _⟩ => ⟨S2x6x16384x16400, .f32⟩
  | .hbm, ⟨31, _⟩ => ⟨S_, .f32⟩
  | .hbm, ⟨32, _⟩ => ⟨S2x6x16384, .f32⟩
  | .hbm, ⟨33, _⟩ => ⟨S_, .f32⟩
  | .hbm, ⟨34, _⟩ => ⟨S2x6x16384, .f32⟩
  | .hbm, ⟨35, _⟩ => ⟨S2x6x16384, .f32⟩
  | .hbm, ⟨36, _⟩ => ⟨S2x6x16384x1, .f32⟩
  | .hbm, ⟨37, _⟩ => ⟨S2x6x16384x16400, .f32⟩
  | .hbm, ⟨38, _⟩ => ⟨S2x6x16384x16400, .f32⟩
  | .hbm, ⟨39, _⟩ => ⟨S2x6x16384x16400, .f32⟩
  | .hbm, ⟨40, _⟩ => ⟨S_, .f32⟩
  | .hbm, ⟨41, _⟩ => ⟨S2x6x16384, .f32⟩
  | .hbm, ⟨42, _⟩ => ⟨S2x6x16384x1, .f32⟩
  | .hbm, ⟨43, _⟩ => ⟨S2x6x16384x16400, .f32⟩
  | .hbm, ⟨44, _⟩ => ⟨S2x6x16384x16400, .f32⟩
  | .hbm, ⟨45, _⟩ => ⟨S2x6x16384x16400, .bf16⟩
  | .hbm, ⟨46, _⟩ => ⟨S2x6x64x16384, .f32⟩
  | .hbm, ⟨47, _⟩ => ⟨S2x16384x6x64, .f32⟩
  | .hbm, ⟨48, _⟩ => ⟨S2x16384x6x64, .bf16⟩
  | .hbm, ⟨49, _⟩ => ⟨S32768x384, .bf16⟩
  | _, _ => ⟨S99328x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== KernelMlaP.lean ====
abbrev S99328x768 : Shape := ⟨2, ![99328, 768]⟩
abbrev S194x480x512 : Shape := ⟨3, ![194, 480, 512]⟩
abbrev S65536x384 : Shape := ⟨2, ![65536, 384]⟩
abbrev S1024x256 : Shape := ⟨2, ![1024, 256]⟩
abbrev S2048x256 : Shape := ⟨2, ![2048, 256]⟩
abbrev S128x256 : Shape := ⟨2, ![128, 256]⟩
abbrev S4x160x512 : Shape := ⟨3, ![4, 160, 512]⟩
abbrev S1x160x128 : Shape := ⟨3, ![1, 160, 128]⟩
abbrev S1024x128 : Shape := ⟨2, ![1024, 128]⟩
abbrev S128x1 : Shape := ⟨2, ![128, 1]⟩
abbrev S80x1024 : Shape := ⟨2, ![80, 1024]⟩
abbrev S512x128 : Shape := ⟨2, ![512, 128]⟩
abbrev S512x1024 : Shape := ⟨2, ![512, 1024]⟩
abbrev S1024 : Shape := ⟨1, ![1024]⟩
abbrev S1x1024 : Shape := ⟨2, ![1, 1024]⟩
abbrev S1x80x512 : Shape := ⟨3, ![1, 80, 512]⟩
abbrev S80x512 : Shape := ⟨2, ![80, 512]⟩
abbrev S128x128 : Shape := ⟨2, ![128, 128]⟩
abbrev S128x1024 : Shape := ⟨2, ![128, 1024]⟩
abbrev S1x80x128 : Shape := ⟨3, ![1, 80, 128]⟩
abbrev S80x128 : Shape := ⟨2, ![80, 128]⟩
abbrev S1x1x1024 : Shape := ⟨3, ![1, 1, 1024]⟩
abbrev S1 : Shape := ⟨1, ![1]⟩
abbrev S1x1x1 : Shape := ⟨3, ![1, 1, 1]⟩
abbrev S64x1024 : Shape := ⟨2, ![64, 1024]⟩

abbrev nBuf : Space → Nat
  | .hbm => 4
  | .vmem => 12
  | .smem => 0
  | _ => 0

abbrev bufTy : (tb : Table) → Fin (tcTables nBuf tb) → BufTy
  | .hbm, ⟨0, _⟩ => ⟨S99328x768, .bf16⟩
  | .hbm, ⟨1, _⟩ => ⟨S99328x768, .bf16⟩
  | .hbm, ⟨2, _⟩ => ⟨S194x480x512, .bf16⟩
  | .hbm, ⟨3, _⟩ => ⟨S65536x384, .bf16⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S128x256, .bf16⟩
  | .local _ .vmem, ⟨5, _⟩ => ⟨S128x256, .bf16⟩
  | .local _ .vmem, ⟨6, _⟩ => ⟨S4x160x512, .bf16⟩
  | .local _ .vmem, ⟨7, _⟩ => ⟨S4x160x512, .bf16⟩
  | .local _ .vmem, ⟨8, _⟩ => ⟨S1x160x128, .bf16⟩
  | .local _ .vmem, ⟨9, _⟩ => ⟨S1x160x128, .bf16⟩
  | .local _ .vmem, ⟨10, _⟩ => ⟨S1024x128, .bf16⟩
  | .local _ .vmem, ⟨11, _⟩ => ⟨S1024x128, .bf16⟩
  | _, _ => ⟨S99328x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 3, 2], ![false, false, false]⟩

def k0_mult1 : BitVec 32 :=
  let c0_i32_11 : BitVec 32 := 0#32
  c0_i32_11
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c0_i32_48 : BitVec 32 := 0#32
  c0_i32_48
def k0_mult6 : BitVec 32 :=
  let c512_i32_53 : BitVec 32 := 512#32
  c512_i32_53
def k0_mult7 : BitVec 32 :=
  let c1024_i32_60 : BitVec 32 := 1024#32
  c1024_i32_60
def k0_mult8 : BitVec 32 :=
  let c1536_i32_68 : BitVec 32 := 1536#32
  c1536_i32_68
def k0_mult9 : BitVec 32 :=
  let c0_i32_99 : BitVec 32 := 0#32
  c0_i32_99
def k0_mult10 : BitVec 32 :=
  let c512_i32_103 : BitVec 32 := 512#32
  c512_i32_103
def k0_mult11 : BitVec 32 :=
  let c1024_i32_111 : BitVec 32 := 1024#32
  c1024_i32_111
def k0_mult12 : BitVec 32 :=
  let c1536_i32_119 : BitVec 32 := 1536#32
  c1536_i32_119
def k0_mult13 : BitVec 32 :=
  let c0_i32_141 : BitVec 32 := 0#32
  c0_i32_141
def k0_mult14 : BitVec 32 :=
  let c512_i32_145 : BitVec 32 := 512#32
  c512_i32_145
def k0_mult15 : BitVec 32 :=
  let c1024_i32_153 : BitVec 32 := 1024#32
  c1024_i32_153
def k0_mult16 : BitVec 32 :=
  let c1536_i32_161 : BitVec 32 := 1536#32
  c1536_i32_161
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg0 c2048_i32
  let c0_i32 : BitVec 32 := 0#32
  let v1 : BitVec 32 := Scalar.addi c0_i32 v0
  let c1024_i32 : BitVec 32 := 1024#32
  let v2 : BitVec 32 := Scalar.divsi v1 c1024_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32 c0_i32_2
  let v9 : BitVec 32 := Scalar.extui v8
  let c0_i32_3 : BitVec 32 := 0#32
  let v10 : BitVec 1 := Scalar.cmpi .slt c1024_i32 c0_i32_3
  let v11 : BitVec 32 := Scalar.extui v10
  let v12 : BitVec 32 := Scalar.subi v9 v11
  let v13 : BitVec 1 := Scalar.cmpi .ne v7 v12
  let v14 : BitVec 32 := Scalar.remsi v1 c1024_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_5 : BitVec 32 := 0#32
  ![v19.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c768_i32 : BitVec 32 := 768#32
  let v17 : BitVec 32 := Scalar.addi c768_i32 v16
  let c0_i32_4 : BitVec 32 := 0#32
  ![v17.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c192_i32 : BitVec 32 := 192#32
  let v18 : BitVec 32 := Scalar.addi c192_i32 v17
  let c16_i32_4 : BitVec 32 := 16#32
  let v19 : BitVec 32 := Scalar.muli arg0 c16_i32_4
  let c512_i32_5 : BitVec 32 := 512#32
  let c0_i32_6 : BitVec 32 := 0#32
  let v20 : BitVec 1 := Scalar.cmpi .eq c512_i32_5 c0_i32_6
  let c1_i32_7 : BitVec 32 := 1#32
  let v21 : BitVec 32 := Scalar.select v20 c1_i32_7 c512_i32_5
  let v22 : BitVec 32 := Scalar.remsi v19 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.divsi v29 c128_i32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c0_i32_17 : BitVec 32 := 0#32
  ![v18.toNat, arg1.toNat, v46.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x160x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x160x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceMlaPIdeal.lean ====
abbrev S99328x768 : Shape := ⟨2, ![99328, 768]⟩
abbrev S194x480x512 : Shape := ⟨3, ![194, 480, 512]⟩
abbrev S194x6x80x512 : Shape := ⟨4, ![194, 6, 80, 512]⟩
abbrev S194x6x64x512 : Shape := ⟨4, ![194, 6, 64, 512]⟩
abbrev S194x512x6x64 : Shape := ⟨4, ![194, 512, 6, 64]⟩
abbrev S99328x384 : Shape := ⟨2, ![99328, 384]⟩
abbrev S65536x768 : Shape := ⟨2, ![65536, 768]⟩
abbrev S32x2048x6x128 : Shape := ⟨4, ![32, 2048, 6, 128]⟩
abbrev S512x768 : Shape := ⟨2, ![512, 768]⟩
abbrev S32x16x6x128 : Shape := ⟨4, ![32, 16, 6, 128]⟩
abbrev S32x2064x6x128 : Shape := ⟨4, ![32, 2064, 6, 128]⟩
abbrev S512x384 : Shape := ⟨2, ![512, 384]⟩
abbrev S32x16x6x64 : Shape := ⟨4, ![32, 16, 6, 64]⟩
abbrev S65536x384 : Shape := ⟨2, ![65536, 384]⟩
abbrev S32x2048x6x64 : Shape := ⟨4, ![32, 2048, 6, 64]⟩
abbrev S32x2064x6x64 : Shape := ⟨4, ![32, 2064, 6, 64]⟩
abbrev S32x6x2048x2064 : Shape := ⟨4, ![32, 6, 2048, 2064]⟩
abbrev S_ : Shape := ⟨0, ![]⟩
abbrev S32x6x2048 : Shape := ⟨3, ![32, 6, 2048]⟩
abbrev S32x6x2048x1 : Shape := ⟨4, ![32, 6, 2048, 1]⟩
abbrev S32x6x64x2048 : Shape := ⟨4, ![32, 6, 64, 2048]⟩

abbrev nBuf : Space → Nat
  | .hbm => 43
  | .vmem => 0
  | .smem => 0
  | _ => 0

abbrev bufTy : (tb : Table) → Fin (tcTables nBuf tb) → BufTy
  | .hbm, ⟨0, _⟩ => ⟨S99328x768, .bf16⟩
  | .hbm, ⟨1, _⟩ => ⟨S99328x768, .bf16⟩
  | .hbm, ⟨2, _⟩ => ⟨S194x480x512, .bf16⟩
  | .hbm, ⟨3, _⟩ => ⟨S194x6x80x512, .bf16⟩
  | .hbm, ⟨4, _⟩ => ⟨S194x6x64x512, .bf16⟩
  | .hbm, ⟨5, _⟩ => ⟨S194x512x6x64, .bf16⟩
  | .hbm, ⟨6, _⟩ => ⟨S99328x384, .bf16⟩
  | .hbm, ⟨7, _⟩ => ⟨S65536x768, .bf16⟩
  | .hbm, ⟨8, _⟩ => ⟨S32x2048x6x128, .bf16⟩
  | .hbm, ⟨9, _⟩ => ⟨S512x768, .bf16⟩
  | .hbm, ⟨10, _⟩ => ⟨S32x16x6x128, .bf16⟩
  | .hbm, ⟨11, _⟩ => ⟨S65536x768, .bf16⟩
  | .hbm, ⟨12, _⟩ => ⟨S32x2048x6x128, .bf16⟩
  | .hbm, ⟨13, _⟩ => ⟨S32x2064x6x128, .bf16⟩
  | .hbm, ⟨14, _⟩ => ⟨S512x384, .bf16⟩
  | .hbm, ⟨15, _⟩ => ⟨S32x16x6x64, .bf16⟩
  | .hbm, ⟨16, _⟩ => ⟨S65536x384, .bf16⟩
  | .hbm, ⟨17, _⟩ => ⟨S32x2048x6x64, .bf16⟩
  | .hbm, ⟨18, _⟩ => ⟨S32x2064x6x64, .bf16⟩
  | .hbm, ⟨19, _⟩ => ⟨S32x6x2048x2064, .f32⟩
  | .hbm, ⟨20, _⟩ => ⟨S_, .f32⟩
  | .hbm, ⟨21, _⟩ => ⟨S_, .f32⟩
  | .hbm, ⟨22, _⟩ => ⟨S32x6x2048x2064, .f32⟩
  | .hbm, ⟨23, _⟩ => ⟨S32x6x2048x2064, .f32⟩
  | .hbm, ⟨24, _⟩ => ⟨S_, .f32⟩
  | .hbm, ⟨25, _⟩ => ⟨S32x6x2048, .f32⟩
  | .hbm, ⟨26, _⟩ => ⟨S_, .f32⟩
  | .hbm, ⟨27, _⟩ => ⟨S32x6x2048, .f32⟩
  | .hbm, ⟨28, _⟩ => ⟨S32x6x2048, .f32⟩
  | .hbm, ⟨29, _⟩ => ⟨S32x6x2048x1, .f32⟩
  | .hbm, ⟨30, _⟩ => ⟨S32x6x2048x2064, .f32⟩
  | .hbm, ⟨31, _⟩ => ⟨S32x6x2048x2064, .f32⟩
  | .hbm, ⟨32, _⟩ => ⟨S32x6x2048x2064, .f32⟩
  | .hbm, ⟨33, _⟩ => ⟨S_, .f32⟩
  | .hbm, ⟨34, _⟩ => ⟨S32x6x2048, .f32⟩
  | .hbm, ⟨35, _⟩ => ⟨S32x6x2048x1, .f32⟩
  | .hbm, ⟨36, _⟩ => ⟨S32x6x2048x2064, .f32⟩
  | .hbm, ⟨37, _⟩ => ⟨S32x6x2048x2064, .f32⟩
  | .hbm, ⟨38, _⟩ => ⟨S32x6x2048x2064, .bf16⟩
  | .hbm, ⟨39, _⟩ => ⟨S32x6x64x2048, .f32⟩
  | .hbm, ⟨40, _⟩ => ⟨S32x2048x6x64, .f32⟩
  | .hbm, ⟨41, _⟩ => ⟨S32x2048x6x64, .bf16⟩
  | .hbm, ⟨42, _⟩ => ⟨S65536x384, .bf16⟩
  | _, _ => ⟨S99328x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Proof.FfnPure.lean ====
/- One row of the feed-forward block: the kernel's tile computation read at an index against the reference's. -/
module

public import proofs.«01_k».proof.Proof.Gen.KernelFfnIdeal.Skeleton
public import proofs.«01_k».proof.Proof.Gen.ReferenceFfnIdeal
public import Idealize.ShloMosaic.Lib.Pointwise

@[expose] public section

set_option maxRecDepth 16384

noncomputable section

open Idealize.ShloMosaic Idealize.ShloMosaic.TcCoe Idealize.SL.Sem

namespace Cert.Ffn

section Reference
open Cert.ReferenceFfnIdeal Cert.ReferenceFfnIdeal.Gen

/-- The reference's normalised rows. -/
def refXn (h : FVec Ideal S99328x1024 .f32) (nw : FVec Ideal S1024 .f32) : FVec Ideal S99328x1024 .f32 :=
  mulf (mulf h (broadcastInDim S99328x1024 ![0, 1] bcast_S99328x1_S99328x1024_0_1 (Host.rsqrt (addf (Host.divf (broadcastInDim S99328x1 ![0] bcast_S99328_S99328x1_0 (Host.reduceAdd (mulf h h) (constant S_ .f32 0x00000000#32) reducesTo_S99328x1024_S99328_d1 h_S_)) (broadcastInDim S99328x1 ![] bcast_S_S99328x1 (constant S_ .f32 0x44800000#32))) (broadcastInDim S99328x1 ![] bcast_S_S99328x1 (constant S_ .f32 0x358637BD#32)))))) (broadcastInDim S99328x1024 ![0, 1] bcast_S1x1024_S99328x1024_0_1 (broadcastInDim S1x1024 ![1] bcast_S1024_S1x1024_1 nw))

/-- The reference's product with the input weights (gate columns, then up columns). -/
def refGu (h : FVec Ideal S99328x1024 .f32) (nw : FVec Ideal S1024 .f32) (wi : FVec Ideal S1024x5632 .f32) : FVec Ideal S99328x5632 .f32 :=
  Host.dotGeneral (F := Ideal) (φ₁ := .f32) (φ₂ := .f32) dot_S99328x1024_S1024x5632_S99328x5632_1_0_0_1_n_n none (refXn h nw) wi

/-- The reference's result as a function of the rows and the weights. -/
def refOut (h : FVec Ideal S99328x1024 .f32) (nw : FVec Ideal S1024 .f32) (wi : FVec Ideal S1024x5632 .f32) (wo : FVec Ideal S2816x1024 .f32) :
    FVec Ideal S99328x1024 .f32 :=
  addf h (mulf (broadcastInDim S99328x1024 ![] bcast_S_S99328x1024 (constant S_ .f32 0x3F000000#32)) (Host.dotGeneral (F := Ideal) (φ₁ := .f32) (φ₂ := .f32) dot_S99328x2816_S2816x1024_S99328x1024_1_0_0_1_n_n none (mulf (mulf (extractStridedSlice S99328x2816 ![0, 0] (refGu h nw wi) slices_S99328x5632_S99328x2816_0_0) (Host.divf (broadcastInDim S99328x2816 ![] bcast_S_S99328x2816 (constant S_ .f32 0x3F800000#32)) (addf (broadcastInDim S99328x2816 ![] bcast_S_S99328x2816 (constant S_ .f32 0x3F800000#32)) (Host.exp (Host.negf (extractStridedSlice S99328x2816 ![0, 0] (refGu h nw wi) slices_S99328x5632_S99328x2816_0_0)))))) (extractStridedSlice S99328x2816 ![0, 2816] (refGu h nw wi) slices_S99328x5632_S99328x2816_0_2816)) wo))

/-- The rows, one piece after the other. -/
def refRows (a : FVec Ideal S65536x1024 .f32) (b : FVec Ideal S32768x1024 .f32) (c d : FVec Ideal S512x1024 .f32) : FVec Ideal S99328x1024 .f32 :=
  concatenate S99328x1024 0 [⟨S65536x1024, a⟩, ⟨S32768x1024, b⟩, ⟨S512x1024, c⟩, ⟨S512x1024, d⟩] concatenates_S65536x1024_S32768x1024_S512x1024_S512x1024_S99328x1024_d0

end Reference

open Cert.KernelFfnIdeal Cert.KernelFfnIdeal.Gen

/-- One tile's root-mean-square norm, as the kernels compute it. -/
def rms (h : FVec Ideal S512x1024 .f32) (w : FVec Ideal S1x1024 .f32) : FVec Ideal S512x1024 .f32 :=
  mulf (mulf h (broadcastTo S512x1024 (rsqrt (addf (divf (shapeCast S512x1 (multiReduction .add [1] S512 (mulf h h) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 w shapeCasts_S1x1024_S1x1024) broadcasts_S1x1024_S512x1024)

/-- One tile's feed-forward result, as the kernels compute it: the hidden columns in two parts. -/
def tile (h : FVec Ideal S512x1024 .f32) (w : FVec Ideal S1x1024 .f32) (g u : Vec Ideal S1024x1536 .bf16) (o : Vec Ideal S1536x1024 .bf16)
    (g' u' : Vec Ideal S1024x1280 .bf16) (o' : Vec Ideal S1280x1024 .bf16) : FVec Ideal S512x1024 .f32 :=
  let x := truncf .bf16 (rms h w) bitsLt_bf16_f32
  let a := matmul (φ₂ := .bf16) dot_S512x1024_S1024x1536_S512x1536_1_0_0_1_n_n none x (shapeCast S1024x1536 g shapeCasts_S1024x1536_S1024x1536) (constant S512x1536 .f32 0x00000000#32)
  let b := matmul (φ₂ := .bf16) dot_S512x1024_S1024x1536_S512x1536_1_0_0_1_n_n none x (shapeCast S1024x1536 u shapeCasts_S1024x1536_S1024x1536) (constant S512x1536 .f32 0x00000000#32)
  let a' := matmul (φ₂ := .bf16) dot_S512x1024_S1024x1280_S512x1280_1_0_0_1_n_n none x (shapeCast S1024x1280 g' shapeCasts_S1024x1280_S1024x1280) (constant S512x1280 .f32 0x00000000#32)
  let b' := matmul (φ₂ := .bf16) dot_S512x1024_S1024x1280_S512x1280_1_0_0_1_n_n none x (shapeCast S1024x1280 u' shapeCasts_S1024x1280_S1024x1280) (constant S512x1280 .f32 0x00000000#32)
  addf h (mulf (broadcast S512x1024 (Scalar.ofBits .f32 0x3F000000#32)) (addf (addf (broadcast S512x1024 (Scalar.ofBits .f32 0x00000000#32))
    (matmul (φ₂ := .bf16) dot_S512x1536_S1536x1024_S512x1024_1_0_0_1_n_n none (truncf .bf16 (mulf (mulf a (logistic a)) b) bitsLt_bf16_f32) (shapeCast S1536x1024 o shapeCasts_S1536x1024_S1536x1024) (constant S512x1024 .f32 0x00000000#32)))
    (matmul (φ₂ := .bf16) dot_S512x1280_S1280x1024_S512x1024_1_0_0_1_n_n none (truncf .bf16 (mulf (mulf a' (logistic a')) b') bitsLt_bf16_f32) (shapeCast S1280x1024 o' shapeCasts_S1280x1024_S1280x1024) (constant S512x1024 .f32 0x00000000#32))))

/-- A tile's norm at an index is the reference's, where the tile's row is the reference's row. -/
theorem rms_eq (x : FVec Ideal S512x1024 .f32) (w : FVec Ideal S1x1024 .f32) (h : FVec Ideal S99328x1024 .f32) (nw : FVec Ideal S1024 .f32)
    (r : Fin 512) (q : Fin 99328) (n : Fin 1024) (hh : ∀ k : Fin 1024, x (ix2 r k) = h (ix2 q k)) (hn : ∀ k : Fin 1024, w (ix2 0 k) = nw (ix1 k)) :
    rms x w (ix2 r n) = refXn h nw (ix2 q n) := by
  pointwise [rms, refXn, hh, hn]

/-- A tile's feed-forward result at an index is the reference's, where the tile's row and the weight blocks are the reference's. -/
theorem tile_eq (x : FVec Ideal S512x1024 .f32) (w : FVec Ideal S1x1024 .f32) (g u : Vec Ideal S1024x1536 .bf16) (o : Vec Ideal S1536x1024 .bf16)
    (g' u' : Vec Ideal S1024x1280 .bf16) (o' : Vec Ideal S1280x1024 .bf16)
    (h : FVec Ideal S99328x1024 .f32) (nw : FVec Ideal S1024 .f32) (wi : FVec Ideal Cert.ReferenceFfnIdeal.S1024x5632 .f32) (wo : FVec Ideal Cert.ReferenceFfnIdeal.S2816x1024 .f32)
    (r : Fin 512) (q : Fin 99328) (n : Fin 1024)
    (hh : ∀ k : Fin 1024, x (ix2 r k) = h (ix2 q k))
    (hn : ∀ k : Fin 1024, w (ix2 0 k) = nw (ix1 k))
    (hg : ∀ (k : Fin 1024) (f : Fin 1536), g (ix2 k f) = wi (ix2 k ⟨f.val, by omega⟩))
    (hu : ∀ (k : Fin 1024) (f : Fin 1536), u (ix2 k f) = wi (ix2 k ⟨2816 + f.val, by omega⟩))
    (hg' : ∀ (k : Fin 1024) (f : Fin 1280), g' (ix2 k f) = wi (ix2 k ⟨1536 + f.val, by omega⟩))
    (hu' : ∀ (k : Fin 1024) (f : Fin 1280), u' (ix2 k f) = wi (ix2 k ⟨2816 + (1536 + f.val), by omega⟩))
    (ho : ∀ (f : Fin 1536) (k : Fin 1024), o (ix2 f k) = wo (ix2 ⟨f.val, by omega⟩ k))
    (ho' : ∀ (f : Fin 1280) (k : Fin 1024), o' (ix2 f k) = wo (ix2 ⟨1536 + f.val, by omega⟩ k)) :
    tile x w g u o g' u' o' (ix2 r n) = refOut h nw wi wo (ix2 q n) := by
  pointwise [tile, rms, refOut, refGu, refXn, hh, hn, hg, hu, hg', hu', ho, ho']
  have hs : ∀ g : Fin 2816 → EReal, ∑ x, g x = (∑ x : Fin 1536, g ⟨x.val, by omega⟩) + ∑ x : Fin 1280, g ⟨1536 + x.val, by omega⟩ :=
    fun g => Fin.sum_univ_two_halves 1536 1280 rfl g
  rw [hs]
  simp only [Ideal.logistic, zero_add]

/-- What the four-piece call stores is one tile's feed-forward result of the selected rows. -/
theorem pay_tile (i : grid0.Coords) (v0 v2 v5 v8 : Vec Ideal S512x1024 .f32) (v10 : Vec Ideal S1x1024 .f32)
    (v25 v27 : Vec Ideal S1024x1536 .bf16) (v33 : Vec Ideal S1536x1024 .bf16) (v36 v38 : Vec Ideal S1024x1280 .bf16) (v44 : Vec Ideal S1280x1024 .bf16) :
    k0_pay1 (F := Ideal) (k0_pay2 i v0 v2 v5 v8) (k0_pay3 i v0 v2 v5 v8 v10) (k0_pay4 (F := Ideal)) (k0_pay5 i v0 v2 v5 v8 v10 v25 v27) v33 v36 v38 v44
      = tile (k0_pay2 i v0 v2 v5 v8) v10 v25 v27 v33 v36 v38 v44 := rfl

end Cert.Ffn
-- ==== Proof.FfnValue.lean ====
/- The feed-forward call's result array, as the reference's term over the call's arguments. -/
module

public import proofs.«01_k».proof.Proof.Gen.KernelFfnIdeal.Frame
public import proofs.«01_k».proof.Proof.FfnPure
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

open Cert.KernelFfnIdeal Cert.KernelFfnIdeal.Gen

variable (m : (ℓ : Loc nD τ sig) → Buf (Elt Ideal) ℓ)

/-- Where the windows of a grid point sit, and the point's coordinate. -/
theorem idx : ∀ t : Fin cfg0.N, win0_0.index t = ![min t.val 127, 0] ∧ win0_1.index t = ![min (t.val - 128) 63, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ (grid0.coords t 0).val = t.val :=
  (by decide +kernel : ∀ t : Fin grid0.N, _)

/-- A comparison of a small coordinate with a small constant. -/
theorem slt : ∀ n < 194, ∀ k < 194, Scalar.cmpi .slt (BitVec.ofNat 32 n) (BitVec.ofNat 32 k) = if n < k then 1#1 else 0#1 := by
  decide +kernel

/-- The tile a grid point selects is its 512 rows of the concatenated pieces. -/
theorem rows (c : Dev nD) (t : Fin cfg0.N) (r : Fin 512) (k : Fin 1024) (q : Fin 99328) (hq : q.val = t.val * 512 + r.val) :
    k0_pay2 (F := Ideal) (grid0.coords t) (iblk m c 3 t) (iblk m c 2 t) (iblk m c 1 t) (iblk m c 0 t) (ix2 r k)
      = refRows (m ((c : Thread nD τ).loc main_arg0)) (m ((c : Thread nD τ).loc main_arg1)) (m ((c : Thread nD τ).loc main_arg2)) (m ((c : Thread nD τ).loc main_arg3)) (ix2 q k) := by
  have ht : t.val < 194 := t.isLt
  pointwise [k0_pay2, refRows]
  rw [(idx t).2.2.2.2.2.2.2.2.2, slt t.val ht 128 (by omega), slt t.val ht 192 (by omega), slt t.val ht 193 (by omega)]
  have hr := r.isLt
  by_cases h0 : t.val < 128
  · rw [if_pos h0, dif_pos (by omega)]
    refine (if_pos rfl).trans ?_
    blk_ext [iblk, V, idx t]
  rw [if_neg h0, dif_neg (by omega)]
  refine (if_neg (by decide)).trans ?_
  by_cases h1 : t.val < 192
  · rw [if_pos h1, dif_pos (by omega)]
    refine (if_pos rfl).trans ?_
    blk_ext [iblk, V, idx t]
  rw [if_neg h1, dif_neg (by omega)]
  refine (if_neg (by decide)).trans ?_
  by_cases h2 : t.val < 193
  · rw [if_pos h2, dif_pos (by omega)]
    refine (if_pos rfl).trans ?_
    blk_ext [iblk, V, idx t]
  rw [if_neg h2, dif_neg (by omega)]
  refine (if_neg (by decide)).trans ?_
  blk_ext [iblk, V, idx t]

set_option maxHeartbeats 1600000 in
/-- What a grid point stores at a block index is the reference's result at the array index it sits at. -/
theorem point (c : Dev nD) (t : Fin cfg0.N) (y : ((cfg0.win 8).xblock (cfg0.grid.coords t)).Idx) :
    k0_pay1 (k0_pay2 (grid0.coords t) (iblk m c 3 t) (iblk m c 2 t) (iblk m c 1 t) (iblk m c 0 t))
      (k0_pay3 (grid0.coords t) (iblk m c 3 t) (iblk m c 2 t) (iblk m c 1 t) (iblk m c 0 t) (iblk m c 4 t))
      (k0_pay4 (F := Ideal))
      (k0_pay5 (grid0.coords t) (iblk m c 3 t) (iblk m c 2 t) (iblk m c 1 t) (iblk m c 0 t) (iblk m c 4 t) (View.ld (iblk m c 5 t) r0_2) (View.ld (iblk m c 6 t) r0_2))
      (View.ld (iblk m c 7 t) r0_3) (View.ld (iblk m c 5 t) r0_4) (View.ld (iblk m c 6 t) r0_4) (View.ld (iblk m c 7 t) r0_5) y
    = refOut (refRows (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) (((View.whole main_v6).slice (win0_8.rect t)).emb y) := by
  have ht : t.val < 194 := t.isLt
  idx_vars y
  have e : (((View.whole main_v6).slice (win0_8.rect t)).emb (ix2 y0 y1)) = ix2 (⟨t.val * 512 + y0.val, by omega⟩ : Fin 99328) y1 := by
    blk_ext [idx t]
  rw [e]
  refine (congrFun (pay_tile _ _ _ _ _ _ _ _ _ _ _ _) _).trans (tile_eq _ _ _ _ _ _ _ _ _ _ _ _ _ _ _ (fun k => rows m c t y0 k _ rfl) ?_ ?_ ?_ ?_ ?_ ?_ ?_)
  · intro k
    blk_simp [iblk, idx t]
    entry_read
    pointwise
    blk_ext [idx t]
  all_goals
    intro k f
    pointwise
    blk_simp [iblk, idx t]
    entry_read
    pointwise
    blk_ext [idx t]

/-- The result array after the run. -/
theorem final (c : Dev nD) : (dats m 0 c).arrAt 8 (cfgs 0).N
    = refOut (refRows (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  exact point m c t y

end Cert.Ffn
-- ==== Proof.FfnB.lean ====
/- The second layer's first feed-forward call: its result array is the reference's term over the call's arguments. -/
module

public import proofs.«01_k».proof.Proof.Gen.KernelFfnBIdeal.Frame
public import proofs.«01_k».proof.Proof.FfnPure
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnB

open Cert.KernelFfnBIdeal Cert.KernelFfnBIdeal.Gen

variable (m : (ℓ : Loc nD τ sig) → Buf (Elt Ideal) ℓ)

/-- Where the windows of a grid point sit. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- What the call stores is one tile's feed-forward result. -/
theorem pay_tile (v0 : Vec Ideal S512x1024 .f32) (v1 : Vec Ideal S1x1024 .f32) (v17 v20 : Vec Ideal S1024x1536 .bf16) (v27 : Vec Ideal S1536x1024 .bf16)
    (v31 v34 : Vec Ideal S1024x1280 .bf16) (v41 : Vec Ideal S1280x1024 .bf16) :
    k0_pay1 (F := Ideal) v0 (k0_pay2 v0 v1) (k0_pay3 v0 v1 v17 v20 v27) (k0_pay4 v0 v1 v31) (k0_pay5 v34) (constant S512x1280 .f32 0x00000000#32) v41
      = Ffn.tile v0 v1 v17 v20 v27 v31 v34 v41 := rfl

set_option maxHeartbeats 1600000 in
/-- What a grid point stores at a block index is the reference's result at the array index it sits at. -/
theorem point (c : Dev nD) (t : Fin cfg0.N) (y : ((cfg0.win 5).xblock (cfg0.grid.coords t)).Idx) :
    k0_pay1 (iblk m c 0 t) (k0_pay2 (iblk m c 0 t) (iblk m c 1 t))
      (k0_pay3 (iblk m c 0 t) (iblk m c 1 t) (View.ld (iblk m c 2 t) r0_2) (View.ld (iblk m c 3 t) r0_2) (View.ld (iblk m c 4 t) r0_3))
      (k0_pay4 (iblk m c 0 t) (iblk m c 1 t) (View.ld (iblk m c 2 t) r0_4)) (k0_pay5 (View.ld (iblk m c 3 t) r0_4))
      (constant S512x1280 .f32 0x00000000#32) (View.ld (iblk m c 4 t) r0_5) y
    = Ffn.refOut (m ((c : Thread nD τ).loc main_arg0)) (m ((c : Thread nD τ).loc main_arg1)) (m ((c : Thread nD τ).loc main_arg2)) (m ((c : Thread nD τ).loc main_arg3))
        (((View.whole main_v6).slice (win0_5.rect t)).emb y) := by
  have ht : t.val < 194 := t.isLt
  idx_vars y
  have e : (((View.whole main_v6).slice (win0_5.rect t)).emb (ix2 y0 y1)) = ix2 (⟨t.val * 512 + y0.val, by omega⟩ : Fin 99328) y1 := by
    blk_ext [idx t]
  rw [e]
  refine (congrFun (pay_tile _ _ _ _ _ _ _ _) _).trans (Ffn.tile_eq _ _ _ _ _ _ _ _ _ _ _ _ _ _ _ ?_ ?_ ?_ ?_ ?_ ?_ ?_ ?_)
  · intro k
    blk_ext [iblk, V, idx t]
  · intro k
    blk_simp [iblk, idx t]
    entry_read
    pointwise
    blk_ext [idx t]
  all_goals
    intro k f
    pointwise
    blk_simp [iblk, idx t]
    entry_read
    pointwise
    blk_ext [idx t]

/-- The result array after the run. -/
theorem final (c : Dev nD) : (dats m 0 c).arrAt 5 (cfgs 0).N
    = Ffn.refOut (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.FfnB
-- ==== Proof.FfnMix.lean ====
/- The output projection before the second feed-forward calls: the kernels' three partial products of a tile against the reference's one. -/
module

public import proofs.«01_k».proof.Proof.Gen.KernelFfnCIdeal.Skeleton
public import proofs.«01_k».proof.Proof.Gen.ReferenceFfnCIdeal
public import proofs.«01_k».proof.Proof.FfnPure
public import Idealize.ShloMosaic.Lib.Pointwise

@[expose] public section

set_option maxRecDepth 16384

noncomputable section

open Idealize.ShloMosaic Idealize.ShloMosaic.TcCoe Idealize.SL.Sem

namespace Cert.FfnMix

/-- `n` rows of `w` bfloat16 values. -/
abbrev Rows (n w : ℕ) := FVec Ideal (⟨2, ![n, w]⟩ : Shape) .bf16

/-- The rows of one mixer's results: prompt tokens, sample tokens, prompt meta tokens, sample meta tokens. -/
def rows {w : ℕ} (hc : Shape.Concatenates [⟨2, ![65536, w]⟩, ⟨2, ![32768, w]⟩, ⟨2, ![512, w]⟩, ⟨2, ![512, w]⟩] ⟨2, ![99328, w]⟩ 0)
    (A : Rows 65536 w) (B : Rows 32768 w) (C D : Rows 512 w) : Rows 99328 w :=
  concatenate ⟨2, ![99328, w]⟩ 0 [⟨⟨2, ![65536, w]⟩, A⟩, ⟨⟨2, ![32768, w]⟩, B⟩, ⟨⟨2, ![512, w]⟩, C⟩, ⟨⟨2, ![512, w]⟩, D⟩] hc

/-- The block a grid point selects of the four it is given. -/
def pick {s : Shape} (n : BitVec 32) (x0 x1 x2 x3 : FVec Ideal s .bf16) : FVec Ideal s .bf16 :=
  Scalar.select (Scalar.cmpi .slt n 128#32) x0 (Scalar.select (Scalar.cmpi .slt n 192#32) x1 (Scalar.select (Scalar.cmpi .slt n 193#32) x2 x3))

/-- A comparison of a small coordinate with a small constant. -/
theorem slt : ∀ n < 194, ∀ k < 194, Scalar.cmpi .slt (BitVec.ofNat 32 n) (BitVec.ofNat 32 k) = if n < k then 1#1 else 0#1 := by
  decide +kernel

/-- Row `r` of the four blocks at grid point `t` is the row of the piece that grid point reads. -/
structure Piece {w : ℕ} (t : ℕ) (r : Fin 512) (x0 x1 x2 x3 : Rows 512 w) (A : Rows 65536 w) (B : Rows 32768 w) (C D : Rows 512 w) : Prop where
  a : ∀ (k : Fin w) (p : Fin 65536), t < 128 → p.val = t * 512 + r.val → x0 (ix2 r k) = A (ix2 p k)
  b : ∀ (k : Fin w) (p : Fin 32768), 128 ≤ t → t < 192 → p.val = (t - 128) * 512 + r.val → x1 (ix2 r k) = B (ix2 p k)
  c : ∀ k : Fin w, x2 (ix2 r k) = C (ix2 r k)
  d : ∀ k : Fin w, x3 (ix2 r k) = D (ix2 r k)

/-- The selected block is the grid point's 512 rows of the concatenated pieces. -/
theorem pick_rows {w : ℕ} (hc : Shape.Concatenates [⟨2, ![65536, w]⟩, ⟨2, ![32768, w]⟩, ⟨2, ![512, w]⟩, ⟨2, ![512, w]⟩] ⟨2, ![99328, w]⟩ 0)
    (t : ℕ) (ht : t < 194) (x0 x1 x2 x3 : Rows 512 w) (A : Rows 65536 w) (B : Rows 32768 w) (C D : Rows 512 w)
    (r : Fin 512) (k : Fin w) (q : Fin 99328) (hq : q.val = t * 512 + r.val) (hp : Piece t r x0 x1 x2 x3 A B C D) :
    pick (BitVec.ofNat 32 t) x0 x1 x2 x3 (ix2 r k) = rows hc A B C D (ix2 q k) := by
  have hr := r.isLt
  pointwise [pick, rows]
  rw [slt t ht 128 (by omega), slt t ht 192 (by omega), slt t ht 193 (by omega)]
  by_cases c0 : t < 128
  · rw [if_pos c0, dif_pos (by omega)]
    refine (if_pos rfl).trans ?_
    exact (hp.a k ⟨q.val, by omega⟩ c0 hq).trans (congrArg A (funext fun b => by fin_cases b <;> rfl))
  rw [if_neg c0, dif_neg (by omega)]
  refine (if_neg (by decide)).trans ?_
  by_cases c1 : t < 192
  · rw [if_pos c1, dif_pos (by omega)]
    refine (if_pos rfl).trans ?_
    have e1 : q.val - 65536 = (t - 128) * 512 + r.val := by omega
    exact (hp.b k ⟨q.val - 65536, by omega⟩ (by omega) c1 e1).trans (congrArg B (funext fun b => by fin_cases b <;> rfl))
  rw [if_neg c1, dif_neg (by omega)]
  refine (if_neg (by decide)).trans ?_
  by_cases c2 : t < 193
  · rw [if_pos c2, dif_pos (by omega)]
    refine (if_pos rfl).trans ?_
    have e2 : r.val = q.val - 65536 - 32768 := by omega
    exact (hp.c k).trans (congrArg C (funext fun b => by fin_cases b; exacts [Fin.ext e2, rfl]))
  rw [if_neg c2, dif_neg (by omega)]
  refine (if_neg (by decide)).trans ?_
  have e3 : r.val = q.val - 65536 - 32768 - 512 := by omega
  exact (hp.d k).trans (congrArg D (funext fun b => by fin_cases b; exacts [Fin.ext e3, rfl]))

section Reference
open Cert.ReferenceFfnCIdeal Cert.ReferenceFfnCIdeal.Gen

/-- The rows of an attention's results. -/
def rows384 (A : Rows 65536 384) (B : Rows 32768 384) (C D : Rows 512 384) : Rows 99328 384 :=
  rows concatenates_S65536x384_S32768x384_S512x384_S512x384_S99328x384_d0 A B C D

/-- The rows of the linear attention's results. -/
def rows256 (A : Rows 65536 256) (B : Rows 32768 256) (C D : Rows 512 256) : Rows 99328 256 :=
  rows concatenates_S65536x256_S32768x256_S512x256_S512x256_S99328x256_d0 A B C D

/-- The three mixers' results side by side. -/
def cols (A B : Rows 99328 384) (C : Rows 99328 256) : FVec Ideal S99328x1024 .bf16 :=
  concatenate S99328x1024 1 [⟨S99328x384, A⟩, ⟨S99328x384, B⟩, ⟨S99328x256, C⟩] concatenates_S99328x384_S99328x384_S99328x256_S99328x1024_d1

/-- The reference's rows after the output projection. -/
def refMix (h : FVec Ideal S99328x1024 .f32) (A B : Rows 99328 384) (C : Rows 99328 256) (w : FVec Ideal S1024x1024 .f32) : FVec Ideal S99328x1024 .f32 :=
  addf h (Host.dotGeneral (F := Ideal) (φ₁ := .f32) (φ₂ := .f32) dot_S99328x1024_S1024x1024_S99328x1024_1_0_0_1_n_n none (extf .f32 (cols A B C) bitsLt_bf16_f32) w)

/-- The first 384 columns are the latent attention's. -/
theorem cols_a (A B : Rows 99328 384) (C : Rows 99328 256) (q : Fin 99328) (k : Fin 384) : cols A B C (ix2 q ⟨k.val, by omega⟩) = A (ix2 q k) := by
  have hk := k.isLt
  pointwise [cols]

/-- The next 384 columns are the grouped attention's. -/
theorem cols_b (A B : Rows 99328 384) (C : Rows 99328 256) (q : Fin 99328) (k : Fin 384) : cols A B C (ix2 q ⟨384 + k.val, by omega⟩) = B (ix2 q k) := by
  have hk := k.isLt
  pointwise [cols]

/-- The last 256 columns are the linear attention's. -/
theorem cols_c (A B : Rows 99328 384) (C : Rows 99328 256) (q : Fin 99328) (k : Fin 256) : cols A B C (ix2 q ⟨768 + k.val, by omega⟩) = C (ix2 q k) := by
  have hk := k.isLt
  pointwise [cols]
  rw [dif_neg (by omega), dif_neg (by omega)]
  have e : 768 + k.val - 384 - 384 = k.val := by omega
  exact congrArg C (funext fun b => by fin_cases b; exacts [rfl, Fin.ext e])

end Reference

open Cert.KernelFfnCIdeal Cert.KernelFfnCIdeal.Gen

/-- One tile's rows after the output projection, as the kernels compute them: one product per mixer. -/
def mix (h : FVec Ideal S512x1024 .f32) (a : Rows 512 384) (wa : FVec Ideal S384x1024 .bf16) (b : Rows 512 384) (wb : FVec Ideal S384x1024 .bf16)
    (c : Rows 512 256) (wc : FVec Ideal S256x1024 .bf16) : FVec Ideal S512x1024 .f32 :=
  addf (addf (addf h
    (matmul (φ₁ := .bf16) (φ₂ := .bf16) dot_S512x384_S384x1024_S512x1024_1_0_0_1_n_n none a (shapeCast S384x1024 wa shapeCasts_S384x1024_S384x1024) (constant S512x1024 .f32 0x00000000#32)))
    (matmul (φ₁ := .bf16) (φ₂ := .bf16) dot_S512x384_S384x1024_S512x1024_1_0_0_1_n_n none b (shapeCast S384x1024 wb shapeCasts_S384x1024_S384x1024) (constant S512x1024 .f32 0x00000000#32)))
    (matmul (φ₁ := .bf16) (φ₂ := .bf16) dot_S512x256_S256x1024_S512x1024_1_0_0_1_n_n none c (shapeCast S256x1024 wc shapeCasts_S256x1024_S256x1024) (constant S512x1024 .f32 0x00000000#32))

/-- A tile's projected rows at an index are the reference's, where its blocks' rows and the weight parts are the reference's. -/
theorem mix_eq (x : FVec Ideal S512x1024 .f32) (a : Rows 512 384) (wa : FVec Ideal S384x1024 .bf16) (b : Rows 512 384) (wb : FVec Ideal S384x1024 .bf16)
    (c : Rows 512 256) (wc : FVec Ideal S256x1024 .bf16)
    (h : FVec Ideal Cert.ReferenceFfnCIdeal.S99328x1024 .f32) (A B : Rows 99328 384) (C : Rows 99328 256) (w : FVec Ideal Cert.ReferenceFfnCIdeal.S1024x1024 .f32)
    (r : Fin 512) (q : Fin 99328) (n : Fin 1024)
    (hh : x (ix2 r n) = h (ix2 q n)) (ha : ∀ k, a (ix2 r k) = A (ix2 q k)) (hb : ∀ k, b (ix2 r k) = B (ix2 q k)) (hc : ∀ k, c (ix2 r k) = C (ix2 q k))
    (hwa : ∀ k : Fin 384, wa (ix2 k n) = w (ix2 ⟨k.val, by omega⟩ n)) (hwb : ∀ k : Fin 384, wb (ix2 k n) = w (ix2 ⟨384 + k.val, by omega⟩ n))
    (hwc : ∀ k : Fin 256, wc (ix2 k n) = w (ix2 ⟨768 + k.val, by omega⟩ n)) :
    mix x a wa b wb c wc (ix2 r n) = refMix h A B C w (ix2 q n) := by
  pointwise [mix, refMix, hh, ha, hb, hc, hwa, hwb, hwc]
  have hs : ∀ g : Fin 1024 → EReal, ∑ x, g x = (∑ x : Fin 384, g ⟨x.val, by omega⟩) + ((∑ x : Fin 384, g ⟨384 + x.val, by omega⟩) + ∑ x : Fin 256, g ⟨768 + x.val, by omega⟩) := fun g => by
    rw [Fin.sum_univ_two_halves 384 640 rfl g, Fin.sum_univ_two_halves 384 256 rfl (fun i : Fin 640 => g ⟨384 + i.val, by omega⟩)]
    simp only [← Nat.add_assoc, Nat.reduceAdd]
  rw [hs]
  simp only [cols_a, cols_b, cols_c, add_assoc]

/-- What the call with the projection stores, at a tile's index: the reference's feed-forward result of the projected rows. -/
theorem row_eq (t : ℕ) (ht : t < 194) (x : FVec Ideal S512x1024 .f32)
    (a0 a1 a2 a3 : Rows 512 384) (wa : FVec Ideal S384x1024 .bf16) (b0 b1 b2 b3 : Rows 512 384) (wb : FVec Ideal S384x1024 .bf16)
    (c0 c1 c2 c3 : Rows 512 256) (wc : FVec Ideal S256x1024 .bf16)
    (v : FVec Ideal S1x1024 .f32) (g u : FVec Ideal S1024x1536 .bf16) (o : FVec Ideal S1536x1024 .bf16)
    (g' u' : FVec Ideal S1024x1280 .bf16) (o' : FVec Ideal S1280x1024 .bf16)
    (h : FVec Ideal Cert.ReferenceFfnCIdeal.S99328x1024 .f32) (A0 : Rows 65536 384) (A1 : Rows 32768 384) (A2 A3 : Rows 512 384)
    (B0 : Rows 65536 384) (B1 : Rows 32768 384) (B2 B3 : Rows 512 384) (C0 : Rows 65536 256) (C1 : Rows 32768 256) (C2 C3 : Rows 512 256)
    (w : FVec Ideal Cert.ReferenceFfnCIdeal.S1024x1024 .f32) (nw : FVec Ideal Cert.ReferenceFfnIdeal.S1024 .f32)
    (wi : FVec Ideal Cert.ReferenceFfnIdeal.S1024x5632 .f32) (wo : FVec Ideal Cert.ReferenceFfnIdeal.S2816x1024 .f32)
    (r : Fin 512) (q : Fin 99328) (n : Fin 1024) (hq : q.val = t * 512 + r.val)
    (ha : Piece t r a0 a1 a2 a3 A0 A1 A2 A3) (hb : Piece t r b0 b1 b2 b3 B0 B1 B2 B3) (hc : Piece t r c0 c1 c2 c3 C0 C1 C2 C3)
    (hh : ∀ k : Fin 1024, x (ix2 r k) = h (ix2 q k))
    (hn : ∀ k : Fin 1024, v (ix2 0 k) = nw (ix1 k))
    (hwa : ∀ (k : Fin 384) (n : Fin 1024), wa (ix2 k n) = w (ix2 ⟨k.val, by omega⟩ n))
    (hwb : ∀ (k : Fin 384) (n : Fin 1024), wb (ix2 k n) = w (ix2 ⟨384 + k.val, by omega⟩ n))
    (hwc : ∀ (k : Fin 256) (n : Fin 1024), wc (ix2 k n) = w (ix2 ⟨768 + k.val, by omega⟩ n))
    (hg : ∀ (k : Fin 1024) (f : Fin 1536), g (ix2 k f) = wi (ix2 k ⟨f.val, by omega⟩))
    (hu : ∀ (k : Fin 1024) (f : Fin 1536), u (ix2 k f) = wi (ix2 k ⟨2816 + f.val, by omega⟩))
    (hg' : ∀ (k : Fin 1024) (f : Fin 1280), g' (ix2 k f) = wi (ix2 k ⟨1536 + f.val, by omega⟩))
    (hu' : ∀ (k : Fin 1024) (f : Fin 1280), u' (ix2 k f) = wi (ix2 k ⟨2816 + (1536 + f.val), by omega⟩))
    (ho : ∀ (f : Fin 1536) (k : Fin 1024), o (ix2 f k) = wo (ix2 ⟨f.val, by omega⟩ k))
    (ho' : ∀ (f : Fin 1280) (k : Fin 1024), o' (ix2 f k) = wo (ix2 ⟨1536 + f.val, by omega⟩ k)) :
    Ffn.tile (mix x (pick (BitVec.ofNat 32 t) a0 a1 a2 a3) wa (pick (BitVec.ofNat 32 t) b0 b1 b2 b3) wb (pick (BitVec.ofNat 32 t) c0 c1 c2 c3) wc) v g u o g' u' o' (ix2 r n)
      = Ffn.refOut (refMix h (rows384 A0 A1 A2 A3) (rows384 B0 B1 B2 B3) (rows256 C0 C1 C2 C3) w) nw wi wo (ix2 q n) :=
  Ffn.tile_eq _ _ _ _ _ _ _ _ _ _ _ _ _ _ _ (fun k => mix_eq _ _ _ _ _ _ _ _ _ _ _ _ _ _ _ (hh k)
    (fun k => pick_rows _ t ht _ _ _ _ _ _ _ _ r k q hq ha) (fun k => pick_rows _ t ht _ _ _ _ _ _ _ _ r k q hq hb) (fun k => pick_rows _ t ht _ _ _ _ _ _ _ _ r k q hq hc)
    (fun j => hwa j k) (fun j => hwb j k) (fun j => hwc j k)) hn hg hu hg' hu' ho ho'

end Cert.FfnMix
-- ==== Proof.FfnC.lean ====
/- The first layer's second feed-forward call: its result array is the reference's term over the call's arguments. -/
module

public import proofs.«01_k».proof.Proof.Gen.KernelFfnCIdeal.Frame
public import proofs.«01_k».proof.Proof.FfnMix
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnC

open Cert.KernelFfnCIdeal Cert.KernelFfnCIdeal.Gen

variable (m : (ℓ : Loc nD τ sig) → Buf (Elt Ideal) ℓ)

/-- Where the windows of a grid point sit, and the point's coordinate. -/
theorem idx : ∀ t : Fin cfg0.N, win0_0.index t = ![t.val, 0]
    ∧ win0_1.index t = ![min t.val 127, 0] ∧ win0_2.index t = ![min (t.val - 128) 63, 0] ∧ win0_3.index t = ![0, 0] ∧ win0_4.index t = ![0, 0]
    ∧ win0_5.index t = ![min t.val 127, 0] ∧ win0_6.index t = ![min (t.val - 128) 63, 0] ∧ win0_7.index t = ![0, 0] ∧ win0_8.index t = ![0, 0]
    ∧ win0_9.index t = ![min t.val 127, 0] ∧ win0_10.index t = ![min (t.val - 128) 63, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![t.val, 0] :=
  (by decide +kernel : ∀ t : Fin grid0.N, _)

/-- The point's coordinate. -/
theorem coord : ∀ t : Fin cfg0.N, (grid0.coords t 0).val = t.val :=
  (by decide +kernel : ∀ t : Fin grid0.N, _)

/-- The tile's rows after the projection. -/
theorem pay_mix (i : grid0.Coords) (v0 : Vec Ideal S512x1024 .f32) (v1 v3 v6 v9 : Vec Ideal S512x384 .bf16) (v11 : Vec Ideal S384x1024 .bf16)
    (v15 v17 v20 v23 : Vec Ideal S512x384 .bf16) (v25 : Vec Ideal S384x1024 .bf16) (v29 v31 v34 v37 : Vec Ideal S512x256 .bf16) (v39 : Vec Ideal S256x1024 .bf16) :
    k0_pay3 (F := Ideal) (BitVec.ofNat 32 (i 0).val) (k0_pay2 i v0 v1 v3 v6 v9 v11 v15 v17 v20 v23 v25) v29 v31 v34 v37 v39
      = FfnMix.mix v0 (FfnMix.pick (BitVec.ofNat 32 (i 0).val) v9 v6 v3 v1) v11 (FfnMix.pick (BitVec.ofNat 32 (i 0).val) v23 v20 v17 v15) v25
        (FfnMix.pick (BitVec.ofNat 32 (i 0).val) v37 v34 v31 v29) v39 := rfl

/-- What the call stores is one tile's feed-forward result of those rows. -/
theorem pay_tile (n : BitVec 32) (v28 : FVec Ideal S512x1024 .f32) (v29 v31 v34 v37 : Vec Ideal S512x256 .bf16) (v39 : Vec Ideal S256x1024 .bf16) (v43 : Vec Ideal S1x1024 .f32)
    (v59 v62 : Vec Ideal S1024x1536 .bf16) (v69 : Vec Ideal S1536x1024 .bf16) (v73 v76 : Vec Ideal S1024x1280 .bf16) (v83 : Vec Ideal S1280x1024 .bf16) :
    k0_pay1 (F := Ideal) (k0_pay3 n v28 v29 v31 v34 v37 v39) (k0_pay4 n v28 v29 v31 v34 v37 v39 v43) (k0_pay5 (F := Ideal))
        (k0_pay6 n v28 v29 v31 v34 v37 v39 v43 v59) (k0_pay7 v62) v69 v73 v76 v83
      = Ffn.tile (k0_pay3 n v28 v29 v31 v34 v37 v39) v43 v59 v62 v69 v73 v76 v83 := rfl

/-- The latent attention's blocks sit at the grid point's rows. -/
theorem piece_a (c : Dev nD) (t : Fin cfg0.N) (r : Fin 512) : FfnMix.Piece (w := 384) t.val r (iblk m c 1 t) (iblk m c 2 t) (iblk m c 3 t) (iblk m c 4 t) (m ((c : Thread nD τ).loc main_arg1)) (m ((c : Thread nD τ).loc main_arg2)) (m ((c : Thread nD τ).loc main_arg3)) (m ((c : Thread nD τ).loc main_arg4)) := by
  have ht : t.val < 194 := t.isLt
  constructor <;> intros <;> blk_ext [iblk, V, idx t]

/-- The grouped attention's blocks sit at the grid point's rows. -/
theorem piece_b (c : Dev nD) (t : Fin cfg0.N) (r : Fin 512) : FfnMix.Piece (w := 384) t.val r (iblk m c 5 t) (iblk m c 6 t) (iblk m c 7 t) (iblk m c 8 t) (m ((c : Thread nD τ).loc main_arg5)) (m ((c : Thread nD τ).loc main_arg6)) (m ((c : Thread nD τ).loc main_arg7)) (m ((c : Thread nD τ).loc main_arg8)) := by
  have ht : t.val < 194 := t.isLt
  constructor <;> intros <;> blk_ext [iblk, V, idx t]

/-- The linear attention's blocks sit at the grid point's rows. -/
theorem piece_c (c : Dev nD) (t : Fin cfg0.N) (r : Fin 512) : FfnMix.Piece (w := 256) t.val r (iblk m c 9 t) (iblk m c 10 t) (iblk m c 11 t) (iblk m c 12 t) (m ((c : Thread nD τ).loc main_arg9)) (m ((c : Thread nD τ).loc main_arg10)) (m ((c : Thread nD τ).loc main_arg11)) (m ((c : Thread nD τ).loc main_arg12)) := by
  have ht : t.val < 194 := t.isLt
  constructor <;> intros <;> blk_ext [iblk, V, idx t]

set_option maxHeartbeats 1600000 in
/-- What a grid point stores at a block index is the reference's result at the array index it sits at. -/
theorem point (c : Dev nD) (t : Fin cfg0.N) (y : ((cfg0.win 20).xblock (cfg0.grid.coords t)).Idx) :
    k0_pay1 (k0_pay3 (BitVec.ofNat 32 (grid0.coords t 0).val) (k0_pay2 (grid0.coords t) (iblk m c 0 t) (iblk m c 4 t) (iblk m c 3 t) (iblk m c 2 t) (iblk m c 1 t) (iblk m c 13 t) (iblk m c 8 t) (iblk m c 7 t) (iblk m c 6 t) (iblk m c 5 t) (iblk m c 14 t)) (iblk m c 12 t) (iblk m c 11 t) (iblk m c 10 t) (iblk m c 9 t) (iblk m c 15 t))
      (k0_pay4 (BitVec.ofNat 32 (grid0.coords t 0).val) (k0_pay2 (grid0.coords t) (iblk m c 0 t) (iblk m c 4 t) (iblk m c 3 t) (iblk m c 2 t) (iblk m c 1 t) (iblk m c 13 t) (iblk m c 8 t) (iblk m c 7 t) (iblk m c 6 t) (iblk m c 5 t) (iblk m c 14 t)) (iblk m c 12 t) (iblk m c 11 t) (iblk m c 10 t) (iblk m c 9 t) (iblk m c 15 t) (iblk m c 16 t)) (k0_pay5 (F := Ideal))
      (k0_pay6 (BitVec.ofNat 32 (grid0.coords t 0).val) (k0_pay2 (grid0.coords t) (iblk m c 0 t) (iblk m c 4 t) (iblk m c 3 t) (iblk m c 2 t) (iblk m c 1 t) (iblk m c 13 t) (iblk m c 8 t) (iblk m c 7 t) (iblk m c 6 t) (iblk m c 5 t) (iblk m c 14 t)) (iblk m c 12 t) (iblk m c 11 t) (iblk m c 10 t) (iblk m c 9 t) (iblk m c 15 t) (iblk m c 16 t) (View.ld (iblk m c 17 t) r0_6))
      (k0_pay7 (View.ld (iblk m c 18 t) r0_6)) (View.ld (iblk m c 19 t) r0_7) (View.ld (iblk m c 17 t) r0_8) (View.ld (iblk m c 18 t) r0_8) (View.ld (iblk m c 19 t) r0_9) y
    = Ffn.refOut (FfnMix.refMix (m ((c : Thread nD τ).loc main_arg0)) (FfnMix.rows384 (m ((c : Thread nD τ).loc main_arg1)) (m ((c : Thread nD τ).loc main_arg2)) (m ((c : Thread nD τ).loc main_arg3)) (m ((c : Thread nD τ).loc main_arg4)))
        (FfnMix.rows384 (m ((c : Thread nD τ).loc main_arg5)) (m ((c : Thread nD τ).loc main_arg6)) (m ((c : Thread nD τ).loc main_arg7)) (m ((c : Thread nD τ).loc main_arg8)))
        (FfnMix.rows256 (m ((c : Thread nD τ).loc main_arg9)) (m ((c : Thread nD τ).loc main_arg10)) (m ((c : Thread nD τ).loc main_arg11)) (m ((c : Thread nD τ).loc main_arg12))) (m ((c : Thread nD τ).loc main_arg13)))
        (m ((c : Thread nD τ).loc main_arg14)) (m ((c : Thread nD τ).loc main_arg15)) (m ((c : Thread nD τ).loc main_arg16))
        (((View.whole main_v10).slice (win0_20.rect t)).emb y) := by
  have ht : t.val < 194 := t.isLt
  idx_vars y
  have e : (((View.whole main_v10).slice (win0_20.rect t)).emb (ix2 y0 y1)) = ix2 (⟨t.val * 512 + y0.val, by omega⟩ : Fin 99328) y1 := by
    blk_ext [idx t]
  rw [e]
  refine (congrFun (pay_tile _ _ _ _ _ _ _ _ _ _ _ _ _ _) _).trans ?_
  rw [pay_mix, coord t]
  refine FfnMix.row_eq (r := y0) (n := y1) (t := t.val) (ht := ht) (hq := rfl) (ha := piece_a m c t y0) (hb := piece_b m c t y0) (hc := piece_c m c t y0)
    (hh := ?_) (hn := ?_) (hwa := ?_) (hwb := ?_) (hwc := ?_) (hg := ?_) (hu := ?_) (hg' := ?_) (hu' := ?_) (ho := ?_) (ho' := ?_) ..
  · intro k
    blk_ext [iblk, V, idx t]
  · intro k
    blk_simp [iblk, idx t]
    entry_read
    pointwise
    blk_ext [idx t]
  all_goals
    intro k f
    pointwise
    blk_simp [iblk, idx t]
    entry_read
    pointwise
    blk_ext [idx t]

/-- The result array after the run. -/
theorem final (c : Dev nD) : (dats m 0 c).arrAt 20 (cfgs 0).N
    = Ffn.refOut (FfnMix.refMix (m ((c : Thread nD τ).loc main_arg0)) (FfnMix.rows384 (m ((c : Thread nD τ).loc main_arg1)) (m ((c : Thread nD τ).loc main_arg2)) (m ((c : Thread nD τ).loc main_arg3)) (m ((c : Thread nD τ).loc main_arg4)))
        (FfnMix.rows384 (m ((c : Thread nD τ).loc main_arg5)) (m ((c : Thread nD τ).loc main_arg6)) (m ((c : Thread nD τ).loc main_arg7)) (m ((c : Thread nD τ).loc main_arg8)))
        (FfnMix.rows256 (m ((c : Thread nD τ).loc main_arg9)) (m ((c : Thread nD τ).loc main_arg10)) (m ((c : Thread nD τ).loc main_arg11)) (m ((c : Thread nD τ).loc main_arg12))) (m ((c : Thread nD τ).loc main_arg13)))
        (m ((c : Thread nD τ).loc main_arg14)) (m ((c : Thread nD τ).loc main_arg15)) (m ((c : Thread nD τ).loc main_arg16)) := by
  refine (dats m 0 c).arrAt_eq_of_covers 20 _ (by decide +kernel) fun t _ y => ?_
  blk_simp
  rw [after0_20]; unfold_out out0_20; frame_out
  exact point m c t y

end Cert.FfnC
-- ==== Proof.MlaTrip.lean ====
module

public import proofs.«01_k».proof.Proof.Gen.KernelMlaIdeal.Loops
public import Idealize.ShloMosaic.Lib.Pointwise
public import Idealize.ShloMosaic.Lib.Pipeline.ValueKit
public import Idealize.ShloMosaic.Lib.Pipeline.ReadBack
public import Idealize.ShloMosaic.Lib.Tactic.RunNames
public import Idealize.ShloMosaic.Lib.Tactic.Stretches

@[expose] public section

set_option maxRecDepth 16384

noncomputable section

namespace Cert.Mla

open Cert.KernelMlaIdeal Cert.KernelMlaIdeal.Gen
open Idealize.ShloMosaic Idealize.ShloMosaic.TcCoe Idealize.ShloMosaic.Tactic
open Idealize.SL Idealize.SL.Sem

variable {F : FTy → Type} [FloatOps F]

/-- One head's running state: the running maximum of the scores and the accumulated rows. -/
abbrev St (F : FTy → Type) : Type := FVec F S1x512 .f32 × FVec F S80x512 .f32

/-- One chunk taken into a head's state: the scores `s` of 512 keys against 512 queries, the keys' value rows `v`. -/
def upd (a : St F) (s : Vec F S1x1x512x512 .f32) (v : Vec F S1x80x512 .bf16) : St F := (k0_pay4 a.1 s, k0_pay5 a.1 a.2 s v)

/-- The state after `n` chunks, their scores `s` and value rows `v`. -/
def run (s : ℕ → Vec F S1x1x512x512 .f32) (v : ℕ → Vec F S1x80x512 .bf16) (a : St F) : ℕ → St F
  | 0 => a
  | n + 1 => upd (run s v a n) (s n) (v n)

/-- Rows `512 c …` of the keys, the 128 columns of head `i`. -/
def keys (K : Vec F S16384x256 .bf16) (i c : ℕ) : Vec F S512x128 .bf16 :=
  fun x => K (ix2 ⟨(512 * c + (x 0).val) % 16384, Nat.mod_lt _ (by decide)⟩ ⟨(128 * i + (x 1).val) % 256, Nat.mod_lt _ (by decide)⟩)

/-- Tile `c` of the values, the 80 rows of head `i`. -/
def vals (V : Vec F S32x160x512 .bf16) (i c : ℕ) : Vec F S1x80x512 .bf16 :=
  fun x => V (ix3 ⟨c % 32, Nat.mod_lt _ (by decide)⟩ ⟨(80 * i + (x 1).val) % 160, Nat.mod_lt _ (by decide)⟩ (x 2))

/-- A chunk's scores against the queries `q`. -/
def scores (q : Vec F S512x128 .bf16) (K : Vec F S16384x256 .bf16) (i c : ℕ) : Vec F S1x1x512x512 .f32 := k0_pay2 q (keys K i c)

theorem off1_eq : ∀ k : Fin k0_t1_loop.trips, ∀ r : Fin 16, k0_off1 k (BitVec.ofNat 32 r.val) = ![512 * min (16 * k.val + r.val + 1) 31, 0] := by decide +kernel
theorem off3_eq : ∀ k : Fin k0_t1_loop.trips, ∀ r : Fin 16, k0_off3 k (BitVec.ofNat 32 r.val) = ![512 * min (16 * k.val + r.val + 1) 31, 128] := by decide +kernel
theorem off2_eq : ∀ k : Fin k0_t1_loop.trips, ∀ r : Fin 16, k0_off2 k (BitVec.ofNat 32 r.val) = ![16 * k.val + r.val, 0, 0] := by decide +kernel
theorem off4_eq : ∀ k : Fin k0_t1_loop.trips, ∀ r : Fin 16, k0_off4 k (BitVec.ofNat 32 r.val) = ![16 * k.val + r.val, 80, 0] := by decide +kernel

/-- A load of chunk `c`'s keys of head `i`. -/
theorem ld_keys (M : Memref sig .tc .vmem S16384x256 .bf16) (X : BufTy.Contents (Elt F) M.view.ty) (i c : ℕ) (hi : i < 2) (hc : c < 32)
    {off : Fin 2 → ℕ} (h : off = ![512 * c, 128 * i]) (inb : ∀ a, off a + S512x128.size a ≤ S16384x256.size a) :
    View.readAt (Elt F) M.view (Rect.unit (s := S16384x256) off S512x128.size inb).toLoadRect X = keys (M.view.read (Elt F) X) i c := by
  subst h
  funext x
  have h0 : (x 0).val < 512 := (x 0).isLt
  have h1 : (x 1).val < 128 := (x 1).isLt
  rw [View.readAt_apply]
  refine congrArg (M.view.read (Elt F) X) (funext fun a => Fin.ext ?_)
  rw [LoadRect.idx_apply]
  fin_cases a
  · show 512 * c + 1 * (x 0).val = (512 * c + (x 0).val) % 16384
    omega
  · show 128 * i + 1 * (x 1).val = (128 * i + (x 1).val) % 256
    omega

/-- A load of tile `c`'s value rows of head `i`. -/
theorem ld_vals {sg : RefSig} (M : Memref sg .tc .vmem S32x160x512 .bf16) (X : BufTy.Contents (Elt F) M.view.ty) (i c : ℕ) (hi : i < 2) (hc : c < 32)
    {off : Fin 3 → ℕ} (h : off = ![c, 80 * i, 0]) (inb : ∀ a, off a + S1x80x512.size a ≤ S32x160x512.size a) :
    View.readAt (Elt F) M.view (Rect.unit (s := S32x160x512) off S1x80x512.size inb).toLoadRect X = vals (M.view.read (Elt F) X) i c := by
  subst h
  funext x
  have h0 : (x 0).val < 1 := (x 0).isLt
  have h1 : (x 1).val < 80 := (x 1).isLt
  rw [View.readAt_apply]
  refine congrArg (M.view.read (Elt F) X) (funext fun a => Fin.ext ?_)
  rw [LoadRect.idx_apply]
  fin_cases a
  · show c + 1 * (x 0).val = c % 32
    omega
  · show 80 * i + 1 * (x 1).val = (80 * i + (x 1).val) % 160
    omega
  · show 0 + 1 * (x 2).val = (x 2).val
    omega

section
variable (M : Memref sig .tc .vmem S16384x256 .bf16) (X : BufTy.Contents (Elt F) M.view.ty) (k : Fin k0_t1_loop.trips) (w : BitVec 32) (hw : w.toNat < 16)
include hw

theorem ld_k0 (inb : ∀ a, k0_off1 k w a + S512x128.size a ≤ S16384x256.size a) :
    View.readAt (Elt F) M.view (Rect.unit (s := S16384x256) (k0_off1 k w) S512x128.size inb).toLoadRect X = keys (M.view.read (Elt F) X) 0 (min (16 * k.val + w.toNat + 1) 31) :=
  ld_keys M X 0 _ (by decide) (by omega) (by have := off1_eq k ⟨w.toNat, hw⟩; simpa using this) inb
theorem ld_k1 (inb : ∀ a, k0_off3 k w a + S512x128.size a ≤ S16384x256.size a) :
    View.readAt (Elt F) M.view (Rect.unit (s := S16384x256) (k0_off3 k w) S512x128.size inb).toLoadRect X = keys (M.view.read (Elt F) X) 1 (min (16 * k.val + w.toNat + 1) 31) :=
  ld_keys M X 1 _ (by decide) (by omega) (by have := off3_eq k ⟨w.toNat, hw⟩; simpa using this) inb
end

section
variable (M : Memref sig .tc .vmem S32x160x512 .bf16) (X : BufTy.Contents (Elt F) M.view.ty) (k : Fin k0_t1_loop.trips) (w : BitVec 32) (hw : w.toNat < 16)
include hw

theorem ld_v0 (inb : ∀ a, k0_off2 k w a + S1x80x512.size a ≤ S32x160x512.size a) :
    View.readAt (Elt F) M.view (Rect.unit (s := S32x160x512) (k0_off2 k w) S1x80x512.size inb).toLoadRect X = vals (M.view.read (Elt F) X) 0 (16 * k.val + w.toNat) :=
  ld_vals M X 0 _ (by decide) (by have := Nat.lt_of_lt_of_le k.isLt k0_t1_abs.2.1; omega) (by have := off2_eq k ⟨w.toNat, hw⟩; simpa using this) inb
theorem ld_v1 (inb : ∀ a, k0_off4 k w a + S1x80x512.size a ≤ S32x160x512.size a) :
    View.readAt (Elt F) M.view (Rect.unit (s := S32x160x512) (k0_off4 k w) S1x80x512.size inb).toLoadRect X = vals (M.view.read (Elt F) X) 1 (16 * k.val + w.toNat) :=
  ld_vals M X 1 _ (by decide) (by have := Nat.lt_of_lt_of_le k.isLt k0_t1_abs.2.1; omega) (by have := off4_eq k ⟨w.toNat, hw⟩; simpa using this) inb
end

/-- The scores a trip takes in, of all chunks' scores `s`: of the first chunk what the scratch holds, of the others those computed on the way. -/
def tripScores (s : ℕ → Vec F S1x1x512x512 .f32) (k : ℕ) (s0 : Vec F S1x1x512x512 .f32) : ℕ → Vec F S1x1x512x512 .f32
  | 0 => s0
  | n + 1 => s (min (16 * k + n + 1) 31)

set_option maxHeartbeats 4000000 in
/-- A trip's yield: sixteen chunks into each head's state. -/
theorem tripR_eq (𝒱 : Variants) (c : Dev nD) (bd : Option 𝒱.V) (i : grid0.Coords) (arg3 : Memref sig .tc .vmem S512x256 .bf16) (harg3 : arg3.IsWhole) (arg4 : Memref sig .tc .vmem S16384x256 .bf16) (harg4 : arg4.IsWhole) (arg5 : Memref sig .tc .vmem S128x256 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) :
    tripR_k0_t1 𝒱 c bd i arg3 harg3 arg4 harg4 arg5 harg5 arg6 harg6 arg7 harg7 arg8 harg8 arg9 harg9 v36 v37 v38 v39 X_arg4 X_arg6 k acc f_arg9
      = (let K := arg4.view.read (Elt F) X_arg4
         let V := arg6.view.read (Elt F) X_arg6
         let A := run (tripScores (scores v38 K 0) k.val (View.readAt (Elt F) arg9.view (Rect.unit (s := S2x2x512x512) ![0, 0, 0, 0] S1x1x512x512.size inb_S2x2x512x512_S1x1x512x512_0_0_0_0).toLoadRect f_arg9)) (fun n => vals V 0 (16 * k.val + n)) (acc.1, acc.2.1) 16
         let B := run (tripScores (scores v39 K 1) k.val (View.readAt (Elt F) arg9.view (Rect.unit (s := S2x2x512x512) ![1, 0, 0, 0] S1x1x512x512.size inb_S2x2x512x512_S1x1x512x512_1_0_0_0).toLoadRect f_arg9)) (fun n => vals V 1 (16 * k.val + n)) (acc.2.2.1, acc.2.2.2) 16
         (A.1, A.2, B.1, B.2)) := by
  unfold tripR_k0_t1
  unfold trip_k0_t1
  dsimp only
  sl_unfold_run_values
  simp (decide := true) (proj := false) only [trip_k0_t1.sl.HW_arg9_3, trip_k0_t1.sl.HW_arg9_4, trip_k0_t1.sl.HW_arg9_5, trip_k0_t1.sl.HW_arg9_6, trip_k0_t1.sl.HW_arg9_7, trip_k0_t1.sl.HW_arg9_8, trip_k0_t1.sl.HW_arg9_9, trip_k0_t1.sl.HW_arg9_10, trip_k0_t1.sl.HW_arg9_11, trip_k0_t1.sl.HW_arg9_12, trip_k0_t1.sl.HW_arg9_13, trip_k0_t1.sl.HW_arg9_14, trip_k0_t1.sl.HW_arg9_15, trip_k0_t1.sl.HW_arg9_16, trip_k0_t1.sl.HW_arg9_17, trip_k0_t1.sl.HW_arg9_18, trip_k0_t1.sl.HW_arg9_19, trip_k0_t1.sl.HW_arg9_20, trip_k0_t1.sl.HW_arg9_21, trip_k0_t1.sl.HW_arg9_22, trip_k0_t1.sl.HW_arg9_23, trip_k0_t1.sl.HW_arg9_24, trip_k0_t1.sl.HW_arg9_25, trip_k0_t1.sl.HW_arg9_26, trip_k0_t1.sl.HW_arg9_27, trip_k0_t1.sl.HW_arg9_28, trip_k0_t1.sl.HW_arg9_29, trip_k0_t1.sl.HW_arg9_30, trip_k0_t1.sl.HW_arg9_31, trip_k0_t1.sl.HW_arg9_32, ↓View.readCov_cons_toLoadRect, ↓View.readCov_skip, ld_k0, ld_k1, ld_v0, ld_v1, BitVec.toNat_ofNat, Nat.reduceMod, Nat.reducePow]
  sl_unfold_run_values
  simp (decide := true) (proj := false) only [ld_k0, ld_k1, ld_v0, ld_v1, BitVec.toNat_ofNat, Nat.reduceMod, Nat.reducePow]
  dsimp only [run, upd, tripScores, scores]
  rfl

/-- What head `r`'s even slot of the scratch holds. -/
abbrev slot0 (M : Memref sig .tc .vmem S2x2x512x512 .f32) (f : BufTy.Contents (Elt F) M.view.ty) : Vec F S1x1x512x512 .f32 :=
  View.readAt (Elt F) M.view (Rect.unit (s := S2x2x512x512) ![0, 0, 0, 0] S1x1x512x512.size inb_S2x2x512x512_S1x1x512x512_0_0_0_0).toLoadRect f
/-- The same of the second head. -/
abbrev slot1 (M : Memref sig .tc .vmem S2x2x512x512 .f32) (f : BufTy.Contents (Elt F) M.view.ty) : Vec F S1x1x512x512 .f32 :=
  View.readAt (Elt F) M.view (Rect.unit (s := S2x2x512x512) ![1, 0, 0, 0] S1x1x512x512.size inb_S2x2x512x512_S1x1x512x512_1_0_0_0).toLoadRect f

set_option maxHeartbeats 4000000 in
/-- After a trip the first head's even slot holds the scores of the chunk the next trip begins with. -/
theorem tripL_slot0 (𝒱 : Variants) (c : Dev nD) (bd : Option 𝒱.V) (i : grid0.Coords) (arg3 : Memref sig .tc .vmem S512x256 .bf16) (harg3 : arg3.IsWhole) (arg4 : Memref sig .tc .vmem S16384x256 .bf16) (harg4 : arg4.IsWhole) (arg5 : Memref sig .tc .vmem S128x256 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) :
    slot0 arg9 (arg9.view.writes (Elt F) f_arg9 (tripL_k0_t1 𝒱 c bd i arg3 harg3 arg4 harg4 arg5 harg5 arg6 harg6 arg7 harg7 arg8 harg8 arg9 harg9 v36 v37 v38 v39 X_arg4 X_arg6 k acc f_arg9)) = scores v38 (arg4.view.read (Elt F) X_arg4) 0 (min (16 * k.val + 16) 31) := by
  unfold tripL_k0_t1 slot0
  unfold trip_k0_t1
  dsimp only
  rw [View.readAt_writes_of_cover]
  · simp (decide := true) (proj := false) only [trip_k0_t1.sl.HW_arg9_3, trip_k0_t1.sl.HW_arg9_4, trip_k0_t1.sl.HW_arg9_5, trip_k0_t1.sl.HW_arg9_6, trip_k0_t1.sl.HW_arg9_7, trip_k0_t1.sl.HW_arg9_8, trip_k0_t1.sl.HW_arg9_9, trip_k0_t1.sl.HW_arg9_10, trip_k0_t1.sl.HW_arg9_11, trip_k0_t1.sl.HW_arg9_12, trip_k0_t1.sl.HW_arg9_13, trip_k0_t1.sl.HW_arg9_14, trip_k0_t1.sl.HW_arg9_15, trip_k0_t1.sl.HW_arg9_16, trip_k0_t1.sl.HW_arg9_17, trip_k0_t1.sl.HW_arg9_18, trip_k0_t1.sl.HW_arg9_19, trip_k0_t1.sl.HW_arg9_20, trip_k0_t1.sl.HW_arg9_21, trip_k0_t1.sl.HW_arg9_22, trip_k0_t1.sl.HW_arg9_23, trip_k0_t1.sl.HW_arg9_24, trip_k0_t1.sl.HW_arg9_25, trip_k0_t1.sl.HW_arg9_26, trip_k0_t1.sl.HW_arg9_27, trip_k0_t1.sl.HW_arg9_28, trip_k0_t1.sl.HW_arg9_29, trip_k0_t1.sl.HW_arg9_30, trip_k0_t1.sl.HW_arg9_31, trip_k0_t1.sl.HW_arg9_32, ↓View.readCov_cons_toLoadRect, ↓View.readCov_skip]
    sl_unfold_run_values
    simp (decide := true) (proj := false) only [ld_k0, ld_k1, ld_v0, ld_v1, BitVec.toNat_ofNat, Nat.reduceMod, Nat.reducePow]
    rfl
  · intro j
    exact ⟨_, by unfold trip_k0_t1.sl.HW_arg9_32; exact List.mem_cons_of_mem _ (List.mem_cons_self), LoadRect.idx_mem_of_within rfl j⟩

set_option maxHeartbeats 4000000 in
/-- After a trip the second head's even slot holds the scores of the chunk the next trip begins with. -/
theorem tripL_slot1 (𝒱 : Variants) (c : Dev nD) (bd : Option 𝒱.V) (i : grid0.Coords) (arg3 : Memref sig .tc .vmem S512x256 .bf16) (harg3 : arg3.IsWhole) (arg4 : Memref sig .tc .vmem S16384x256 .bf16) (harg4 : arg4.IsWhole) (arg5 : Memref sig .tc .vmem S128x256 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) :
    slot1 arg9 (arg9.view.writes (Elt F) f_arg9 (tripL_k0_t1 𝒱 c bd i arg3 harg3 arg4 harg4 arg5 harg5 arg6 harg6 arg7 harg7 arg8 harg8 arg9 harg9 v36 v37 v38 v39 X_arg4 X_arg6 k acc f_arg9)) = scores v39 (arg4.view.read (Elt F) X_arg4) 1 (min (16 * k.val + 16) 31) := by
  unfold tripL_k0_t1 slot1
  unfold trip_k0_t1
  dsimp only
  rw [View.readAt_writes_of_cover]
  · simp (decide := true) (proj := false) only [trip_k0_t1.sl.HW_arg9_3, trip_k0_t1.sl.HW_arg9_4, trip_k0_t1.sl.HW_arg9_5, trip_k0_t1.sl.HW_arg9_6, trip_k0_t1.sl.HW_arg9_7, trip_k0_t1.sl.HW_arg9_8, trip_k0_t1.sl.HW_arg9_9, trip_k0_t1.sl.HW_arg9_10, trip_k0_t1.sl.HW_arg9_11, trip_k0_t1.sl.HW_arg9_12, trip_k0_t1.sl.HW_arg9_13, trip_k0_t1.sl.HW_arg9_14, trip_k0_t1.sl.HW_arg9_15, trip_k0_t1.sl.HW_arg9_16, trip_k0_t1.sl.HW_arg9_17, trip_k0_t1.sl.HW_arg9_18, trip_k0_t1.sl.HW_arg9_19, trip_k0_t1.sl.HW_arg9_20, trip_k0_t1.sl.HW_arg9_21, trip_k0_t1.sl.HW_arg9_22, trip_k0_t1.sl.HW_arg9_23, trip_k0_t1.sl.HW_arg9_24, trip_k0_t1.sl.HW_arg9_25, trip_k0_t1.sl.HW_arg9_26, trip_k0_t1.sl.HW_arg9_27, trip_k0_t1.sl.HW_arg9_28, trip_k0_t1.sl.HW_arg9_29, trip_k0_t1.sl.HW_arg9_30, trip_k0_t1.sl.HW_arg9_31, trip_k0_t1.sl.HW_arg9_32, ↓View.readCov_cons_toLoadRect, ↓View.readCov_skip]
    sl_unfold_run_values
    simp (decide := true) (proj := false) only [ld_k0, ld_k1, ld_v0, ld_v1, BitVec.toNat_ofNat, Nat.reduceMod, Nat.reducePow]
    rfl
  · intro j
    exact ⟨_, by unfold trip_k0_t1.sl.HW_arg9_32; exact List.mem_cons_self, LoadRect.idx_mem_of_within rfl j⟩

/-- A run of `m + n` chunks is a run of `m` and then a run of the next `n`. -/
theorem run_add (s : ℕ → Vec F S1x1x512x512 .f32) (v : ℕ → Vec F S1x80x512 .bf16) (a : St F) (m n : ℕ) :
    run s v a (m + n) = run (fun j => s (m + j)) (fun j => v (m + j)) (run s v a m) n := by
  induction n with
  | zero => rfl
  | succ n ih => show upd (run s v a (m + n)) _ _ = _; rw [ih]; rfl

/-- A run reads its first `n` chunks only. -/
theorem run_congr {s s' : ℕ → Vec F S1x1x512x512 .f32} {v v' : ℕ → Vec F S1x80x512 .bf16} (a : St F) (n : ℕ) (hs : ∀ j < n, s j = s' j) (hv : ∀ j < n, v j = v' j) :
    run s v a n = run s' v' a n := by
  induction n with
  | zero => rfl
  | succ n ih =>
    show upd (run s v a n) _ _ = upd (run s' v' a n) _ _
    rw [ih (fun j h => hs j (by omega)) (fun j h => hv j (by omega)), hs n (by omega), hv n (by omega)]

/-- Trip `k` (of two) takes in the chunks `16 k …`. -/
theorem tripScores_eq (s : ℕ → Vec F S1x1x512x512 .f32) (k : ℕ) (hk : k < 2) {s0 : Vec F S1x1x512x512 .f32} (h0 : s0 = s (16 * k)) :
    ∀ j < 16, tripScores s k s0 j = s (16 * k + j) := by
  intro j hj
  match j with
  | 0 => exact h0
  | j + 1 => show s _ = _; congr 1; omega

/-- One trip's yield, the scratch holding the scores of the chunk it begins with. -/
theorem trip_run (𝒱 : Variants) (c : Dev nD) (bd : Option 𝒱.V) (i : grid0.Coords) (arg3 : Memref sig .tc .vmem S512x256 .bf16) (harg3 : arg3.IsWhole) (arg4 : Memref sig .tc .vmem S16384x256 .bf16) (harg4 : arg4.IsWhole) (arg5 : Memref sig .tc .vmem S128x256 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) (h0 : slot0 arg9 f_arg9 = scores v38 (arg4.view.read (Elt F) X_arg4) 0 (16 * k.val)) (h1 : slot1 arg9 f_arg9 = scores v39 (arg4.view.read (Elt F) X_arg4) 1 (16 * k.val))
    (hk : k.val < 2) (a b : St F) (n : ℕ) (hn : n = 16 * k.val)
    (ha : (acc.1, acc.2.1) = run (scores v38 (arg4.view.read (Elt F) X_arg4) 0) (vals (arg6.view.read (Elt F) X_arg6) 0) a n)
    (hb : (acc.2.2.1, acc.2.2.2) = run (scores v39 (arg4.view.read (Elt F) X_arg4) 1) (vals (arg6.view.read (Elt F) X_arg6) 1) b n) :
    let r := tripR_k0_t1 𝒱 c bd i arg3 harg3 arg4 harg4 arg5 harg5 arg6 harg6 arg7 harg7 arg8 harg8 arg9 harg9 v36 v37 v38 v39 X_arg4 X_arg6 k acc f_arg9
    (r.1, r.2.1) = run (scores v38 (arg4.view.read (Elt F) X_arg4) 0) (vals (arg6.view.read (Elt F) X_arg6) 0) a (n + 16)
      ∧ (r.2.2.1, r.2.2.2) = run (scores v39 (arg4.view.read (Elt F) X_arg4) 1) (vals (arg6.view.read (Elt F) X_arg6) 1) b (n + 16) := by
  subst hn
  intro r
  have e := tripR_eq 𝒱 c bd i arg3 harg3 arg4 harg4 arg5 harg5 arg6 harg6 arg7 harg7 arg8 harg8 arg9 harg9 v36 v37 v38 v39 X_arg4 X_arg6 k acc f_arg9
  have hr : r = _ := e
  rw [hr]
  dsimp only
  rw [run_add, run_add, ← ha, ← hb]
  exact ⟨run_congr _ 16 (tripScores_eq _ _ hk h0) fun _ _ => rfl, run_congr _ 16 (tripScores_eq _ _ hk h1) fun _ _ => rfl⟩

/-- The loop's result: thirty-two chunks into each head's state. -/
theorem st_run (𝒱 : Variants) (c : Dev nD) (bd : Option 𝒱.V) (i : grid0.Coords) (arg3 : Memref sig .tc .vmem S512x256 .bf16) (harg3 : arg3.IsWhole) (arg4 : Memref sig .tc .vmem S16384x256 .bf16) (harg4 : arg4.IsWhole) (arg5 : Memref sig .tc .vmem S128x256 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (X_arg4 : BufTy.Contents (Elt F) arg4.view.ty) (X_arg6 : BufTy.Contents (Elt F) arg6.view.ty) (G_arg9 : BufTy.Contents (Elt F) arg9.view.ty) (init : FVec F S1x512 .f32 × FVec F S80x512 .f32 × FVec F S1x512 .f32 × FVec F S80x512 .f32) (h0 : slot0 arg9 G_arg9 = scores v38 (arg4.view.read (Elt F) X_arg4) 0 0) (h1 : slot1 arg9 G_arg9 = scores v39 (arg4.view.read (Elt F) X_arg4) 1 0) :
    (st_k0_t1 (F := F) 𝒱 c bd i arg3 harg3 arg4 harg4 arg5 harg5 arg6 harg6 arg7 harg7 arg8 harg8 arg9 harg9 v36 v37 v38 v39 X_arg4 X_arg6 G_arg9 init k0_t1_loop.trips).1
      = (let K := arg4.view.read (Elt F) X_arg4
         let V := arg6.view.read (Elt F) X_arg6
         let A := run (scores v38 K 0) (vals V 0) (init.1, init.2.1) 32
         let B := run (scores v39 K 1) (vals V 1) (init.2.2.1, init.2.2.2) 32
         (A.1, A.2, B.1, B.2)) := by
  have ht : k0_t1_loop.trips = 2 := by decide +kernel
  have e0 := st_k0_t1_succ (F := F) 𝒱 c bd i arg3 harg3 arg4 harg4 arg5 harg5 arg6 harg6 arg7 harg7 arg8 harg8 arg9 harg9 v36 v37 v38 v39 X_arg4 X_arg6 G_arg9 init ⟨0, by rw [ht]; decide⟩
  have e1 := st_k0_t1_succ (F := F) 𝒱 c bd i arg3 harg3 arg4 harg4 arg5 harg5 arg6 harg6 arg7 harg7 arg8 harg8 arg9 harg9 v36 v37 v38 v39 X_arg4 X_arg6 G_arg9 init ⟨1, by rw [ht]; decide⟩
  rw [ht]
  obtain ⟨pa, pb⟩ := trip_run 𝒱 c bd i arg3 harg3 arg4 harg4 arg5 harg5 arg6 harg6 arg7 harg7 arg8 harg8 arg9 harg9 v36 v37 v38 v39 X_arg4 X_arg6 ⟨0, by rw [ht]; decide⟩ init G_arg9 h0 h1 (show 0 < 2 by decide) (init.1, init.2.1) (init.2.2.1, init.2.2.2) 0 rfl rfl rfl
  have s0 := tripL_slot0 𝒱 c bd i arg3 harg3 arg4 harg4 arg5 harg5 arg6 harg6 arg7 harg7 arg8 harg8 arg9 harg9 v36 v37 v38 v39 X_arg4 X_arg6 ⟨0, by rw [ht]; decide⟩ init G_arg9
  have s1 := tripL_slot1 𝒱 c bd i arg3 harg3 arg4 harg4 arg5 harg5 arg6 harg6 arg7 harg7 arg8 harg8 arg9 harg9 v36 v37 v38 v39 X_arg4 X_arg6 ⟨0, by rw [ht]; decide⟩ init G_arg9
  have z : st_k0_t1 (F := F) 𝒱 c bd i arg3 harg3 arg4 harg4 arg5 harg5 arg6 harg6 arg7 harg7 arg8 harg8 arg9 harg9 v36 v37 v38 v39 X_arg4 X_arg6 G_arg9 init 0 = (init, []) := rfl
  simp only [z, View.writes_nil, List.append_nil, Nat.zero_add] at e0
  rw [e0] at e1
  obtain ⟨qa, qb⟩ := trip_run 𝒱 c bd i arg3 harg3 arg4 harg4 arg5 harg5 arg6 harg6 arg7 harg7 arg8 harg8 arg9 harg9 v36 v37 v38 v39 X_arg4 X_arg6 ⟨1, by rw [ht]; decide⟩ _ _ s0 s1 (show 1 < 2 by decide) (init.1, init.2.1) (init.2.2.1, init.2.2.2) 16 rfl pa pb
  refine (congrArg Prod.fst e1).trans ?_
  have a1 := congrArg Prod.fst qa
  have a2 := congrArg Prod.snd qa
  have b1 := congrArg Prod.fst qb
  have b2 := congrArg Prod.snd qb
  exact Prod.ext a1 (Prod.ext a2 (Prod.ext b1 b2))

end Cert.Mla

end
-- ==== Proof.MlaBody.lean ====
module

public import proofs.«01_k».proof.Proof.MlaTrip
public import proofs.«01_k».proof.Proof.Gen.KernelMlaIdeal.Frame
public import Idealize.ShloMosaic.Lib.VecWindow

@[expose] public section

set_option maxRecDepth 16384

noncomputable section

namespace Cert.Mla

open Cert.KernelMlaIdeal Cert.KernelMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 128 columns of head `i` of the queries. -/
def qhalf (x : Vec F S512x256 .bf16) (i : ℕ) : Vec F S512x128 .bf16 := fun y => x (ix2 (y 0) ⟨(128 * i + (y 1).val) % 256, Nat.mod_lt _ (by decide)⟩)
/-- The 128 columns of head `i` of the leading keys. -/
def mkhalf (x : Vec F S128x256 .bf16) (i : ℕ) : Vec F S128x128 .bf16 := fun y => x (ix2 (y 0) ⟨(128 * i + (y 1).val) % 256, Nat.mod_lt _ (by decide)⟩)
/-- The 80 rows of head `i` of the leading keys' values. -/
def mvhalf (x : Vec F S1x160x128 .bf16) (i : ℕ) : Vec F S1x80x128 .bf16 := fun y => x (ix3 (y 0) ⟨(80 * i + (y 1).val) % 160, Nat.mod_lt _ (by decide)⟩ (y 2))

theorem ld_q {sg : RefSig} (M : Memref sg .tc .vmem S512x256 .bf16) (X : BufTy.Contents (Elt F) M.view.ty) (i : ℕ) (hi : i < 2)
    {off : Fin 2 → ℕ} (h : off = ![0, 128 * i]) (inb : ∀ a, off a + S512x128.size a ≤ S512x256.size a) :
    View.readAt (Elt F) M.view (Rect.unit (s := S512x256) off S512x128.size inb).toLoadRect X = qhalf (M.view.read (Elt F) X) i := by
  subst h
  funext x
  have h1 : (x 1).val < 128 := (x 1).isLt
  rw [View.readAt_apply]
  refine congrArg (M.view.read (Elt F) X) (funext fun a => Fin.ext ?_)
  rw [LoadRect.idx_apply]
  fin_cases a
  · show 0 + 1 * (x 0).val = (x 0).val
    omega
  · show 128 * i + 1 * (x 1).val = (128 * i + (x 1).val) % 256
    omega

theorem ld_mk (M : Memref sig .tc .vmem S128x256 .bf16) (X : BufTy.Contents (Elt F) M.view.ty) (i : ℕ) (hi : i < 2)
    {off : Fin 2 → ℕ} (h : off = ![0, 128 * i]) (inb : ∀ a, off a + S128x128.size a ≤ S128x256.size a) :
    View.readAt (Elt F) M.view (Rect.unit (s := S128x256) off S128x128.size inb).toLoadRect X = mkhalf (M.view.read (Elt F) X) i := by
  subst h
  funext x
  have h1 : (x 1).val < 128 := (x 1).isLt
  rw [View.readAt_apply]
  refine congrArg (M.view.read (Elt F) X) (funext fun a => Fin.ext ?_)
  rw [LoadRect.idx_apply]
  fin_cases a
  · show 0 + 1 * (x 0).val = (x 0).val
    omega
  · show 128 * i + 1 * (x 1).val = (128 * i + (x 1).val) % 256
    omega

theorem ld_mv {sg : RefSig} (M : Memref sg .tc .vmem S1x160x128 .bf16) (X : BufTy.Contents (Elt F) M.view.ty) (i : ℕ) (hi : i < 2)
    {off : Fin 3 → ℕ} (h : off = ![0, 80 * i, 0]) (inb : ∀ a, off a + S1x80x128.size a ≤ S1x160x128.size a) :
    View.readAt (Elt F) M.view (Rect.unit (s := S1x160x128) off S1x80x128.size inb).toLoadRect X = mvhalf (M.view.read (Elt F) X) i := by
  subst h
  funext x
  have h1 : (x 1).val < 80 := (x 1).isLt
  rw [View.readAt_apply]
  refine congrArg (M.view.read (Elt F) X) (funext fun a => Fin.ext ?_)
  rw [LoadRect.idx_apply]
  fin_cases a
  · show 0 + 1 * (x 0).val = (x 0).val
    omega
  · show 80 * i + 1 * (x 1).val = (80 * i + (x 1).val) % 160
    omega
  · show 0 + 1 * (x 2).val = (x 2).val
    omega

/-- Head `i`'s state when all thirty-two chunks are in. -/
def loopSt (q : Vec F S512x256 .bf16) (K : Vec F S16384x256 .bf16) (V : Vec F S32x160x512 .bf16) (i : ℕ) : St F :=
  run (scores (qhalf q i) K i) (vals V i) (k0_pay152, k0_pay150) 32

/-- The block the body leaves, of the blocks it is called with. -/
def out (i : grid0.Coords) (q : Vec F S512x256 .bf16) (K : Vec F S16384x256 .bf16) (mk : Vec F S128x256 .bf16) (V : Vec F S32x160x512 .bf16) (mv : Vec F S1x160x128 .bf16) : Vec F S512x128 .bf16 :=
  k0_pay1 (k0_pay149 i) (qhalf q 1) (loopSt q K V 0).1 (loopSt q K V 0).2 (loopSt q K V 1).1 (loopSt q K V 1).2
    (k0_pay157 (k0_pay149 i) (qhalf q 0) (mkhalf mk 0)) (k0_pay158 (mvhalf mv 0)) (k0_pay159 (k0_pay149 i) (qhalf q 0) (loopSt q K V 0).1 (mkhalf mk 0))
    (mkhalf mk 1) (mvhalf mv 1)

set_option maxHeartbeats 4000000 in
/-- The body: from its input blocks and a scratch of any contents, it leaves `out` of the blocks. -/
theorem sound_kernel (c : Dev nD) (E : Set ℕ) (i : grid0.Coords)
    (arg3 : Memref sig .tc .vmem S512x256 .bf16) (harg3 : arg3.IsWhole) (arg4 : Memref sig .tc .vmem S16384x256 .bf16) (harg4 : arg4.IsWhole)
    (arg5 : Memref sig .tc .vmem S128x256 .bf16) (harg5 : arg5.IsWhole) (arg6 : Memref sig .tc .vmem S32x160x512 .bf16) (harg6 : arg6.IsWhole)
    (arg7 : Memref sig .tc .vmem S1x160x128 .bf16) (harg7 : arg7.IsWhole) (arg8 : Memref sig .tc .vmem S512x128 .bf16) (harg8 : arg8.IsWhole)
    (arg9 : Memref sig .tc .vmem S2x2x512x512 .f32) (harg9 : arg9.IsWhole)
    (x3 : Vec F S512x256 .bf16) (x4 : Vec F S16384x256 .bf16) (x5 : Vec F S128x256 .bf16) (x6 : Vec F S32x160x512 .bf16) (x7 : Vec F S1x160x128 .bf16)
    (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (out i x3 x4 x5 x6 x7) ∗ (∃ d, owns (c : Thread nD τ) arg9 fullShare d)) -∗ K ⟨⟩))
      ⊢ wp frame (wpE (defs₀ (F := F)) Variants.none c none) E (cc0_mla_s i arg3 harg3 arg4 harg4 arg5 harg5 arg6 harg6 arg7 harg7 arg8 harg8 arg9 harg9) K := by
  simp only [cc0_mla_s_eq_skeleton]; unfold cc0_mla_s_skel
  simp only [k0_part29_eq_skeleton, k0_part30_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf3 hf4 hf5 hf6 hf7
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_full]
    sl_unfold_run_values
    have e := st_run (F := F) Variants.none c none i arg3 harg3 arg4 harg4 arg5 harg5 arg6 harg6 arg7 harg7 arg8 harg8 arg9 harg9 (k0_pay149 i) k0_pay150
      (View.readAt (Elt F) arg3.view (Rect.unit (s := S512x256) ![0, 0] S512x128.size inb_S512x256_S512x128_0_0).toLoadRect f3)
      (View.readAt (Elt F) arg3.view (Rect.unit (s := S512x256) ![0, 128] S512x128.size inb_S512x256_S512x128_0_128).toLoadRect f3) f4 f6
      (arg9.view.writes (Elt F) f9
        [⟨Rect.unit (s := S2x2x512x512) ![1, 0, 0, 0] S1x1x512x512.size inb_S2x2x512x512_S1x1x512x512_1_0_0_0, k0_pay153
            (View.readAt (Elt F) arg3.view (Rect.unit (s := S512x256) ![0, 128] S512x128.size inb_S512x256_S512x128_0_128).toLoadRect f3)
            (View.readAt (Elt F) arg4.view (Rect.unit (s := S16384x256) ![0, 128] S512x128.size inb_S16384x256_S512x128_0_128).toLoadRect f4)⟩,
          ⟨Rect.unit (s := S2x2x512x512) ![0, 0, 0, 0] S1x1x512x512.size inb_S2x2x512x512_S1x1x512x512_0_0_0_0, k0_pay151
            (View.readAt (Elt F) arg3.view (Rect.unit (s := S512x256) ![0, 0] S512x128.size inb_S512x256_S512x128_0_0).toLoadRect f3)
            (View.readAt (Elt F) arg4.view (Rect.unit (s := S16384x256) ![0, 0] S512x128.size inb_S16384x256_S512x128_0_0).toLoadRect f4)⟩])
      (k0_pay152, k0_pay150, k0_pay154, k0_pay150)
      (by
        rw [slot0, View.readAt_writes_of_cover]
        · rw [View.readCov_skip _ _ _ _ _ rfl, View.readCov_cons_toLoadRect, ld_keys arg4 f4 0 0 (by decide) (by decide) rfl]
          rfl
        · intro j
          exact ⟨_, List.mem_cons_of_mem _ List.mem_cons_self, LoadRect.idx_mem_of_within rfl j⟩)
      (by
        rw [slot1, View.readAt_writes_of_cover]
        · rw [View.readCov_cons_toLoadRect, ld_keys arg4 f4 1 0 (by decide) (by decide) rfl]
          rfl
        · intro j
          exact ⟨_, List.mem_cons_self, LoadRect.idx_mem_of_within rfl j⟩)
    rw [show Scf.trips k0_t1_loop.lb k0_t1_loop.ub k0_t1_loop.st = k0_t1_loop.trips from rfl]
    simp only [e]
    rw [ld_q arg3 f3 0 (by decide) rfl, ld_q arg3 f3 1 (by decide) rfl, ld_mk arg5 f5 0 (by decide) rfl, ld_mv arg7 f7 0 (by decide) rfl]
    erw [ld_mk arg5 f5 1 (by decide) rfl, ld_mv arg7 f7 1 (by decide) rfl]
    rfl
  iexists _; iexists _; isplitr
  swap; · iexact H9
  ipureintro
  rfl

/-- The invariant between points, the scratch as a memref at some contents. -/
theorem PhiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

variable (m : (ℓ : Loc nD τ sig) → Buf (Elt F) ℓ) (ρ : Dev nD → PrngReg)

/-- The proof data: the arrays as launched, every input block left in place, the result block `out` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => X0_3 m c t
    | ⟨4, _⟩ => iblk m c 4 t
    | ⟨5, _⟩ => out (grid0.coords t) (iblk m c 0 t) (X0_1 m c t) (iblk m c 2 t) (X0_3 m c t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out (grid0.coords t) (iblk m c 0 t) (X0_1 m c t) (iblk m c 2 t) (X0_3 m c t) (iblk m c 4 t) := by
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, PhiA_eq]
  iintro ⟨⟨HS, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ (iblk m c 0 t) (X0_1 m c t) (iblk m c 2 t) (X0_3 m c t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: it ends, every array at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Mla

end
-- ==== Proof.MlaBits.lean ====
module

public import proofs.«01_k».proof.Proof.MlaBody
public import proofs.«01_k».proof.Proof.Gen.KernelMla

@[expose] public section
noncomputable section
namespace Cert.Mla
open Idealize.ShloMosaic Idealize.SL.Sem

/-- The program as printed and the idealised one are one text, so that their frame statements at words are one proposition. -/
theorem frames_eq : (∀ (m : (ℓ : Loc Cert.KernelMla.nD Cert.KernelMla.τ Cert.KernelMla.sig) → Buf (Elt Bits) ℓ) (ρ : Dev Cert.KernelMla.nD → PrngReg),
  θ_run (Cert.KernelMla.defs (F := Bits)) (onTc (τ := Cert.KernelMla.τ) (Cert.KernelMla.main (F := Bits))) ⟨m, fun _ => 0, ρ⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2))
      ∧ r.2.sem = fun _ => 0)) = (∀ (m : (ℓ : Loc Cert.KernelMlaIdeal.nD Cert.KernelMlaIdeal.τ Cert.KernelMlaIdeal.sig) → Buf (Elt Bits) ℓ) (ρ : Dev Cert.KernelMlaIdeal.nD → PrngReg),
  θ_run (Cert.KernelMlaIdeal.defs (F := Bits)) (onTc (τ := Cert.KernelMlaIdeal.τ) (Cert.KernelMlaIdeal.main (F := Bits))) ⟨m, fun _ => 0, ρ⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)) := by sl_kernel_rfl

/-- The frame of the program as printed. -/
theorem quiescent_printed (m : (ℓ : Loc Cert.KernelMla.nD Cert.KernelMla.τ Cert.KernelMla.sig) → Buf (Elt Bits) ℓ) (ρ : Dev Cert.KernelMla.nD → PrngReg) :
  θ_run (Cert.KernelMla.defs (F := Bits)) (onTc (τ := Cert.KernelMla.τ) (Cert.KernelMla.main (F := Bits))) ⟨m, fun _ => 0, ρ⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2))
      ∧ r.2.sem = fun _ => 0) := by
  have h := frames_eq
  exact h.mpr (fun m ρ => quiescent (F := Bits) m ρ) m ρ

end Cert.Mla
end
-- ==== Proof.FfnDBody.lean ====
/- The last call's body: what it leaves in the two results' blocks, and the runs of the call. -/
module

public import proofs.«01_k».proof.Proof.Gen.KernelFfnDIdeal.Frame
public import proofs.«01_k».proof.Proof.Gen.KernelFfnDIdeal.Skeleton
public import Idealize.ShloMosaic.Lib.Claim
public import Idealize.ShloMosaic.Lib.VecWindow
public import Idealize.ShloMosaic.Lib.Pipeline.TableIdle

@[expose] public section

set_option maxRecDepth 16384

noncomputable section

namespace Cert.FfnD

open Cert.KernelFfnDIdeal Cert.KernelFfnDIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile the body computes of the blocks it is called with. -/
def out (i : grid0.Coords) (x0 : Vec F S512x1024 .f32) (x1 : Vec F S512x384 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S512x384 .bf16) (x9 : Vec F S512x256 .bf16) (x10 : Vec F S512x256 .bf16) (x11 : Vec F S512x256 .bf16) (x12 : Vec F S512x256 .bf16) (x13 : Vec F S384x1024 .bf16) (x14 : Vec F S384x1024 .bf16) (x15 : Vec F S256x1024 .bf16) (x16 : Vec F S1x1024 .f32) (x17 : Vec F S1024x2816 .bf16) (x18 : Vec F S1024x2816 .bf16) (x19 : Vec F S2816x1024 .bf16) (x20 : Vec F S1x1024 .f32) : Vec F S512x1024 .f32 :=
  k0_pay7 (k0_pay2 (BitVec.ofNat 32 (i 0).val) (k0_pay1 i (View.ld x0 (Rect.unit (s := S512x1024) ![0, 0] S512x1024.size inb_S512x1024_S512x1024_0_0)) (View.ld x4 (Rect.unit (s := S512x384) ![0, 0] S512x384.size inb_S512x384_S512x384_0_0)) (View.ld x3 (Rect.unit (s := S512x384) ![0, 0] S512x384.size inb_S512x384_S512x384_0_0)) (View.ld x2 (Rect.unit (s := S512x384) ![0, 0] S512x384.size inb_S512x384_S512x384_0_0)) (View.ld x1 (Rect.unit (s := S512x384) ![0, 0] S512x384.size inb_S512x384_S512x384_0_0)) (View.ld x13 (Rect.unit (s := S384x1024) ![0, 0] S384x1024.size inb_S384x1024_S384x1024_0_0)) (View.ld x8 (Rect.unit (s := S512x384) ![0, 0] S512x384.size inb_S512x384_S512x384_0_0)) (View.ld x7 (Rect.unit (s := S512x384) ![0, 0] S512x384.size inb_S512x384_S512x384_0_0)) (View.ld x6 (Rect.unit (s := S512x384) ![0, 0] S512x384.size inb_S512x384_S512x384_0_0)) (View.ld x5 (Rect.unit (s := S512x384) ![0, 0] S512x384.size inb_S512x384_S512x384_0_0)) (View.ld x14 (Rect.unit (s := S384x1024) ![0, 0] S384x1024.size inb_S384x1024_S384x1024_0_0))) (View.ld x12 (Rect.unit (s := S512x256) ![0, 0] S512x256.size inb_S512x256_S512x256_0_0)) (View.ld x11 (Rect.unit (s := S512x256) ![0, 0] S512x256.size inb_S512x256_S512x256_0_0)) (View.ld x10 (Rect.unit (s := S512x256) ![0, 0] S512x256.size inb_S512x256_S512x256_0_0)) (View.ld x9 (Rect.unit (s := S512x256) ![0, 0] S512x256.size inb_S512x256_S512x256_0_0)) (View.ld x15 (Rect.unit (s := S256x1024) ![0, 0] S256x1024.size inb_S256x1024_S256x1024_0_0)))
    (k0_pay3 (BitVec.ofNat 32 (i 0).val) (k0_pay1 i (View.ld x0 (Rect.unit (s := S512x1024) ![0, 0] S512x1024.size inb_S512x1024_S512x1024_0_0)) (View.ld x4 (Rect.unit (s := S512x384) ![0, 0] S512x384.size inb_S512x384_S512x384_0_0)) (View.ld x3 (Rect.unit (s := S512x384) ![0, 0] S512x384.size inb_S512x384_S512x384_0_0)) (View.ld x2 (Rect.unit (s := S512x384) ![0, 0] S512x384.size inb_S512x384_S512x384_0_0)) (View.ld x1 (Rect.unit (s := S512x384) ![0, 0] S512x384.size inb_S512x384_S512x384_0_0)) (View.ld x13 (Rect.unit (s := S384x1024) ![0, 0] S384x1024.size inb_S384x1024_S384x1024_0_0)) (View.ld x8 (Rect.unit (s := S512x384) ![0, 0] S512x384.size inb_S512x384_S512x384_0_0)) (View.ld x7 (Rect.unit (s := S512x384) ![0, 0] S512x384.size inb_S512x384_S512x384_0_0)) (View.ld x6 (Rect.unit (s := S512x384) ![0, 0] S512x384.size inb_S512x384_S512x384_0_0)) (View.ld x5 (Rect.unit (s := S512x384) ![0, 0] S512x384.size inb_S512x384_S512x384_0_0)) (View.ld x14 (Rect.unit (s := S384x1024) ![0, 0] S384x1024.size inb_S384x1024_S384x1024_0_0))) (View.ld x12 (Rect.unit (s := S512x256) ![0, 0] S512x256.size inb_S512x256_S512x256_0_0)) (View.ld x11 (Rect.unit (s := S512x256) ![0, 0] S512x256.size inb_S512x256_S512x256_0_0)) (View.ld x10 (Rect.unit (s := S512x256) ![0, 0] S512x256.size inb_S512x256_S512x256_0_0)) (View.ld x9 (Rect.unit (s := S512x256) ![0, 0] S512x256.size inb_S512x256_S512x256_0_0)) (View.ld x15 (Rect.unit (s := S256x1024) ![0, 0] S256x1024.size inb_S256x1024_S256x1024_0_0)) (View.ld x16 (Rect.unit (s := S1x1024) ![0, 0] S1x1024.size inb_S1x1024_S1x1024_0_0))) (k0_pay4 (F := F))
    (k0_pay5 (BitVec.ofNat 32 (i 0).val) (k0_pay1 i (View.ld x0 (Rect.unit (s := S512x1024) ![0, 0] S512x1024.size inb_S512x1024_S512x1024_0_0)) (View.ld x4 (Rect.unit (s := S512x384) ![0, 0] S512x384.size inb_S512x384_S512x384_0_0)) (View.ld x3 (Rect.unit (s := S512x384) ![0, 0] S512x384.size inb_S512x384_S512x384_0_0)) (View.ld x2 (Rect.unit (s := S512x384) ![0, 0] S512x384.size inb_S512x384_S512x384_0_0)) (View.ld x1 (Rect.unit (s := S512x384) ![0, 0] S512x384.size inb_S512x384_S512x384_0_0)) (View.ld x13 (Rect.unit (s := S384x1024) ![0, 0] S384x1024.size inb_S384x1024_S384x1024_0_0)) (View.ld x8 (Rect.unit (s := S512x384) ![0, 0] S512x384.size inb_S512x384_S512x384_0_0)) (View.ld x7 (Rect.unit (s := S512x384) ![0, 0] S512x384.size inb_S512x384_S512x384_0_0)) (View.ld x6 (Rect.unit (s := S512x384) ![0, 0] S512x384.size inb_S512x384_S512x384_0_0)) (View.ld x5 (Rect.unit (s := S512x384) ![0, 0] S512x384.size inb_S512x384_S512x384_0_0)) (View.ld x14 (Rect.unit (s := S384x1024) ![0, 0] S384x1024.size inb_S384x1024_S384x1024_0_0))) (View.ld x12 (Rect.unit (s := S512x256) ![0, 0] S512x256.size inb_S512x256_S512x256_0_0)) (View.ld x11 (Rect.unit (s := S512x256) ![0, 0] S512x256.size inb_S512x256_S512x256_0_0)) (View.ld x10 (Rect.unit (s := S512x256) ![0, 0] S512x256.size inb_S512x256_S512x256_0_0)) (View.ld x9 (Rect.unit (s := S512x256) ![0, 0] S512x256.size inb_S512x256_S512x256_0_0)) (View.ld x15 (Rect.unit (s := S256x1024) ![0, 0] S256x1024.size inb_S256x1024_S256x1024_0_0)) (View.ld x16 (Rect.unit (s := S1x1024) ![0, 0] S1x1024.size inb_S1x1024_S1x1024_0_0)) (View.ld x17 (Rect.unit (s := S1024x2816) ![0, 0] S1024x1536.size inb_S1024x2816_S1024x1536_0_0)))
    (k0_pay6 (View.ld x18 (Rect.unit (s := S1024x2816) ![0, 0] S1024x1536.size inb_S1024x2816_S1024x1536_0_0))) (View.ld x19 (Rect.unit (s := S2816x1024) ![0, 0] S1536x1024.size inb_S2816x1024_S1536x1024_0_0)) (View.ld x17 (Rect.unit (s := S1024x2816) ![0, 1536] S1024x1280.size inb_S1024x2816_S1024x1280_0_1536))
    (View.ld x18 (Rect.unit (s := S1024x2816) ![0, 1536] S1024x1280.size inb_S1024x2816_S1024x1280_0_1536)) (View.ld x19 (Rect.unit (s := S2816x1024) ![1536, 0] S1280x1024.size inb_S2816x1024_S1280x1024_1536_0)) (View.ld x20 (Rect.unit (s := S1x1024) ![0, 0] S1x1024.size inb_S1x1024_S1x1024_0_0))

set_option maxHeartbeats 4000000 in
/-- The body: the inputs' blocks stay, the first result's block is the tile where the point is one of the first 128
    and is left alone elsewhere, the second's likewise at the next 64. -/
theorem sound_kernel (c : Dev nD) (E : Set ℕ) (i : grid0.Coords)
    (arg1 : Memref sig .tc .vmem S512x1024 .f32) (harg1 : arg1.IsWhole)
    (arg2 : Memref sig .tc .vmem S512x384 .bf16) (harg2 : arg2.IsWhole)
    (arg3 : Memref sig .tc .vmem S512x384 .bf16) (harg3 : arg3.IsWhole)
    (arg4 : Memref sig .tc .vmem S512x384 .bf16) (harg4 : arg4.IsWhole)
    (arg5 : Memref sig .tc .vmem S512x384 .bf16) (harg5 : arg5.IsWhole)
    (arg6 : Memref sig .tc .vmem S512x384 .bf16) (harg6 : arg6.IsWhole)
    (arg7 : Memref sig .tc .vmem S512x384 .bf16) (harg7 : arg7.IsWhole)
    (arg8 : Memref sig .tc .vmem S512x384 .bf16) (harg8 : arg8.IsWhole)
    (arg9 : Memref sig .tc .vmem S512x384 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S512x256 .bf16) (harg12 : arg12.IsWhole)
    (arg13 : Memref sig .tc .vmem S512x256 .bf16) (harg13 : arg13.IsWhole)
    (arg14 : Memref sig .tc .vmem S384x1024 .bf16) (harg14 : arg14.IsWhole)
    (arg15 : Memref sig .tc .vmem S384x1024 .bf16) (harg15 : arg15.IsWhole)
    (arg16 : Memref sig .tc .vmem S256x1024 .bf16) (harg16 : arg16.IsWhole)
    (arg17 : Memref sig .tc .vmem S1x1024 .f32) (harg17 : arg17.IsWhole)
    (arg18 : Memref sig .tc .vmem S1024x2816 .bf16) (harg18 : arg18.IsWhole)
    (arg19 : Memref sig .tc .vmem S1024x2816 .bf16) (harg19 : arg19.IsWhole)
    (arg20 : Memref sig .tc .vmem S2816x1024 .bf16) (harg20 : arg20.IsWhole)
    (arg21 : Memref sig .tc .vmem S1x1024 .f32) (harg21 : arg21.IsWhole)
    (arg22 : Memref sig .tc .vmem S512x1024 .f32) (harg22 : arg22.IsWhole)
    (arg23 : Memref sig .tc .vmem S512x1024 .f32) (harg23 : arg23.IsWhole)
    (x0 : Vec F S512x1024 .f32) (x1 : Vec F S512x384 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S512x384 .bf16) (x9 : Vec F S512x256 .bf16) (x10 : Vec F S512x256 .bf16) (x11 : Vec F S512x256 .bf16) (x12 : Vec F S512x256 .bf16) (x13 : Vec F S384x1024 .bf16) (x14 : Vec F S384x1024 .bf16) (x15 : Vec F S256x1024 .bf16) (x16 : Vec F S1x1024 .f32) (x17 : Vec F S1024x2816 .bf16) (x18 : Vec F S1024x2816 .bf16) (x19 : Vec F S2816x1024 .bf16) (x20 : Vec F S1x1024 .f32) (d21 d22 : Vec F S512x1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare d21 ∗ owns (c : Thread nD τ) arg23 fullShare d22
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (if k0_cond1 i = 1#1 then out i x0 x1 x2 x3 x4 x5 x6 x7 x8 x9 x10 x11 x12 x13 x14 x15 x16 x17 x18 x19 x20 else d21)
          ∗ owns (c : Thread nD τ) arg23 fullShare (if k0_cond2 i = 1#1 then out i x0 x1 x2 x3 x4 x5 x6 x7 x8 x9 x10 x11 x12 x13 x14 x15 x16 x17 x18 x19 x20 else d22)) -∗ K ⟨⟩))
      ⊢ wp frame (wpE (defs₀ (F := F)) Variants.none c none) E (cc0_ffn_proj_final i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn_proj_final_eq_skeleton]; unfold cc0_ffn_proj_final_skel
  simp only [k0_part1_eq_skeleton, k0_part2_eq_skeleton, k0_part3_eq_skeleton]
  by_cases h1 : k0_cond1 i = 1#1 <;> by_cases h2 : k0_cond2 i = 1#1 <;> simp only [h1, h2, if_true, if_false]
  all_goals
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    subst hf0 hf1 hf2 hf3 hf4 hf5 hf6 hf7 hf8 hf9 hf10 hf11 hf12 hf13 hf14 hf15 hf16 hf17 hf18 hf19 hf20 hf21 hf22
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    isplitl [H19]
    · iexists f19; isplitr; · ipureintro; rfl
      iexact H19
    isplitl [H20]
    · iexists f20; isplitr; · ipureintro; rfl
      iexact H20
    isplitl [H21]
    · iexists _; isplitr
      swap; · iexact H21
      ipureintro
      first | rfl | (rw [View.read_writes_full]; rfl)
    iexists _; isplitr
    swap; · iexact H22
    ipureintro
    first | rfl | (rw [View.read_writes_full]; rfl)

variable (m : (ℓ : Loc nD τ sig) → Buf (Elt F) ℓ) (ρ : Dev nD → PrngReg)

/-- The tile of a grid point's blocks. -/
def tile (c : Dev nD) (t : Fin cfg0.N) : Vec F S512x1024 .f32 :=
  out (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- The point whose tile the first result's buffer holds after point `t`. -/
def lo (t : Fin cfg0.N) : Fin cfg0.N := ⟨min t.val 127, lt_of_le_of_lt (min_le_left _ _) t.isLt⟩

/-- The point whose tile the second result's buffer holds after point `t`. -/
def hi (t : Fin cfg0.N) : Fin cfg0.N := ⟨max 128 (min t.val 191), max_lt (by decide) (lt_of_le_of_lt (min_le_left _ _) t.isLt)⟩

/-- The proof data: the arrays as launched, every input block left in place, the results' blocks at the last tile stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => tile m c (lo t)
    | ⟨22, _⟩ => tile m c (hi t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = tile m c (lo t) := by dsimp only [dats]
theorem after_22 (c : Dev nD) (t : Fin cfg0.N) : (dats m 0 c).after 22 t = tile m c (hi t) := by dsimp only [dats]

/-- Where the two results are stored. -/
theorem conds : ∀ t : Fin cfg0.N, (k0_cond1 (grid0.coords t) = 1#1 ↔ t.val < 128) ∧ (k0_cond2 (grid0.coords t) = 1#1 ↔ 128 ≤ t.val ∧ t.val < 192) :=
  (by decide +kernel : ∀ t : Fin grid0.N, _)

/-- The same of the windows' idle points. -/
theorem idles : ∀ t : Fin cfg0.N, (cfg0.idle 21 (cfg0.grid.coords t) = true ↔ ¬ t.val < 128)
    ∧ (cfg0.idle 22 (cfg0.grid.coords t) = true ↔ ¬ (128 ≤ t.val ∧ t.val < 192)) :=
  (by decide +kernel : ∀ t : Fin grid0.N, _)

/-- An idle point that writes a block back comes after the tiles stored, and not first. -/
theorem flushes : ∀ t : Fin cfg0.N, (cfg0.idle 21 (cfg0.grid.coords t) = true → (cfg0.win 21).flushF t = true → t.val = 193)
    ∧ (cfg0.idle 22 (cfg0.grid.coords t) = true → (cfg0.win 22).flushF t = true → t.val = 193) :=
  (by decide +kernel : ∀ t : Fin grid0.N, _)

/-- At the last point both buffers hold what was stored last. -/
theorem held : cfg0.fresh 21 193 = false ∧ cfg0.fresh 22 193 = false := by decide +kernel

/-- A window's buffer as the body leaves it: `after` where it stores, as found where it does not. -/
theorem leaves_of (c : Dev nD) (w : Fin cfg0.W) (t : Fin cfg0.N) (d X : (cfg0.win w).block.Idx → Elt F (cfg0.win w).elt)
    (hlive : cfg0.idle w (cfg0.grid.coords t) = false → X = (dats m 0 c).after w t)
    (hidle : cfg0.idle w (cfg0.grid.coords t) = true → X = (dats m 0 c).before w t d)
    (hflush : cfg0.idle w (cfg0.grid.coords t) = true → (cfg0.win w).flush t = true → (dats m 0 c).before w t d = (dats m 0 c).after w t) :
    owns (c : Thread nD τ) ((cfg0.win w).stage (cfg0.slots t w)) fullShare X ⊢ ((dats m 0 c).leavesExact w t : sProp 𝕄) := by
  unfold Dat.leavesExact
  cases hi : cfg0.idle w (cfg0.grid.coords t)
  · rw [hlive hi]
  · rw [hidle hi]
    cases hf : (cfg0.win w).flush t
    · iintro H; iexists d; iexact H
    · rw [hflush hi hf]

/-- The first result's buffer is as the schedule wants it. -/
theorem leaves_21 (c : Dev nD) (t : Fin cfg0.N) (d : Vec F S512x1024 .f32) :
    owns (c : Thread nD τ) (st0_21 t) fullShare (if k0_cond1 (grid0.coords t) = 1#1 then tile m c t else (dats m 0 c).before 21 t d) ⊢ ((dats m 0 c).leavesExact 21 t : sProp 𝕄) := by
  refine leaves_of m c 21 t d _ (fun h => ?_) (fun h => ?_) (fun h hf => ?_)
  · have hlt : t.val < 128 := by by_contra hn; rw [(idles t).1.2 hn] at h; exact Bool.noConfusion h
    rw [if_pos ((conds t).1.2 hlt), after_21]
    congr 1; exact Fin.ext (by show t.val = min t.val 127; omega)
  · exact if_neg fun hc => (idles t).1.1 h ((conds t).1.1 hc)
  · have ht : t.val = 193 := (flushes t).1 h (by rw [← Pipeline.Window.flush_eq_flushF]; exact hf)
    refine ((dats m 0 c).before_out_traj 21 rfl (fun _ _ => rfl) ?_ t.val t rfl d).trans ?_
    · intro s hs hi _
      have := (idles s).1.1 hi
      rw [after_21, after_21]
      congr 1; exact Fin.ext (by show min s.val 127 = min (s.val - 1) 127; omega)
    · rw [if_neg (by rw [ht, held.1]; exact Bool.false_ne_true), after_21, after_21]
      congr 1; exact Fin.ext (by show min (t.val - 1) 127 = min t.val 127; omega)

/-- The second result's buffer is as the schedule wants it. -/
theorem leaves_22 (c : Dev nD) (t : Fin cfg0.N) (d : Vec F S512x1024 .f32) :
    owns (c : Thread nD τ) (st0_22 t) fullShare (if k0_cond2 (grid0.coords t) = 1#1 then tile m c t else (dats m 0 c).before 22 t d) ⊢ ((dats m 0 c).leavesExact 22 t : sProp 𝕄) := by
  refine leaves_of m c 22 t d _ (fun h => ?_) (fun h => ?_) (fun h hf => ?_)
  · have hlt : 128 ≤ t.val ∧ t.val < 192 := by by_contra hn; rw [(idles t).2.2 hn] at h; exact Bool.noConfusion h
    rw [if_pos ((conds t).2.2 hlt), after_22]
    congr 1; exact Fin.ext (by show t.val = max 128 (min t.val 191); omega)
  · exact if_neg fun hc => (idles t).2.1 h ((conds t).2.1 hc)
  · have ht : t.val = 193 := (flushes t).2 h (by rw [← Pipeline.Window.flush_eq_flushF]; exact hf)
    refine ((dats m 0 c).before_out_traj 22 rfl (fun _ _ => rfl) ?_ t.val t rfl d).trans ?_
    · intro s hs hi _
      have := (idles s).2.1 hi
      rw [after_22, after_22]
      congr 1; exact Fin.ext (by show max 128 (min s.val 191) = max 128 (min (s.val - 1) 191); omega)
    · rw [if_neg (by rw [ht, held.2]; exact Bool.false_ne_true), after_22, after_22]
      congr 1; exact Fin.ext (by show max 128 (min (t.val - 1) 191) = max 128 (min t.val 191); omega)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ (dats m 0 c).leavesExact 21 t
    ∗ (dats m 0 c).leavesExact 22 t)

set_option maxHeartbeats 1600000 in
/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c), before0_12_of m (dats m 0 c) (A_eq m c 12) (after_12 m c), before0_13_of m (dats m 0 c) (A_eq m c 13) (after_13 m c), before0_14_of m (dats m 0 c) (A_eq m c 14) (after_14 m c), before0_15_of m (dats m 0 c) (A_eq m c 15) (after_15 m c), before0_16_of m (dats m 0 c) (A_eq m c 16) (after_16 m c), before0_17_of m (dats m 0 c) (A_eq m c 17) (after_17 m c), before0_18_of m (dats m 0 c) (A_eq m c 18) (after_18 m c), before0_19_of m (dats m 0 c) (A_eq m c 19) (after_19 m c), before0_20_of m (dats m 0 c) (A_eq m c 20) (after_20 m c)]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iapply (leaves_21 m c t d21); iexact H21
  iapply (leaves_22 m c t d22); iexact H22

theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: it ends, every array at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 1600000 in
/-- Every argument array ends as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The frame: every execution ends, the argument arrays as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.FfnD

end
-- ==== Proof.FfnDBits.lean ====
/- The last call as printed: its frame at words, by the idealised one's. -/
module

public import proofs.«01_k».proof.Proof.FfnDBody
public import proofs.«01_k».proof.Proof.Gen.KernelFfnD
public import Idealize.ShloMosaic.PureOps.BitExact

@[expose] public section
noncomputable section
namespace Cert.FfnD
open Idealize.ShloMosaic Idealize.SL.Sem

/-- The program as printed and the idealised one are one text, so that their frame statements at words are one proposition. -/
theorem frames_eq : (∀ (m : (ℓ : Loc Cert.KernelFfnD.nD Cert.KernelFfnD.τ Cert.KernelFfnD.sig) → Buf (Elt Bits) ℓ) (ρ : Dev Cert.KernelFfnD.nD → PrngReg),
  θ_run (Cert.KernelFfnD.defs (F := Bits)) (onTc (τ := Cert.KernelFfnD.τ) (Cert.KernelFfnD.main (F := Bits))) ⟨m, fun _ => 0, ρ⟩ (fun r => (∀ c : Dev Cert.KernelFfnD.nD,
      r.2.mem ((c.tc : Thread Cert.KernelFfnD.nD Cert.KernelFfnD.τ).loc Cert.KernelFfnD.main_arg0) = m ((c.tc : Thread Cert.KernelFfnD.nD Cert.KernelFfnD.τ).loc Cert.KernelFfnD.main_arg0)
      ∧ r.2.mem ((c.tc : Thread Cert.KernelFfnD.nD Cert.KernelFfnD.τ).loc Cert.KernelFfnD.main_arg1) = m ((c.tc : Thread Cert.KernelFfnD.nD Cert.KernelFfnD.τ).loc Cert.KernelFfnD.main_arg1)
      ∧ r.2.mem ((c.tc : Thread Cert.KernelFfnD.nD Cert.KernelFfnD.τ).loc Cert.KernelFfnD.main_arg2) = m ((c.tc : Thread Cert.KernelFfnD.nD Cert.KernelFfnD.τ).loc Cert.KernelFfnD.main_arg2)
      ∧ r.2.mem ((c.tc : Thread Cert.KernelFfnD.nD Cert.KernelFfnD.τ).loc Cert.KernelFfnD.main_arg3) = m ((c.tc : Thread Cert.KernelFfnD.nD Cert.KernelFfnD.τ).loc Cert.KernelFfnD.main_arg3)
      ∧ r.2.mem ((c.tc : Thread Cert.KernelFfnD.nD Cert.KernelFfnD.τ).loc Cert.KernelFfnD.main_arg4) = m ((c.tc : Thread Cert.KernelFfnD.nD Cert.KernelFfnD.τ).loc Cert.KernelFfnD.main_arg4)
      ∧ r.2.mem ((c.tc : Thread Cert.KernelFfnD.nD Cert.KernelFfnD.τ).loc Cert.KernelFfnD.main_arg5) = m ((c.tc : Thread Cert.KernelFfnD.nD Cert.KernelFfnD.τ).loc Cert.KernelFfnD.main_arg5)
      ∧ r.2.mem ((c.tc : Thread Cert.KernelFfnD.nD Cert.KernelFfnD.τ).loc Cert.KernelFfnD.main_arg6) = m ((c.tc : Thread Cert.KernelFfnD.nD Cert.KernelFfnD.τ).loc Cert.KernelFfnD.main_arg6)
      ∧ r.2.mem ((c.tc : Thread Cert.KernelFfnD.nD Cert.KernelFfnD.τ).loc Cert.KernelFfnD.main_arg7) = m ((c.tc : Thread Cert.KernelFfnD.nD Cert.KernelFfnD.τ).loc Cert.KernelFfnD.main_arg7)
      ∧ r.2.mem ((c.tc : Thread Cert.KernelFfnD.nD Cert.KernelFfnD.τ).loc Cert.KernelFfnD.main_arg8) = m ((c.tc : Thread Cert.KernelFfnD.nD Cert.KernelFfnD.τ).loc Cert.KernelFfnD.main_arg8)
      ∧ r.2.mem ((c.tc : Thread Cert.KernelFfnD.nD Cert.KernelFfnD.τ).loc Cert.KernelFfnD.main_arg9) = m ((c.tc : Thread Cert.KernelFfnD.nD Cert.KernelFfnD.τ).loc Cert.KernelFfnD.main_arg9)
      ∧ r.2.mem ((c.tc : Thread Cert.KernelFfnD.nD Cert.KernelFfnD.τ).loc Cert.KernelFfnD.main_arg10) = m ((c.tc : Thread Cert.KernelFfnD.nD Cert.KernelFfnD.τ).loc Cert.KernelFfnD.main_arg10)
      ∧ r.2.mem ((c.tc : Thread Cert.KernelFfnD.nD Cert.KernelFfnD.τ).loc Cert.KernelFfnD.main_arg11) = m ((c.tc : Thread Cert.KernelFfnD.nD Cert.KernelFfnD.τ).loc Cert.KernelFfnD.main_arg11)
      ∧ r.2.mem ((c.tc : Thread Cert.KernelFfnD.nD Cert.KernelFfnD.τ).loc Cert.KernelFfnD.main_arg12) = m ((c.tc : Thread Cert.KernelFfnD.nD Cert.KernelFfnD.τ).loc Cert.KernelFfnD.main_arg12)
      ∧ r.2.mem ((c.tc : Thread Cert.KernelFfnD.nD Cert.KernelFfnD.τ).loc Cert.KernelFfnD.main_arg13) = m ((c.tc : Thread Cert.KernelFfnD.nD Cert.KernelFfnD.τ).loc Cert.KernelFfnD.main_arg13)
      ∧ r.2.mem ((c.tc : Thread Cert.KernelFfnD.nD Cert.KernelFfnD.τ).loc Cert.KernelFfnD.main_arg14) = m ((c.tc : Thread Cert.KernelFfnD.nD Cert.KernelFfnD.τ).loc Cert.KernelFfnD.main_arg14)
      ∧ r.2.mem ((c.tc : Thread Cert.KernelFfnD.nD Cert.KernelFfnD.τ).loc Cert.KernelFfnD.main_arg15) = m ((c.tc : Thread Cert.KernelFfnD.nD Cert.KernelFfnD.τ).loc Cert.KernelFfnD.main_arg15)
      ∧ r.2.mem ((c.tc : Thread Cert.KernelFfnD.nD Cert.KernelFfnD.τ).loc Cert.KernelFfnD.main_arg16) = m ((c.tc : Thread Cert.KernelFfnD.nD Cert.KernelFfnD.τ).loc Cert.KernelFfnD.main_arg16)
      ∧ r.2.mem ((c.tc : Thread Cert.KernelFfnD.nD Cert.KernelFfnD.τ).loc Cert.KernelFfnD.main_arg17) = m ((c.tc : Thread Cert.KernelFfnD.nD Cert.KernelFfnD.τ).loc Cert.KernelFfnD.main_arg17))
      ∧ r.2.sem = fun _ => 0)) = (∀ (m : (ℓ : Loc Cert.KernelFfnDIdeal.nD Cert.KernelFfnDIdeal.τ Cert.KernelFfnDIdeal.sig) → Buf (Elt Bits) ℓ) (ρ : Dev Cert.KernelFfnDIdeal.nD → PrngReg),
  θ_run (Cert.KernelFfnDIdeal.defs (F := Bits)) (onTc (τ := Cert.KernelFfnDIdeal.τ) (Cert.KernelFfnDIdeal.main (F := Bits))) ⟨m, fun _ => 0, ρ⟩ (fun r => (∀ c : Dev Cert.KernelFfnDIdeal.nD,
      r.2.mem ((c.tc : Thread Cert.KernelFfnDIdeal.nD Cert.KernelFfnDIdeal.τ).loc Cert.KernelFfnDIdeal.main_arg0) = m ((c.tc : Thread Cert.KernelFfnDIdeal.nD Cert.KernelFfnDIdeal.τ).loc Cert.KernelFfnDIdeal.main_arg0)
      ∧ r.2.mem ((c.tc : Thread Cert.KernelFfnDIdeal.nD Cert.KernelFfnDIdeal.τ).loc Cert.KernelFfnDIdeal.main_arg1) = m ((c.tc : Thread Cert.KernelFfnDIdeal.nD Cert.KernelFfnDIdeal.τ).loc Cert.KernelFfnDIdeal.main_arg1)
      ∧ r.2.mem ((c.tc : Thread Cert.KernelFfnDIdeal.nD Cert.KernelFfnDIdeal.τ).loc Cert.KernelFfnDIdeal.main_arg2) = m ((c.tc : Thread Cert.KernelFfnDIdeal.nD Cert.KernelFfnDIdeal.τ).loc Cert.KernelFfnDIdeal.main_arg2)
      ∧ r.2.mem ((c.tc : Thread Cert.KernelFfnDIdeal.nD Cert.KernelFfnDIdeal.τ).loc Cert.KernelFfnDIdeal.main_arg3) = m ((c.tc : Thread Cert.KernelFfnDIdeal.nD Cert.KernelFfnDIdeal.τ).loc Cert.KernelFfnDIdeal.main_arg3)
      ∧ r.2.mem ((c.tc : Thread Cert.KernelFfnDIdeal.nD Cert.KernelFfnDIdeal.τ).loc Cert.KernelFfnDIdeal.main_arg4) = m ((c.tc : Thread Cert.KernelFfnDIdeal.nD Cert.KernelFfnDIdeal.τ).loc Cert.KernelFfnDIdeal.main_arg4)
      ∧ r.2.mem ((c.tc : Thread Cert.KernelFfnDIdeal.nD Cert.KernelFfnDIdeal.τ).loc Cert.KernelFfnDIdeal.main_arg5) = m ((c.tc : Thread Cert.KernelFfnDIdeal.nD Cert.KernelFfnDIdeal.τ).loc Cert.KernelFfnDIdeal.main_arg5)
      ∧ r.2.mem ((c.tc : Thread Cert.KernelFfnDIdeal.nD Cert.KernelFfnDIdeal.τ).loc Cert.KernelFfnDIdeal.main_arg6) = m ((c.tc : Thread Cert.KernelFfnDIdeal.nD Cert.KernelFfnDIdeal.τ).loc Cert.KernelFfnDIdeal.main_arg6)
      ∧ r.2.mem ((c.tc : Thread Cert.KernelFfnDIdeal.nD Cert.KernelFfnDIdeal.τ).loc Cert.KernelFfnDIdeal.main_arg7) = m ((c.tc : Thread Cert.KernelFfnDIdeal.nD Cert.KernelFfnDIdeal.τ).loc Cert.KernelFfnDIdeal.main_arg7)
      ∧ r.2.mem ((c.tc : Thread Cert.KernelFfnDIdeal.nD Cert.KernelFfnDIdeal.τ).loc Cert.KernelFfnDIdeal.main_arg8) = m ((c.tc : Thread Cert.KernelFfnDIdeal.nD Cert.KernelFfnDIdeal.τ).loc Cert.KernelFfnDIdeal.main_arg8)
      ∧ r.2.mem ((c.tc : Thread Cert.KernelFfnDIdeal.nD Cert.KernelFfnDIdeal.τ).loc Cert.KernelFfnDIdeal.main_arg9) = m ((c.tc : Thread Cert.KernelFfnDIdeal.nD Cert.KernelFfnDIdeal.τ).loc Cert.KernelFfnDIdeal.main_arg9)
      ∧ r.2.mem ((c.tc : Thread Cert.KernelFfnDIdeal.nD Cert.KernelFfnDIdeal.τ).loc Cert.KernelFfnDIdeal.main_arg10) = m ((c.tc : Thread Cert.KernelFfnDIdeal.nD Cert.KernelFfnDIdeal.τ).loc Cert.KernelFfnDIdeal.main_arg10)
      ∧ r.2.mem ((c.tc : Thread Cert.KernelFfnDIdeal.nD Cert.KernelFfnDIdeal.τ).loc Cert.KernelFfnDIdeal.main_arg11) = m ((c.tc : Thread Cert.KernelFfnDIdeal.nD Cert.KernelFfnDIdeal.τ).loc Cert.KernelFfnDIdeal.main_arg11)
      ∧ r.2.mem ((c.tc : Thread Cert.KernelFfnDIdeal.nD Cert.KernelFfnDIdeal.τ).loc Cert.KernelFfnDIdeal.main_arg12) = m ((c.tc : Thread Cert.KernelFfnDIdeal.nD Cert.KernelFfnDIdeal.τ).loc Cert.KernelFfnDIdeal.main_arg12)
      ∧ r.2.mem ((c.tc : Thread Cert.KernelFfnDIdeal.nD Cert.KernelFfnDIdeal.τ).loc Cert.KernelFfnDIdeal.main_arg13) = m ((c.tc : Thread Cert.KernelFfnDIdeal.nD Cert.KernelFfnDIdeal.τ).loc Cert.KernelFfnDIdeal.main_arg13)
      ∧ r.2.mem ((c.tc : Thread Cert.KernelFfnDIdeal.nD Cert.KernelFfnDIdeal.τ).loc Cert.KernelFfnDIdeal.main_arg14) = m ((c.tc : Thread Cert.KernelFfnDIdeal.nD Cert.KernelFfnDIdeal.τ).loc Cert.KernelFfnDIdeal.main_arg14)
      ∧ r.2.mem ((c.tc : Thread Cert.KernelFfnDIdeal.nD Cert.KernelFfnDIdeal.τ).loc Cert.KernelFfnDIdeal.main_arg15) = m ((c.tc : Thread Cert.KernelFfnDIdeal.nD Cert.KernelFfnDIdeal.τ).loc Cert.KernelFfnDIdeal.main_arg15)
      ∧ r.2.mem ((c.tc : Thread Cert.KernelFfnDIdeal.nD Cert.KernelFfnDIdeal.τ).loc Cert.KernelFfnDIdeal.main_arg16) = m ((c.tc : Thread Cert.KernelFfnDIdeal.nD Cert.KernelFfnDIdeal.τ).loc Cert.KernelFfnDIdeal.main_arg16)
      ∧ r.2.mem ((c.tc : Thread Cert.KernelFfnDIdeal.nD Cert.KernelFfnDIdeal.τ).loc Cert.KernelFfnDIdeal.main_arg17) = m ((c.tc : Thread Cert.KernelFfnDIdeal.nD Cert.KernelFfnDIdeal.τ).loc Cert.KernelFfnDIdeal.main_arg17))
      ∧ r.2.sem = fun _ => 0)) := by sl_kernel_rfl

/-- The frame of the program as printed. -/
theorem quiescent_printed (m : (ℓ : Loc Cert.KernelFfnD.nD Cert.KernelFfnD.τ Cert.KernelFfnD.sig) → Buf (Elt Bits) ℓ) (ρ : Dev Cert.KernelFfnD.nD → PrngReg) :
  θ_run (Cert.KernelFfnD.defs (F := Bits)) (onTc (τ := Cert.KernelFfnD.τ) (Cert.KernelFfnD.main (F := Bits))) ⟨m, fun _ => 0, ρ⟩ (fun r => (∀ c : Dev Cert.KernelFfnD.nD,
      r.2.mem ((c.tc : Thread Cert.KernelFfnD.nD Cert.KernelFfnD.τ).loc Cert.KernelFfnD.main_arg0) = m ((c.tc : Thread Cert.KernelFfnD.nD Cert.KernelFfnD.τ).loc Cert.KernelFfnD.main_arg0)
      ∧ r.2.mem ((c.tc : Thread Cert.KernelFfnD.nD Cert.KernelFfnD.τ).loc Cert.KernelFfnD.main_arg1) = m ((c.tc : Thread Cert.KernelFfnD.nD Cert.KernelFfnD.τ).loc Cert.KernelFfnD.main_arg1)
      ∧ r.2.mem ((c.tc : Thread Cert.KernelFfnD.nD Cert.KernelFfnD.τ).loc Cert.KernelFfnD.main_arg2) = m ((c.tc : Thread Cert.KernelFfnD.nD Cert.KernelFfnD.τ).loc Cert.KernelFfnD.main_arg2)
      ∧ r.2.mem ((c.tc : Thread Cert.KernelFfnD.nD Cert.KernelFfnD.τ).loc Cert.KernelFfnD.main_arg3) = m ((c.tc : Thread Cert.KernelFfnD.nD Cert.KernelFfnD.τ).loc Cert.KernelFfnD.main_arg3)
      ∧ r.2.mem ((c.tc : Thread Cert.KernelFfnD.nD Cert.KernelFfnD.τ).loc Cert.KernelFfnD.main_arg4) = m ((c.tc : Thread Cert.KernelFfnD.nD Cert.KernelFfnD.τ).loc Cert.KernelFfnD.main_arg4)
      ∧ r.2.mem ((c.tc : Thread Cert.KernelFfnD.nD Cert.KernelFfnD.τ).loc Cert.KernelFfnD.main_arg5) = m ((c.tc : Thread Cert.KernelFfnD.nD Cert.KernelFfnD.τ).loc Cert.KernelFfnD.main_arg5)
      ∧ r.2.mem ((c.tc : Thread Cert.KernelFfnD.nD Cert.KernelFfnD.τ).loc Cert.KernelFfnD.main_arg6) = m ((c.tc : Thread Cert.KernelFfnD.nD Cert.KernelFfnD.τ).loc Cert.KernelFfnD.main_arg6)
      ∧ r.2.mem ((c.tc : Thread Cert.KernelFfnD.nD Cert.KernelFfnD.τ).loc Cert.KernelFfnD.main_arg7) = m ((c.tc : Thread Cert.KernelFfnD.nD Cert.KernelFfnD.τ).loc Cert.KernelFfnD.main_arg7)
      ∧ r.2.mem ((c.tc : Thread Cert.KernelFfnD.nD Cert.KernelFfnD.τ).loc Cert.KernelFfnD.main_arg8) = m ((c.tc : Thread Cert.KernelFfnD.nD Cert.KernelFfnD.τ).loc Cert.KernelFfnD.main_arg8)
      ∧ r.2.mem ((c.tc : Thread Cert.KernelFfnD.nD Cert.KernelFfnD.τ).loc Cert.KernelFfnD.main_arg9) = m ((c.tc : Thread Cert.KernelFfnD.nD Cert.KernelFfnD.τ).loc Cert.KernelFfnD.main_arg9)
      ∧ r.2.mem ((c.tc : Thread Cert.KernelFfnD.nD Cert.KernelFfnD.τ).loc Cert.KernelFfnD.main_arg10) = m ((c.tc : Thread Cert.KernelFfnD.nD Cert.KernelFfnD.τ).loc Cert.KernelFfnD.main_arg10)
      ∧ r.2.mem ((c.tc : Thread Cert.KernelFfnD.nD Cert.KernelFfnD.τ).loc Cert.KernelFfnD.main_arg11) = m ((c.tc : Thread Cert.KernelFfnD.nD Cert.KernelFfnD.τ).loc Cert.KernelFfnD.main_arg11)
      ∧ r.2.mem ((c.tc : Thread Cert.KernelFfnD.nD Cert.KernelFfnD.τ).loc Cert.KernelFfnD.main_arg12) = m ((c.tc : Thread Cert.KernelFfnD.nD Cert.KernelFfnD.τ).loc Cert.KernelFfnD.main_arg12)
      ∧ r.2.mem ((c.tc : Thread Cert.KernelFfnD.nD Cert.KernelFfnD.τ).loc Cert.KernelFfnD.main_arg13) = m ((c.tc : Thread Cert.KernelFfnD.nD Cert.KernelFfnD.τ).loc Cert.KernelFfnD.main_arg13)
      ∧ r.2.mem ((c.tc : Thread Cert.KernelFfnD.nD Cert.KernelFfnD.τ).loc Cert.KernelFfnD.main_arg14) = m ((c.tc : Thread Cert.KernelFfnD.nD Cert.KernelFfnD.τ).loc Cert.KernelFfnD.main_arg14)
      ∧ r.2.mem ((c.tc : Thread Cert.KernelFfnD.nD Cert.KernelFfnD.τ).loc Cert.KernelFfnD.main_arg15) = m ((c.tc : Thread Cert.KernelFfnD.nD Cert.KernelFfnD.τ).loc Cert.KernelFfnD.main_arg15)
      ∧ r.2.mem ((c.tc : Thread Cert.KernelFfnD.nD Cert.KernelFfnD.τ).loc Cert.KernelFfnD.main_arg16) = m ((c.tc : Thread Cert.KernelFfnD.nD Cert.KernelFfnD.τ).loc Cert.KernelFfnD.main_arg16)
      ∧ r.2.mem ((c.tc : Thread Cert.KernelFfnD.nD Cert.KernelFfnD.τ).loc Cert.KernelFfnD.main_arg17) = m ((c.tc : Thread Cert.KernelFfnD.nD Cert.KernelFfnD.τ).loc Cert.KernelFfnD.main_arg17))
      ∧ r.2.sem = fun _ => 0) := by
  have h := frames_eq
  exact h.mpr (fun m ρ => quiescent (F := Bits) m ρ) m ρ

end Cert.FfnD
end
-- ==== Proof.FfnDValue.lean ====
/- The last call, the second layer's second feed-forward with the final norm: its two result arrays are the reference's terms over the
   call's arguments. -/
module

public import proofs.«01_k».proof.Proof.FfnDBody
public import proofs.«01_k».proof.Proof.Gen.ReferenceFfnDIdeal
public import proofs.«01_k».proof.Proof.FfnMix
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnD

open Cert.KernelFfnDIdeal Cert.KernelFfnDIdeal.Gen

variable (m : (ℓ : Loc nD τ sig) → Buf (Elt Ideal) ℓ)

/-- Where the windows of a grid point sit, and the point's coordinate. -/
theorem idx : ∀ t : Fin cfg0.N, win0_0.index t = ![t.val, 0]
    ∧ win0_1.index t = ![min t.val 127, 0] ∧ win0_2.index t = ![min (t.val - 128) 63, 0] ∧ win0_3.index t = ![0, 0] ∧ win0_4.index t = ![0, 0]
    ∧ win0_5.index t = ![min t.val 127, 0] ∧ win0_6.index t = ![min (t.val - 128) 63, 0] ∧ win0_7.index t = ![0, 0] ∧ win0_8.index t = ![0, 0]
    ∧ win0_9.index t = ![min t.val 127, 0] ∧ win0_10.index t = ![min (t.val - 128) 63, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0]
    ∧ win0_21.index t = ![min t.val 127, 0] ∧ win0_22.index t = ![min (t.val - 128) 63, 0] :=
  (by decide +kernel : ∀ t : Fin grid0.N, _)

/-- The point's coordinate. -/
theorem coord : ∀ t : Fin cfg0.N, (grid0.coords t 0).val = t.val :=
  (by decide +kernel : ∀ t : Fin grid0.N, _)

/-- The tile's rows after the projection. -/
theorem pay_mix (i : grid0.Coords) (v0 : Vec Ideal S512x1024 .f32) (v1 v3 v6 v9 : Vec Ideal S512x384 .bf16) (v11 : Vec Ideal S384x1024 .bf16)
    (v15 v17 v20 v23 : Vec Ideal S512x384 .bf16) (v25 : Vec Ideal S384x1024 .bf16) (v29 v31 v34 v37 : Vec Ideal S512x256 .bf16) (v39 : Vec Ideal S256x1024 .bf16) :
    k0_pay2 (F := Ideal) (BitVec.ofNat 32 (i 0).val) (k0_pay1 i v0 v1 v3 v6 v9 v11 v15 v17 v20 v23 v25) v29 v31 v34 v37 v39
      = FfnMix.mix v0 (FfnMix.pick (BitVec.ofNat 32 (i 0).val) v9 v6 v3 v1) v11 (FfnMix.pick (BitVec.ofNat 32 (i 0).val) v23 v20 v17 v15) v25
        (FfnMix.pick (BitVec.ofNat 32 (i 0).val) v37 v34 v31 v29) v39 := rfl

/-- What the call stores is the norm of one tile's feed-forward result of those rows. -/
theorem pay_tile (n : BitVec 32) (v28 : FVec Ideal S512x1024 .f32) (v29 v31 v34 v37 : Vec Ideal S512x256 .bf16) (v39 : Vec Ideal S256x1024 .bf16) (v43 : Vec Ideal S1x1024 .f32)
    (v59 v62 : Vec Ideal S1024x1536 .bf16) (v69 : Vec Ideal S1536x1024 .bf16) (v73 v76 : Vec Ideal S1024x1280 .bf16) (v83 : Vec Ideal S1280x1024 .bf16) (v90 : Vec Ideal S1x1024 .f32) :
    k0_pay7 (F := Ideal) (k0_pay2 n v28 v29 v31 v34 v37 v39) (k0_pay3 n v28 v29 v31 v34 v37 v39 v43) (k0_pay4 (F := Ideal))
        (k0_pay5 n v28 v29 v31 v34 v37 v39 v43 v59) (k0_pay6 v62) v69 v73 v76 v83 v90
      = Ffn.rms (Ffn.tile (k0_pay2 n v28 v29 v31 v34 v37 v39) v43 v59 v62 v69 v73 v76 v83) v90 := rfl

/-- The latent attention's blocks sit at the grid point's rows. -/
theorem piece_a (c : Dev nD) (t : Fin cfg0.N) (r : Fin 512) : FfnMix.Piece (w := 384) t.val r (iblk m c 1 t) (iblk m c 2 t) (iblk m c 3 t) (iblk m c 4 t) (m ((c : Thread nD τ).loc main_arg1)) (m ((c : Thread nD τ).loc main_arg2)) (m ((c : Thread nD τ).loc main_arg3)) (m ((c : Thread nD τ).loc main_arg4)) := by
  have ht : t.val < 194 := t.isLt
  constructor <;> intros <;> blk_ext [iblk, V, idx t]

/-- The grouped attention's blocks sit at the grid point's rows. -/
theorem piece_b (c : Dev nD) (t : Fin cfg0.N) (r : Fin 512) : FfnMix.Piece (w := 384) t.val r (iblk m c 5 t) (iblk m c 6 t) (iblk m c 7 t) (iblk m c 8 t) (m ((c : Thread nD τ).loc main_arg5)) (m ((c : Thread nD τ).loc main_arg6)) (m ((c : Thread nD τ).loc main_arg7)) (m ((c : Thread nD τ).loc main_arg8)) := by
  have ht : t.val < 194 := t.isLt
  constructor <;> intros <;> blk_ext [iblk, V, idx t]

/-- The linear attention's blocks sit at the grid point's rows. -/
theorem piece_c (c : Dev nD) (t : Fin cfg0.N) (r : Fin 512) : FfnMix.Piece (w := 256) t.val r (iblk m c 9 t) (iblk m c 10 t) (iblk m c 11 t) (iblk m c 12 t) (m ((c : Thread nD τ).loc main_arg9)) (m ((c : Thread nD τ).loc main_arg10)) (m ((c : Thread nD τ).loc main_arg11)) (m ((c : Thread nD τ).loc main_arg12)) := by
  have ht : t.val < 194 := t.isLt
  constructor <;> intros <;> blk_ext [iblk, V, idx t]

/-- The rows after the projection, the feed-forward and the final norm, as the reference computes them of the call's arguments. -/
def normed (c : Dev nD) : FVec Ideal Cert.ReferenceFfnDIdeal.S99328x1024 .f32 :=
  Ffn.refXn (Ffn.refOut (FfnMix.refMix (m ((c : Thread nD τ).loc main_arg0)) (FfnMix.rows384 (m ((c : Thread nD τ).loc main_arg1)) (m ((c : Thread nD τ).loc main_arg2)) (m ((c : Thread nD τ).loc main_arg3)) (m ((c : Thread nD τ).loc main_arg4)))
      (FfnMix.rows384 (m ((c : Thread nD τ).loc main_arg5)) (m ((c : Thread nD τ).loc main_arg6)) (m ((c : Thread nD τ).loc main_arg7)) (m ((c : Thread nD τ).loc main_arg8)))
      (FfnMix.rows256 (m ((c : Thread nD τ).loc main_arg9)) (m ((c : Thread nD τ).loc main_arg10)) (m ((c : Thread nD τ).loc main_arg11)) (m ((c : Thread nD τ).loc main_arg12))) (m ((c : Thread nD τ).loc main_arg13)))
    (m ((c : Thread nD τ).loc main_arg14)) (m ((c : Thread nD τ).loc main_arg15)) (m ((c : Thread nD τ).loc main_arg16))) (m ((c : Thread nD τ).loc main_arg17))

set_option maxHeartbeats 1600000 in
/-- A grid point's tile holds the reference's rows at the point. -/
theorem point (c : Dev nD) (t : Fin cfg0.N) (r : Fin 512) (q : Fin 99328) (n : Fin 1024) (hq : q.val = t.val * 512 + r.val) :
    tile m c t (ix2 r n) = normed m c (ix2 q n) := by
  have ht : t.val < 194 := t.isLt
  unfold tile normed out
  frame_out
  refine (congrFun (pay_tile _ _ _ _ _ _ _ _ _ _ _ _ _ _ _) _).trans ?_
  refine Ffn.rms_eq _ _ _ _ r q n (fun k => ?_) ?_
  · rw [pay_mix, coord t]
    refine FfnMix.row_eq (r := r) (n := k) (t := t.val) (ht := ht) (hq := hq) (ha := piece_a m c t r) (hb := piece_b m c t r) (hc := piece_c m c t r)
      (hh := ?_) (hn := ?_) (hwa := ?_) (hwb := ?_) (hwc := ?_) (hg := ?_) (hu := ?_) (hg' := ?_) (hu' := ?_) (ho := ?_) (ho' := ?_) ..
    · intro k
      blk_ext [iblk, V, idx t, hq]
    · intro k
      blk_simp [iblk, idx t]
      entry_read
      pointwise
      blk_ext [idx t]
    all_goals
      intro k f
      pointwise
      blk_simp [iblk, idx t]
      entry_read
      pointwise
      blk_ext [idx t]
  · intro k
    blk_simp [iblk, idx t]
    entry_read
    pointwise
    blk_ext [idx t]

/-- The first result array after the run: the first 65536 rows. -/
theorem final_p (c : Dev nD) : (dats m 0 c).arrAt 21 (cfgs 0).N
    = extractStridedSlice Cert.ReferenceFfnDIdeal.S65536x1024 ![0, 0] (normed m c) Cert.ReferenceFfnDIdeal.Facts₀.slices_S99328x1024_S65536x1024_0_0 := by
  refine (dats m 0 c).arrAt_eq_of_covers 21 _ (by decide +kernel) fun t _ y => ?_
  have ht : t.val < 194 := t.isLt
  blk_simp
  rw [after_21]
  idx_vars y
  have e : (((View.whole main_v11_0).slice (win0_21.rect t)).emb (ix2 y0 y1)) = ix2 (⟨min t.val 127 * 512 + y0.val, by omega⟩ : Fin 65536) y1 := by
    blk_ext [idx t]
  rw [e]
  refine (point m c (lo t) y0 ⟨min t.val 127 * 512 + y0.val, by omega⟩ y1 rfl).trans ?_
  pointwise

/-- The second result array after the run: the next 32768 rows. -/
theorem final_s (c : Dev nD) : (dats m 0 c).arrAt 22 (cfgs 0).N
    = extractStridedSlice Cert.ReferenceFfnDIdeal.S32768x1024 ![65536, 0] (normed m c) Cert.ReferenceFfnDIdeal.Facts₀.slices_S99328x1024_S32768x1024_65536_0 := by
  refine (dats m 0 c).arrAt_eq_of_covers 22 _ (by decide +kernel) fun t _ y => ?_
  have ht : t.val < 194 := t.isLt
  blk_simp
  rw [after_22]
  idx_vars y
  have e : (((View.whole main_v11_1).slice (win0_22.rect t)).emb (ix2 y0 y1)) = ix2 (⟨min (t.val - 128) 63 * 512 + y0.val, by omega⟩ : Fin 32768) y1 := by
    blk_ext [idx t]
  rw [e]
  refine (point m c (hi t) y0 ⟨65536 + (min (t.val - 128) 63 * 512 + y0.val), by omega⟩ y1 ?_).trans ?_
  · show 65536 + (min (t.val - 128) 63 * 512 + y0.val) = max 128 (min t.val 191) * 512 + y0.val
    omega
  · pointwise

end Cert.FfnD
-- ==== Proof.FfnDRef.lean ====
/- The last call's reference: what its run leaves in the two results, stage by stage. -/
module

public import proofs.«01_k».proof.Proof.Gen.ReferenceFfnDIdeal
public import proofs.«01_k».proof.Proof.FfnMix
public import Idealize.ShloMosaic.Lib.StableHlo.Run

@[expose] public section

set_option maxRecDepth 8192

noncomputable section

namespace Cert.FfnD.Ref

open Cert.ReferenceFfnDIdeal Cert.ReferenceFfnDIdeal.Gen Idealize.ShloMosaic Idealize.ShloMosaic.TcCoe Idealize.SL.Sem Idealize.ShloMosaic.StableHlo

variable {F : FTy → Type} [FloatOps F]

/-- The function of the operation that writes `main_v0`. -/
def fn_main_v0 : (main_arg1 : Ref sig .tc).ty.Contents (Elt F) → (main_arg2 : Ref sig .tc).ty.Contents (Elt F) → (main_arg3 : Ref sig .tc).ty.Contents (Elt F) → (main_arg4 : Ref sig .tc).ty.Contents (Elt F) → (main_v0 : Ref sig .tc).ty.Contents (Elt F) :=
  (fun u0 u1 u2 u3 => (concatenate S99328x384 0 [⟨S65536x384, (u0 : (⟨S65536x384, .bf16⟩ : BufTy).Contents (Elt F))⟩, ⟨S32768x384, (u1 : (⟨S32768x384, .bf16⟩ : BufTy).Contents (Elt F))⟩, ⟨S512x384, (u2 : (⟨S512x384, .bf16⟩ : BufTy).Contents (Elt F))⟩, ⟨S512x384, (u3 : (⟨S512x384, .bf16⟩ : BufTy).Contents (Elt F))⟩] concatenates_S65536x384_S32768x384_S512x384_S512x384_S99328x384_d0 : (⟨S99328x384, .bf16⟩ : BufTy).Contents (Elt F)))

/-- The function of the operation that writes `main_v1`. -/
def fn_main_v1 : (main_arg5 : Ref sig .tc).ty.Contents (Elt F) → (main_arg6 : Ref sig .tc).ty.Contents (Elt F) → (main_arg7 : Ref sig .tc).ty.Contents (Elt F) → (main_arg8 : Ref sig .tc).ty.Contents (Elt F) → (main_v1 : Ref sig .tc).ty.Contents (Elt F) :=
  (fun u0 u1 u2 u3 => (concatenate S99328x384 0 [⟨S65536x384, (u0 : (⟨S65536x384, .bf16⟩ : BufTy).Contents (Elt F))⟩, ⟨S32768x384, (u1 : (⟨S32768x384, .bf16⟩ : BufTy).Contents (Elt F))⟩, ⟨S512x384, (u2 : (⟨S512x384, .bf16⟩ : BufTy).Contents (Elt F))⟩, ⟨S512x384, (u3 : (⟨S512x384, .bf16⟩ : BufTy).Contents (Elt F))⟩] concatenates_S65536x384_S32768x384_S512x384_S512x384_S99328x384_d0 : (⟨S99328x384, .bf16⟩ : BufTy).Contents (Elt F)))

/-- The function of the operation that writes `main_v2`. -/
def fn_main_v2 : (main_arg9 : Ref sig .tc).ty.Contents (Elt F) → (main_arg10 : Ref sig .tc).ty.Contents (Elt F) → (main_arg11 : Ref sig .tc).ty.Contents (Elt F) → (main_arg12 : Ref sig .tc).ty.Contents (Elt F) → (main_v2 : Ref sig .tc).ty.Contents (Elt F) :=
  (fun u0 u1 u2 u3 => (concatenate S99328x256 0 [⟨S65536x256, (u0 : (⟨S65536x256, .bf16⟩ : BufTy).Contents (Elt F))⟩, ⟨S32768x256, (u1 : (⟨S32768x256, .bf16⟩ : BufTy).Contents (Elt F))⟩, ⟨S512x256, (u2 : (⟨S512x256, .bf16⟩ : BufTy).Contents (Elt F))⟩, ⟨S512x256, (u3 : (⟨S512x256, .bf16⟩ : BufTy).Contents (Elt F))⟩] concatenates_S65536x256_S32768x256_S512x256_S512x256_S99328x256_d0 : (⟨S99328x256, .bf16⟩ : BufTy).Contents (Elt F)))

/-- The function of the operation that writes `main_v3`. -/
def fn_main_v3 : (main_v0 : Ref sig .tc).ty.Contents (Elt F) → (main_v1 : Ref sig .tc).ty.Contents (Elt F) → (main_v2 : Ref sig .tc).ty.Contents (Elt F) → (main_v3 : Ref sig .tc).ty.Contents (Elt F) :=
  (fun u0 u1 u2 => (concatenate S99328x1024 1 [⟨S99328x384, (u0 : (⟨S99328x384, .bf16⟩ : BufTy).Contents (Elt F))⟩, ⟨S99328x384, (u1 : (⟨S99328x384, .bf16⟩ : BufTy).Contents (Elt F))⟩, ⟨S99328x256, (u2 : (⟨S99328x256, .bf16⟩ : BufTy).Contents (Elt F))⟩] concatenates_S99328x384_S99328x384_S99328x256_S99328x1024_d1 : (⟨S99328x1024, .bf16⟩ : BufTy).Contents (Elt F)))

/-- The reference's operations up to the rows after the projection. -/
abbrev opsA : List (HloOp τ sig (Elt F)) :=
  [ nary ![main_arg1, main_arg2, main_arg3, main_arg4] main_v0 (fun u => fn_main_v0 (F := F) (u 0) (u 1) (u 2) (u 3)),
    nary ![main_arg5, main_arg6, main_arg7, main_arg8] main_v1 (fun u => fn_main_v1 (F := F) (u 0) (u 1) (u 2) (u 3)),
    nary ![main_arg9, main_arg10, main_arg11, main_arg12] main_v2 (fun u => fn_main_v2 (F := F) (u 0) (u 1) (u 2) (u 3)),
    nary ![main_v0, main_v1, main_v2] main_v3 (fun u => fn_main_v3 (F := F) (u 0) (u 1) (u 2)),
    unary main_v3 main_v4 ((extf .f32 · bitsLt_bf16_f32) : (⟨S99328x1024, .bf16⟩ : BufTy).Contents (Elt F) → (⟨S99328x1024, .f32⟩ : BufTy).Contents (Elt F)),
    binary main_v4 main_arg13 main_v5 ((fun l r => Host.dotGeneral dot_S99328x1024_S1024x1024_S99328x1024_1_0_0_1_n_n none l r) : (⟨S99328x1024, .f32⟩ : BufTy).Contents (Elt F) → (⟨S1024x1024, .f32⟩ : BufTy).Contents (Elt F) → (⟨S99328x1024, .f32⟩ : BufTy).Contents (Elt F)),
    binary main_arg0 main_v5 main_v6 (addf : (⟨S99328x1024, .f32⟩ : BufTy).Contents (Elt F) → (⟨S99328x1024, .f32⟩ : BufTy).Contents (Elt F) → (⟨S99328x1024, .f32⟩ : BufTy).Contents (Elt F)) ]

theorem opsA_sub : (opsA : List (HloOp τ sig (Elt F))).Forall fun op => op.bufs ⊆ tcRefs τ sig :=
  ⟨nary_bufs_sub .., nary_bufs_sub .., nary_bufs_sub .., nary_bufs_sub .., unary_bufs_sub .., binary_bufs_sub .., binary_bufs_sub ..⟩

/-- The reference's operations from there to the rows after the feed-forward. -/
abbrev opsB : List (HloOp τ sig (Elt F)) :=
  [ binary main_v6 main_v6 main_v7 (mulf : (⟨S99328x1024, .f32⟩ : BufTy).Contents (Elt F) → (⟨S99328x1024, .f32⟩ : BufTy).Contents (Elt F) → (⟨S99328x1024, .f32⟩ : BufTy).Contents (Elt F)),
    nullary main_cst (constant S_ .f32 0x00000000#32),
    binary main_v7 main_cst main_v8 ((fun x v => Host.reduceAdd x v reducesTo_S99328x1024_S99328_d1 h_S_) : (⟨S99328x1024, .f32⟩ : BufTy).Contents (Elt F) → (⟨S_, .f32⟩ : BufTy).Contents (Elt F) → (⟨S99328, .f32⟩ : BufTy).Contents (Elt F)),
    unary main_v8 main_v9 (broadcastInDim S99328x1 ![0] bcast_S99328_S99328x1_0 : (⟨S99328, .f32⟩ : BufTy).Contents (Elt F) → (⟨S99328x1, .f32⟩ : BufTy).Contents (Elt F)),
    nullary main_cst_0 (constant S_ .f32 0x44800000#32),
    unary main_cst_0 main_v10 (broadcastInDim S99328x1 ![] bcast_S_S99328x1 : (⟨S_, .f32⟩ : BufTy).Contents (Elt F) → (⟨S99328x1, .f32⟩ : BufTy).Contents (Elt F)),
    binary main_v9 main_v10 main_v11 (Host.divf : (⟨S99328x1, .f32⟩ : BufTy).Contents (Elt F) → (⟨S99328x1, .f32⟩ : BufTy).Contents (Elt F) → (⟨S99328x1, .f32⟩ : BufTy).Contents (Elt F)),
    nullary main_cst_1 (constant S_ .f32 0x358637BD#32),
    unary main_cst_1 main_v12 (broadcastInDim S99328x1 ![] bcast_S_S99328x1 : (⟨S_, .f32⟩ : BufTy).Contents (Elt F) → (⟨S99328x1, .f32⟩ : BufTy).Contents (Elt F)),
    binary main_v11 main_v12 main_v13 (addf : (⟨S99328x1, .f32⟩ : BufTy).Contents (Elt F) → (⟨S99328x1, .f32⟩ : BufTy).Contents (Elt F) → (⟨S99328x1, .f32⟩ : BufTy).Contents (Elt F)),
    unary main_v13 main_v14 (Host.rsqrt : (⟨S99328x1, .f32⟩ : BufTy).Contents (Elt F) → (⟨S99328x1, .f32⟩ : BufTy).Contents (Elt F)),
    unary main_v14 main_v15 (broadcastInDim S99328x1024 ![0, 1] bcast_S99328x1_S99328x1024_0_1 : (⟨S99328x1, .f32⟩ : BufTy).Contents (Elt F) → (⟨S99328x1024, .f32⟩ : BufTy).Contents (Elt F)),
    binary main_v6 main_v15 main_v16 (mulf : (⟨S99328x1024, .f32⟩ : BufTy).Contents (Elt F) → (⟨S99328x1024, .f32⟩ : BufTy).Contents (Elt F) → (⟨S99328x1024, .f32⟩ : BufTy).Contents (Elt F)),
    unary main_arg14 main_v17 (broadcastInDim S1x1024 ![1] bcast_S1024_S1x1024_1 : (⟨S1024, .f32⟩ : BufTy).Contents (Elt F) → (⟨S1x1024, .f32⟩ : BufTy).Contents (Elt F)),
    unary main_v17 main_v18 (broadcastInDim S99328x1024 ![0, 1] bcast_S1x1024_S99328x1024_0_1 : (⟨S1x1024, .f32⟩ : BufTy).Contents (Elt F) → (⟨S99328x1024, .f32⟩ : BufTy).Contents (Elt F)),
    binary main_v16 main_v18 main_v19 (mulf : (⟨S99328x1024, .f32⟩ : BufTy).Contents (Elt F) → (⟨S99328x1024, .f32⟩ : BufTy).Contents (Elt F) → (⟨S99328x1024, .f32⟩ : BufTy).Contents (Elt F)),
    binary main_v19 main_arg15 main_v20 ((fun l r => Host.dotGeneral dot_S99328x1024_S1024x5632_S99328x5632_1_0_0_1_n_n none l r) : (⟨S99328x1024, .f32⟩ : BufTy).Contents (Elt F) → (⟨S1024x5632, .f32⟩ : BufTy).Contents (Elt F) → (⟨S99328x5632, .f32⟩ : BufTy).Contents (Elt F)),
    unary main_v20 main_v21 ((extractStridedSlice S99328x2816 ![0, 0] · slices_S99328x5632_S99328x2816_0_0) : (⟨S99328x5632, .f32⟩ : BufTy).Contents (Elt F) → (⟨S99328x2816, .f32⟩ : BufTy).Contents (Elt F)),
    unary main_v20 main_v22 ((extractStridedSlice S99328x2816 ![0, 2816] · slices_S99328x5632_S99328x2816_0_2816) : (⟨S99328x5632, .f32⟩ : BufTy).Contents (Elt F) → (⟨S99328x2816, .f32⟩ : BufTy).Contents (Elt F)),
    TRef.unary (TRef.of (T := ⟨S99328x2816, .f32⟩) main_v21) (TRef.of (T := ⟨S99328x2816, .f32⟩) main_call0_v0) Host.negf,
    TRef.unary (TRef.of (T := ⟨S99328x2816, .f32⟩) main_call0_v0) (TRef.of (T := ⟨S99328x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S99328x2816, .f32⟩) main_call0_v2) (broadcastInDim S99328x2816 ![] bcast_S_S99328x2816),
    TRef.binary (TRef.of (T := ⟨S99328x2816, .f32⟩) main_call0_v2) (TRef.of (T := ⟨S99328x2816, .f32⟩) main_call0_v1) (TRef.of (T := ⟨S99328x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S99328x2816, .f32⟩) main_call0_v4) (broadcastInDim S99328x2816 ![] bcast_S_S99328x2816),
    TRef.binary (TRef.of (T := ⟨S99328x2816, .f32⟩) main_call0_v4) (TRef.of (T := ⟨S99328x2816, .f32⟩) main_call0_v3) (TRef.of (T := ⟨S99328x2816, .f32⟩) main_call0_v5) Host.divf,
    TRef.binary (TRef.of (T := ⟨S99328x2816, .f32⟩) main_v21) (TRef.of (T := ⟨S99328x2816, .f32⟩) main_call0_v5) (TRef.of (T := ⟨S99328x2816, .f32⟩) main_v23) mulf,
    binary main_v23 main_v22 main_v24 (mulf : (⟨S99328x2816, .f32⟩ : BufTy).Contents (Elt F) → (⟨S99328x2816, .f32⟩ : BufTy).Contents (Elt F) → (⟨S99328x2816, .f32⟩ : BufTy).Contents (Elt F)),
    binary main_v24 main_arg16 main_v25 ((fun l r => Host.dotGeneral dot_S99328x2816_S2816x1024_S99328x1024_1_0_0_1_n_n none l r) : (⟨S99328x2816, .f32⟩ : BufTy).Contents (Elt F) → (⟨S2816x1024, .f32⟩ : BufTy).Contents (Elt F) → (⟨S99328x1024, .f32⟩ : BufTy).Contents (Elt F)),
    nullary main_cst_2 (constant S_ .f32 0x3F000000#32),
    unary main_cst_2 main_v26 (broadcastInDim S99328x1024 ![] bcast_S_S99328x1024 : (⟨S_, .f32⟩ : BufTy).Contents (Elt F) → (⟨S99328x1024, .f32⟩ : BufTy).Contents (Elt F)),
    binary main_v26 main_v25 main_v27 (mulf : (⟨S99328x1024, .f32⟩ : BufTy).Contents (Elt F) → (⟨S99328x1024, .f32⟩ : BufTy).Contents (Elt F) → (⟨S99328x1024, .f32⟩ : BufTy).Contents (Elt F)),
    binary main_v6 main_v27 main_v28 (addf : (⟨S99328x1024, .f32⟩ : BufTy).Contents (Elt F) → (⟨S99328x1024, .f32⟩ : BufTy).Contents (Elt F) → (⟨S99328x1024, .f32⟩ : BufTy).Contents (Elt F)) ]

theorem opsB_sub : (opsB : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub ..⟩

/-- The reference's operations of the final norm and the two results. -/
abbrev opsC : List (HloOp τ sig (Elt F)) :=
  [ binary main_v28 main_v28 main_v29 (mulf : (⟨S99328x1024, .f32⟩ : BufTy).Contents (Elt F) → (⟨S99328x1024, .f32⟩ : BufTy).Contents (Elt F) → (⟨S99328x1024, .f32⟩ : BufTy).Contents (Elt F)),
    nullary main_cst_3 (constant S_ .f32 0x00000000#32),
    binary main_v29 main_cst_3 main_v30 ((fun x v => Host.reduceAdd x v reducesTo_S99328x1024_S99328_d1 h_S_) : (⟨S99328x1024, .f32⟩ : BufTy).Contents (Elt F) → (⟨S_, .f32⟩ : BufTy).Contents (Elt F) → (⟨S99328, .f32⟩ : BufTy).Contents (Elt F)),
    unary main_v30 main_v31 (broadcastInDim S99328x1 ![0] bcast_S99328_S99328x1_0 : (⟨S99328, .f32⟩ : BufTy).Contents (Elt F) → (⟨S99328x1, .f32⟩ : BufTy).Contents (Elt F)),
    nullary main_cst_4 (constant S_ .f32 0x44800000#32),
    unary main_cst_4 main_v32 (broadcastInDim S99328x1 ![] bcast_S_S99328x1 : (⟨S_, .f32⟩ : BufTy).Contents (Elt F) → (⟨S99328x1, .f32⟩ : BufTy).Contents (Elt F)),
    binary main_v31 main_v32 main_v33 (Host.divf : (⟨S99328x1, .f32⟩ : BufTy).Contents (Elt F) → (⟨S99328x1, .f32⟩ : BufTy).Contents (Elt F) → (⟨S99328x1, .f32⟩ : BufTy).Contents (Elt F)),
    nullary main_cst_5 (constant S_ .f32 0x358637BD#32),
    unary main_cst_5 main_v34 (broadcastInDim S99328x1 ![] bcast_S_S99328x1 : (⟨S_, .f32⟩ : BufTy).Contents (Elt F) → (⟨S99328x1, .f32⟩ : BufTy).Contents (Elt F)),
    binary main_v33 main_v34 main_v35 (addf : (⟨S99328x1, .f32⟩ : BufTy).Contents (Elt F) → (⟨S99328x1, .f32⟩ : BufTy).Contents (Elt F) → (⟨S99328x1, .f32⟩ : BufTy).Contents (Elt F)),
    unary main_v35 main_v36 (Host.rsqrt : (⟨S99328x1, .f32⟩ : BufTy).Contents (Elt F) → (⟨S99328x1, .f32⟩ : BufTy).Contents (Elt F)),
    unary main_v36 main_v37 (broadcastInDim S99328x1024 ![0, 1] bcast_S99328x1_S99328x1024_0_1 : (⟨S99328x1, .f32⟩ : BufTy).Contents (Elt F) → (⟨S99328x1024, .f32⟩ : BufTy).Contents (Elt F)),
    binary main_v28 main_v37 main_v38 (mulf : (⟨S99328x1024, .f32⟩ : BufTy).Contents (Elt F) → (⟨S99328x1024, .f32⟩ : BufTy).Contents (Elt F) → (⟨S99328x1024, .f32⟩ : BufTy).Contents (Elt F)),
    unary main_arg17 main_v39 (broadcastInDim S1x1024 ![1] bcast_S1024_S1x1024_1 : (⟨S1024, .f32⟩ : BufTy).Contents (Elt F) → (⟨S1x1024, .f32⟩ : BufTy).Contents (Elt F)),
    unary main_v39 main_v40 (broadcastInDim S99328x1024 ![0, 1] bcast_S1x1024_S99328x1024_0_1 : (⟨S1x1024, .f32⟩ : BufTy).Contents (Elt F) → (⟨S99328x1024, .f32⟩ : BufTy).Contents (Elt F)),
    binary main_v38 main_v40 main_v41 (mulf : (⟨S99328x1024, .f32⟩ : BufTy).Contents (Elt F) → (⟨S99328x1024, .f32⟩ : BufTy).Contents (Elt F) → (⟨S99328x1024, .f32⟩ : BufTy).Contents (Elt F)),
    unary main_v41 main_v42 ((extractStridedSlice S65536x1024 ![0, 0] · slices_S99328x1024_S65536x1024_0_0) : (⟨S99328x1024, .f32⟩ : BufTy).Contents (Elt F) → (⟨S65536x1024, .f32⟩ : BufTy).Contents (Elt F)),
    unary main_v41 main_v43 ((extractStridedSlice S32768x1024 ![65536, 0] · slices_S99328x1024_S32768x1024_65536_0) : (⟨S99328x1024, .f32⟩ : BufTy).Contents (Elt F) → (⟨S32768x1024, .f32⟩ : BufTy).Contents (Elt F)) ]

theorem opsC_sub : (opsC : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩

/-- All of them. -/
abbrev ops : List (HloOp τ sig (Elt F)) := opsA ++ (opsB ++ opsC)

theorem ops_sub : (ops : List (HloOp τ sig (Elt F))).Forall fun op => op.bufs ⊆ tcRefs τ sig :=
  List.forall_append.2 ⟨opsA_sub, List.forall_append.2 ⟨opsB_sub, opsC_sub⟩⟩

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- What the three stages leave is what the last leaves of what the ones before leave. -/
theorem after_ops (V : Valuation τ sig (Elt F)) : after ops V = after opsC (after opsB (after opsA V)) := rfl

/-- The rows after the projection. -/
theorem stage_a (V : Valuation τ sig (Elt Ideal)) : after opsA V main_v6
    = FfnMix.refMix (V main_arg0) (FfnMix.rows384 (V main_arg1) (V main_arg2) (V main_arg3) (V main_arg4)) (FfnMix.rows384 (V main_arg5) (V main_arg6) (V main_arg7) (V main_arg8)) (FfnMix.rows256 (V main_arg9) (V main_arg10) (V main_arg11) (V main_arg12)) (V main_arg13) := by
  simp only [opsA]; after_results_simp <;> (try dsimp only [Matrix.cons_val]) <;> (try after_results_simp) <;> (try dsimp only [Matrix.cons_val]) <;> (try after_results_simp) <;> rfl

/-- The rows after the feed-forward. -/
theorem stage_b (V : Valuation τ sig (Elt Ideal)) : after opsB V main_v28 = Ffn.refOut (V main_v6) (V main_arg14) (V main_arg15) (V main_arg16) := by
  simp only [opsB, TRef.binary, TRef.nullary, TRef.unary, TRef.toBuf, TRef.ofBuf, cast_eq]; after_results_simp <;> rfl

/-- The first result: the first 65536 rows, normed. -/
theorem stage_p (V : Valuation τ sig (Elt Ideal)) : after opsC V main_v42
    = extractStridedSlice S65536x1024 ![0, 0] (Ffn.refXn (V main_v28) (V main_arg17)) Facts₀.slices_S99328x1024_S65536x1024_0_0 := by
  simp only [opsC]; after_results_simp <;> rfl

/-- The second result: the next 32768 rows, normed. -/
theorem stage_s (V : Valuation τ sig (Elt Ideal)) : after opsC V main_v43
    = extractStridedSlice S32768x1024 ![65536, 0] (Ffn.refXn (V main_v28) (V main_arg17)) Facts₀.slices_S99328x1024_S32768x1024_65536_0 := by
  simp only [opsC]; after_results_simp <;> rfl

theorem arg_A_14 (V : Valuation τ sig (Elt F)) : after opsA V main_arg14 = V main_arg14 := by
  simp only [opsA, TRef.binary, TRef.nullary, TRef.unary]; after_results_simp
theorem arg_A_15 (V : Valuation τ sig (Elt F)) : after opsA V main_arg15 = V main_arg15 := by
  simp only [opsA, TRef.binary, TRef.nullary, TRef.unary]; after_results_simp
theorem arg_A_16 (V : Valuation τ sig (Elt F)) : after opsA V main_arg16 = V main_arg16 := by
  simp only [opsA, TRef.binary, TRef.nullary, TRef.unary]; after_results_simp
theorem arg_A_17 (V : Valuation τ sig (Elt F)) : after opsA V main_arg17 = V main_arg17 := by
  simp only [opsA, TRef.binary, TRef.nullary, TRef.unary]; after_results_simp
theorem arg_B_17 (V : Valuation τ sig (Elt F)) : after opsB V main_arg17 = V main_arg17 := by
  simp only [opsB, TRef.binary, TRef.nullary, TRef.unary]; after_results_simp

/-- The rows after the projection, the feed-forward and the final norm, of the call's arguments. -/
def normed (m : (ℓ : Loc nD τ sig) → Buf (Elt Ideal) ℓ) (c : Dev nD) : FVec Ideal S99328x1024 .f32 :=
  Ffn.refXn (Ffn.refOut (FfnMix.refMix (m ((c.tc : Thread nD τ).loc main_arg0)) (FfnMix.rows384 (m ((c.tc : Thread nD τ).loc main_arg1)) (m ((c.tc : Thread nD τ).loc main_arg2)) (m ((c.tc : Thread nD τ).loc main_arg3)) (m ((c.tc : Thread nD τ).loc main_arg4)))
      (FfnMix.rows384 (m ((c.tc : Thread nD τ).loc main_arg5)) (m ((c.tc : Thread nD τ).loc main_arg6)) (m ((c.tc : Thread nD τ).loc main_arg7)) (m ((c.tc : Thread nD τ).loc main_arg8)))
      (FfnMix.rows256 (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg13)))
    (m ((c.tc : Thread nD τ).loc main_arg14)) (m ((c.tc : Thread nD τ).loc main_arg15)) (m ((c.tc : Thread nD τ).loc main_arg16))) (m ((c.tc : Thread nD τ).loc main_arg17))

set_option maxHeartbeats 2000000 in
/-- The reference's run: the results are those rows of its arguments, and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = extractStridedSlice S65536x1024 ![0, 0] (normed m c) Facts₀.slices_S99328x1024_S65536x1024_0_0
      ∧ r.2.mem ((c.tc : Thread nD τ).loc main_v43) = extractStridedSlice S32768x1024 ![65536, 0] (normed m c) Facts₀.slices_S99328x1024_S32768x1024_65536_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  refine (θ_run defs _ _).mono (fun _ h c => ⟨(h c main_v42).trans ?_, (h c main_v43).trans ?_, (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_, (h c main_arg9).trans ?_, (h c main_arg10).trans ?_, (h c main_arg11).trans ?_, (h c main_arg12).trans ?_, (h c main_arg13).trans ?_, (h c main_arg14).trans ?_, (h c main_arg15).trans ?_, (h c main_arg16).trans ?_, (h c main_arg17).trans ?_⟩)
    (run_seq scopedRefs_eq scopedSems_eq defs main (fun _ => ops) main_eq (fun _ => ops_sub) m ρ)
  · rw [after_ops, stage_p, stage_b, stage_a, arg_A_14, arg_A_15, arg_A_16, arg_B_17, arg_A_17]; rfl
  · rw [after_ops, stage_s, stage_b, stage_a, arg_A_14, arg_A_15, arg_A_16, arg_B_17, arg_A_17]; rfl
  all_goals
    simp only [ops, opsA, opsB, opsC, List.cons_append, List.nil_append, TRef.binary, TRef.nullary, TRef.unary, TRef.toBuf, TRef.ofBuf, cast_eq]
    after_results_simp <;> rfl

end Cert.FfnD.Ref

end
-- ==== Proof.MlaPure.lean ====
/- Softmax in pieces, over the extended reals: one lane of the attention, its keys taken chunk by chunk. -/
module

public import Idealize.ShloMosaic.PureOps.Ideal
public import Mathlib.Analysis.SpecialFunctions.Pow.Real

@[expose] public section

noncomputable section

open Idealize.ShloMosaic

namespace Cert.Mla.Pure

/-- A nonnegative real factor goes into a sum of extended reals. -/
theorem coe_mul_sum {ι : Type*} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- Two to the power of an extended real below the top, as a real. -/
def pow2 (s : EReal) : ℝ := (Ideal.exp2 s).toReal

/-- A score: a real, or the bottom of a key that is masked. -/
def IsScore (s : EReal) : Prop := s ≠ ⊤

theorem pow2_coe (r : ℝ) : pow2 (r : EReal) = (2 : ℝ) ^ r := rfl
theorem pow2_bot : pow2 ⊥ = 0 := rfl
theorem pow2_nonneg (s : EReal) : 0 ≤ pow2 s := by
  induction s with
  | bot => exact le_refl _
  | top => exact le_refl _
  | coe r => rw [pow2_coe]; positivity

/-- The exponential of a score over a real maximum, as the score's power times the maximum's inverse power. -/
theorem exp2_sub (s : EReal) (hs : IsScore s) (M : ℝ) : Ideal.exp2 (s - (M : EReal)) = ((pow2 s * (2 : ℝ) ^ (-M) : ℝ) : EReal) := by
  induction s with
  | bot => rw [pow2_bot, zero_mul, EReal.bot_sub, Ideal.exp2_bot, EReal.coe_zero]
  | top => exact absurd rfl hs
  | coe r =>
    rw [← EReal.coe_sub, Ideal.exp2_coe, pow2_coe, ← Real.rpow_add (by norm_num), ← sub_eq_add_neg]
    rfl

/-- A largest element's fold, from the bottom. -/
theorem le_fold {ι : Type*} [Fintype ι] (f : ι → EReal) (k : ι) : f k ≤ Finset.univ.fold max ⊥ f :=
  (Finset.le_fold_max (f k)).2 (Or.inr ⟨k, Finset.mem_univ k, le_refl _⟩)

theorem fold_ne_top {ι : Type*} [Fintype ι] (f : ι → EReal) (hf : ∀ k, IsScore (f k)) : Finset.univ.fold max ⊥ f ≠ ⊤ := by
  intro e
  rcases (Finset.le_fold_max (⊤ : EReal)).1 (le_of_eq e.symm) with h | ⟨k, _, h⟩
  · exact absurd (le_bot_iff.1 h) (by simp)
  · exact hf k (top_le_iff.1 h)

theorem fold_real {ι : Type*} [Fintype ι] (f : ι → EReal) (hf : ∀ k, IsScore (f k)) (k : ι) (hk : f k ≠ ⊥) :
    ∃ M : ℝ, Finset.univ.fold max ⊥ f = (M : EReal) := by
  have h1 := fold_ne_top f hf
  have h2 : Finset.univ.fold max ⊥ f ≠ ⊥ := fun e => hk (le_bot_iff.1 (e ▸ le_fold f k))
  exact ⟨_, (EReal.coe_toReal h1 h2).symm⟩

/-- The state of a lane, given what its keys so far weigh (`A c`: the values times the keys' powers, each times `c`):
    nothing in, or a real maximum and the weights over it. -/
def Inv (m acc : EReal) (A : ℝ → EReal) : Prop :=
  (m = ⊥ ∧ acc = 0 ∧ ∀ c, A c = 0) ∨ ∃ M : ℝ, m = (M : EReal) ∧ acc = A ((2 : ℝ) ^ (-M))

/-- What some keys weigh. -/
def bag {ι : Type*} [Fintype ι] (v s : ι → EReal) (c : ℝ) : EReal := ∑ k, v k * ((pow2 (s k) * c : ℝ) : EReal)

theorem bag_scale {ι : Type*} [Fintype ι] (v s : ι → EReal) (c d : ℝ) (hc : 0 ≤ c) : (c : EReal) * bag v s d = bag v s (d * c) := by
  unfold bag
  rw [coe_mul_sum _ _ hc]
  refine Finset.sum_congr rfl fun k _ => ?_
  rw [mul_left_comm, ← EReal.coe_mul]
  congr 2
  ring

/-- One chunk of keys more. -/
theorem step {ι : Type*} [Fintype ι] (m acc : EReal) (A : ℝ → EReal) (hA : ∀ c d : ℝ, 0 ≤ c → (c : EReal) * A d = A (d * c)) (h : Inv m acc A)
    (v s : ι → EReal) (hs : ∀ k, IsScore (s k)) (hr : m ≠ ⊥ ∨ ∃ k, s k ≠ ⊥) :
    ∃ M : ℝ, max m (Finset.univ.fold max ⊥ s) = (M : EReal)
      ∧ Ideal.exp2 (m - max m (Finset.univ.fold max ⊥ s)) * acc + ∑ k, v k * Ideal.exp2 (s k - max m (Finset.univ.fold max ⊥ s))
        = A ((2 : ℝ) ^ (-M)) + bag v s ((2 : ℝ) ^ (-M)) := by
  have hm : m ≠ ⊤ := by
    rcases h with ⟨e, _⟩ | ⟨M, e, _⟩ <;> rw [e]
    · simp
    · exact EReal.coe_ne_top M
  have h1 : max m (Finset.univ.fold max ⊥ s) ≠ ⊤ := by
    rcases max_choice m (Finset.univ.fold max ⊥ s) with e | e <;> rw [e]
    · exact hm
    · exact fold_ne_top s hs
  have h2 : max m (Finset.univ.fold max ⊥ s) ≠ ⊥ := by
    intro e
    rcases hr with hr | ⟨k, hk⟩
    · exact hr (le_bot_iff.1 (e ▸ le_max_left _ _))
    · exact hk (le_bot_iff.1 (e ▸ (le_fold s k).trans (le_max_right _ _)))
  generalize hM : max m (Finset.univ.fold max ⊥ s) = X at h1 h2
  lift X to ℝ using ⟨h1, h2⟩ with M
  refine ⟨M, rfl, ?_⟩
  have hb : ∑ k, v k * Ideal.exp2 (s k - (M : EReal)) = bag v s ((2 : ℝ) ^ (-M)) :=
    Finset.sum_congr rfl fun k _ => by rw [exp2_sub _ (hs k)]
  rw [hb]
  congr 1
  rcases h with ⟨e, e', e''⟩ | ⟨N, e, e'⟩
  · rw [e', mul_zero, e'']
  · rw [e', e, exp2_sub _ (EReal.coe_ne_top N), pow2_coe, hA _ _ (by positivity)]
    congr 1
    rw [← mul_assoc, ← Real.rpow_add (by norm_num), neg_add_cancel, Real.rpow_zero, one_mul]

/-- One chunk of keys more, weighed over the maximum before it. -/
theorem late {ι : Type*} [Fintype ι] (m acc : EReal) (A : ℝ → EReal) (hA : ∀ c d : ℝ, 0 ≤ c → (c : EReal) * A d = A (d * c))
    (h : ∃ M : ℝ, m = (M : EReal) ∧ acc = A ((2 : ℝ) ^ (-M))) (v s : ι → EReal) (hs : ∀ k, IsScore (s k)) :
    ∃ M : ℝ, max m (Finset.univ.fold max ⊥ s) = (M : EReal)
      ∧ Ideal.exp2 (m - max m (Finset.univ.fold max ⊥ s)) * (acc + ∑ k, v k * Ideal.exp2 (s k - m)) = A ((2 : ℝ) ^ (-M)) + bag v s ((2 : ℝ) ^ (-M)) := by
  obtain ⟨N, e, e'⟩ := h
  have h1 : max m (Finset.univ.fold max ⊥ s) ≠ ⊤ := by
    rcases max_choice m (Finset.univ.fold max ⊥ s) with e'' | e'' <;> rw [e'']
    · rw [e]; exact EReal.coe_ne_top N
    · exact fold_ne_top s hs
  have h2 : max m (Finset.univ.fold max ⊥ s) ≠ ⊥ := fun e'' => EReal.coe_ne_bot N (le_bot_iff.1 (e'' ▸ e ▸ le_max_left m _))
  generalize hM : max m (Finset.univ.fold max ⊥ s) = X at h1 h2
  lift X to ℝ using ⟨h1, h2⟩ with M
  refine ⟨M, rfl, ?_⟩
  have hb : ∑ k, v k * Ideal.exp2 (s k - m) = bag v s ((2 : ℝ) ^ (-N)) :=
    Finset.sum_congr rfl fun k _ => by rw [e, exp2_sub _ (hs k)]
  have hx : (2 : ℝ) ^ (-N) * ((2 : ℝ) ^ N * (2 : ℝ) ^ (-M)) = (2 : ℝ) ^ (-M) := by
    rw [← mul_assoc, ← Real.rpow_add (by norm_num), neg_add_cancel, Real.rpow_zero, one_mul]
  rw [hb, e', e, exp2_sub _ (EReal.coe_ne_top N), pow2_coe, EReal.left_distrib_of_nonneg_of_ne_top (EReal.coe_nonneg.2 (by positivity)) (EReal.coe_ne_top _),
    hA _ _ (by positivity), bag_scale _ _ _ _ (by positivity), hx]

/-- Chunks of 512 keys, one after the other. -/
def chunks (v s : ℕ → Fin 512 → EReal) (n : ℕ) (c : ℝ) : EReal := ∑ i ∈ Finset.range n, bag (v i) (s i) c

theorem chunks_scale (v s : ℕ → Fin 512 → EReal) (n : ℕ) (c d : ℝ) (hc : 0 ≤ c) : (c : EReal) * chunks v s n d = chunks v s n (d * c) := by
  unfold chunks
  rw [coe_mul_sum _ _ hc]
  exact Finset.sum_congr rfl fun i _ => bag_scale _ _ _ _ hc

/-- The lane's state after any number of chunks. -/
theorem run_inv (v s : ℕ → Fin 512 → EReal) (hs : ∀ i k, ∃ r : ℝ, s i k = (r : EReal)) (m acc : ℕ → EReal) (m0 : m 0 = ⊥) (a0 : acc 0 = 0)
    (hm : ∀ n, m (n + 1) = max (m n) (Finset.univ.fold max ⊥ (s n)))
    (ha : ∀ n, acc (n + 1) = Ideal.exp2 (m n - m (n + 1)) * acc n + ∑ k, v n k * Ideal.exp2 (s n k - m (n + 1))) (n : ℕ) :
    Inv (m n) (acc n) (chunks v s n) := by
  induction n with
  | zero => exact Or.inl ⟨m0, a0, fun c => by simp [chunks]⟩
  | succ n ih =>
    obtain ⟨r, hr⟩ := hs n 0
    obtain ⟨M, e, e'⟩ := step (m n) (acc n) _ (fun c d hc => chunks_scale v s n c d hc) ih (v n) (s n)
      (fun k => by obtain ⟨r, hr⟩ := hs n k; rw [hr]; exact EReal.coe_ne_top r) (Or.inr ⟨0, by rw [hr]; exact EReal.coe_ne_bot r⟩)
    refine Or.inr ⟨M, by rw [hm, e], ?_⟩
    rw [ha, hm, e', chunks, chunks, Finset.sum_range_succ]

/-- The lane's state after any number of chunks, each weighed over the maximum before it, from a real maximum on. -/
theorem late_inv (v s : ℕ → Fin 512 → EReal) (hs : ∀ i k, ∃ r : ℝ, s i k = (r : EReal)) (m acc : ℕ → EReal) (m0 : ∃ M : ℝ, m 0 = (M : EReal)) (a0 : acc 0 = 0)
    (hm : ∀ n, m (n + 1) = max (m n) (Finset.univ.fold max ⊥ (s n)))
    (ha : ∀ n, acc (n + 1) = Ideal.exp2 (m n - m (n + 1)) * (acc n + ∑ k, v n k * Ideal.exp2 (s n k - m n))) (n : ℕ) :
    ∃ M : ℝ, m n = (M : EReal) ∧ acc n = chunks v s n ((2 : ℝ) ^ (-M)) := by
  induction n with
  | zero =>
    obtain ⟨M, e⟩ := m0
    exact ⟨M, e, by rw [a0]; simp [chunks]⟩
  | succ n ih =>
    obtain ⟨M, e, e'⟩ := late (m n) (acc n) _ (fun c d hc => chunks_scale v s n c d hc) ih (v n) (s n)
      (fun k => by obtain ⟨r, hr⟩ := hs n k; rw [hr]; exact EReal.coe_ne_top r)
    refine ⟨M, by rw [hm, e], ?_⟩
    rw [ha, hm, e', chunks, chunks, Finset.sum_range_succ]

/-- A quotient of two weighted sums: the common factor cancels and the division goes into the sum. -/
theorem div_sum {ι : Type*} [Fintype ι] (v : ι → EReal) (w : ι → ℝ) (a b : ℝ) (ha : 0 < a) (hb : 0 < b) (hw : ∀ k, 0 ≤ w k) (k₀ : ι) (hk : 0 < w k₀) :
    Ideal.div (∑ k, v k * ((w k * a : ℝ) : EReal)) (∑ k, ((w k * a : ℝ) : EReal))
      = ∑ k, v k * Ideal.div ((w k * b : ℝ) : EReal) (∑ k, ((w k * b : ℝ) : EReal)) := by
  have hW : 0 < ∑ k, w k := Finset.sum_pos' (fun k _ => hw k) ⟨k₀, Finset.mem_univ _, hk⟩
  have hs : ∀ c : ℝ, ∑ k, ((w k * c : ℝ) : EReal) = (((∑ k, w k) * c : ℝ) : EReal) := fun c => by
    rw [Finset.sum_mul]; exact (map_sum (⟨⟨Real.toEReal, EReal.coe_zero⟩, EReal.coe_add⟩ : ℝ →+ EReal) _ _).symm
  rw [hs, hs]
  have ha' : (∑ k, w k) * a ≠ 0 := (mul_pos hW ha).ne'
  have hb' : (∑ k, w k) * b ≠ 0 := (mul_pos hW hb).ne'
  rw [Ideal.div_coe ha', mul_comm, coe_mul_sum _ _ (by positivity)]
  refine Finset.sum_congr rfl fun k _ => ?_
  rw [Ideal.div_coe hb', mul_left_comm, ← EReal.coe_mul, ← EReal.coe_mul]
  congr 2
  field_simp

/-- A sum over a batch's keys: the leading sixteen, then chunks of 512. -/
theorem sum_keys {N c : ℕ} (hN : N = 16 + c * 512) (f : Fin N → EReal) :
    ∑ j, f j = (∑ j : Fin 16, f ⟨j.val, by omega⟩) + ∑ n ∈ Finset.range c, ∑ k : Fin 512, f ⟨(16 + (512 * n + k.val)) % N, Nat.mod_lt _ (by omega)⟩ := by
  subst hN
  rw [Fin.sum_univ_add]
  refine congrArg₂ (· + ·) (Finset.sum_congr rfl fun j _ => congrArg f (Fin.ext rfl)) ?_
  rw [Finset.sum_range (n := c) (fun n => ∑ k : Fin 512, f ⟨(16 + (512 * n + k.val)) % (16 + c * 512), Nat.mod_lt _ (by omega)⟩),
    ← Fintype.sum_prod_type' (f := fun (n : Fin c) (k : Fin 512) => f ⟨(16 + (512 * n.val + k.val)) % (16 + c * 512), Nat.mod_lt _ (by omega)⟩)]
  refine (Fintype.sum_equiv (finProdFinEquiv (m := c) (n := 512)) _ _ fun x => ?_).symm
  refine congrArg f (Fin.ext ?_)
  have h1 := x.1.isLt
  have h2 := x.2.isLt
  show (16 + (512 * x.1.val + x.2.val)) % (16 + c * 512) = 16 + (x.2.val + 512 * x.1.val)
  rw [Nat.mod_eq_of_lt (by omega)]
  omega

/-- A sum over 128 leading keys of which all but one sixteen weigh nothing. -/
theorem sum_lead (f : Fin 128 → EReal) (b : ℕ) (hb : b < 8) (h : ∀ k : Fin 128, k.val / 16 ≠ b → f k = 0) :
    ∑ k, f k = ∑ j : Fin 16, f ⟨16 * b + j.val, by omega⟩ := by
  rw [← Fintype.sum_equiv (finProdFinEquiv (m := 8) (n := 16)) (fun x => f (finProdFinEquiv x)) f (fun _ => rfl), Fintype.sum_prod_type]
  rw [Finset.sum_eq_single (⟨b, hb⟩ : Fin 8)]
  · refine Finset.sum_congr rfl fun j _ => congrArg f (Fin.ext ?_)
    show j.val + 16 * b = 16 * b + j.val
    omega
  · intro a _ ha
    refine Finset.sum_eq_zero fun j _ => h _ ?_
    show (j.val + 16 * a.val) / 16 ≠ b
    have := j.isLt
    intro e
    exact ha (Fin.ext (by show a.val = b; omega))
  · intro hn
    exact absurd (Finset.mem_univ _) hn

/-- The chunks and the leading keys together weigh what all the keys do. -/
theorem all_keys {N c : ℕ} (hN : N = 16 + c * 512) (S V : Fin N → EReal) (v s : ℕ → Fin 512 → EReal) (vm sm : Fin 128 → EReal) (b : ℕ) (hb : b < 8)
    (hs : ∀ n < c, ∀ k : Fin 512, s n k = S ⟨(16 + (512 * n + k.val)) % N, Nat.mod_lt _ (by omega)⟩)
    (hv : ∀ n < c, ∀ k : Fin 512, v n k = V ⟨(16 + (512 * n + k.val)) % N, Nat.mod_lt _ (by omega)⟩)
    (hsm : ∀ j : Fin 16, sm ⟨16 * b + j.val, by omega⟩ = S ⟨j.val, by omega⟩) (hvm : ∀ j : Fin 16, vm ⟨16 * b + j.val, by omega⟩ = V ⟨j.val, by omega⟩)
    (hbot : ∀ k : Fin 128, k.val / 16 ≠ b → sm k = ⊥) (d : ℝ) :
    chunks v s c d + bag vm sm d = ∑ j, V j * ((pow2 (S j) * d : ℝ) : EReal) := by
  rw [sum_keys hN, add_comm]
  unfold bag chunks
  congr 1
  · rw [sum_lead _ b hb fun k hk => by rw [hbot k hk, pow2_bot, zero_mul, EReal.coe_zero, mul_zero]]
    exact Finset.sum_congr rfl fun j _ => by rw [hsm, hvm]
  · refine Finset.sum_congr rfl fun n hn => ?_
    have := Finset.mem_range.1 hn
    exact Finset.sum_congr rfl fun k _ => by rw [hs n this, hv n this]

/-- The softmax's mean of `V` under the scores `S` times the logarithm of two. -/
def mean {ι : Type*} [Fintype ι] (S V : ι → EReal) : EReal :=
  ∑ j, V j * Ideal.div (Ideal.exp (S j * (Real.log 2 : ℝ) - max ⊥ (Finset.univ.fold max ⊥ fun j => S j * (Real.log 2 : ℝ))))
          (∑ j, Ideal.exp (S j * (Real.log 2 : ℝ) - max ⊥ (Finset.univ.fold max ⊥ fun j => S j * (Real.log 2 : ℝ))))

/-- The quotient of the weighted values by the weights, in powers of two, is the softmax's mean, in exponentials. -/
theorem softmax_at {ι : Type*} [Fintype ι] (j₀ : ι) (S V : ι → EReal) (hS : ∀ j, ∃ r : ℝ, S j = (r : EReal)) (a : ℝ) (ha : 0 < a) :
    Ideal.div (∑ j, V j * ((pow2 (S j) * a : ℝ) : EReal)) (∑ j, 1 * ((pow2 (S j) * a : ℝ) : EReal)) = mean S V := by
  choose r hr using hS
  have hc : ∀ j, S j * ((Real.log 2 : ℝ) : EReal) = ((r j * Real.log 2 : ℝ) : EReal) := fun j => by rw [hr, EReal.coe_mul]
  obtain ⟨M, hM⟩ := fold_real (fun j => S j * ((Real.log 2 : ℝ) : EReal)) (fun j => by rw [IsScore, hc]; exact EReal.coe_ne_top _) j₀ (by rw [hc]; exact EReal.coe_ne_bot _)
  unfold mean
  rw [hM, max_eq_right bot_le]
  have he : ∀ j, Ideal.exp (S j * ((Real.log 2 : ℝ) : EReal) - (M : EReal)) = ((pow2 (S j) * Real.exp (-M) : ℝ) : EReal) := fun j => by
    rw [hc, ← EReal.coe_sub, Ideal.exp_coe, hr, pow2_coe, Real.rpow_def_of_pos (by norm_num), ← Real.exp_add]
    exact congrArg _ (congrArg _ (by rw [mul_comm, sub_eq_add_neg]))
  simp only [he, one_mul]
  exact div_sum V (fun j => pow2 (S j)) a (Real.exp (-M)) ha (Real.exp_pos _) (fun j => pow2_nonneg _) j₀ (by rw [hr, pow2_coe]; positivity)

/-- A sum of products of reals is a real. -/
theorem sum_real {ι : Type*} [Fintype ι] (f g : ι → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  rw [show ∑ i, f i * g i = ∑ i, ((a i * b i : ℝ) : EReal) from Finset.sum_congr rfl fun i _ => by rw [ha, hb, EReal.coe_mul]]
  exact (map_sum (⟨⟨Real.toEReal, EReal.coe_zero⟩, EReal.coe_add⟩ : ℝ →+ EReal) _ _).symm

end Cert.Mla.Pure

end
-- ==== Proof.MlaLane.lean ====
/- The attention's body, read at one query and one value column. -/
module

public import proofs.«01_k».proof.Proof.MlaBody
public import proofs.«01_k».proof.Proof.MlaPure
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Mla

open Cert.KernelMlaIdeal Cert.KernelMlaIdeal.Gen

theorem ninf : Ideal.ofBits .f32 0xFF800000#32 = (⊥ : EReal) := by simp [Ideal.ofBits, Ideal.ieee]

/-- A chunk's score of key `k` and query `l`. -/
theorem pay2_at (q K : FVec Ideal S512x128 .bf16) (k l : Fin 512) :
    k0_pay2 (F := Ideal) q K (ix4 (0 : Fin 1) (0 : Fin 1) k l) = ∑ d : Fin 128, K (ix2 k d) * q (ix2 l d) := by
  pointwise [k0_pay2]

theorem pay4_at (m : FVec Ideal S1x512 .f32) (s : FVec Ideal S1x1x512x512 .f32) (l : Fin 512) :
    k0_pay4 (F := Ideal) m s (ix2 (0 : Fin 1) l) = max (m (ix2 (0 : Fin 1) l)) (Finset.univ.fold max ⊥ fun k : Fin 512 => s (ix4 (0 : Fin 1) (0 : Fin 1) k l)) := by
  pointwise [k0_pay4, k0_pay3]
  rw [ninf]

theorem pay5_at (m : FVec Ideal S1x512 .f32) (a : FVec Ideal S80x512 .f32) (s : FVec Ideal S1x1x512x512 .f32) (v : FVec Ideal S1x80x512 .bf16) (r : Fin 80) (l : Fin 512) :
    k0_pay5 (F := Ideal) m a s v (ix2 r l) = Ideal.exp2 (m (ix2 (0 : Fin 1) l) - k0_pay4 (F := Ideal) m s (ix2 (0 : Fin 1) l)) * a (ix2 r l)
      + ∑ k : Fin 512, v (ix3 (0 : Fin 1) r k) * Ideal.exp2 (s (ix4 (0 : Fin 1) (0 : Fin 1) k l) - k0_pay4 (F := Ideal) m s (ix2 (0 : Fin 1) l)) := by
  generalize hx : k0_pay4 (F := Ideal) m s = x
  pointwise [k0_pay5, k0_pay3, hx]
  rfl

/-- Which of the 128 leading keys are the batch's. -/
theorem pay149_at : ∀ (i : grid0.Coords) (k : Fin 128), k0_pay149 i (ix2 k (0 : Fin 1)) = if k.val / 16 = (i 0).val then 1#1 else 0#1 := by
  decide +kernel

/-- The leading keys' scores: the bottom where the key is not the batch's. -/
theorem pay157_at (p : IVec S128x1 1) (q : FVec Ideal S512x128 .bf16) (K : FVec Ideal S128x128 .bf16) (k : Fin 128) (l : Fin 512) :
    k0_pay157 (F := Ideal) p q K (ix2 k l) = if p (ix2 k (0 : Fin 1)) = 1#1 then ∑ d : Fin 128, K (ix2 k d) * q (ix2 l d) else ⊥ := by
  pointwise [k0_pay157]
  rw [ninf]
  rfl

theorem pay159_at (p : IVec S128x1 1) (q : FVec Ideal S512x128 .bf16) (m : FVec Ideal S1x512 .f32) (K : FVec Ideal S128x128 .bf16) (l : Fin 512) :
    k0_pay159 (F := Ideal) p q m K (ix2 (0 : Fin 1) l) = max (m (ix2 (0 : Fin 1) l)) (Finset.univ.fold max ⊥ fun k : Fin 128 => k0_pay157 (F := Ideal) p q K (ix2 k l)) := by
  generalize hx : k0_pay157 (F := Ideal) p q K = x
  pointwise [k0_pay159, hx]
  rw [ninf]

/-- A head's last step, the leading keys, at value row `r` and query `l`. -/
def fin (p : IVec S128x1 1) (q : FVec Ideal S512x128 .bf16) (m : FVec Ideal S1x512 .f32) (a : FVec Ideal S80x512 .f32) (K : FVec Ideal S128x128 .bf16)
    (v : FVec Ideal S1x80x128 .bf16) (r : Fin 80) (l : Fin 512) : EReal :=
  Ideal.exp2 (m (ix2 (0 : Fin 1) l) - k0_pay159 (F := Ideal) p q m K (ix2 (0 : Fin 1) l)) * a (ix2 r l)
      + ∑ k : Fin 128, v (ix3 (0 : Fin 1) r k) * Ideal.exp2 (k0_pay157 (F := Ideal) p q K (ix2 k l) - k0_pay159 (F := Ideal) p q m K (ix2 (0 : Fin 1) l))

theorem pay1_0 (p : IVec S128x1 1) (q0 q1 : FVec Ideal S512x128 .bf16) (m0 m1 : FVec Ideal S1x512 .f32) (a0 a1 : FVec Ideal S80x512 .f32)
    (K0 K1 : FVec Ideal S128x128 .bf16) (v0 v1 : FVec Ideal S1x80x128 .bf16) (l : Fin 512) (d : Fin 64) :
    k0_pay1 (F := Ideal) p q1 m0 a0 m1 a1 (k0_pay157 p q0 K0) (k0_pay158 v0) (k0_pay159 p q0 m0 K0) K1 v1 (ix2 l (⟨d.val, by omega⟩ : Fin 128))
      = Ideal.div (fin p q0 m0 a0 K0 v0 ⟨16 + d.val, by omega⟩ l) (fin p q0 m0 a0 K0 v0 ⟨0, by omega⟩ l) := by
  unfold fin
  generalize hx : k0_pay157 (F := Ideal) p q0 K0 = x
  generalize hy : k0_pay159 (F := Ideal) p q0 m0 K0 = y
  pointwise [k0_pay1, k0_pay158]
  rfl

theorem pay1_1 (p : IVec S128x1 1) (q0 q1 : FVec Ideal S512x128 .bf16) (m0 m1 : FVec Ideal S1x512 .f32) (a0 a1 : FVec Ideal S80x512 .f32)
    (x0 : FVec Ideal S128x512 .f32) (y0 : FVec Ideal S1x512 .f32)
    (K1 : FVec Ideal S128x128 .bf16) (v0 : FVec Ideal S80x128 .bf16) (v1 : FVec Ideal S1x80x128 .bf16) (l : Fin 512) (d : Fin 64) :
    k0_pay1 (F := Ideal) p q1 m0 a0 m1 a1 x0 v0 y0 K1 v1 (ix2 l (⟨64 + d.val, by omega⟩ : Fin 128))
      = Ideal.div (fin p q1 m1 a1 K1 v1 ⟨16 + d.val, by omega⟩ l) (fin p q1 m1 a1 K1 v1 ⟨0, by omega⟩ l) := by
  unfold fin
  pointwise [k0_pay1, k0_pay159, k0_pay157]
  rfl

end Cert.Mla

end
-- ==== Proof.MlaHead.lean ====
/- One head of the attention at one query: the body's quotient is the softmax's mean of the values. -/
module

public import proofs.«01_k».proof.Proof.MlaLane

@[expose] public section

set_option maxRecDepth 16384

noncomputable section

open Idealize.ShloMosaic Idealize.ShloMosaic.TcCoe Idealize.SL.Sem

namespace Cert.Mla

open Cert.KernelMlaIdeal Cert.KernelMlaIdeal.Gen

theorem pay152_at (l : Fin 512) : k0_pay152 (F := Ideal) (ix2 (0 : Fin 1) l) = (⊥ : EReal) := by
  pointwise [k0_pay152]
  rw [ninf]

theorem pay150_at (r : Fin 80) (l : Fin 512) : k0_pay150 (F := Ideal) (ix2 r l) = (0 : EReal) := by
  pointwise [k0_pay150]

section
variable (s : ℕ → FVec Ideal S1x1x512x512 .f32) (w : ℕ → FVec Ideal S1x80x512 .bf16) (r : Fin 80) (l : Fin 512)

/-- A query's running maximum after `n` chunks. -/
def top (n : ℕ) : EReal := (run (F := Ideal) s w (k0_pay152, k0_pay150) n).1 (ix2 (0 : Fin 1) l)

/-- A query's accumulated value row after `n` chunks. -/
def acc (n : ℕ) : EReal := (run (F := Ideal) s w (k0_pay152, k0_pay150) n).2 (ix2 r l)

theorem top_succ (n : ℕ) : top s w l (n + 1) = max (top s w l n) (Finset.univ.fold max ⊥ fun k : Fin 512 => s n (ix4 (0 : Fin 1) (0 : Fin 1) k l)) :=
  pay4_at (run (F := Ideal) s w (k0_pay152, k0_pay150) n).1 (s n) l

theorem acc_succ (n : ℕ) : acc s w r l (n + 1) = Ideal.exp2 (top s w l n - top s w l (n + 1)) * acc s w r l n
    + ∑ k : Fin 512, w n (ix3 (0 : Fin 1) r k) * Ideal.exp2 (s n (ix4 (0 : Fin 1) (0 : Fin 1) k l) - top s w l (n + 1)) :=
  pay5_at (run (F := Ideal) s w (k0_pay152, k0_pay150) n).1 (run (F := Ideal) s w (k0_pay152, k0_pay150) n).2 (s n) (w n) r l
end

/-- Where key `k` of chunk `n` sits among the 16400. -/
def kchunk (n : ℕ) (k : Fin 512) : Fin 16400 := ⟨(16 + (512 * n + k.val)) % 16400, by omega⟩
/-- Where the `j`-th of a batch's leading keys sits among the 16400. -/
def kfirst (j : Fin 16) : Fin 16400 := ⟨j.val, by omega⟩
/-- Where the `j`-th of a batch's leading keys sits among the 128 of the block. -/
def klead (b : Fin 2) (j : Fin 16) : Fin 128 := ⟨16 * b.val + j.val, by omega⟩

section
variable (i : grid0.Coords) (b : Fin 2) (hb : (i 0).val = b.val)
  (q : FVec Ideal S512x128 .bf16) (s : ℕ → FVec Ideal S1x1x512x512 .f32) (w : ℕ → FVec Ideal S1x80x512 .bf16)
  (mk : FVec Ideal S128x128 .bf16) (mv : FVec Ideal S1x80x128 .bf16) (l : Fin 512)
  (S : Fin 16400 → EReal) (V : Fin 80 → Fin 16400 → EReal) (hS : ∀ j, ∃ r : ℝ, S j = (r : EReal))
  (hr : ∀ n k, ∃ r : ℝ, s n (ix4 (0 : Fin 1) (0 : Fin 1) k l) = (r : EReal))
  (hs : ∀ n < 32, ∀ k : Fin 512, s n (ix4 (0 : Fin 1) (0 : Fin 1) k l) = S (kchunk n k))
  (hw : ∀ n < 32, ∀ (r : Fin 80) (k : Fin 512), w n (ix3 (0 : Fin 1) r k) = V r (kchunk n k))
  (hm : ∀ j : Fin 16, ∑ d : Fin 128, mk (ix2 (klead b j) d) * q (ix2 l d) = S (kfirst j))
  (hv : ∀ (r : Fin 80) (j : Fin 16), mv (ix3 (0 : Fin 1) r (klead b j)) = V r (kfirst j))
include hb hS hr hs hw hm hv

/-- After the last step every value row is the same multiple of its weighted sum over all the keys. -/
theorem fin_at : ∃ M : ℝ, ∀ r : Fin 80,
    fin (k0_pay149 i) q (run s w (k0_pay152, k0_pay150) 32).1 (run s w (k0_pay152, k0_pay150) 32).2 mk mv r l
      = ∑ j, V r j * ((Pure.pow2 (S j) * (2 : ℝ) ^ (-M) : ℝ) : EReal) := by
  have mask : ∀ k : Fin 128, k.val / 16 ≠ b.val → k0_pay157 (F := Ideal) (k0_pay149 i) q mk (ix2 k l) = ⊥ := fun k hk => by
    rw [pay157_at, pay149_at, hb, if_neg hk, if_neg (by decide)]
  have lead : ∀ j : Fin 16, k0_pay157 (F := Ideal) (k0_pay149 i) q mk (ix2 (klead b j) l) = S (kfirst j) := fun j => by
    rw [pay157_at, pay149_at, hb, if_pos (if_pos (by show (16 * b.val + j.val) / 16 = b.val; omega)), hm]
  have score : ∀ k : Fin 128, Pure.IsScore (k0_pay157 (F := Ideal) (k0_pay149 i) q mk (ix2 k l)) := fun k => by
    by_cases hk : k.val / 16 = b.val
    · have e : k = klead b ⟨k.val % 16, by omega⟩ := Fin.ext (by show k.val = 16 * b.val + k.val % 16; omega)
      obtain ⟨x, hx⟩ := hS (kfirst ⟨k.val % 16, by omega⟩)
      rw [Pure.IsScore, e, lead ⟨k.val % 16, by omega⟩, hx]
      exact EReal.coe_ne_top x
    · rw [Pure.IsScore, mask k hk]
      simp
  have some : k0_pay157 (F := Ideal) (k0_pay149 i) q mk (ix2 (klead b 0) l) ≠ ⊥ := by
    obtain ⟨x, hx⟩ := hS (kfirst 0)
    rw [lead, hx]
    exact EReal.coe_ne_bot x
  have inv : ∀ r : Fin 80, ∃ M : ℝ, k0_pay159 (F := Ideal) (k0_pay149 i) q (run s w (k0_pay152, k0_pay150) 32).1 mk (ix2 (0 : Fin 1) l) = (M : EReal)
      ∧ fin (k0_pay149 i) q (run s w (k0_pay152, k0_pay150) 32).1 (run s w (k0_pay152, k0_pay150) 32).2 mk mv r l
        = ∑ j, V r j * ((Pure.pow2 (S j) * (2 : ℝ) ^ (-M) : ℝ) : EReal) := fun r => by
    have h := Pure.run_inv (fun n k => w n (ix3 (0 : Fin 1) r k)) (fun n k => s n (ix4 (0 : Fin 1) (0 : Fin 1) k l)) hr
      (top s w l) (acc s w r l) (pay152_at l) (pay150_at r l) (top_succ s w l) (acc_succ s w r l) 32
    obtain ⟨M, e, e'⟩ := Pure.step _ _ _ (fun c d hc => Pure.chunks_scale _ _ 32 c d hc) h (fun k => mv (ix3 (0 : Fin 1) r k))
      (fun k => k0_pay157 (F := Ideal) (k0_pay149 i) q mk (ix2 k l)) score (Or.inr ⟨_, some⟩)
    refine ⟨M, (pay159_at _ _ _ _ _).trans e, ?_⟩
    unfold fin
    rw [pay159_at]
    refine e'.trans (Pure.all_keys (by norm_num) S (V r) _ _ _ _ b.val (by omega) hs (fun n hn k => hw n hn r k) lead (hv r) mask _)
  obtain ⟨M, e, _⟩ := inv 0
  refine ⟨M, fun r => ?_⟩
  obtain ⟨N, e', h⟩ := inv r
  rw [h, EReal.coe_injective (e'.symm.trans e)]

/-- The quotient of a value row by the row of ones is the softmax's mean. -/
theorem head (one : ∀ j, V 0 j = 1) (r : Fin 80) :
    Ideal.div (fin (k0_pay149 i) q (run s w (k0_pay152, k0_pay150) 32).1 (run s w (k0_pay152, k0_pay150) 32).2 mk mv r l)
      (fin (k0_pay149 i) q (run s w (k0_pay152, k0_pay150) 32).1 (run s w (k0_pay152, k0_pay150) 32).2 mk mv 0 l) = Pure.mean S (V r) := by
  obtain ⟨M, h⟩ := fin_at i b hb q s w mk mv l S V hS hr hs hw hm hv
  rw [h, h, show (∑ j, V 0 j * ((Pure.pow2 (S j) * (2 : ℝ) ^ (-M) : ℝ) : EReal)) = ∑ j, 1 * ((Pure.pow2 (S j) * (2 : ℝ) ^ (-M) : ℝ) : EReal)
    from Finset.sum_congr rfl fun j _ => by rw [one]]
  exact Pure.softmax_at 0 S (V r) hS _ (by positivity)
end

end Cert.Mla

end
-- ==== Proof.MlaBlocks.lean ====
/- The attention call's blocks, read at an index, and its result array's indices. -/
module

public import proofs.«01_k».proof.Proof.Gen.KernelMlaIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Mla

open Cert.KernelMlaIdeal Cert.KernelMlaIdeal.Gen

/-- A grid point's batch. -/
def bat (t : Fin cfg0.N) : Fin 2 := ⟨(grid0.coords t 0).val, (grid0.coords t 0).isLt⟩
/-- A grid point's pair of heads. -/
def par (t : Fin cfg0.N) : Fin 3 := ⟨(grid0.coords t 1).val, (grid0.coords t 1).isLt⟩
/-- A grid point's tile of queries. -/
def til (t : Fin cfg0.N) : Fin 32 := ⟨(grid0.coords t 2).val, (grid0.coords t 2).isLt⟩

/-- Where the windows of a grid point sit. -/
theorem idx : ∀ t : Fin cfg0.N, win0_0.index t = ![128 + 32 * (bat t).val + (til t).val, (par t).val] ∧ win0_1.index t = ![4 + (bat t).val, (par t).val]
    ∧ win0_2.index t = ![772, (par t).val] ∧ win0_3.index t = ![4 + (bat t).val, (par t).val, 0] ∧ win0_4.index t = ![193, (par t).val, 0]
    ∧ win0_5.index t = ![32 * (bat t).val + (til t).val, (par t).val] :=
  (by decide +kernel : ∀ t : Fin grid0.N, _)

variable (m : (ℓ : Loc nD τ sig) → Buf (Elt Ideal) ℓ) (c : Dev nD) (t : Fin cfg0.N)

theorem q_at (l : Fin 512) (d : Fin 256) :
    iblk m c 0 t (ix2 l d) = m ((c : Thread nD τ).loc main_arg0) (ix2 (⟨65536 + 16384 * (bat t).val + 512 * (til t).val + l.val, by omega⟩ : Fin 99328) (⟨256 * (par t).val + d.val, by omega⟩ : Fin 768)) := by
  blk_ext [iblk, V, idx t]

theorem mk_at (l : Fin 128) (d : Fin 256) :
    iblk m c 2 t (ix2 l d) = m ((c : Thread nD τ).loc main_arg1) (ix2 (⟨98816 + l.val, by omega⟩ : Fin 99328) (⟨256 * (par t).val + d.val, by omega⟩ : Fin 768)) := by
  blk_ext [iblk, V, idx t]

theorem mv_at (r : Fin 160) (l : Fin 128) :
    iblk m c 4 t (ix3 (0 : Fin 1) r l) = m ((c : Thread nD τ).loc main_arg2) (ix3 (⟨193, by omega⟩ : Fin 194) (⟨160 * (par t).val + r.val, by omega⟩ : Fin 480) (⟨l.val, by omega⟩ : Fin 512)) := by
  blk_ext [iblk, V, idx t]

theorem k_at (r : Fin 16384) (d : Fin 256) :
    X0_1 m c t (ix2 r d) = m ((c : Thread nD τ).loc main_arg1) (ix2 (⟨65536 + 16384 * (bat t).val + r.val, by omega⟩ : Fin 99328) (⟨256 * (par t).val + d.val, by omega⟩ : Fin 768)) := by
  unfold X0_1 Pipeline.Window.fill
  rw [dif_pos (moved0_1 t _)]
  blk_ext [iblk, V, idx t]

theorem v_at (a : Fin 32) (r : Fin 160) (l : Fin 512) :
    X0_3 m c t (ix3 a r l) = m ((c : Thread nD τ).loc main_arg2) (ix3 (⟨128 + 32 * (bat t).val + a.val, by omega⟩ : Fin 194) (⟨160 * (par t).val + r.val, by omega⟩ : Fin 480) l) := by
  unfold X0_3 Pipeline.Window.fill
  rw [dif_pos (moved0_3 t _)]
  blk_ext [iblk, V, idx t]

/-- Where an index of a grid point's result block sits in the result. -/
theorem out_idx (l : Fin 512) (d : Fin 128) : ((View.whole main_v0).slice (win0_5.rect t)).emb (ix2 l d)
    = ix2 (⟨16384 * (bat t).val + (512 * (til t).val + l.val), by omega⟩ : Fin 32768) (⟨128 * (par t).val + d.val, by omega⟩ : Fin 384) := by
  blk_ext [idx t]

end Cert.Mla

end
-- ==== Proof.MlaRefTerms.lean ====
/- The attention's reference, read at an index. -/
module

public import proofs.«01_k».proof.Proof.Gen.ReferenceMlaIdeal.Run
public import Idealize.ShloMosaic.Lib.Pointwise
public import Idealize.ShloMosaic.Lib.Pipeline.ValueKit
public import Idealize.ShloMosaic.PureOps.Reduce

@[expose] public section

set_option maxRecDepth 16384

noncomputable section

open Idealize.ShloMosaic Idealize.ShloMosaic.TcCoe Idealize.SL.Sem

namespace Cert.Mla.Ref

open Cert.ReferenceMlaIdeal Cert.ReferenceMlaIdeal.Gen Cert.ReferenceMlaIdeal.Value

/-- The values as rows of tokens. -/
def rows (v : FVec Ideal S194x480x512 .bf16) : FVec Ideal S99328x384 .bf16 :=
  shapeCast _ (transpose S194x512x6x64 [0, 3, 1, 2] (extractStridedSlice S194x6x64x512 ![0, 0, 16, 0] (shapeCast _ v shapeCasts_S194x480x512_S194x6x80x512) slices_S194x6x80x512_S194x6x64x512_0_0_16_0) transposes_S194x6x64x512_S194x512x6x64_0_3_1_2) shapeCasts_S194x512x6x64_S99328x384

/-- The queries, by batch, token and head. -/
def qs (q : FVec Ideal S99328x768 .bf16) : FVec Ideal S2x16384x6x128 .bf16 :=
  shapeCast _ (extractStridedSlice S32768x768 ![65536, 0] q slices_S99328x768_S32768x768_65536_0) shapeCasts_S32768x768_S2x16384x6x128

/-- The keys, the leading ones first. -/
def ks (k : FVec Ideal S99328x768 .bf16) : FVec Ideal S2x16400x6x128 .bf16 :=
  concatenate S2x16400x6x128 1 [⟨S2x16x6x128, (shapeCast _ (extractStridedSlice S32x768 ![98816, 0] k slices_S99328x768_S32x768_98816_0) shapeCasts_S32x768_S2x16x6x128)⟩, ⟨S2x16384x6x128, (shapeCast _ (extractStridedSlice S32768x768 ![65536, 0] k slices_S99328x768_S32768x768_65536_0) shapeCasts_S32768x768_S2x16384x6x128)⟩] concatenates_S2x16x6x128_S2x16384x6x128_S2x16400x6x128_d1

/-- The values, the leading ones first. -/
def vs (v : FVec Ideal S99328x384 .bf16) : FVec Ideal S2x16400x6x64 .bf16 :=
  concatenate S2x16400x6x64 1 [⟨S2x16x6x64, (shapeCast _ (extractStridedSlice S32x384 ![98816, 0] v slices_S99328x384_S32x384_98816_0) shapeCasts_S32x384_S2x16x6x64)⟩, ⟨S2x16384x6x64, (shapeCast _ (extractStridedSlice S32768x384 ![65536, 0] v slices_S99328x384_S32768x384_65536_0) shapeCasts_S32768x384_S2x16384x6x64)⟩] concatenates_S2x16x6x64_S2x16384x6x64_S2x16400x6x64_d1

/-- The products of queries and keys. -/
def dots (q : FVec Ideal S2x16384x6x128 .bf16) (k : FVec Ideal S2x16400x6x128 .bf16) : FVec Ideal S2x6x16384x16400 .f32 :=
  Host.dotGeneral (F := Ideal) (φ₁ := .bf16) (φ₂ := .bf16) dot_S2x16384x6x128_S2x16400x6x128_S2x6x16384x16400_3_3_1_1_02_02 none q k

/-- The scores: the products times the logarithm of two. -/
def sc (s : FVec Ideal S2x6x16384x16400 .f32) : FVec Ideal S2x6x16384x16400 .f32 :=
  mulf s (broadcastInDim S2x6x16384x16400 ![] bcast_S_S2x6x16384x16400 (Host.log (constant S_ .f32 0x40000000#32)))

/-- The largest score of each query. -/
def mx (s : FVec Ideal S2x6x16384x16400 .f32) : FVec Ideal S2x6x16384 .f32 :=
  maximumf (broadcastInDim S2x6x16384 ![] bcast_S_S2x6x16384 (constant S_ .f32 0xFF800000#32)) (Host.reduce FloatOps.maximumf s (constant S_ .f32 0xFF800000#32) reducesTo_S2x6x16384x16400_S2x6x16384_d3 h_S_)

/-- The exponentials of the scores over the largest. -/
def ex (s : FVec Ideal S2x6x16384x16400 .f32) : FVec Ideal S2x6x16384x16400 .f32 :=
  Host.exp (subf s (broadcastInDim S2x6x16384x16400 ![0, 1, 2, 3] bcast_S2x6x16384x1_S2x6x16384x16400_0_1_2_3 (broadcastInDim S2x6x16384x1 ![0, 1, 2] bcast_S2x6x16384_S2x6x16384x1_0_1_2 (mx s))))

/-- The exponentials over their sum. -/
def pr (e : FVec Ideal S2x6x16384x16400 .f32) : FVec Ideal S2x6x16384x16400 .bf16 :=
  truncf .bf16 (Host.divf e (broadcastInDim S2x6x16384x16400 ![0, 1, 2, 3] bcast_S2x6x16384x1_S2x6x16384x16400_0_1_2_3 (broadcastInDim S2x6x16384x1 ![0, 1, 2] bcast_S2x6x16384_S2x6x16384x1_0_1_2 (Host.reduceAdd e (constant S_ .f32 0x00000000#32) reducesTo_S2x6x16384x16400_S2x6x16384_d3 h_S_)))) bitsLt_bf16_f32

/-- The values weighted. -/
def mix (v : FVec Ideal S2x16400x6x64 .bf16) (p : FVec Ideal S2x6x16384x16400 .bf16) : FVec Ideal S32768x384 .bf16 :=
  shapeCast _ (truncf .bf16 (transpose S2x16384x6x64 [0, 3, 1, 2] (Host.dotGeneral (F := Ideal) (φ₁ := .bf16) (φ₂ := .bf16) dot_S2x16400x6x64_S2x6x16384x16400_S2x6x64x16384_1_3_3_2_02_01 none v p) transposes_S2x6x64x16384_S2x16384x6x64_0_3_1_2) bitsLt_bf16_f32) shapeCasts_S2x16384x6x64_S32768x384

/-- The reference's result as these steps. -/
def out (q k : FVec Ideal S99328x768 .bf16) (v : FVec Ideal S194x480x512 .bf16) : FVec Ideal S32768x384 .bf16 :=
  mix (vs (rows v)) (pr (ex (sc (dots (qs q) (ks k)))))

theorem res_eq (m : (ℓ : Loc nD τ sig) → Buf (Elt Ideal) ℓ) (c : Dev nD) :
    res_out0 m c = out (m ((c.tc : Thread nD τ).loc main_arg0)) (m ((c.tc : Thread nD τ).loc main_arg1)) (m ((c.tc : Thread nD τ).loc main_arg2)) := by
  unfold res_out0 res_main_v35
  rfl

end Cert.Mla.Ref

end
-- ==== Proof.MlaRef.lean ====
/- The attention's reference, read at an index. -/
module

public import proofs.«01_k».proof.Proof.MlaRefTerms
public import Idealize.ShloMosaic.Lib.Pointwise
public import Idealize.ShloMosaic.Lib.Pipeline.ValueKit
public import Idealize.ShloMosaic.PureOps.Reduce

@[expose] public section

set_option maxRecDepth 16384

noncomputable section

open Idealize.ShloMosaic Idealize.ShloMosaic.TcCoe Idealize.SL.Sem

namespace Cert.Mla.Ref

open Cert.ReferenceMlaIdeal Cert.ReferenceMlaIdeal.Gen Cert.ReferenceMlaIdeal.Value

/-- Where token `i` of the 16400 a batch `b` attends to sits among all the rows. -/
def row (b : Fin 2) (i : Fin 16400) : Fin 99328 :=
  if h : i.val < 16 then ⟨98816 + 16 * b.val + i.val, by omega⟩ else ⟨65536 + 16384 * b.val + (i.val - 16), by omega⟩

theorem rows_at (v : FVec Ideal S194x480x512 .bf16) (r : Fin 99328) (h : Fin 6) (d : Fin 64) :
    rows v (ix2 r (⟨64 * h.val + d.val, by omega⟩ : Fin 384)) = v (ix3 (⟨r.val / 512, by omega⟩ : Fin 194) (⟨80 * h.val + 16 + d.val, by omega⟩ : Fin 480) (⟨r.val % 512, by omega⟩ : Fin 512)) := by
  pointwise [rows]
  blk_ext

theorem qs_at (q : FVec Ideal S99328x768 .bf16) (b : Fin 2) (i : Fin 16384) (h : Fin 6) (d : Fin 128) :
    qs q (ix4 b i h d) = q (ix2 (⟨65536 + 16384 * b.val + i.val, by omega⟩ : Fin 99328) (⟨128 * h.val + d.val, by omega⟩ : Fin 768)) := by
  pointwise [qs]
  blk_ext

theorem ks_at (k : FVec Ideal S99328x768 .bf16) (b : Fin 2) (i : Fin 16400) (h : Fin 6) (d : Fin 128) :
    ks k (ix4 b i h d) = k (ix2 (row b i) (⟨128 * h.val + d.val, by omega⟩ : Fin 768)) := by
  pointwise [ks]
  unfold row
  split <;> blk_ext

theorem vs_at (v : FVec Ideal S99328x384 .bf16) (b : Fin 2) (i : Fin 16400) (h : Fin 6) (d : Fin 64) :
    vs v (ix4 b i h d) = v (ix2 (row b i) (⟨64 * h.val + d.val, by omega⟩ : Fin 384)) := by
  pointwise [vs]
  unfold row
  split <;> blk_ext

theorem dots_at (q : FVec Ideal S2x16384x6x128 .bf16) (k : FVec Ideal S2x16400x6x128 .bf16) (b : Fin 2) (h : Fin 6) (i : Fin 16384) (j : Fin 16400) :
    dots q k (ix4 b h i j) = ∑ d : Fin 128, q (ix4 b i h d) * k (ix4 b j h d) := by
  pointwise [dots]

theorem two : Ideal.ofBits .f32 0x40000000#32 = ((2 : ℝ) : EReal) := by
  simp [Ideal.ofBits, Ideal.ieee, -EReal.coe_mul]; norm_num

theorem sc_at (s : FVec Ideal S2x6x16384x16400 .f32) (b : Fin 2) (h : Fin 6) (i : Fin 16384) (j : Fin 16400) :
    sc s (ix4 b h i j) = s (ix4 b h i j) * Real.log 2 := by
  pointwise [sc]
  rw [two, Ideal.log_coe, if_neg (by norm_num)]

/-- A largest element over the last of four axes. -/
theorem hostMax {n0 n1 n2 n3 : ℕ} {u : Shape} (x : FVec Ideal (⟨4, ![n0, n1, n2, n3]⟩ : Shape) .f32) (z : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x z h hu (ix3 a b c) = (Finset.univ.fold (FloatOps.maximumf (F := Ideal) (φ := .f32)) (z (Shape.Idx.first hu)) fun k => x (ix4 a b c k)) := by
  rw [Host.reduce_eq_fold, Shape.ReducesTo.fold_fiber_r4_a3]
  rfl

theorem ninf : Ideal.ofBits .f32 0xFF800000#32 = (⊥ : EReal) := by simp [Ideal.ofBits, Ideal.ieee]

theorem max_at (y : FVec Ideal S2x6x16384 .f32) (b : Fin 2) (h : Fin 6) (i : Fin 16384) :
    maximumf (broadcastInDim S2x6x16384 ![] bcast_S_S2x6x16384 (constant (F := Ideal) S_ .f32 0xFF800000#32)) y (ix3 b h i) = max (⊥ : EReal) (y (ix3 b h i)) := by
  pointwise
  rw [ninf]

theorem mx_at (s : FVec Ideal S2x6x16384x16400 .f32) (b : Fin 2) (h : Fin 6) (i : Fin 16384) :
    mx s (ix3 b h i) = max (⊥ : EReal) (Finset.univ.fold (FloatOps.maximumf (F := Ideal) (φ := .f32)) (⊥ : EReal) fun j : Fin 16400 => s (ix4 b h i j)) := by
  have z : (constant (F := Ideal) S_ .f32 0xFF800000#32) (Shape.Idx.first h_S_) = (⊥ : EReal) := ninf
  unfold mx
  rw [max_at, hostMax, z]

theorem ex_at (s : FVec Ideal S2x6x16384x16400 .f32) (b : Fin 2) (h : Fin 6) (i : Fin 16384) (j : Fin 16400) :
    ex s (ix4 b h i j) = Ideal.exp (s (ix4 b h i j) - mx s (ix3 b h i)) := by
  pointwise [ex]

theorem pr_at (e : FVec Ideal S2x6x16384x16400 .f32) (b : Fin 2) (h : Fin 6) (i : Fin 16384) (j : Fin 16400) :
    pr e (ix4 b h i j) = Ideal.div (e (ix4 b h i j)) (∑ j : Fin 16400, e (ix4 b h i j)) := by
  pointwise [pr]

theorem mix_at (v : FVec Ideal S2x16400x6x64 .bf16) (p : FVec Ideal S2x6x16384x16400 .bf16) (b : Fin 2) (h : Fin 6) (i : Fin 16384) (d : Fin 64) :
    mix v p (ix2 (⟨16384 * b.val + i.val, by omega⟩ : Fin 32768) (⟨64 * h.val + d.val, by omega⟩ : Fin 384)) = ∑ j : Fin 16400, v (ix4 b j h d) * p (ix4 b h i j) := by
  pointwise [mix]

end Cert.Mla.Ref

end
-- ==== Proof.MlaPre.lean ====
/- The attention's precondition, read at an index: finite queries and keys, and a row of ones over each head's values. -/
module

public import proofs.«01_k».proof.Proof.Gen.Pre_mla_operands
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Mla.Pre

open Cert.Pre_mla_operands Cert.Pre_mla_operands.Gen

theorem inf : Ideal.ofBits .bf16 0x7F80#16 = (⊤ : EReal) := by simp [Ideal.ofBits, Ideal.ieee]
theorem one : Ideal.ofBits .bf16 0x3F80#16 = (1 : EReal) := by
  simp [Ideal.ofBits, Ideal.ieee, -EReal.coe_mul]; norm_num

/-- An extended real whose size is below the top is a real. -/
theorem real_of_abs (x : EReal) (h : BitVec.ofBool (decide (max x (-x) < ⊤)) = 1#1) : ∃ r : ℝ, x = (r : EReal) := by
  induction x with
  | bot => simp at h
  | top => simp at h
  | coe r => exact ⟨r, rfl⟩

variable (q k : FVec Ideal S99328x768 .bf16) (v : FVec Ideal S194x480x512 .bf16)

/-- The queries are reals. -/
theorem q_real (h : (fn (F := Ideal) q k v).1 = fun _ => 1#1) (r : Fin 99328) (d : Fin 768) : ∃ x : ℝ, q (ix2 r d) = (x : EReal) := by
  have e := congrFun h (ix2 r d)
  unfold fn at e
  pointwise at e
  rw [inf] at e
  exact real_of_abs _ e

/-- The keys are reals. -/
theorem k_real (h : (fn (F := Ideal) q k v).2.1 = fun _ => 1#1) (r : Fin 99328) (d : Fin 768) : ∃ x : ℝ, k (ix2 r d) = (x : EReal) := by
  have e := congrFun h (ix2 r d)
  unfold fn at e
  pointwise at e
  rw [inf] at e
  exact real_of_abs _ e

/-- The first of a head's 80 rows of values. -/
def first (g : Fin 6) : Fin 480 := ⟨80 * g.val, by omega⟩

/-- The first row of each head's values is of ones. -/
theorem v_one (h : (fn (F := Ideal) q k v).2.2 = fun _ => 1#1) (a : Fin 194) (g : Fin 6) (l : Fin 512) : v (ix3 a (first g) l) = (1 : EReal) := by
  have e := congrFun h (ix4 a g (0 : Fin 16) l)
  unfold fn at e
  pointwise at e
  have e' : v (ix3 a (⟨g.val * 80, by omega⟩ : Fin 480) l) = (1 : EReal) := by
    by_contra hn
    rw [decide_eq_false hn] at e
    exact absurd e (by decide)
  rw [← e']
  blk_ext [first]

end Cert.Mla.Pre

end
-- ==== Proof.MlaValue.lean ====
/- The attention call's result array is the reference's, where the queries and keys are real and each head's values begin with a row of ones. -/
module

public import proofs.«01_k».proof.Proof.MlaHead
public import proofs.«01_k».proof.Proof.MlaBlocks
public import proofs.«01_k».proof.Proof.MlaRef
public import proofs.«01_k».proof.Proof.MlaPre

@[expose] public section

set_option maxRecDepth 16384

noncomputable section

open Idealize.ShloMosaic Idealize.ShloMosaic.TcCoe Idealize.SL.Sem
open Idealize.ShloMosaic.Pipeline (Dat)

namespace Cert.Mla

open Cert.KernelMlaIdeal Cert.KernelMlaIdeal.Gen

/-- The score, before the logarithm of two, of a batch's key and query under a head. -/
def score (q k : FVec Ideal S99328x768 .bf16) (b : Fin 2) (h : Fin 6) (i : Fin 16384) (j : Fin 16400) : EReal :=
  ∑ d : Fin 128, q (ix2 (⟨65536 + 16384 * b.val + i.val, by omega⟩ : Fin 99328) (⟨128 * h.val + d.val, by omega⟩ : Fin 768))
    * k (ix2 (Ref.row b j) (⟨128 * h.val + d.val, by omega⟩ : Fin 768))

/-- A head's value rows at a batch's keys. -/
def value (v : FVec Ideal S194x480x512 .bf16) (b : Fin 2) (h : Fin 6) (r : Fin 80) (j : Fin 16400) : EReal :=
  v (ix3 (⟨(Ref.row b j).val / 512, by omega⟩ : Fin 194) (⟨80 * h.val + r.val, by omega⟩ : Fin 480) (⟨(Ref.row b j).val % 512, by omega⟩ : Fin 512))

/-- The reference's result at an index. -/
theorem ref_at (q k : FVec Ideal S99328x768 .bf16) (v : FVec Ideal S194x480x512 .bf16) (b : Fin 2) (h : Fin 6) (i : Fin 16384) (d : Fin 64) :
    Ref.out q k v (ix2 (⟨16384 * b.val + i.val, by omega⟩ : Fin 32768) (⟨64 * h.val + d.val, by omega⟩ : Fin 384))
      = Pure.mean (score q k b h i) (value v b h ⟨16 + d.val, by omega⟩) := by
  have hs : ∀ j, Ref.sc (Ref.dots (Ref.qs q) (Ref.ks k)) (ix4 b h i j) = score q k b h i j * (Real.log 2 : ℝ) := fun j => by
    rw [Ref.sc_at, Ref.dots_at]
    unfold score
    simp only [Ref.qs_at, Ref.ks_at]
  have hv : ∀ j, Ref.vs (Ref.rows v) (ix4 b j h d) = value v b h ⟨16 + d.val, by omega⟩ j := fun j => by
    rw [Ref.vs_at, Ref.rows_at]
    unfold value
    blk_ext
  unfold Ref.out
  rw [Ref.mix_at]
  unfold Pure.mean
  simp only [Ref.pr_at, Ref.ex_at, Ref.mx_at, hs, hv]
  rfl

variable (m : (ℓ : Loc nD τ sig) → Buf (Elt Ideal) ℓ) (c : Dev nD) (t : Fin cfg0.N) (i : Fin 2)

/-- The head a grid point's half is. -/
def hd : Fin 6 := ⟨2 * (par t).val + i.val, by omega⟩

/-- The query a grid point's lane is. -/
def qu (l : Fin 512) : Fin 16384 := ⟨512 * (til t).val + l.val, by omega⟩

theorem qhalf_at (l : Fin 512) (d : Fin 128) :
    qhalf (F := Ideal) (iblk m c 0 t) i.val (ix2 l d) = m ((c : Thread nD τ).loc main_arg0) (ix2 (⟨65536 + 16384 * (bat t).val + (qu t l).val, by omega⟩ : Fin 99328) (⟨128 * (hd t i).val + d.val, by omega⟩ : Fin 768)) := by
  refine (q_at m c t l ⟨(128 * i.val + d.val) % 256, by omega⟩).trans ?_
  blk_ext [qu, hd]

theorem keys_at (n : ℕ) (k : Fin 512) (d : Fin 128) :
    keys (F := Ideal) (X0_1 m c t) i.val n (ix2 k d) = m ((c : Thread nD τ).loc main_arg1) (ix2 (⟨65536 + 16384 * (bat t).val + (512 * n + k.val) % 16384, by omega⟩ : Fin 99328) (⟨128 * (hd t i).val + d.val, by omega⟩ : Fin 768)) := by
  refine (k_at m c t ⟨(512 * n + k.val) % 16384, by omega⟩ ⟨(128 * i.val + d.val) % 256, by omega⟩).trans ?_
  blk_ext [hd]

theorem mkhalf_at (k : Fin 128) (d : Fin 128) :
    mkhalf (F := Ideal) (iblk m c 2 t) i.val (ix2 k d) = m ((c : Thread nD τ).loc main_arg1) (ix2 (⟨98816 + k.val, by omega⟩ : Fin 99328) (⟨128 * (hd t i).val + d.val, by omega⟩ : Fin 768)) := by
  refine (mk_at m c t k ⟨(128 * i.val + d.val) % 256, by omega⟩).trans ?_
  blk_ext [hd]

theorem vals_at (n : ℕ) (r : Fin 80) (k : Fin 512) :
    vals (F := Ideal) (X0_3 m c t) i.val n (ix3 (0 : Fin 1) r k) = m ((c : Thread nD τ).loc main_arg2) (ix3 (⟨128 + 32 * (bat t).val + n % 32, by omega⟩ : Fin 194) (⟨80 * (hd t i).val + r.val, by omega⟩ : Fin 480) k) := by
  refine (v_at m c t ⟨n % 32, by omega⟩ ⟨(80 * i.val + r.val) % 160, by omega⟩ k).trans ?_
  blk_ext [hd]

theorem mvhalf_at (r : Fin 80) (k : Fin 128) :
    mvhalf (F := Ideal) (iblk m c 4 t) i.val (ix3 (0 : Fin 1) r k) = m ((c : Thread nD τ).loc main_arg2) (ix3 (⟨193, by omega⟩ : Fin 194) (⟨80 * (hd t i).val + r.val, by omega⟩ : Fin 480) (⟨k.val, by omega⟩ : Fin 512)) := by
  refine (mv_at m c t ⟨(80 * i.val + r.val) % 160, by omega⟩ k).trans ?_
  blk_ext [hd]

theorem row_chunk (b : Fin 2) (n : ℕ) (hn : n < 32) (k : Fin 512) : (Ref.row b (kchunk n k)).val = 65536 + 16384 * b.val + (512 * n + k.val) := by
  have e : (kchunk n k).val = 16 + (512 * n + k.val) := Nat.mod_eq_of_lt (by omega)
  unfold Ref.row
  rw [dif_neg (by omega)]
  show 65536 + 16384 * b.val + ((kchunk n k).val - 16) = _
  omega

theorem row_lead (b : Fin 2) (j : Fin 16) : (Ref.row b (kfirst j)).val = 98816 + 16 * b.val + j.val := by
  have e : (kfirst j).val = j.val := rfl
  unfold Ref.row
  rw [dif_pos (by omega)]
  exact congrArg _ e

variable (hq : ∀ r d, ∃ x : ℝ, m ((c : Thread nD τ).loc main_arg0) (ix2 (r : Fin 99328) (d : Fin 768)) = (x : EReal))
  (hk : ∀ r d, ∃ x : ℝ, m ((c : Thread nD τ).loc main_arg1) (ix2 (r : Fin 99328) (d : Fin 768)) = (x : EReal))
  (hv : ∀ a g l, m ((c : Thread nD τ).loc main_arg2) (ix3 (a : Fin 194) (Pre.first g) (l : Fin 512)) = (1 : EReal))
include hq hk hv

/-- A head's quotient at a grid point's query is the softmax's mean. -/
theorem head_at (l : Fin 512) (r : Fin 80) :
    Ideal.div (fin (k0_pay149 (grid0.coords t)) (qhalf (F := Ideal) (iblk m c 0 t) i.val) (loopSt (F := Ideal) (iblk m c 0 t) (X0_1 m c t) (X0_3 m c t) i.val).1
        (loopSt (F := Ideal) (iblk m c 0 t) (X0_1 m c t) (X0_3 m c t) i.val).2 (mkhalf (F := Ideal) (iblk m c 2 t) i.val) (mvhalf (F := Ideal) (iblk m c 4 t) i.val) r l)
      (fin (k0_pay149 (grid0.coords t)) (qhalf (F := Ideal) (iblk m c 0 t) i.val) (loopSt (F := Ideal) (iblk m c 0 t) (X0_1 m c t) (X0_3 m c t) i.val).1
        (loopSt (F := Ideal) (iblk m c 0 t) (X0_1 m c t) (X0_3 m c t) i.val).2 (mkhalf (F := Ideal) (iblk m c 2 t) i.val) (mvhalf (F := Ideal) (iblk m c 4 t) i.val) 0 l)
      = Pure.mean (score (m ((c : Thread nD τ).loc main_arg0)) (m ((c : Thread nD τ).loc main_arg1)) (bat t) (hd t i) (qu t l))
          (value (m ((c : Thread nD τ).loc main_arg2)) (bat t) (hd t i) r) := by
  refine head (grid0.coords t) (bat t) rfl (qhalf (F := Ideal) (iblk m c 0 t) i.val) (scores (F := Ideal) (qhalf (F := Ideal) (iblk m c 0 t) i.val) (X0_1 m c t) i.val)
    (vals (F := Ideal) (X0_3 m c t) i.val) (mkhalf (F := Ideal) (iblk m c 2 t) i.val) (mvhalf (F := Ideal) (iblk m c 4 t) i.val) l
    (score (m ((c : Thread nD τ).loc main_arg0)) (m ((c : Thread nD τ).loc main_arg1)) (bat t) (hd t i) (qu t l))
    (value (m ((c : Thread nD τ).loc main_arg2)) (bat t) (hd t i)) ?_ ?_ ?_ ?_ ?_ ?_ ?_ r
  · exact fun j => Pure.sum_real _ _ (fun d => hq _ _) fun d => hk _ _
  · intro n k
    unfold scores
    rw [pay2_at]
    exact Pure.sum_real _ _ (fun d => by rw [keys_at]; exact hk _ _) fun d => by rw [qhalf_at]; exact hq _ _
  · intro n hn k
    unfold scores score
    rw [pay2_at]
    refine Finset.sum_congr rfl fun d _ => ?_
    rw [keys_at, qhalf_at, mul_comm]
    refine congrArg _ (congrArg _ (congrArg (fun z => ix2 z _) (Fin.ext ?_)))
    rw [row_chunk _ n hn]
    show 65536 + 16384 * (bat t).val + (512 * n + k.val) % 16384 = _
    omega
  · intro n hn r k
    unfold value
    rw [vals_at]
    have e := row_chunk (bat t) n hn k
    refine congrArg _ (congrArg₂ (fun y z => ix3 y _ z) (Fin.ext ?_) (Fin.ext ?_))
    · show 128 + 32 * (bat t).val + n % 32 = _ / 512
      omega
    · show k.val = _ % 512
      omega
  · intro j
    unfold score
    refine Finset.sum_congr rfl fun d _ => ?_
    rw [mkhalf_at, qhalf_at, mul_comm]
    refine congrArg _ (congrArg _ (congrArg (fun z => ix2 z _) (Fin.ext ?_)))
    rw [row_lead]
    show 98816 + (16 * (bat t).val + j.val) = _
    omega
  · intro r j
    unfold value
    rw [mvhalf_at]
    have e := row_lead (bat t) j
    refine congrArg _ (congrArg₂ (fun y z => ix3 y _ z) (Fin.ext ?_) (Fin.ext ?_))
    · show 193 = _ / 512
      omega
    · show 16 * (bat t).val + j.val = _ % 512
      omega
  · exact fun j => hv _ _ _

/-- What a grid point stores at a block index is the reference's result at the array index it sits at. -/
theorem point (y : ((cfg0.win 5).xblock (cfg0.grid.coords t)).Idx) :
    out (F := Ideal) (grid0.coords t) (iblk m c 0 t) (X0_1 m c t) (iblk m c 2 t) (X0_3 m c t) (iblk m c 4 t) y
      = Ref.out (m ((c : Thread nD τ).loc main_arg0)) (m ((c : Thread nD τ).loc main_arg1)) (m ((c : Thread nD τ).loc main_arg2)) (((View.whole main_v0).slice (win0_5.rect t)).emb y) := by
  idx_vars y
  rw [out_idx]
  have hy : y1.val < 128 := y1.isLt
  by_cases h : y1.val < 64
  · have e : y1 = (⟨(⟨y1.val, h⟩ : Fin 64).val, by omega⟩ : Fin 128) := rfl
    refine (congrArg (fun z => out (F := Ideal) (grid0.coords t) (iblk m c 0 t) (X0_1 m c t) (iblk m c 2 t) (X0_3 m c t) (iblk m c 4 t) (ix2 y0 z)) e).trans ?_
    refine (pay1_0 _ _ _ _ _ _ _ _ _ _ _ y0 ⟨y1.val, h⟩).trans ?_
    refine (head_at m c t 0 hq hk hv y0 _).trans ?_
    refine (ref_at _ _ _ (bat t) (hd t 0) (qu t y0) ⟨y1.val, h⟩).symm.trans ?_
    refine congrArg (Ref.out _ _ _) (congrArg₂ ix2 rfl (Fin.ext ?_))
    show 64 * (2 * (par t).val + 0) + y1.val = 128 * (par t).val + y1.val
    omega
  · have e : y1 = (⟨64 + (⟨y1.val - 64, by omega⟩ : Fin 64).val, by omega⟩ : Fin 128) := Fin.ext (by show y1.val = 64 + (y1.val - 64); omega)
    refine (congrArg (fun z => out (F := Ideal) (grid0.coords t) (iblk m c 0 t) (X0_1 m c t) (iblk m c 2 t) (X0_3 m c t) (iblk m c 4 t) (ix2 y0 z)) e).trans ?_
    refine (pay1_1 _ (qhalf (F := Ideal) (iblk m c 0 t) 0) _ _ _ _ _ _ _ _ _ _ y0 ⟨y1.val - 64, by omega⟩).trans ?_
    refine (head_at m c t 1 hq hk hv y0 _).trans ?_
    refine (ref_at _ _ _ (bat t) (hd t 1) (qu t y0) ⟨y1.val - 64, by omega⟩).symm.trans ?_
    refine congrArg (Ref.out _ _ _) (congrArg₂ ix2 rfl (Fin.ext ?_))
    show 64 * (2 * (par t).val + 1) + (y1.val - 64) = 128 * (par t).val + y1.val
    omega

/-- The result array after the run. -/
theorem final : (dats m 0 c).arrAt 5 (cfgs 0).N
    = Ref.out (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after_5]
  exact point m c t hq hk hv y

end Cert.Mla

end
-- ==== Proof.GqaTrip.lean ====
module

public import proofs.«01_k».proof.Proof.MlaTrip
public import proofs.«01_k».proof.Proof.Gen.KernelGqaIdeal.Loops
public import Idealize.ShloMosaic.Lib.Pointwise
public import Idealize.ShloMosaic.Lib.Pipeline.ValueKit
public import Idealize.ShloMosaic.Lib.Pipeline.ReadBack
public import Idealize.ShloMosaic.Lib.Tactic.RunNames
public import Idealize.ShloMosaic.Lib.Tactic.Stretches

@[expose] public section

set_option maxRecDepth 16384

noncomputable section

namespace Cert.Gqa

open Cert.KernelGqaIdeal Cert.KernelGqaIdeal.Gen
open Idealize.ShloMosaic Idealize.ShloMosaic.TcCoe Idealize.ShloMosaic.Tactic
open Idealize.SL Idealize.SL.Sem

variable {F : FTy → Type} [FloatOps F]

/-- Rows `512 c …` of the keys, which both of a step's heads read. -/
def keys (K : Vec F S16384x128 .bf16) (c : ℕ) : Vec F S512x128 .bf16 :=
  fun x => K (ix2 ⟨(512 * c + (x 0).val) % 16384, Nat.mod_lt _ (by decide)⟩ (x 1))

/-- A chunk's scores against the queries `q`. -/
def scores (q : Vec F S512x128 .bf16) (K : Vec F S16384x128 .bf16) (c : ℕ) : Vec F S1x1x512x512 .f32 := Cert.KernelMlaIdeal.Gen.k0_pay2 q (keys K c)

/-- The group of the head that a step takes as its first (`j = 0`) or second (`j = 1`): three heads share a group's keys and values. -/
def grp (i : grid0.Coords) (j : ℕ) : ℕ := (2 * (i 1).val + j) / 3

theorem grp_lt (i : grid0.Coords) (j : ℕ) (hj : j < 2) : grp i j < 2 := by
  have h : (i 1).val < 3 := (i 1).isLt
  show (2 * (i 1).val + j) / 3 < 2
  omega

theorem off2_eq : ∀ (i : grid0.Coords) (k : Fin k0_t1_loop.trips), ∀ (r : Fin 16) (j : Fin 2), k0_off2 i k (BitVec.ofNat 32 r.val) (BitVec.ofNat 32 j.val) = ![16 * k.val + r.val, 80 * grp i j.val, 0] := by decide +kernel
theorem off3_eq : ∀ (i : grid0.Coords), ∀ (j : Fin 2), k0_off3 i (BitVec.ofNat 32 j.val) = ![0, 80 * grp i j.val, 0] := by decide +kernel

/-- A load of chunk `c`'s keys. -/
theorem ld_keys (M : Memref sig .tc .vmem S16384x128 .bf16) (X : BufTy.Contents (Elt F) M.view.ty) (c : ℕ) (hc : c < 32)
    {off : Fin 2 → ℕ} (h : off = ![512 * c, 0]) (inb : ∀ a, off a + S512x128.size a ≤ S16384x128.size a) :
    View.readAt (Elt F) M.view (Rect.unit (s := S16384x128) off S512x128.size inb).toLoadRect X = keys (M.view.read (Elt F) X) c := by
  subst h
  funext x
  have h0 : (x 0).val < 512 := (x 0).isLt
  rw [View.readAt_apply]
  refine congrArg (M.view.read (Elt F) X) (funext fun a => Fin.ext ?_)
  rw [LoadRect.idx_apply]
  fin_cases a
  · show 512 * c + 1 * (x 0).val = (512 * c + (x 0).val) % 16384
    omega
  · show 0 + 1 * (x 1).val = (x 1).val
    omega

/-- The keys a trip loads. -/
theorem ld_k (M : Memref sig .tc .vmem S16384x128 .bf16) (X : BufTy.Contents (Elt F) M.view.ty) (k : Fin k0_t1_loop.trips) (w : BitVec 32) (hw : w.toNat < 16)
    (inb : ∀ a, k0_off1 k w a + S512x128.size a ≤ S16384x128.size a) :
    View.readAt (Elt F) M.view (Rect.unit (s := S16384x128) (k0_off1 k w) S512x128.size inb).toLoadRect X = keys (M.view.read (Elt F) X) (min (16 * k.val + w.toNat + 1) 31) :=
  ld_keys M X _ (by omega) (by have := k0_off1_eq k ⟨w.toNat, hw⟩; simpa using this) inb

/-- The value rows a trip loads for head `j` of a step: those of the head's group. -/
theorem ld_v (M : Memref sig .tc .vmem S32x160x512 .bf16) (X : BufTy.Contents (Elt F) M.view.ty) (i : grid0.Coords) (k : Fin k0_t1_loop.trips) (w j : BitVec 32) (hw : w.toNat < 16) (hj : j.toNat < 2)
    (inb : ∀ a, k0_off2 i k w j a + S1x80x512.size a ≤ S32x160x512.size a) :
    View.readAt (Elt F) M.view (Rect.unit (s := S32x160x512) (k0_off2 i k w j) S1x80x512.size inb).toLoadRect X = Mla.vals (M.view.read (Elt F) X) (grp i j.toNat) (16 * k.val + w.toNat) :=
  Mla.ld_vals M X _ _ (grp_lt i _ hj) (by have := Nat.lt_of_lt_of_le k.isLt k0_t1_abs.2.1; omega) (by have := off2_eq i k ⟨w.toNat, hw⟩ ⟨j.toNat, hj⟩; simpa using this) inb

set_option maxHeartbeats 4000000 in
/-- A trip's yield: sixteen chunks into each head's state. -/
theorem tripR_eq (𝒱 : Variants) (c : Dev nD) (bd : Option 𝒱.V) (i : grid0.Coords) (arg3 : Memref sig .tc .vmem S512x256 .bf16) (harg3 : arg3.IsWhole) (arg4 : Memref sig .tc .vmem S16384x128 .bf16) (harg4 : arg4.IsWhole) (arg5 : Memref sig .tc .vmem S128x128 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (v77 v79 v81 : BitVec 32) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) :
    tripR_k0_t1 𝒱 c bd i arg3 harg3 arg4 harg4 arg5 harg5 arg6 harg6 arg7 harg7 arg8 harg8 arg9 harg9 v36 v37 v38 v39 v77 v79 v81 X_arg4 X_arg6 k acc f_arg9
      = (let K := arg4.view.read (Elt F) X_arg4
         let V := arg6.view.read (Elt F) X_arg6
         let A := Mla.run (Mla.tripScores (scores v38 K) k.val (View.readAt (Elt F) arg9.view (Rect.unit (s := S2x2x512x512) ![0, 0, 0, 0] S1x1x512x512.size inb_S2x2x512x512_S1x1x512x512_0_0_0_0).toLoadRect f_arg9)) (fun n => Mla.vals V (grp i 0) (16 * k.val + n)) (acc.1, acc.2.1) 16
         let B := Mla.run (Mla.tripScores (scores v39 K) k.val (View.readAt (Elt F) arg9.view (Rect.unit (s := S2x2x512x512) ![1, 0, 0, 0] S1x1x512x512.size inb_S2x2x512x512_S1x1x512x512_1_0_0_0).toLoadRect f_arg9)) (fun n => Mla.vals V (grp i 1) (16 * k.val + n)) (acc.2.2.1, acc.2.2.2) 16
         (A.1, A.2, B.1, B.2)) := by
  unfold tripR_k0_t1
  unfold trip_k0_t1
  dsimp only
  sl_unfold_run_values
  simp (decide := true) (proj := false) only [trip_k0_t1.sl.HW_arg9_3, trip_k0_t1.sl.HW_arg9_4, trip_k0_t1.sl.HW_arg9_5, trip_k0_t1.sl.HW_arg9_6, trip_k0_t1.sl.HW_arg9_7, trip_k0_t1.sl.HW_arg9_8, trip_k0_t1.sl.HW_arg9_9, trip_k0_t1.sl.HW_arg9_10, trip_k0_t1.sl.HW_arg9_11, trip_k0_t1.sl.HW_arg9_12, trip_k0_t1.sl.HW_arg9_13, trip_k0_t1.sl.HW_arg9_14, trip_k0_t1.sl.HW_arg9_15, trip_k0_t1.sl.HW_arg9_16, trip_k0_t1.sl.HW_arg9_17, trip_k0_t1.sl.HW_arg9_18, trip_k0_t1.sl.HW_arg9_19, trip_k0_t1.sl.HW_arg9_20, trip_k0_t1.sl.HW_arg9_21, trip_k0_t1.sl.HW_arg9_22, trip_k0_t1.sl.HW_arg9_23, trip_k0_t1.sl.HW_arg9_24, trip_k0_t1.sl.HW_arg9_25, trip_k0_t1.sl.HW_arg9_26, trip_k0_t1.sl.HW_arg9_27, trip_k0_t1.sl.HW_arg9_28, trip_k0_t1.sl.HW_arg9_29, trip_k0_t1.sl.HW_arg9_30, trip_k0_t1.sl.HW_arg9_31, trip_k0_t1.sl.HW_arg9_32, ↓View.readCov_cons_toLoadRect, ↓View.readCov_skip, ld_k, ld_v, BitVec.toNat_ofNat, Nat.reduceMod, Nat.reducePow]
  sl_unfold_run_values
  simp (decide := true) (proj := false) only [ld_k, ld_v, BitVec.toNat_ofNat, Nat.reduceMod, Nat.reducePow]
  dsimp only [Mla.run, Mla.upd, Mla.tripScores, scores]
  rfl

/-- What head `r`'s even slot of the scratch holds. -/
abbrev slot0 (M : Memref sig .tc .vmem S2x2x512x512 .f32) (f : BufTy.Contents (Elt F) M.view.ty) : Vec F S1x1x512x512 .f32 :=
  View.readAt (Elt F) M.view (Rect.unit (s := S2x2x512x512) ![0, 0, 0, 0] S1x1x512x512.size inb_S2x2x512x512_S1x1x512x512_0_0_0_0).toLoadRect f
/-- The same of the second head. -/
abbrev slot1 (M : Memref sig .tc .vmem S2x2x512x512 .f32) (f : BufTy.Contents (Elt F) M.view.ty) : Vec F S1x1x512x512 .f32 :=
  View.readAt (Elt F) M.view (Rect.unit (s := S2x2x512x512) ![1, 0, 0, 0] S1x1x512x512.size inb_S2x2x512x512_S1x1x512x512_1_0_0_0).toLoadRect f

set_option maxHeartbeats 4000000 in
/-- After a trip the first head's even slot holds the scores of the chunk the next trip begins with. -/
theorem tripL_slot0 (𝒱 : Variants) (c : Dev nD) (bd : Option 𝒱.V) (i : grid0.Coords) (arg3 : Memref sig .tc .vmem S512x256 .bf16) (harg3 : arg3.IsWhole) (arg4 : Memref sig .tc .vmem S16384x128 .bf16) (harg4 : arg4.IsWhole) (arg5 : Memref sig .tc .vmem S128x128 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (v77 v79 v81 : BitVec 32) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) :
    slot0 arg9 (arg9.view.writes (Elt F) f_arg9 (tripL_k0_t1 𝒱 c bd i arg3 harg3 arg4 harg4 arg5 harg5 arg6 harg6 arg7 harg7 arg8 harg8 arg9 harg9 v36 v37 v38 v39 v77 v79 v81 X_arg4 X_arg6 k acc f_arg9)) = scores v38 (arg4.view.read (Elt F) X_arg4) (min (16 * k.val + 16) 31) := by
  unfold tripL_k0_t1 slot0
  unfold trip_k0_t1
  dsimp only
  rw [View.readAt_writes_of_cover]
  · simp (decide := true) (proj := false) only [trip_k0_t1.sl.HW_arg9_3, trip_k0_t1.sl.HW_arg9_4, trip_k0_t1.sl.HW_arg9_5, trip_k0_t1.sl.HW_arg9_6, trip_k0_t1.sl.HW_arg9_7, trip_k0_t1.sl.HW_arg9_8, trip_k0_t1.sl.HW_arg9_9, trip_k0_t1.sl.HW_arg9_10, trip_k0_t1.sl.HW_arg9_11, trip_k0_t1.sl.HW_arg9_12, trip_k0_t1.sl.HW_arg9_13, trip_k0_t1.sl.HW_arg9_14, trip_k0_t1.sl.HW_arg9_15, trip_k0_t1.sl.HW_arg9_16, trip_k0_t1.sl.HW_arg9_17, trip_k0_t1.sl.HW_arg9_18, trip_k0_t1.sl.HW_arg9_19, trip_k0_t1.sl.HW_arg9_20, trip_k0_t1.sl.HW_arg9_21, trip_k0_t1.sl.HW_arg9_22, trip_k0_t1.sl.HW_arg9_23, trip_k0_t1.sl.HW_arg9_24, trip_k0_t1.sl.HW_arg9_25, trip_k0_t1.sl.HW_arg9_26, trip_k0_t1.sl.HW_arg9_27, trip_k0_t1.sl.HW_arg9_28, trip_k0_t1.sl.HW_arg9_29, trip_k0_t1.sl.HW_arg9_30, trip_k0_t1.sl.HW_arg9_31, trip_k0_t1.sl.HW_arg9_32, ↓View.readCov_cons_toLoadRect, ↓View.readCov_skip]
    sl_unfold_run_values
    simp (decide := true) (proj := false) only [ld_k, ld_v, BitVec.toNat_ofNat, Nat.reduceMod, Nat.reducePow]
    rfl
  · intro j
    exact ⟨_, by unfold trip_k0_t1.sl.HW_arg9_32; exact List.mem_cons_of_mem _ (List.mem_cons_self), LoadRect.idx_mem_of_within rfl j⟩

set_option maxHeartbeats 4000000 in
/-- After a trip the second head's even slot holds the scores of the chunk the next trip begins with. -/
theorem tripL_slot1 (𝒱 : Variants) (c : Dev nD) (bd : Option 𝒱.V) (i : grid0.Coords) (arg3 : Memref sig .tc .vmem S512x256 .bf16) (harg3 : arg3.IsWhole) (arg4 : Memref sig .tc .vmem S16384x128 .bf16) (harg4 : arg4.IsWhole) (arg5 : Memref sig .tc .vmem S128x128 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (v77 v79 v81 : BitVec 32) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) :
    slot1 arg9 (arg9.view.writes (Elt F) f_arg9 (tripL_k0_t1 𝒱 c bd i arg3 harg3 arg4 harg4 arg5 harg5 arg6 harg6 arg7 harg7 arg8 harg8 arg9 harg9 v36 v37 v38 v39 v77 v79 v81 X_arg4 X_arg6 k acc f_arg9)) = scores v39 (arg4.view.read (Elt F) X_arg4) (min (16 * k.val + 16) 31) := by
  unfold tripL_k0_t1 slot1
  unfold trip_k0_t1
  dsimp only
  rw [View.readAt_writes_of_cover]
  · simp (decide := true) (proj := false) only [trip_k0_t1.sl.HW_arg9_3, trip_k0_t1.sl.HW_arg9_4, trip_k0_t1.sl.HW_arg9_5, trip_k0_t1.sl.HW_arg9_6, trip_k0_t1.sl.HW_arg9_7, trip_k0_t1.sl.HW_arg9_8, trip_k0_t1.sl.HW_arg9_9, trip_k0_t1.sl.HW_arg9_10, trip_k0_t1.sl.HW_arg9_11, trip_k0_t1.sl.HW_arg9_12, trip_k0_t1.sl.HW_arg9_13, trip_k0_t1.sl.HW_arg9_14, trip_k0_t1.sl.HW_arg9_15, trip_k0_t1.sl.HW_arg9_16, trip_k0_t1.sl.HW_arg9_17, trip_k0_t1.sl.HW_arg9_18, trip_k0_t1.sl.HW_arg9_19, trip_k0_t1.sl.HW_arg9_20, trip_k0_t1.sl.HW_arg9_21, trip_k0_t1.sl.HW_arg9_22, trip_k0_t1.sl.HW_arg9_23, trip_k0_t1.sl.HW_arg9_24, trip_k0_t1.sl.HW_arg9_25, trip_k0_t1.sl.HW_arg9_26, trip_k0_t1.sl.HW_arg9_27, trip_k0_t1.sl.HW_arg9_28, trip_k0_t1.sl.HW_arg9_29, trip_k0_t1.sl.HW_arg9_30, trip_k0_t1.sl.HW_arg9_31, trip_k0_t1.sl.HW_arg9_32, ↓View.readCov_cons_toLoadRect, ↓View.readCov_skip]
    sl_unfold_run_values
    simp (decide := true) (proj := false) only [ld_k, ld_v, BitVec.toNat_ofNat, Nat.reduceMod, Nat.reducePow]
    rfl
  · intro j
    exact ⟨_, by unfold trip_k0_t1.sl.HW_arg9_32; exact List.mem_cons_self, LoadRect.idx_mem_of_within rfl j⟩

/-- One trip's yield, the scratch holding the scores of the chunk it begins with. -/
theorem trip_run (𝒱 : Variants) (c : Dev nD) (bd : Option 𝒱.V) (i : grid0.Coords) (arg3 : Memref sig .tc .vmem S512x256 .bf16) (harg3 : arg3.IsWhole) (arg4 : Memref sig .tc .vmem S16384x128 .bf16) (harg4 : arg4.IsWhole) (arg5 : Memref sig .tc .vmem S128x128 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (v77 v79 v81 : BitVec 32) (X_arg4 : BufTy.Contents (Elt F) arg4.view.ty) (X_arg6 : BufTy.Contents (Elt F) arg6.view.ty) (k : Fin k0_t1_loop.trips) (acc : FVec F S1x512 .f32 × FVec F S80x512 .f32 × FVec F S1x512 .f32 × FVec F S80x512 .f32) (f_arg9 : BufTy.Contents (Elt F) arg9.view.ty) (h0 : slot0 arg9 f_arg9 = scores v38 (arg4.view.read (Elt F) X_arg4) (16 * k.val)) (h1 : slot1 arg9 f_arg9 = scores v39 (arg4.view.read (Elt F) X_arg4) (16 * k.val))
    (hk : k.val < 2) (a b : Mla.St F) (n : ℕ) (hn : n = 16 * k.val)
    (ha : (acc.1, acc.2.1) = Mla.run (scores v38 (arg4.view.read (Elt F) X_arg4)) (Mla.vals (arg6.view.read (Elt F) X_arg6) (grp i 0)) a n)
    (hb : (acc.2.2.1, acc.2.2.2) = Mla.run (scores v39 (arg4.view.read (Elt F) X_arg4)) (Mla.vals (arg6.view.read (Elt F) X_arg6) (grp i 1)) b n) :
    let r := tripR_k0_t1 𝒱 c bd i arg3 harg3 arg4 harg4 arg5 harg5 arg6 harg6 arg7 harg7 arg8 harg8 arg9 harg9 v36 v37 v38 v39 v77 v79 v81 X_arg4 X_arg6 k acc f_arg9
    (r.1, r.2.1) = Mla.run (scores v38 (arg4.view.read (Elt F) X_arg4)) (Mla.vals (arg6.view.read (Elt F) X_arg6) (grp i 0)) a (n + 16)
      ∧ (r.2.2.1, r.2.2.2) = Mla.run (scores v39 (arg4.view.read (Elt F) X_arg4)) (Mla.vals (arg6.view.read (Elt F) X_arg6) (grp i 1)) b (n + 16) := by
  subst hn
  intro r
  have e := tripR_eq 𝒱 c bd i arg3 harg3 arg4 harg4 arg5 harg5 arg6 harg6 arg7 harg7 arg8 harg8 arg9 harg9 v36 v37 v38 v39 v77 v79 v81 X_arg4 X_arg6 k acc f_arg9
  have hr : r = _ := e
  rw [hr]
  dsimp only
  rw [Mla.run_add, Mla.run_add, ← ha, ← hb]
  exact ⟨Mla.run_congr _ 16 (Mla.tripScores_eq _ _ hk h0) fun _ _ => rfl, Mla.run_congr _ 16 (Mla.tripScores_eq _ _ hk h1) fun _ _ => rfl⟩

/-- The loop's result: thirty-two chunks into each head's state. -/
theorem st_run (𝒱 : Variants) (c : Dev nD) (bd : Option 𝒱.V) (i : grid0.Coords) (arg3 : Memref sig .tc .vmem S512x256 .bf16) (harg3 : arg3.IsWhole) (arg4 : Memref sig .tc .vmem S16384x128 .bf16) (harg4 : arg4.IsWhole) (arg5 : Memref sig .tc .vmem S128x128 .bf16) (harg5 : arg5.IsWhole) (arg6 : Memref sig .tc .vmem S32x160x512 .bf16) (harg6 : arg6.IsWhole) (arg7 : Memref sig .tc .vmem S1x160x128 .bf16) (harg7 : arg7.IsWhole) (arg8 : Memref sig .tc .vmem S512x128 .bf16) (harg8 : arg8.IsWhole) (arg9 : Memref sig .tc .vmem S2x2x512x512 .f32) (harg9 : arg9.IsWhole) (v36 : IVec S128x1 1) (v37 : FVec F S80x512 .f32) (v38 : Vec F S512x128 .bf16) (v39 : Vec F S512x128 .bf16) (v77 v79 v81 : BitVec 32) (X_arg4 : BufTy.Contents (Elt F) arg4.view.ty) (X_arg6 : BufTy.Contents (Elt F) arg6.view.ty) (G_arg9 : BufTy.Contents (Elt F) arg9.view.ty) (init : FVec F S1x512 .f32 × FVec F S80x512 .f32 × FVec F S1x512 .f32 × FVec F S80x512 .f32) (h0 : slot0 arg9 G_arg9 = scores v38 (arg4.view.read (Elt F) X_arg4) 0) (h1 : slot1 arg9 G_arg9 = scores v39 (arg4.view.read (Elt F) X_arg4) 0) :
    (st_k0_t1 (F := F) 𝒱 c bd i arg3 harg3 arg4 harg4 arg5 harg5 arg6 harg6 arg7 harg7 arg8 harg8 arg9 harg9 v36 v37 v38 v39 v77 v79 v81 X_arg4 X_arg6 G_arg9 init k0_t1_loop.trips).1
      = (let K := arg4.view.read (Elt F) X_arg4
         let V := arg6.view.read (Elt F) X_arg6
         let A := Mla.run (scores v38 K) (Mla.vals V (grp i 0)) (init.1, init.2.1) 32
         let B := Mla.run (scores v39 K) (Mla.vals V (grp i 1)) (init.2.2.1, init.2.2.2) 32
         (A.1, A.2, B.1, B.2)) := by
  have ht : k0_t1_loop.trips = 2 := by decide +kernel
  have e0 := st_k0_t1_succ (F := F) 𝒱 c bd i arg3 harg3 arg4 harg4 arg5 harg5 arg6 harg6 arg7 harg7 arg8 harg8 arg9 harg9 v36 v37 v38 v39 v77 v79 v81 X_arg4 X_arg6 G_arg9 init ⟨0, by rw [ht]; decide⟩
  have e1 := st_k0_t1_succ (F := F) 𝒱 c bd i arg3 harg3 arg4 harg4 arg5 harg5 arg6 harg6 arg7 harg7 arg8 harg8 arg9 harg9 v36 v37 v38 v39 v77 v79 v81 X_arg4 X_arg6 G_arg9 init ⟨1, by rw [ht]; decide⟩
  rw [ht]
  obtain ⟨pa, pb⟩ := trip_run 𝒱 c bd i arg3 harg3 arg4 harg4 arg5 harg5 arg6 harg6 arg7 harg7 arg8 harg8 arg9 harg9 v36 v37 v38 v39 v77 v79 v81 X_arg4 X_arg6 ⟨0, by rw [ht]; decide⟩ init G_arg9 h0 h1 (show 0 < 2 by decide) (init.1, init.2.1) (init.2.2.1, init.2.2.2) 0 rfl rfl rfl
  have s0 := tripL_slot0 𝒱 c bd i arg3 harg3 arg4 harg4 arg5 harg5 arg6 harg6 arg7 harg7 arg8 harg8 arg9 harg9 v36 v37 v38 v39 v77 v79 v81 X_arg4 X_arg6 ⟨0, by rw [ht]; decide⟩ init G_arg9
  have s1 := tripL_slot1 𝒱 c bd i arg3 harg3 arg4 harg4 arg5 harg5 arg6 harg6 arg7 harg7 arg8 harg8 arg9 harg9 v36 v37 v38 v39 v77 v79 v81 X_arg4 X_arg6 ⟨0, by rw [ht]; decide⟩ init G_arg9
  have z : st_k0_t1 (F := F) 𝒱 c bd i arg3 harg3 arg4 harg4 arg5 harg5 arg6 harg6 arg7 harg7 arg8 harg8 arg9 harg9 v36 v37 v38 v39 v77 v79 v81 X_arg4 X_arg6 G_arg9 init 0 = (init, []) := rfl
  simp only [z, View.writes_nil, List.append_nil, Nat.zero_add] at e0
  rw [e0] at e1
  obtain ⟨qa, qb⟩ := trip_run 𝒱 c bd i arg3 harg3 arg4 harg4 arg5 harg5 arg6 harg6 arg7 harg7 arg8 harg8 arg9 harg9 v36 v37 v38 v39 v77 v79 v81 X_arg4 X_arg6 ⟨1, by rw [ht]; decide⟩ _ _ s0 s1 (show 1 < 2 by decide) (init.1, init.2.1) (init.2.2.1, init.2.2.2) 16 rfl pa pb
  refine (congrArg Prod.fst e1).trans ?_
  have a1 := congrArg Prod.fst qa
  have a2 := congrArg Prod.snd qa
  have b1 := congrArg Prod.fst qb
  have b2 := congrArg Prod.snd qb
  exact Prod.ext a1 (Prod.ext a2 (Prod.ext b1 b2))

end Cert.Gqa

end
-- ==== Proof.GqaBody.lean ====
module

public import proofs.«01_k».proof.Proof.GqaTrip
public import proofs.«01_k».proof.Proof.MlaBody
public import proofs.«01_k».proof.Proof.Gen.KernelGqaIdeal.Frame
public import Idealize.ShloMosaic.Lib.VecWindow

@[expose] public section

set_option maxRecDepth 16384

noncomputable section

namespace Cert.Gqa

open Cert.KernelGqaIdeal Cert.KernelGqaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The leading keys, loaded whole. -/
theorem ld_mk (M : Memref sig .tc .vmem S128x128 .bf16) (X : BufTy.Contents (Elt F) M.view.ty) (inb : ∀ a, (![0, 0] : Fin 2 → ℕ) a + S128x128.size a ≤ S128x128.size a) :
    View.readAt (Elt F) M.view (Rect.unit (s := S128x128) ![0, 0] S128x128.size inb).toLoadRect X = M.view.read (Elt F) X := by
  funext x
  rw [View.readAt_apply]
  refine congrArg (M.view.read (Elt F) X) (funext fun a => Fin.ext ?_)
  rw [LoadRect.idx_apply]
  fin_cases a
  · show 0 + 1 * (x 0).val = (x 0).val
    omega
  · show 0 + 1 * (x 1).val = (x 1).val
    omega

/-- The leading keys' value rows of head `j` of a step: those of the head's group. -/
theorem ld_mv (M : Memref sig .tc .vmem S1x160x128 .bf16) (X : BufTy.Contents (Elt F) M.view.ty) (i : grid0.Coords) (j : BitVec 32) (hj : j.toNat < 2)
    (inb : ∀ a, k0_off3 i j a + S1x80x128.size a ≤ S1x160x128.size a) :
    View.readAt (Elt F) M.view (Rect.unit (s := S1x160x128) (k0_off3 i j) S1x80x128.size inb).toLoadRect X = Mla.mvhalf (M.view.read (Elt F) X) (grp i j.toNat) :=
  Mla.ld_mv M X _ (grp_lt i _ hj) (by have := off3_eq i ⟨j.toNat, hj⟩; simpa using this) inb

/-- The state of head `j` of a step when all thirty-two chunks are in. -/
def loopSt (i : grid0.Coords) (q : Vec F S512x256 .bf16) (K : Vec F S16384x128 .bf16) (V : Vec F S32x160x512 .bf16) (j : ℕ) : Mla.St F :=
  Mla.run (scores (Mla.qhalf q j) K) (Mla.vals V (grp i j)) (Cert.KernelMlaIdeal.Gen.k0_pay152, Cert.KernelMlaIdeal.Gen.k0_pay150) 32

/-- The block the body leaves, of the blocks it is called with. -/
def out (i : grid0.Coords) (q : Vec F S512x256 .bf16) (K : Vec F S16384x128 .bf16) (mk : Vec F S128x128 .bf16) (V : Vec F S32x160x512 .bf16) (mv : Vec F S1x160x128 .bf16) : Vec F S512x128 .bf16 :=
  Cert.KernelMlaIdeal.Gen.k0_pay1 (Cert.KernelMlaIdeal.Gen.k0_pay149 i) (Mla.qhalf q 1) (loopSt i q K V 0).1 (loopSt i q K V 0).2 (loopSt i q K V 1).1 (loopSt i q K V 1).2
    (Cert.KernelMlaIdeal.Gen.k0_pay157 (Cert.KernelMlaIdeal.Gen.k0_pay149 i) (Mla.qhalf q 0) mk) (Cert.KernelMlaIdeal.Gen.k0_pay158 (Mla.mvhalf mv (grp i 0)))
    (Cert.KernelMlaIdeal.Gen.k0_pay159 (Cert.KernelMlaIdeal.Gen.k0_pay149 i) (Mla.qhalf q 0) (loopSt i q K V 0).1 mk)
    mk (Mla.mvhalf mv (grp i 1))

set_option maxHeartbeats 4000000 in
/-- The body: from its input blocks and a scratch of any contents, it leaves `out` of the blocks. -/
theorem sound_kernel (c : Dev nD) (E : Set ℕ) (i : grid0.Coords)
    (arg3 : Memref sig .tc .vmem S512x256 .bf16) (harg3 : arg3.IsWhole) (arg4 : Memref sig .tc .vmem S16384x128 .bf16) (harg4 : arg4.IsWhole)
    (arg5 : Memref sig .tc .vmem S128x128 .bf16) (harg5 : arg5.IsWhole) (arg6 : Memref sig .tc .vmem S32x160x512 .bf16) (harg6 : arg6.IsWhole)
    (arg7 : Memref sig .tc .vmem S1x160x128 .bf16) (harg7 : arg7.IsWhole) (arg8 : Memref sig .tc .vmem S512x128 .bf16) (harg8 : arg8.IsWhole)
    (arg9 : Memref sig .tc .vmem S2x2x512x512 .f32) (harg9 : arg9.IsWhole)
    (x3 : Vec F S512x256 .bf16) (x4 : Vec F S16384x128 .bf16) (x5 : Vec F S128x128 .bf16) (x6 : Vec F S32x160x512 .bf16) (x7 : Vec F S1x160x128 .bf16)
    (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (out i x3 x4 x5 x6 x7) ∗ (∃ d, owns (c : Thread nD τ) arg9 fullShare d)) -∗ K ⟨⟩))
      ⊢ wp frame (wpE (defs₀ (F := F)) Variants.none c none) E (cc0_gqa_s i arg3 harg3 arg4 harg4 arg5 harg5 arg6 harg6 arg7 harg7 arg8 harg8 arg9 harg9) K := by
  simp only [cc0_gqa_s_eq_skeleton]; unfold cc0_gqa_s_skel
  simp only [k0_part29_eq_skeleton, k0_part30_eq_skeleton, k0_part31_eq_skeleton, k0_part32_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf3 hf4 hf5 hf6 hf7
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_full]
    sl_unfold_run_values
    have e := fun v77 v79 v81 => st_run (F := F) Variants.none c none i arg3 harg3 arg4 harg4 arg5 harg5 arg6 harg6 arg7 harg7 arg8 harg8 arg9 harg9 (k0_pay148 i) k0_pay149
      (View.readAt (Elt F) arg3.view (Rect.unit (s := S512x256) ![0, 0] S512x128.size inb_S512x256_S512x128_0_0).toLoadRect f3)
      (View.readAt (Elt F) arg3.view (Rect.unit (s := S512x256) ![0, 128] S512x128.size inb_S512x256_S512x128_0_128).toLoadRect f3) v77 v79 v81 f4 f6
      (arg9.view.writes (Elt F) f9
        [⟨Rect.unit (s := S2x2x512x512) ![1, 0, 0, 0] S1x1x512x512.size inb_S2x2x512x512_S1x1x512x512_1_0_0_0, k0_pay152
            (View.readAt (Elt F) arg3.view (Rect.unit (s := S512x256) ![0, 128] S512x128.size inb_S512x256_S512x128_0_128).toLoadRect f3)
            (View.readAt (Elt F) arg4.view (Rect.unit (s := S16384x128) ![0, 0] S512x128.size inb_S16384x128_S512x128_0_0).toLoadRect f4)⟩,
          ⟨Rect.unit (s := S2x2x512x512) ![0, 0, 0, 0] S1x1x512x512.size inb_S2x2x512x512_S1x1x512x512_0_0_0_0, k0_pay150
            (View.readAt (Elt F) arg3.view (Rect.unit (s := S512x256) ![0, 0] S512x128.size inb_S512x256_S512x128_0_0).toLoadRect f3)
            (View.readAt (Elt F) arg4.view (Rect.unit (s := S16384x128) ![0, 0] S512x128.size inb_S16384x128_S512x128_0_0).toLoadRect f4)⟩])
      (k0_pay151, k0_pay149, k0_pay153, k0_pay149)
      (by
        rw [slot0, View.readAt_writes_of_cover]
        · rw [View.readCov_skip _ _ _ _ _ rfl, View.readCov_cons_toLoadRect, ld_keys arg4 f4 0 (by decide) rfl]
          rfl
        · intro j
          exact ⟨_, List.mem_cons_of_mem _ List.mem_cons_self, LoadRect.idx_mem_of_within rfl j⟩)
      (by
        rw [slot1, View.readAt_writes_of_cover]
        · rw [View.readCov_cons_toLoadRect, ld_keys arg4 f4 0 (by decide) rfl]
          rfl
        · intro j
          exact ⟨_, List.mem_cons_self, LoadRect.idx_mem_of_within rfl j⟩)
    rw [show Scf.trips k0_t1_loop.lb k0_t1_loop.ub k0_t1_loop.st = k0_t1_loop.trips from rfl]
    simp only [e]
    rw [Mla.ld_q arg3 f3 0 (by decide) rfl, Mla.ld_q arg3 f3 1 (by decide) rfl, ld_mk arg5 f5, ld_mv arg7 f7 i 0#32 (by decide)]
    erw [ld_mv arg7 f7 i 1#32 (by decide)]
    rfl
  iexists _; iexists _; isplitr
  swap; · iexact H9
  ipureintro
  rfl

/-- The invariant between points, the scratch as a memref at some contents. -/
theorem PhiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

variable (m : (ℓ : Loc nD τ sig) → Buf (Elt F) ℓ) (ρ : Dev nD → PrngReg)

/-- The proof data: the arrays as launched, every input block left in place, the result block `out` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => X0_3 m c t
    | ⟨4, _⟩ => iblk m c 4 t
    | ⟨5, _⟩ => out (grid0.coords t) (iblk m c 0 t) (X0_1 m c t) (iblk m c 2 t) (X0_3 m c t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out (grid0.coords t) (iblk m c 0 t) (X0_1 m c t) (iblk m c 2 t) (X0_3 m c t) (iblk m c 4 t) := by
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, PhiA_eq]
  iintro ⟨⟨HS, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ (iblk m c 0 t) (X0_1 m c t) (iblk m c 2 t) (X0_3 m c t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: it ends, every array at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Gqa

end
-- ==== Proof.GqaBits.lean ====
module

public import proofs.«01_k».proof.Proof.GqaBody
public import proofs.«01_k».proof.Proof.Gen.KernelGqa

@[expose] public section
noncomputable section
namespace Cert.Gqa
open Idealize.ShloMosaic Idealize.SL.Sem

/-- The program as printed and the idealised one are one text, so that their frame statements at words are one proposition. -/
theorem frames_eq : (∀ (m : (ℓ : Loc Cert.KernelGqa.nD Cert.KernelGqa.τ Cert.KernelGqa.sig) → Buf (Elt Bits) ℓ) (ρ : Dev Cert.KernelGqa.nD → PrngReg),
  θ_run (Cert.KernelGqa.defs (F := Bits)) (onTc (τ := Cert.KernelGqa.τ) (Cert.KernelGqa.main (F := Bits))) ⟨m, fun _ => 0, ρ⟩ (fun r => (∀ c : Dev Cert.KernelGqa.nD,
      r.2.mem ((c.tc : Thread Cert.KernelGqa.nD Cert.KernelGqa.τ).loc Cert.KernelGqa.main_arg0) = m ((c.tc : Thread Cert.KernelGqa.nD Cert.KernelGqa.τ).loc Cert.KernelGqa.main_arg0)
      ∧ r.2.mem ((c.tc : Thread Cert.KernelGqa.nD Cert.KernelGqa.τ).loc Cert.KernelGqa.main_arg1) = m ((c.tc : Thread Cert.KernelGqa.nD Cert.KernelGqa.τ).loc Cert.KernelGqa.main_arg1)
      ∧ r.2.mem ((c.tc : Thread Cert.KernelGqa.nD Cert.KernelGqa.τ).loc Cert.KernelGqa.main_arg2) = m ((c.tc : Thread Cert.KernelGqa.nD Cert.KernelGqa.τ).loc Cert.KernelGqa.main_arg2))
      ∧ r.2.sem = fun _ => 0)) = (∀ (m : (ℓ : Loc Cert.KernelGqaIdeal.nD Cert.KernelGqaIdeal.τ Cert.KernelGqaIdeal.sig) → Buf (Elt Bits) ℓ) (ρ : Dev Cert.KernelGqaIdeal.nD → PrngReg),
  θ_run (Cert.KernelGqaIdeal.defs (F := Bits)) (onTc (τ := Cert.KernelGqaIdeal.τ) (Cert.KernelGqaIdeal.main (F := Bits))) ⟨m, fun _ => 0, ρ⟩ (fun r => (∀ c : Dev Cert.KernelGqaIdeal.nD,
      r.2.mem ((c.tc : Thread Cert.KernelGqaIdeal.nD Cert.KernelGqaIdeal.τ).loc Cert.KernelGqaIdeal.main_arg0) = m ((c.tc : Thread Cert.KernelGqaIdeal.nD Cert.KernelGqaIdeal.τ).loc Cert.KernelGqaIdeal.main_arg0)
      ∧ r.2.mem ((c.tc : Thread Cert.KernelGqaIdeal.nD Cert.KernelGqaIdeal.τ).loc Cert.KernelGqaIdeal.main_arg1) = m ((c.tc : Thread Cert.KernelGqaIdeal.nD Cert.KernelGqaIdeal.τ).loc Cert.KernelGqaIdeal.main_arg1)
      ∧ r.2.mem ((c.tc : Thread Cert.KernelGqaIdeal.nD Cert.KernelGqaIdeal.τ).loc Cert.KernelGqaIdeal.main_arg2) = m ((c.tc : Thread Cert.KernelGqaIdeal.nD Cert.KernelGqaIdeal.τ).loc Cert.KernelGqaIdeal.main_arg2))
      ∧ r.2.sem = fun _ => 0)) := by sl_kernel_rfl

/-- The frame of the program as printed. -/
theorem quiescent_printed (m : (ℓ : Loc Cert.KernelGqa.nD Cert.KernelGqa.τ Cert.KernelGqa.sig) → Buf (Elt Bits) ℓ) (ρ : Dev Cert.KernelGqa.nD → PrngReg) :
  θ_run (Cert.KernelGqa.defs (F := Bits)) (onTc (τ := Cert.KernelGqa.τ) (Cert.KernelGqa.main (F := Bits))) ⟨m, fun _ => 0, ρ⟩ (fun r => (∀ c : Dev Cert.KernelGqa.nD,
      r.2.mem ((c.tc : Thread Cert.KernelGqa.nD Cert.KernelGqa.τ).loc Cert.KernelGqa.main_arg0) = m ((c.tc : Thread Cert.KernelGqa.nD Cert.KernelGqa.τ).loc Cert.KernelGqa.main_arg0)
      ∧ r.2.mem ((c.tc : Thread Cert.KernelGqa.nD Cert.KernelGqa.τ).loc Cert.KernelGqa.main_arg1) = m ((c.tc : Thread Cert.KernelGqa.nD Cert.KernelGqa.τ).loc Cert.KernelGqa.main_arg1)
      ∧ r.2.mem ((c.tc : Thread Cert.KernelGqa.nD Cert.KernelGqa.τ).loc Cert.KernelGqa.main_arg2) = m ((c.tc : Thread Cert.KernelGqa.nD Cert.KernelGqa.τ).loc Cert.KernelGqa.main_arg2))
      ∧ r.2.sem = fun _ => 0) := by
  have h := frames_eq
  exact h.mpr (fun m ρ => quiescent (F := Bits) m ρ) m ρ

end Cert.Gqa
end
-- ==== Proof.MlaPBody.lean ====
/- The prompt tokens' latent attention: what its body leaves, the body's triple and the launch.

   The body takes the keys four chunks of 512 at a time, first weighing each chunk over the maximum before it; where some
   score has run too far ahead of that maximum it takes them again, each chunk weighed over the maximum that includes it. -/
module

public import proofs.«01_k».proof.Proof.Gen.KernelMlaPIdeal.Frame
public import proofs.«01_k».proof.Proof.Gen.KernelMlaPIdeal.Skeleton
public import Idealize.ShloMosaic.Lib.VecWindow
public import Idealize.ShloMosaic.Lib.Pointwise
public import Idealize.ShloMosaic.Lib.Pipeline.ValueKit
public import Idealize.ShloMosaic.Lib.Pipeline.ReadBack
public import Idealize.ShloMosaic.Lib.Tactic.RunNames
public import Idealize.ShloMosaic.Lib.Tactic.Stretches
public import Idealize.ShloMosaic.Lib.Claim
public import Idealize.ShloMosaic.Lib.Pipeline.FrameBody
public import Idealize.ShloMosaic.Lib.Tactic

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MlaP

open Cert.KernelMlaPIdeal Cert.KernelMlaPIdeal.Gen

variable {F : FTy → Type} [FloatOps F]

local notation "𝕄" => MT nD τ sig Unit (Elt F) ℕ (UR sig nD τ) ℕ

/-! ## What a chunk does to a head's running maximum and value rows -/

/-- A chunk's largest score of each query. -/
def crest (s : FVec F S512x1024 .f32) : FVec F S1x1024 .f32 :=
  shapeCast S1x1024 (multiReduction .maximumf [0] S1024 s 0xFF800000#32 reduces_S512x1024_S1024 (.inl rfl) rfl) shapeCasts_S1024_S1x1024

/-- The leading keys' largest score of each query. -/
def crestL (x : FVec F S128x1024 .f32) : FVec F S1x1024 .f32 :=
  shapeCast S1x1024 (multiReduction .maximumf [0] S1024 x 0xFF800000#32 reduces_S128x1024_S1024 (.inl rfl) rfl) shapeCasts_S1024_S1x1024

/-- A query's factor on all the value rows. -/
def rowsOf (m : FVec F S1x1024 .f32) : FVec F S80x1024 .f32 := broadcastTo S80x1024 m broadcasts_S1x1024_S80x1024

/-- A chunk's values weighed over the maximum `m`. -/
def weigh (v : Vec F S1x80x512 .bf16) (s : FVec F S512x1024 .f32) (m : FVec F S1x1024 .f32) : FVec F S80x1024 .f32 :=
  matmul dot_S80x512_S512x1024_S80x1024_1_0_0_1_n_n none (shapeCast S80x512 v shapeCasts_S1x80x512_S80x512)
    (truncf .bf16 (exp2 (subf s (broadcastTo S512x1024 m broadcasts_S1x1024_S512x1024))) bitsLt_bf16_f32) (constant S80x1024 .f32 0x00000000#32)

/-- The leading keys' values weighed over the maximum `m`. -/
def weighL (v : Vec F S1x80x128 .bf16) (x : FVec F S128x1024 .f32) (m : FVec F S1x1024 .f32) : FVec F S80x1024 .f32 :=
  matmul dot_S80x128_S128x1024_S80x1024_1_0_0_1_n_n none (shapeCast S80x128 v shapeCasts_S1x80x128_S80x128)
    (truncf .bf16 (exp2 (subf x (broadcastTo S128x1024 m broadcasts_S1x1024_S128x1024))) bitsLt_bf16_f32) (constant S80x1024 .f32 0x00000000#32)

/-- The value rows `a` over the maximum `m` and `w` over the maximum `m'`, all over `m'`. -/
def over (m m' : FVec F S1x1024 .f32) (a w : FVec F S80x1024 .f32) : FVec F S80x1024 .f32 := addf (mulf (rowsOf (exp2 (subf m m'))) a) w

/-- The value rows `a` and `w` over the maximum `m`, both over `m'`. -/
def overLate (m m' : FVec F S1x1024 .f32) (a w : FVec F S80x1024 .f32) : FVec F S80x1024 .f32 := mulf (rowsOf (exp2 (subf m m'))) (addf a w)

/-- The scores of some keys against the queries. -/
def score (q : Vec F S1024x128 .bf16) (K : Vec F S512x128 .bf16) : FVec F S512x1024 .f32 := k0_pay5 q K

/-- The running maximum after `n` chunks, from `m`. -/
def tops (s : ℕ → FVec F S512x1024 .f32) (m : FVec F S1x1024 .f32) : ℕ → FVec F S1x1024 .f32
  | 0 => m
  | n + 1 => maximumf (tops s m n) (crest (s n))

/-- The value rows after `n` chunks, each weighed over the maximum that includes it. -/
def accs (s : ℕ → FVec F S512x1024 .f32) (v : ℕ → Vec F S1x80x512 .bf16) (m : FVec F S1x1024 .f32) : ℕ → FVec F S80x1024 .f32
  | 0 => k0_pay36
  | n + 1 => over (tops s m n) (tops s m (n + 1)) (accs s v m n) (weigh (v n) (s n) (tops s m (n + 1)))

/-- The value rows after `n` chunks, each weighed over the maximum before it. -/
def accsLate (s : ℕ → FVec F S512x1024 .f32) (v : ℕ → Vec F S1x80x512 .bf16) (m : FVec F S1x1024 .f32) : ℕ → FVec F S80x1024 .f32
  | 0 => k0_pay36
  | n + 1 => overLate (tops s m n) (tops s m (n + 1)) (accsLate s v m n) (weigh (v n) (s n) (tops s m n))

/-- How far the scores of `n` chunks have run ahead of the maximum before them. -/
def lead (s : ℕ → FVec F S512x1024 .f32) (m : FVec F S1x1024 .f32) : ℕ → FVec F S1x1024 .f32
  | 0 => k0_pay65
  | n + 1 => maximumf (lead s m n) (subf (crest (s n)) (tops s m n))

/-- A head's value rows when all its keys are in, each chunk weighed over the maximum that includes it. -/
def full (s : ℕ → FVec F S512x1024 .f32) (v : ℕ → Vec F S1x80x512 .bf16) (x : FVec F S128x1024 .f32) (w : Vec F S1x80x128 .bf16) : FVec F S80x1024 .f32 :=
  over (tops s k0_pay6 4) (maximumf (tops s k0_pay6 4) (crestL x)) (accs s v k0_pay6 4) (weighL w x (maximumf (tops s k0_pay6 4) (crestL x)))

/-- A head's value rows when all its keys are in, each chunk weighed over the maximum before it. -/
def late (s : ℕ → FVec F S512x1024 .f32) (v : ℕ → Vec F S1x80x512 .bf16) (x : FVec F S128x1024 .f32) (w : Vec F S1x80x128 .bf16) : FVec F S80x1024 .f32 :=
  overLate (tops s (crest (s 0)) 4) (maximumf (tops s (crest (s 0)) 4) (crestL x)) (accsLate s v (crest (s 0)) 4) (weighL w x (tops s (crest (s 0)) 4))

/-- How far ahead a head's scores have run, of the leading keys too. -/
def ahead (s : ℕ → FVec F S512x1024 .f32) (x : FVec F S128x1024 .f32) : FVec F S1x1024 .f32 :=
  maximumf (lead s (crest (s 0)) 4) (subf (crestL x) (tops s (crest (s 0)) 4))

/-! ## The body's loads -/

/-- The 128 columns of head `i` of the queries. -/
def qhalf (x : Vec F S1024x256 .bf16) (i : ℕ) : Vec F S1024x128 .bf16 := fun y => x (ix2 (y 0) ⟨(128 * i + (y 1).val) % 256, Nat.mod_lt _ (by decide)⟩)
/-- The 128 columns of head `i` of the leading keys. -/
def mkhalf (x : Vec F S128x256 .bf16) (i : ℕ) : Vec F S128x128 .bf16 := fun y => x (ix2 (y 0) ⟨(128 * i + (y 1).val) % 256, Nat.mod_lt _ (by decide)⟩)
/-- The 80 rows of head `i` of the leading keys' values. -/
def mvhalf (x : Vec F S1x160x128 .bf16) (i : ℕ) : Vec F S1x80x128 .bf16 := fun y => x (ix3 (y 0) ⟨(80 * i + (y 1).val) % 160, Nat.mod_lt _ (by decide)⟩ (y 2))
/-- Chunk `c` of the keys, the 128 columns of head `i`. -/
def keys (K : Vec F S2048x256 .bf16) (i c : ℕ) : Vec F S512x128 .bf16 :=
  fun x => K (ix2 ⟨(512 * c + (x 0).val) % 2048, Nat.mod_lt _ (by decide)⟩ ⟨(128 * i + (x 1).val) % 256, Nat.mod_lt _ (by decide)⟩)
/-- Chunk `c` of the values, the 80 rows of head `i`. -/
def vals (V : Vec F S4x160x512 .bf16) (i c : ℕ) : Vec F S1x80x512 .bf16 :=
  fun x => V (ix3 ⟨c % 4, Nat.mod_lt _ (by decide)⟩ ⟨(80 * i + (x 1).val) % 160, Nat.mod_lt _ (by decide)⟩ (x 2))

/-- A load of head `i`'s queries. -/
theorem ld_q (M : Memref sig .tc .vmem S1024x256 .bf16) (X : BufTy.Contents (Elt F) M.view.ty) (i : ℕ) (hi : i < 2)
    {off : Fin 2 → ℕ} (h : off = ![0, 128 * i]) (inb : ∀ a, off a + S1024x128.size a ≤ S1024x256.size a) :
    View.readAt (Elt F) M.view (Rect.unit (s := S1024x256) off S1024x128.size inb).toLoadRect X = qhalf (M.view.read (Elt F) X) i := by
  subst h
  funext x
  have h0 : (x 0).val < 1024 := (x 0).isLt
  have h1 : (x 1).val < 128 := (x 1).isLt
  rw [View.readAt_apply]
  refine congrArg (M.view.read (Elt F) X) (funext fun a => Fin.ext ?_)
  rw [LoadRect.idx_apply]
  fin_cases a
  · show 0 + 1 * (x 0).val = (x 0).val
    omega
  · show 128 * i + 1 * (x 1).val = (128 * i + (x 1).val) % 256
    omega

/-- A load of head `i`'s leading keys. -/
theorem ld_mk (M : Memref sig .tc .vmem S128x256 .bf16) (X : BufTy.Contents (Elt F) M.view.ty) (i : ℕ) (hi : i < 2)
    {off : Fin 2 → ℕ} (h : off = ![0, 128 * i]) (inb : ∀ a, off a + S128x128.size a ≤ S128x256.size a) :
    View.readAt (Elt F) M.view (Rect.unit (s := S128x256) off S128x128.size inb).toLoadRect X = mkhalf (M.view.read (Elt F) X) i := by
  subst h
  funext x
  have h0 : (x 0).val < 128 := (x 0).isLt
  have h1 : (x 1).val < 128 := (x 1).isLt
  rw [View.readAt_apply]
  refine congrArg (M.view.read (Elt F) X) (funext fun a => Fin.ext ?_)
  rw [LoadRect.idx_apply]
  fin_cases a
  · show 0 + 1 * (x 0).val = (x 0).val
    omega
  · show 128 * i + 1 * (x 1).val = (128 * i + (x 1).val) % 256
    omega

/-- A load of chunk `c` of head `i`'s keys. -/
theorem ld_k (M : Memref sig .tc .vmem S2048x256 .bf16) (X : BufTy.Contents (Elt F) M.view.ty) (i c : ℕ) (hi : i < 2) (hc : c < 4)
    {off : Fin 2 → ℕ} (h : off = ![512 * c, 128 * i]) (inb : ∀ a, off a + S512x128.size a ≤ S2048x256.size a) :
    View.readAt (Elt F) M.view (Rect.unit (s := S2048x256) off S512x128.size inb).toLoadRect X = keys (M.view.read (Elt F) X) i c := by
  subst h
  funext x
  have h0 : (x 0).val < 512 := (x 0).isLt
  have h1 : (x 1).val < 128 := (x 1).isLt
  rw [View.readAt_apply]
  refine congrArg (M.view.read (Elt F) X) (funext fun a => Fin.ext ?_)
  rw [LoadRect.idx_apply]
  fin_cases a
  · show 512 * c + 1 * (x 0).val = (512 * c + (x 0).val) % 2048
    omega
  · show 128 * i + 1 * (x 1).val = (128 * i + (x 1).val) % 256
    omega

/-- A load of head `i`'s leading keys' values. -/
theorem ld_mv (M : Memref sig .tc .vmem S1x160x128 .bf16) (X : BufTy.Contents (Elt F) M.view.ty) (i : ℕ) (hi : i < 2)
    {off : Fin 3 → ℕ} (h : off = ![0, 80 * i, 0]) (inb : ∀ a, off a + S1x80x128.size a ≤ S1x160x128.size a) :
    View.readAt (Elt F) M.view (Rect.unit (s := S1x160x128) off S1x80x128.size inb).toLoadRect X = mvhalf (M.view.read (Elt F) X) i := by
  subst h
  funext x
  have h0 : (x 0).val < 1 := (x 0).isLt
  have h1 : (x 1).val < 80 := (x 1).isLt
  rw [View.readAt_apply]
  refine congrArg (M.view.read (Elt F) X) (funext fun a => Fin.ext ?_)
  rw [LoadRect.idx_apply]
  fin_cases a
  · show 0 + 1 * (x 0).val = (x 0).val
    omega
  · show 80 * i + 1 * (x 1).val = (80 * i + (x 1).val) % 160
    omega
  · show 0 + 1 * (x 2).val = (x 2).val
    omega

/-- A load of chunk `c` of head `i`'s values. -/
theorem ld_v (M : Memref sig .tc .vmem S4x160x512 .bf16) (X : BufTy.Contents (Elt F) M.view.ty) (i c : ℕ) (hi : i < 2) (hc : c < 4)
    {off : Fin 3 → ℕ} (h : off = ![c, 80 * i, 0]) (inb : ∀ a, off a + S1x80x512.size a ≤ S4x160x512.size a) :
    View.readAt (Elt F) M.view (Rect.unit (s := S4x160x512) off S1x80x512.size inb).toLoadRect X = vals (M.view.read (Elt F) X) i c := by
  subst h
  funext x
  have h0 : (x 0).val < 1 := (x 0).isLt
  have h1 : (x 1).val < 80 := (x 1).isLt
  rw [View.readAt_apply]
  refine congrArg (M.view.read (Elt F) X) (funext fun a => Fin.ext ?_)
  rw [LoadRect.idx_apply]
  fin_cases a
  · show c + 1 * (x 0).val = c % 4
    omega
  · show 80 * i + 1 * (x 1).val = (80 * i + (x 1).val) % 160
    omega
  · show 0 + 1 * (x 2).val = (x 2).val
    omega

/-- Head `i`'s scores, chunk by chunk. -/
def scores (q : Vec F S1024x256 .bf16) (K : Vec F S2048x256 .bf16) (i c : ℕ) : FVec F S512x1024 .f32 := score (qhalf q i) (keys K i c)
/-- Head `i`'s scores of the leading keys. -/
def scoresL (g : grid0.Coords) (q : Vec F S1024x256 .bf16) (mk : Vec F S128x256 .bf16) (i : ℕ) : FVec F S128x1024 .f32 := k0_pay55 (k0_pay35 g) (qhalf q i) (mkhalf mk i)

/-- Whether the scores have run too far ahead. -/
def far (g : grid0.Coords) (q : Vec F S1024x256 .bf16) (K : Vec F S2048x256 .bf16) (mk : Vec F S128x256 .bf16) : Prop :=
  Scalar.cmpi .ne (Scalar.extui (Scalar.cmpf .ogt (k0_pay2 (ahead (scores q K 0) (scoresL g q mk 0)) (tops (scores q K 1) (crest (scores q K 1 0)) 4)
    (lead (scores q K 1) (crest (scores q K 1 0)) 4) (crestL (scoresL g q mk 1))) (Scalar.ofBits .f32 0x42800000#32)) : BitVec 32) 0#32 = 1#1

open Classical in
/-- The block the body leaves, of the blocks it is called with. -/
def out (g : grid0.Coords) (q : Vec F S1024x256 .bf16) (K : Vec F S2048x256 .bf16) (mk : Vec F S128x256 .bf16) (V : Vec F S4x160x512 .bf16) (mv : Vec F S1x160x128 .bf16) : Vec F S1024x128 .bf16 :=
  if far g q K mk then
    k0_pay4 (full (scores q K 0) (vals V 0) (scoresL g q mk 0) (mvhalf mv 0)) (full (scores q K 1) (vals V 1) (scoresL g q mk 1) (mvhalf mv 1))
  else k0_pay4 (late (scores q K 0) (vals V 0) (scoresL g q mk 0) (mvhalf mv 0)) (late (scores q K 1) (vals V 1) (scoresL g q mk 1) (mvhalf mv 1))

set_option maxHeartbeats 4000000 in
/-- The body: from its input blocks it leaves `out` of the blocks. -/
theorem sound_kernel (c : Dev nD) (E : Set ℕ) (i : grid0.Coords)
    (arg3 : Memref sig .tc .vmem S1024x256 .bf16) (harg3 : arg3.IsWhole) (arg4 : Memref sig .tc .vmem S2048x256 .bf16) (harg4 : arg4.IsWhole)
    (arg5 : Memref sig .tc .vmem S128x256 .bf16) (harg5 : arg5.IsWhole) (arg6 : Memref sig .tc .vmem S4x160x512 .bf16) (harg6 : arg6.IsWhole)
    (arg7 : Memref sig .tc .vmem S1x160x128 .bf16) (harg7 : arg7.IsWhole) (arg8 : Memref sig .tc .vmem S1024x128 .bf16) (harg8 : arg8.IsWhole)
    (x3 : Vec F S1024x256 .bf16) (x4 : Vec F S2048x256 .bf16) (x5 : Vec F S128x256 .bf16) (x6 : Vec F S4x160x512 .bf16) (x7 : Vec F S1x160x128 .bf16)
    (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (out i x3 x4 x5 x6 x7)) -∗ K ⟨⟩))
      ⊢ wp frame (wpE (defs₀ (F := F)) Variants.none c none) E (cc0_mla_p i arg3 harg3 arg4 harg4 arg5 harg5 arg6 harg6 arg7 harg7 arg8 harg8) K := by
  simp only [cc0_mla_p_eq_skeleton]; unfold cc0_mla_p_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf3 hf4 hf5 hf6 hf7
  sl_exec
  split
  all_goals rename_i h
  all_goals sl_exec
  all_goals sl_step
  all_goals iapply Hk
  all_goals isplitl [H3]
  any_goals (iexists f3; isplitr; (ipureintro; rfl); iexact H3)
  all_goals isplitl [H4]
  any_goals (iexists f4; isplitr; (ipureintro; rfl); iexact H4)
  all_goals isplitl [H5]
  any_goals (iexists f5; isplitr; (ipureintro; rfl); iexact H5)
  all_goals isplitl [H6]
  any_goals (iexists f6; isplitr; (ipureintro; rfl); iexact H6)
  all_goals isplitl [H7]
  any_goals (iexists f7; isplitr; (ipureintro; rfl); iexact H7)
  all_goals (iexists _; isplitr; swap; iexact H8)
  all_goals ipureintro
  all_goals rw [View.read_writes_full]
  · have hf : far i (arg3.view.read (Elt F) f3) (arg4.view.read (Elt F) f4) (arg5.view.read (Elt F) f5) := by
      revert h
      sl_unfold_run_values
      rw [ld_q arg3 f3 0 (by decide) rfl, ld_q arg3 f3 1 (by decide) rfl, ld_k arg4 f4 0 0 (by decide) (by decide) rfl, ld_k arg4 f4 0 1 (by decide) (by decide) rfl, ld_k arg4 f4 0 2 (by decide) (by decide) rfl, ld_k arg4 f4 0 3 (by decide) (by decide) rfl, ld_k arg4 f4 1 0 (by decide) (by decide) rfl, ld_k arg4 f4 1 1 (by decide) (by decide) rfl, ld_k arg4 f4 1 2 (by decide) (by decide) rfl, ld_k arg4 f4 1 3 (by decide) (by decide) rfl, ld_mk arg5 f5 0 (by decide) rfl, ld_mk arg5 f5 1 (by decide) rfl]
      exact id
    rw [out, if_pos hf]
    sl_unfold_run_values
    rw [ld_q arg3 f3 0 (by decide) rfl, ld_q arg3 f3 1 (by decide) rfl, ld_k arg4 f4 0 0 (by decide) (by decide) rfl, ld_k arg4 f4 0 1 (by decide) (by decide) rfl, ld_k arg4 f4 0 2 (by decide) (by decide) rfl, ld_k arg4 f4 0 3 (by decide) (by decide) rfl, ld_k arg4 f4 1 0 (by decide) (by decide) rfl, ld_k arg4 f4 1 1 (by decide) (by decide) rfl, ld_k arg4 f4 1 2 (by decide) (by decide) rfl, ld_k arg4 f4 1 3 (by decide) (by decide) rfl, ld_mk arg5 f5 0 (by decide) rfl, ld_mk arg5 f5 1 (by decide) rfl, ld_v arg6 f6 0 0 (by decide) (by decide) rfl, ld_v arg6 f6 0 1 (by decide) (by decide) rfl, ld_v arg6 f6 0 2 (by decide) (by decide) rfl, ld_v arg6 f6 0 3 (by decide) (by decide) rfl, ld_v arg6 f6 1 0 (by decide) (by decide) rfl, ld_v arg6 f6 1 1 (by decide) (by decide) rfl, ld_v arg6 f6 1 2 (by decide) (by decide) rfl, ld_v arg6 f6 1 3 (by decide) (by decide) rfl, ld_mv arg7 f7 0 (by decide) rfl, ld_mv arg7 f7 1 (by decide) rfl]
    rfl
  · have hf : ¬ far i (arg3.view.read (Elt F) f3) (arg4.view.read (Elt F) f4) (arg5.view.read (Elt F) f5) := by
      revert h
      sl_unfold_run_values
      rw [ld_q arg3 f3 0 (by decide) rfl, ld_q arg3 f3 1 (by decide) rfl, ld_k arg4 f4 0 0 (by decide) (by decide) rfl, ld_k arg4 f4 0 1 (by decide) (by decide) rfl, ld_k arg4 f4 0 2 (by decide) (by decide) rfl, ld_k arg4 f4 0 3 (by decide) (by decide) rfl, ld_k arg4 f4 1 0 (by decide) (by decide) rfl, ld_k arg4 f4 1 1 (by decide) (by decide) rfl, ld_k arg4 f4 1 2 (by decide) (by decide) rfl, ld_k arg4 f4 1 3 (by decide) (by decide) rfl, ld_mk arg5 f5 0 (by decide) rfl, ld_mk arg5 f5 1 (by decide) rfl]
      exact id
    rw [out, if_neg hf]
    sl_unfold_run_values
    rw [ld_q arg3 f3 0 (by decide) rfl, ld_q arg3 f3 1 (by decide) rfl, ld_k arg4 f4 0 0 (by decide) (by decide) rfl, ld_k arg4 f4 0 1 (by decide) (by decide) rfl, ld_k arg4 f4 0 2 (by decide) (by decide) rfl, ld_k arg4 f4 0 3 (by decide) (by decide) rfl, ld_k arg4 f4 1 0 (by decide) (by decide) rfl, ld_k arg4 f4 1 1 (by decide) (by decide) rfl, ld_k arg4 f4 1 2 (by decide) (by decide) rfl, ld_k arg4 f4 1 3 (by decide) (by decide) rfl, ld_mk arg5 f5 0 (by decide) rfl, ld_mk arg5 f5 1 (by decide) rfl, ld_v arg6 f6 0 0 (by decide) (by decide) rfl, ld_v arg6 f6 0 1 (by decide) (by decide) rfl, ld_v arg6 f6 0 2 (by decide) (by decide) rfl, ld_v arg6 f6 0 3 (by decide) (by decide) rfl, ld_v arg6 f6 1 0 (by decide) (by decide) rfl, ld_v arg6 f6 1 1 (by decide) (by decide) rfl, ld_v arg6 f6 1 2 (by decide) (by decide) rfl, ld_v arg6 f6 1 3 (by decide) (by decide) rfl, ld_mv arg7 f7 0 (by decide) rfl, ld_mv arg7 f7 1 (by decide) rfl]
    rfl

variable (m : (ℓ : Loc nD τ sig) → Buf (Elt F) ℓ) (ρ : Dev nD → PrngReg)

/-- The proof data: the arrays as launched, every input block left in place, the result block `out` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => X0_3 m c t
    | ⟨4, _⟩ => iblk m c 4 t
    | ⟨5, _⟩ => out (grid0.coords t) (iblk m c 0 t) (X0_1 m c t) (iblk m c 2 t) (X0_3 m c t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out (grid0.coords t) (iblk m c 0 t) (X0_1 m c t) (iblk m c 2 t) (X0_3 m c t) (iblk m c 4 t) := by
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5]
  iintro ⟨HS, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (X0_1 m c t) (iblk m c 2 t) (X0_3 m c t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: it ends, every array at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.MlaP

end
-- ==== Proof.MlaPBits.lean ====
module

public import proofs.«01_k».proof.Proof.MlaPBody
public import proofs.«01_k».proof.Proof.Gen.KernelMlaP

@[expose] public section
noncomputable section
namespace Cert.MlaP
open Idealize.ShloMosaic Idealize.SL.Sem

/-- The program as printed and the idealised one are one text, so that their frame statements at words are one proposition. -/
theorem frames_eq : (∀ (m : (ℓ : Loc Cert.KernelMlaP.nD Cert.KernelMlaP.τ Cert.KernelMlaP.sig) → Buf (Elt Bits) ℓ) (ρ : Dev Cert.KernelMlaP.nD → PrngReg),
  θ_run (Cert.KernelMlaP.defs (F := Bits)) (onTc (τ := Cert.KernelMlaP.τ) (Cert.KernelMlaP.main (F := Bits))) ⟨m, fun _ => 0, ρ⟩ (fun r => (∀ c : Dev Cert.KernelMlaP.nD,
      r.2.mem ((c.tc : Thread Cert.KernelMlaP.nD Cert.KernelMlaP.τ).loc Cert.KernelMlaP.main_arg0) = m ((c.tc : Thread Cert.KernelMlaP.nD Cert.KernelMlaP.τ).loc Cert.KernelMlaP.main_arg0)
      ∧ r.2.mem ((c.tc : Thread Cert.KernelMlaP.nD Cert.KernelMlaP.τ).loc Cert.KernelMlaP.main_arg1) = m ((c.tc : Thread Cert.KernelMlaP.nD Cert.KernelMlaP.τ).loc Cert.KernelMlaP.main_arg1)
      ∧ r.2.mem ((c.tc : Thread Cert.KernelMlaP.nD Cert.KernelMlaP.τ).loc Cert.KernelMlaP.main_arg2) = m ((c.tc : Thread Cert.KernelMlaP.nD Cert.KernelMlaP.τ).loc Cert.KernelMlaP.main_arg2))
      ∧ r.2.sem = fun _ => 0)) = (∀ (m : (ℓ : Loc Cert.KernelMlaPIdeal.nD Cert.KernelMlaPIdeal.τ Cert.KernelMlaPIdeal.sig) → Buf (Elt Bits) ℓ) (ρ : Dev Cert.KernelMlaPIdeal.nD → PrngReg),
  θ_run (Cert.KernelMlaPIdeal.defs (F := Bits)) (onTc (τ := Cert.KernelMlaPIdeal.τ) (Cert.KernelMlaPIdeal.main (F := Bits))) ⟨m, fun _ => 0, ρ⟩ (fun r => (∀ c : Dev Cert.KernelMlaPIdeal.nD,
      r.2.mem ((c.tc : Thread Cert.KernelMlaPIdeal.nD Cert.KernelMlaPIdeal.τ).loc Cert.KernelMlaPIdeal.main_arg0) = m ((c.tc : Thread Cert.KernelMlaPIdeal.nD Cert.KernelMlaPIdeal.τ).loc Cert.KernelMlaPIdeal.main_arg0)
      ∧ r.2.mem ((c.tc : Thread Cert.KernelMlaPIdeal.nD Cert.KernelMlaPIdeal.τ).loc Cert.KernelMlaPIdeal.main_arg1) = m ((c.tc : Thread Cert.KernelMlaPIdeal.nD Cert.KernelMlaPIdeal.τ).loc Cert.KernelMlaPIdeal.main_arg1)
      ∧ r.2.mem ((c.tc : Thread Cert.KernelMlaPIdeal.nD Cert.KernelMlaPIdeal.τ).loc Cert.KernelMlaPIdeal.main_arg2) = m ((c.tc : Thread Cert.KernelMlaPIdeal.nD Cert.KernelMlaPIdeal.τ).loc Cert.KernelMlaPIdeal.main_arg2))
      ∧ r.2.sem = fun _ => 0)) := by sl_kernel_rfl

/-- The frame of the program as printed. -/
theorem quiescent_printed (m : (ℓ : Loc Cert.KernelMlaP.nD Cert.KernelMlaP.τ Cert.KernelMlaP.sig) → Buf (Elt Bits) ℓ) (ρ : Dev Cert.KernelMlaP.nD → PrngReg) :
  θ_run (Cert.KernelMlaP.defs (F := Bits)) (onTc (τ := Cert.KernelMlaP.τ) (Cert.KernelMlaP.main (F := Bits))) ⟨m, fun _ => 0, ρ⟩ (fun r => (∀ c : Dev Cert.KernelMlaP.nD,
      r.2.mem ((c.tc : Thread Cert.KernelMlaP.nD Cert.KernelMlaP.τ).loc Cert.KernelMlaP.main_arg0) = m ((c.tc : Thread Cert.KernelMlaP.nD Cert.KernelMlaP.τ).loc Cert.KernelMlaP.main_arg0)
      ∧ r.2.mem ((c.tc : Thread Cert.KernelMlaP.nD Cert.KernelMlaP.τ).loc Cert.KernelMlaP.main_arg1) = m ((c.tc : Thread Cert.KernelMlaP.nD Cert.KernelMlaP.τ).loc Cert.KernelMlaP.main_arg1)
      ∧ r.2.mem ((c.tc : Thread Cert.KernelMlaP.nD Cert.KernelMlaP.τ).loc Cert.KernelMlaP.main_arg2) = m ((c.tc : Thread Cert.KernelMlaP.nD Cert.KernelMlaP.τ).loc Cert.KernelMlaP.main_arg2))
      ∧ r.2.sem = fun _ => 0) := by
  have h := frames_eq
  exact h.mpr (fun m ρ => quiescent (F := Bits) m ρ) m ρ

end Cert.MlaP
end
-- ==== Proof.GqaBlocks.lean ====
/- The grouped-query attention call's blocks, read at an index, and its result array's indices. -/
module

public import proofs.«01_k».proof.Proof.Gen.KernelGqaIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Gqa

open Cert.KernelGqaIdeal Cert.KernelGqaIdeal.Gen

/-- A grid point's batch. -/
def bat (t : Fin cfg0.N) : Fin 2 := ⟨(grid0.coords t 0).val, (grid0.coords t 0).isLt⟩
/-- A grid point's pair of heads. -/
def par (t : Fin cfg0.N) : Fin 3 := ⟨(grid0.coords t 1).val, (grid0.coords t 1).isLt⟩
/-- A grid point's tile of queries. -/
def til (t : Fin cfg0.N) : Fin 32 := ⟨(grid0.coords t 2).val, (grid0.coords t 2).isLt⟩

/-- Where the windows of a grid point sit. -/
theorem idx : ∀ t : Fin cfg0.N, win0_0.index t = ![128 + 32 * (bat t).val + (til t).val, (par t).val] ∧ win0_1.index t = ![4 + (bat t).val, 0]
    ∧ win0_2.index t = ![772, 0] ∧ win0_3.index t = ![4 + (bat t).val, 0, 0] ∧ win0_4.index t = ![193, 0, 0]
    ∧ win0_5.index t = ![32 * (bat t).val + (til t).val, (par t).val] :=
  (by decide +kernel : ∀ t : Fin grid0.N, _)

variable (m : (ℓ : Loc nD τ sig) → Buf (Elt Ideal) ℓ) (c : Dev nD) (t : Fin cfg0.N)

theorem q_at (l : Fin 512) (d : Fin 256) :
    iblk m c 0 t (ix2 l d) = m ((c : Thread nD τ).loc main_arg0) (ix2 (⟨65536 + 16384 * (bat t).val + 512 * (til t).val + l.val, by omega⟩ : Fin 99328) (⟨256 * (par t).val + d.val, by omega⟩ : Fin 768)) := by
  blk_ext [iblk, V, idx t]

theorem mk_at (l : Fin 128) (d : Fin 128) :
    iblk m c 2 t (ix2 l d) = m ((c : Thread nD τ).loc main_arg1) (ix2 (⟨98816 + l.val, by omega⟩ : Fin 99328) d) := by
  blk_ext [iblk, V, idx t]

theorem mv_at (r : Fin 160) (l : Fin 128) :
    iblk m c 4 t (ix3 (0 : Fin 1) r l) = m ((c : Thread nD τ).loc main_arg2) (ix3 (⟨193, by omega⟩ : Fin 194) r (⟨l.val, by omega⟩ : Fin 512)) := by
  blk_ext [iblk, V, idx t]

theorem k_at (r : Fin 16384) (d : Fin 128) :
    X0_1 m c t (ix2 r d) = m ((c : Thread nD τ).loc main_arg1) (ix2 (⟨65536 + 16384 * (bat t).val + r.val, by omega⟩ : Fin 99328) d) := by
  unfold X0_1 Pipeline.Window.fill
  rw [dif_pos (moved0_1 t _)]
  blk_ext [iblk, V, idx t]

theorem v_at (a : Fin 32) (r : Fin 160) (l : Fin 512) :
    X0_3 m c t (ix3 a r l) = m ((c : Thread nD τ).loc main_arg2) (ix3 (⟨128 + 32 * (bat t).val + a.val, by omega⟩ : Fin 194) r l) := by
  unfold X0_3 Pipeline.Window.fill
  rw [dif_pos (moved0_3 t _)]
  blk_ext [iblk, V, idx t]

/-- Where an index of a grid point's result block sits in the result. -/
theorem out_idx (l : Fin 512) (d : Fin 128) : ((View.whole main_v0).slice (win0_5.rect t)).emb (ix2 l d)
    = ix2 (⟨16384 * (bat t).val + (512 * (til t).val + l.val), by omega⟩ : Fin 32768) (⟨128 * (par t).val + d.val, by omega⟩ : Fin 384) := by
  blk_ext [idx t]

end Cert.Gqa

end
-- ==== Proof.GqaRef.lean ====
/- The grouped-query attention's reference as its steps, each read at an index. -/
module

public import proofs.«01_k».proof.Proof.MlaRef
public import proofs.«01_k».proof.Proof.Gen.ReferenceGqaIdeal.Run

@[expose] public section

set_option maxRecDepth 16384

noncomputable section

open Idealize.ShloMosaic Idealize.ShloMosaic.TcCoe Idealize.SL.Sem

namespace Cert.Gqa.Ref

open Cert.ReferenceGqaIdeal Cert.ReferenceGqaIdeal.Gen Cert.ReferenceGqaIdeal.Value
open Cert.Mla.Ref (row)

/-- The values as rows of tokens. -/
def rows (v : FVec Ideal S194x160x512 .bf16) : FVec Ideal S99328x128 .bf16 :=
  shapeCast _ (transpose S194x512x2x64 [0, 3, 1, 2] (extractStridedSlice S194x2x64x512 ![0, 0, 16, 0] (shapeCast _ v shapeCasts_S194x160x512_S194x2x80x512) slices_S194x2x80x512_S194x2x64x512_0_0_16_0) transposes_S194x2x64x512_S194x512x2x64_0_3_1_2) shapeCasts_S194x512x2x64_S99328x128

/-- The queries' lanes, by batch, token and head. -/
def lanes (q : FVec Ideal S99328x768 .bf16) : FVec Ideal S2x16384x6x128 .bf16 :=
  shapeCast _ (extractStridedSlice S32768x768 ![65536, 0] q slices_S99328x768_S32768x768_65536_0) shapeCasts_S32768x768_S2x16384x6x128

/-- The queries: the first group's heads on the left 64 lanes, the second's on the right. -/
def qs (q : FVec Ideal S99328x768 .bf16) : FVec Ideal S2x16384x6x64 .bf16 :=
  concatenate S2x16384x6x64 2 [⟨S2x16384x3x64, (extractStridedSlice S2x16384x3x64 ![0, 0, 0, 0] (lanes q) slices_S2x16384x6x128_S2x16384x3x64_0_0_0_0)⟩, ⟨S2x16384x3x64, (extractStridedSlice S2x16384x3x64 ![0, 0, 3, 64] (lanes q) slices_S2x16384x6x128_S2x16384x3x64_0_0_3_64)⟩] concatenates_S2x16384x3x64_S2x16384x3x64_S2x16384x6x64_d2

/-- The tokens a batch attends to, the leading ones first, by group. -/
def tokens (x : FVec Ideal S99328x128 .bf16) : FVec Ideal S2x16400x2x64 .bf16 :=
  concatenate S2x16400x2x64 1 [⟨S2x16x2x64, (shapeCast _ (extractStridedSlice S32x128 ![98816, 0] x slices_S99328x128_S32x128_98816_0) shapeCasts_S32x128_S2x16x2x64)⟩, ⟨S2x16384x2x64, (shapeCast _ (extractStridedSlice S32768x128 ![65536, 0] x slices_S99328x128_S32768x128_65536_0) shapeCasts_S32768x128_S2x16384x2x64)⟩] concatenates_S2x16x2x64_S2x16384x2x64_S2x16400x2x64_d1

/-- Each group's tokens once per head of it. -/
def thrice (x : FVec Ideal S2x16400x2x64 .bf16) : FVec Ideal S2x16400x6x64 .bf16 :=
  shapeCast _ (broadcastInDim S2x16400x2x3x64 ![0, 1, 2, 4] bcast_S2x16400x2x64_S2x16400x2x3x64_0_1_2_4 x) shapeCasts_S2x16400x2x3x64_S2x16400x6x64

/-- The products of queries and keys. -/
def dots (q : FVec Ideal S2x16384x6x64 .bf16) (k : FVec Ideal S2x16400x6x64 .bf16) : FVec Ideal S2x6x16384x16400 .f32 :=
  Host.dotGeneral (F := Ideal) (φ₁ := .bf16) (φ₂ := .bf16) dot_S2x16384x6x64_S2x16400x6x64_S2x6x16384x16400_3_3_1_1_02_02 none q k

/-- The reference's result as these steps. -/
def out (q : FVec Ideal S99328x768 .bf16) (k : FVec Ideal S99328x128 .bf16) (v : FVec Ideal S194x160x512 .bf16) : FVec Ideal S32768x384 .bf16 :=
  Mla.Ref.mix (thrice (tokens (rows v))) (Mla.Ref.pr (Mla.Ref.ex (Mla.Ref.sc (dots (qs q) (thrice (tokens k))))))

theorem res_eq (m : (ℓ : Loc nD τ sig) → Buf (Elt Ideal) ℓ) (c : Dev nD) :
    res_out0 m c = out (m ((c.tc : Thread nD τ).loc main_arg0)) (m ((c.tc : Thread nD τ).loc main_arg1)) (m ((c.tc : Thread nD τ).loc main_arg2)) := by
  unfold res_out0 res_main_v42
  rfl

theorem rows_at (v : FVec Ideal S194x160x512 .bf16) (r : Fin 99328) (g : Fin 2) (d : Fin 64) :
    rows v (ix2 r (⟨64 * g.val + d.val, by omega⟩ : Fin 128)) = v (ix3 (⟨r.val / 512, by omega⟩ : Fin 194) (⟨80 * g.val + 16 + d.val, by omega⟩ : Fin 160) (⟨r.val % 512, by omega⟩ : Fin 512)) := by
  pointwise [rows]
  blk_ext

theorem lanes_at (q : FVec Ideal S99328x768 .bf16) (b : Fin 2) (i : Fin 16384) (h : Fin 6) (d : Fin 128) :
    lanes q (ix4 b i h d) = q (ix2 (⟨65536 + 16384 * b.val + i.val, by omega⟩ : Fin 99328) (⟨128 * h.val + d.val, by omega⟩ : Fin 768)) := by
  pointwise [lanes]
  blk_ext

theorem qs_at (q : FVec Ideal S99328x768 .bf16) (b : Fin 2) (i : Fin 16384) (h : Fin 6) (d : Fin 64) :
    qs q (ix4 b i h d) = q (ix2 (⟨65536 + 16384 * b.val + i.val, by omega⟩ : Fin 99328) (⟨128 * h.val + (64 * (h.val / 3) + d.val), by omega⟩ : Fin 768)) := by
  have e : qs q (ix4 b i h d) = lanes q (ix4 b i h (⟨64 * (h.val / 3) + d.val, by omega⟩ : Fin 128)) := by
    pointwise [qs]
    split <;> blk_ext
  rw [e, lanes_at]

theorem tokens_at (x : FVec Ideal S99328x128 .bf16) (b : Fin 2) (j : Fin 16400) (g : Fin 2) (d : Fin 64) :
    tokens x (ix4 b j g d) = x (ix2 (row b j) (⟨64 * g.val + d.val, by omega⟩ : Fin 128)) := by
  pointwise [tokens]
  unfold row
  split <;> blk_ext

/-- The group a head is of. -/
def group (h : Fin 6) : Fin 2 := ⟨h.val / 3, by omega⟩

theorem thrice_at (x : FVec Ideal S2x16400x2x64 .bf16) (b : Fin 2) (j : Fin 16400) (h : Fin 6) (d : Fin 64) :
    thrice x (ix4 b j h d) = x (ix4 b j (group h) d) := by
  pointwise [thrice]
  blk_ext [group]

theorem dots_at (q : FVec Ideal S2x16384x6x64 .bf16) (k : FVec Ideal S2x16400x6x64 .bf16) (b : Fin 2) (h : Fin 6) (i : Fin 16384) (j : Fin 16400) :
    dots q k (ix4 b h i j) = ∑ d : Fin 64, q (ix4 b i h d) * k (ix4 b j h d) := by
  pointwise [dots]

end Cert.Gqa.Ref

end
-- ==== Proof.GqaPre.lean ====
/- The grouped-query attention's precondition, read at an index: finite queries and keys, a row of ones over each group's values, zeros on the lanes of the other group. -/
module

public import proofs.«01_k».proof.Proof.MlaPre
public import proofs.«01_k».proof.Proof.Gen.Pre_gqa_operands

@[expose] public section

set_option maxRecDepth 16384

noncomputable section

open Idealize.ShloMosaic Idealize.ShloMosaic.TcCoe Idealize.SL.Sem

namespace Cert.Gqa.Pre

open Cert.Pre_gqa_operands Cert.Pre_gqa_operands.Gen

variable (q : FVec Ideal S99328x768 .bf16) (k : FVec Ideal S99328x128 .bf16) (v : FVec Ideal S194x160x512 .bf16)

/-- The queries are reals. -/
theorem q_real (h : (fn (F := Ideal) q k v).1 = fun _ => 1#1) (r : Fin 99328) (d : Fin 768) : ∃ x : ℝ, q (ix2 r d) = (x : EReal) := by
  have e := congrFun h (ix2 r d)
  unfold fn at e
  pointwise at e
  rw [Mla.Pre.inf] at e
  exact Mla.Pre.real_of_abs _ e

/-- The keys are reals. -/
theorem k_real (h : (fn (F := Ideal) q k v).2.1 = fun _ => 1#1) (r : Fin 99328) (d : Fin 128) : ∃ x : ℝ, k (ix2 r d) = (x : EReal) := by
  have e := congrFun h (ix2 r d)
  unfold fn at e
  pointwise at e
  rw [Mla.Pre.inf] at e
  exact Mla.Pre.real_of_abs _ e

/-- The first of a group's 80 rows of values. -/
def first (g : Fin 2) : Fin 160 := ⟨80 * g.val, by omega⟩

/-- The first row of each group's values is of ones. -/
theorem v_one (h : (fn (F := Ideal) q k v).2.2.1 = fun _ => 1#1) (a : Fin 194) (g : Fin 2) (l : Fin 512) : v (ix3 a (first g) l) = (1 : EReal) := by
  have e := congrFun h (ix4 a g (0 : Fin 16) l)
  unfold fn at e
  pointwise at e
  have e' : v (ix3 a (⟨g.val * 80, by omega⟩ : Fin 160) l) = (1 : EReal) := by
    by_contra hn
    rw [decide_eq_false hn] at e
    exact absurd e (by decide)
  rw [← e']
  blk_ext [first]

/-- The right lanes of the first group's heads are zeros. -/
theorem right_zero (h : (fn (F := Ideal) q k v).2.2.2.1 = fun _ => 1#1) (r : Fin 99328) (g : Fin 3) (d : Fin 64) :
    q (ix2 r (⟨128 * g.val + (64 + d.val), by omega⟩ : Fin 768)) = (0 : EReal) := by
  have e := congrFun h (ix3 r g d)
  unfold fn at e
  pointwise at e
  have e' : q (ix2 r (⟨128 * g.val + (64 + d.val), by omega⟩ : Fin 768)) = (0 : EReal) := by
    by_contra hn
    rw [decide_eq_false (by convert hn using 2; blk_ext)] at e
    exact absurd e (by decide)
  exact e'

/-- The left lanes of the second group's heads are zeros. -/
theorem left_zero (h : (fn (F := Ideal) q k v).2.2.2.2 = fun _ => 1#1) (r : Fin 99328) (g : Fin 3) (d : Fin 64) :
    q (ix2 r (⟨128 * (3 + g.val) + d.val, by omega⟩ : Fin 768)) = (0 : EReal) := by
  have e := congrFun h (ix3 r g d)
  unfold fn at e
  pointwise at e
  have e' : q (ix2 r (⟨128 * (3 + g.val) + d.val, by omega⟩ : Fin 768)) = (0 : EReal) := by
    by_contra hn
    rw [decide_eq_false (by convert hn using 2; blk_ext)] at e
    exact absurd e (by decide)
  exact e'

/-- Where a head's lane sits among the queries' columns. -/
def lane (h : Fin 6) (d : Fin 128) : Fin 768 := ⟨128 * h.val + d.val, by omega⟩

/-- Off the lanes of its group's keys, a head's queries are zeros. -/
theorem off_zero (h₁ : (fn (F := Ideal) q k v).2.2.2.1 = fun _ => 1#1) (h₂ : (fn (F := Ideal) q k v).2.2.2.2 = fun _ => 1#1) (r : Fin 99328) (h : Fin 6) (d : Fin 128)
    (hd : d.val / 64 ≠ h.val / 3) : q (ix2 r (lane h d)) = (0 : EReal) := by
  by_cases hh : h.val < 3
  · refine Eq.trans ?_ (right_zero q k v h₁ r ⟨h.val, hh⟩ ⟨d.val - 64, by omega⟩)
    refine congrArg q (congrArg (fun z => ix2 r z) (Fin.ext ?_))
    show 128 * h.val + d.val = 128 * h.val + (64 + (d.val - 64))
    omega
  · refine Eq.trans ?_ (left_zero q k v h₂ r ⟨h.val - 3, by omega⟩ ⟨d.val, by omega⟩)
    refine congrArg q (congrArg (fun z => ix2 r z) (Fin.ext ?_))
    show 128 * h.val + d.val = 128 * (3 + (h.val - 3)) + d.val
    omega

end Cert.Gqa.Pre

end
-- ==== Proof.GqaValue.lean ====
/- The grouped-query call's result array is the reference's, where the queries and keys are real, each head's queries are zero on the lanes of the other group's keys,
and each group's values begin with a row of ones. -/
module

public import proofs.«01_k».proof.Proof.MlaValue
public import proofs.«01_k».proof.Proof.GqaBody
public import proofs.«01_k».proof.Proof.GqaBlocks
public import proofs.«01_k».proof.Proof.GqaRef
public import proofs.«01_k».proof.Proof.GqaPre

@[expose] public section

set_option maxRecDepth 16384

noncomputable section

open Idealize.ShloMosaic Idealize.ShloMosaic.TcCoe Idealize.SL.Sem
open Idealize.ShloMosaic.Pipeline (Dat)

namespace Cert.Gqa

open Cert.KernelGqaIdeal Cert.KernelGqaIdeal.Gen

/-- The score, before the logarithm of two, of a batch's key and query under a head: over the 64 lanes of the head's group. -/
def score (q : FVec Ideal S99328x768 .bf16) (k : FVec Ideal S99328x128 .bf16) (b : Fin 2) (h : Fin 6) (i : Fin 16384) (j : Fin 16400) : EReal :=
  ∑ d : Fin 64, q (ix2 (⟨65536 + 16384 * b.val + i.val, by omega⟩ : Fin 99328) (⟨128 * h.val + (64 * (h.val / 3) + d.val), by omega⟩ : Fin 768))
    * k (ix2 (Mla.Ref.row b j) (⟨64 * (h.val / 3) + d.val, by omega⟩ : Fin 128))

/-- The value rows of a head's group at a batch's keys. -/
def value (v : FVec Ideal S194x160x512 .bf16) (b : Fin 2) (h : Fin 6) (r : Fin 80) (j : Fin 16400) : EReal :=
  v (ix3 (⟨(Mla.Ref.row b j).val / 512, by omega⟩ : Fin 194) (⟨80 * (h.val / 3) + r.val, by omega⟩ : Fin 160) (⟨(Mla.Ref.row b j).val % 512, by omega⟩ : Fin 512))

/-- The reference's result at an index. -/
theorem ref_at (q : FVec Ideal S99328x768 .bf16) (k : FVec Ideal S99328x128 .bf16) (v : FVec Ideal S194x160x512 .bf16) (b : Fin 2) (h : Fin 6) (i : Fin 16384) (d : Fin 64) :
    Ref.out q k v (ix2 (⟨16384 * b.val + i.val, by omega⟩ : Fin 32768) (⟨64 * h.val + d.val, by omega⟩ : Fin 384))
      = Mla.Pure.mean (score q k b h i) (value v b h ⟨16 + d.val, by omega⟩) := by
  have hs : ∀ j, Mla.Ref.sc (Ref.dots (Ref.qs q) (Ref.thrice (Ref.tokens k))) (ix4 b h i j) = score q k b h i j * (Real.log 2 : ℝ) := fun j => by
    rw [Mla.Ref.sc_at, Ref.dots_at]
    unfold score
    simp only [Ref.qs_at, Ref.thrice_at, Ref.tokens_at, Ref.group]
  have hv : ∀ j, Ref.thrice (Ref.tokens (Ref.rows v)) (ix4 b j h d) = value v b h ⟨16 + d.val, by omega⟩ j := fun j => by
    rw [Ref.thrice_at, Ref.tokens_at, Ref.rows_at]
    unfold value
    blk_ext [Ref.group]
  unfold Ref.out
  rw [Mla.Ref.mix_at]
  unfold Mla.Pure.mean
  simp only [Mla.Ref.pr_at, Mla.Ref.ex_at, Mla.Ref.mx_at, hs, hv]
  rfl

/-- Over 128 lanes with zeros off a group's, the sum of products is the one over the group's 64 lanes. -/
theorem sum_side (K Q : Fin 128 → EReal) (g : ℕ) (hg : g < 2) (hz : ∀ d : Fin 128, d.val / 64 ≠ g → Q d = 0) :
    ∑ d, K d * Q d = ∑ d : Fin 64, Q (⟨64 * g + d.val, by omega⟩ : Fin 128) * K (⟨64 * g + d.val, by omega⟩ : Fin 128) := by
  have e : ∑ d, K d * Q d = ∑ d : Fin 64, K (Fin.castAdd 64 d) * Q (Fin.castAdd 64 d) + ∑ d : Fin 64, K (Fin.natAdd 64 d) * Q (Fin.natAdd 64 d) :=
    Fin.sum_univ_add (a := 64) (b := 64) fun d : Fin 128 => K d * Q d
  rw [e]
  obtain rfl | rfl : g = 0 ∨ g = 1 := by omega
  · rw [Finset.sum_eq_zero (s := Finset.univ) (f := fun d : Fin 64 => K (Fin.natAdd 64 d) * Q (Fin.natAdd 64 d)) fun d _ => by
      rw [hz _ (by show (64 + d.val) / 64 ≠ 0; omega), mul_zero], add_zero]
    refine Finset.sum_congr rfl fun d _ => ?_
    rw [mul_comm, show Fin.castAdd 64 d = (⟨64 * 0 + d.val, by omega⟩ : Fin 128) from Fin.ext (by show d.val = 64 * 0 + d.val; omega)]
  · rw [Finset.sum_eq_zero (s := Finset.univ) (f := fun d : Fin 64 => K (Fin.castAdd 64 d) * Q (Fin.castAdd 64 d)) fun d _ => by
      rw [hz _ (by show d.val / 64 ≠ 1; omega), mul_zero], zero_add]
    refine Finset.sum_congr rfl fun d _ => ?_
    rw [mul_comm, show Fin.natAdd 64 d = (⟨64 * 1 + d.val, by omega⟩ : Fin 128) from Fin.ext (by show 64 + d.val = 64 * 1 + d.val; omega)]

variable (m : (ℓ : Loc nD τ sig) → Buf (Elt Ideal) ℓ) (c : Dev nD) (t : Fin cfg0.N) (i : Fin 2)

/-- The head a grid point's half is. -/
def hd : Fin 6 := ⟨2 * (par t).val + i.val, by omega⟩

/-- The group of that head is the one the step reads. -/
theorem hd_group : (hd t i).val / 3 = grp (grid0.coords t) i.val := rfl

/-- The query a grid point's lane is. -/
def qu (l : Fin 512) : Fin 16384 := ⟨512 * (til t).val + l.val, by omega⟩

theorem qhalf_at (l : Fin 512) (d : Fin 128) :
    Mla.qhalf (F := Ideal) (iblk m c 0 t) i.val (ix2 l d) = m ((c : Thread nD τ).loc main_arg0) (ix2 (⟨65536 + 16384 * (bat t).val + (qu t l).val, by omega⟩ : Fin 99328) (⟨128 * (hd t i).val + d.val, by omega⟩ : Fin 768)) := by
  refine (q_at m c t l ⟨(128 * i.val + d.val) % 256, by omega⟩).trans ?_
  blk_ext [qu, hd]

theorem keys_at (n : ℕ) (k : Fin 512) (d : Fin 128) :
    keys (F := Ideal) (X0_1 m c t) n (ix2 k d) = m ((c : Thread nD τ).loc main_arg1) (ix2 (⟨65536 + 16384 * (bat t).val + (512 * n + k.val) % 16384, by omega⟩ : Fin 99328) d) :=
  k_at m c t ⟨(512 * n + k.val) % 16384, by omega⟩ d

theorem vals_at (n : ℕ) (r : Fin 80) (k : Fin 512) :
    Mla.vals (F := Ideal) (X0_3 m c t) (grp (grid0.coords t) i.val) n (ix3 (0 : Fin 1) r k) = m ((c : Thread nD τ).loc main_arg2) (ix3 (⟨128 + 32 * (bat t).val + n % 32, by omega⟩ : Fin 194) (⟨80 * ((hd t i).val / 3) + r.val, by omega⟩ : Fin 160) k) := by
  have hg := grp_lt (grid0.coords t) i.val i.isLt
  refine (v_at m c t ⟨n % 32, by omega⟩ ⟨(80 * grp (grid0.coords t) i.val + r.val) % 160, by omega⟩ k).trans ?_
  refine congrArg _ (congrArg (fun y => ix3 _ y k) (Fin.ext ?_))
  show (80 * grp (grid0.coords t) i.val + r.val) % 160 = 80 * ((hd t i).val / 3) + r.val
  rw [hd_group]
  omega

theorem mvhalf_at (r : Fin 80) (k : Fin 128) :
    Mla.mvhalf (F := Ideal) (iblk m c 4 t) (grp (grid0.coords t) i.val) (ix3 (0 : Fin 1) r k) = m ((c : Thread nD τ).loc main_arg2) (ix3 (⟨193, by omega⟩ : Fin 194) (⟨80 * ((hd t i).val / 3) + r.val, by omega⟩ : Fin 160) (⟨k.val, by omega⟩ : Fin 512)) := by
  have hg := grp_lt (grid0.coords t) i.val i.isLt
  refine (mv_at m c t ⟨(80 * grp (grid0.coords t) i.val + r.val) % 160, by omega⟩ k).trans ?_
  refine congrArg _ (congrArg (fun y => ix3 _ y _) (Fin.ext ?_))
  show (80 * grp (grid0.coords t) i.val + r.val) % 160 = 80 * ((hd t i).val / 3) + r.val
  rw [hd_group]
  omega

variable (hq : ∀ r d, ∃ x : ℝ, m ((c : Thread nD τ).loc main_arg0) (ix2 (r : Fin 99328) (d : Fin 768)) = (x : EReal))
  (hk : ∀ r d, ∃ x : ℝ, m ((c : Thread nD τ).loc main_arg1) (ix2 (r : Fin 99328) (d : Fin 128)) = (x : EReal))
  (hv : ∀ a g l, m ((c : Thread nD τ).loc main_arg2) (ix3 (a : Fin 194) (Pre.first g) (l : Fin 512)) = (1 : EReal))
  (hz : ∀ (r : Fin 99328) (h : Fin 6) (d : Fin 128), d.val / 64 ≠ h.val / 3 → m ((c : Thread nD τ).loc main_arg0) (ix2 r (Pre.lane h d)) = (0 : EReal))

include hz in
/-- A sum over the 128 lanes of any key row and a step's query is the score over the group's 64. -/
theorem lane_sum (l : Fin 512) (K : Fin 128 → EReal) (j : Fin 16400) (hK : ∀ d, K d = m ((c : Thread nD τ).loc main_arg1) (ix2 (Mla.Ref.row (bat t) j) d)) :
    ∑ d : Fin 128, K d * Mla.qhalf (F := Ideal) (iblk m c 0 t) i.val (ix2 l d)
      = score (m ((c : Thread nD τ).loc main_arg0)) (m ((c : Thread nD τ).loc main_arg1)) (bat t) (hd t i) (qu t l) j := by
  refine (sum_side K (fun d => Mla.qhalf (F := Ideal) (iblk m c 0 t) i.val (ix2 l d)) ((hd t i).val / 3) (by omega) fun d hd' => ?_).trans ?_
  · show Mla.qhalf (F := Ideal) (iblk m c 0 t) i.val (ix2 l d) = 0
    rw [qhalf_at]
    exact hz _ _ _ hd'
  · unfold score
    refine Finset.sum_congr rfl fun d _ => ?_
    rw [hK]
    exact congrArg (· * _) (qhalf_at m c t i l _)

include hq hk hv hz

/-- A head's quotient at a grid point's query is the softmax's mean. -/
theorem head_at (l : Fin 512) (r : Fin 80) :
    Ideal.div (Mla.fin (Cert.KernelMlaIdeal.Gen.k0_pay149 (grid0.coords t)) (Mla.qhalf (F := Ideal) (iblk m c 0 t) i.val) (loopSt (F := Ideal) (grid0.coords t) (iblk m c 0 t) (X0_1 m c t) (X0_3 m c t) i.val).1
        (loopSt (F := Ideal) (grid0.coords t) (iblk m c 0 t) (X0_1 m c t) (X0_3 m c t) i.val).2 (iblk m c 2 t) (Mla.mvhalf (F := Ideal) (iblk m c 4 t) (grp (grid0.coords t) i.val)) r l)
      (Mla.fin (Cert.KernelMlaIdeal.Gen.k0_pay149 (grid0.coords t)) (Mla.qhalf (F := Ideal) (iblk m c 0 t) i.val) (loopSt (F := Ideal) (grid0.coords t) (iblk m c 0 t) (X0_1 m c t) (X0_3 m c t) i.val).1
        (loopSt (F := Ideal) (grid0.coords t) (iblk m c 0 t) (X0_1 m c t) (X0_3 m c t) i.val).2 (iblk m c 2 t) (Mla.mvhalf (F := Ideal) (iblk m c 4 t) (grp (grid0.coords t) i.val)) 0 l)
      = Mla.Pure.mean (score (m ((c : Thread nD τ).loc main_arg0)) (m ((c : Thread nD τ).loc main_arg1)) (bat t) (hd t i) (qu t l))
          (value (m ((c : Thread nD τ).loc main_arg2)) (bat t) (hd t i) r) := by
  refine Mla.head (grid0.coords t) (bat t) rfl (Mla.qhalf (F := Ideal) (iblk m c 0 t) i.val) (scores (F := Ideal) (Mla.qhalf (F := Ideal) (iblk m c 0 t) i.val) (X0_1 m c t))
    (Mla.vals (F := Ideal) (X0_3 m c t) (grp (grid0.coords t) i.val)) (iblk m c 2 t) (Mla.mvhalf (F := Ideal) (iblk m c 4 t) (grp (grid0.coords t) i.val)) l
    (score (m ((c : Thread nD τ).loc main_arg0)) (m ((c : Thread nD τ).loc main_arg1)) (bat t) (hd t i) (qu t l))
    (value (m ((c : Thread nD τ).loc main_arg2)) (bat t) (hd t i)) ?_ ?_ ?_ ?_ ?_ ?_ ?_ r
  · exact fun j => Mla.Pure.sum_real _ _ (fun d => hq _ _) fun d => hk _ _
  · intro n k
    unfold scores
    rw [Mla.pay2_at]
    exact Mla.Pure.sum_real _ _ (fun d => by rw [keys_at]; exact hk _ _) fun d => by rw [qhalf_at]; exact hq _ _
  · intro n hn k
    unfold scores
    rw [Mla.pay2_at]
    refine lane_sum m c t i hz l _ _ fun d => ?_
    rw [keys_at]
    refine congrArg _ (congrArg (fun z => ix2 z d) (Fin.ext ?_))
    rw [Mla.row_chunk _ n hn]
    show 65536 + 16384 * (bat t).val + (512 * n + k.val) % 16384 = _
    omega
  · intro n hn r k
    unfold value
    rw [vals_at]
    have e := Mla.row_chunk (bat t) n hn k
    refine congrArg _ (congrArg₂ (fun y z => ix3 y _ z) (Fin.ext ?_) (Fin.ext ?_))
    · show 128 + 32 * (bat t).val + n % 32 = _ / 512
      omega
    · show k.val = _ % 512
      omega
  · intro j
    refine lane_sum m c t i hz l _ _ fun d => ?_
    rw [mk_at]
    refine congrArg _ (congrArg (fun z => ix2 z d) (Fin.ext ?_))
    rw [Mla.row_lead]
    show 98816 + (16 * (bat t).val + j.val) = _
    omega
  · intro r j
    unfold value
    rw [mvhalf_at]
    have e := Mla.row_lead (bat t) j
    refine congrArg _ (congrArg₂ (fun y z => ix3 y _ z) (Fin.ext ?_) (Fin.ext ?_))
    · show 193 = _ / 512
      omega
    · show 16 * (bat t).val + j.val = _ % 512
      omega
  · exact fun j => hv _ (Ref.group (hd t i)) _

/-- What a grid point stores at a block index is the reference's result at the array index it sits at. -/
theorem point (y : ((cfg0.win 5).xblock (cfg0.grid.coords t)).Idx) :
    out (F := Ideal) (grid0.coords t) (iblk m c 0 t) (X0_1 m c t) (iblk m c 2 t) (X0_3 m c t) (iblk m c 4 t) y
      = Ref.out (m ((c : Thread nD τ).loc main_arg0)) (m ((c : Thread nD τ).loc main_arg1)) (m ((c : Thread nD τ).loc main_arg2)) (((View.whole main_v0).slice (win0_5.rect t)).emb y) := by
  idx_vars y
  rw [out_idx]
  have hy : y1.val < 128 := y1.isLt
  by_cases h : y1.val < 64
  · have e : y1 = (⟨(⟨y1.val, h⟩ : Fin 64).val, by omega⟩ : Fin 128) := rfl
    refine (congrArg (fun z => out (F := Ideal) (grid0.coords t) (iblk m c 0 t) (X0_1 m c t) (iblk m c 2 t) (X0_3 m c t) (iblk m c 4 t) (ix2 y0 z)) e).trans ?_
    refine (Mla.pay1_0 _ _ _ _ _ _ _ _ _ _ _ y0 ⟨y1.val, h⟩).trans ?_
    refine (head_at m c t 0 hq hk hv hz y0 _).trans ?_
    refine (ref_at _ _ _ (bat t) (hd t 0) (qu t y0) ⟨y1.val, h⟩).symm.trans ?_
    refine congrArg (Ref.out _ _ _) (congrArg₂ ix2 rfl (Fin.ext ?_))
    show 64 * (2 * (par t).val + 0) + y1.val = 128 * (par t).val + y1.val
    omega
  · have e : y1 = (⟨64 + (⟨y1.val - 64, by omega⟩ : Fin 64).val, by omega⟩ : Fin 128) := Fin.ext (by show y1.val = 64 + (y1.val - 64); omega)
    refine (congrArg (fun z => out (F := Ideal) (grid0.coords t) (iblk m c 0 t) (X0_1 m c t) (iblk m c 2 t) (X0_3 m c t) (iblk m c 4 t) (ix2 y0 z)) e).trans ?_
    refine (Mla.pay1_1 _ (Mla.qhalf (F := Ideal) (iblk m c 0 t) 0) _ _ _ _ _ _ _ _ _ _ y0 ⟨y1.val - 64, by omega⟩).trans ?_
    refine (head_at m c t 1 hq hk hv hz y0 _).trans ?_
    refine (ref_at _ _ _ (bat t) (hd t 1) (qu t y0) ⟨y1.val - 64, by omega⟩).symm.trans ?_
    refine congrArg (Ref.out _ _ _) (congrArg₂ ix2 rfl (Fin.ext ?_))
    show 64 * (2 * (par t).val + 1) + (y1.val - 64) = 128 * (par t).val + y1.val
    omega

/-- The result array after the run. -/
theorem final : (dats m 0 c).arrAt 5 (cfgs 0).N
    = Ref.out (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after_5]
  exact point m c t hq hk hv hz y

end Cert.Gqa

end
-- ==== Proof.MlaPLane.lean ====
/- The prompt tokens' latent attention, read at one query: either way of weighing the chunks, the quotient of a value row by the row of ones is the softmax's mean. -/
module

public import proofs.«01_k».proof.Proof.MlaPBody
public import proofs.«01_k».proof.Proof.MlaPure
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlaP

open Cert.KernelMlaPIdeal Cert.KernelMlaPIdeal.Gen

theorem ninf : Ideal.ofBits .f32 0xFF800000#32 = (⊥ : EReal) := by simp [Ideal.ofBits, Ideal.ieee]

theorem pay6_at (l : Fin 1024) : k0_pay6 (F := Ideal) (ix2 (0 : Fin 1) l) = (⊥ : EReal) := by
  pointwise [k0_pay6]
  rw [ninf]

theorem pay36_at (r : Fin 80) (l : Fin 1024) : k0_pay36 (F := Ideal) (ix2 r l) = (0 : EReal) := by
  pointwise [k0_pay36]

/-- A chunk's score of key `k` and query `l`. -/
theorem score_at (q : FVec Ideal S1024x128 .bf16) (K : FVec Ideal S512x128 .bf16) (k : Fin 512) (l : Fin 1024) :
    score (F := Ideal) q K (ix2 k l) = ∑ d : Fin 128, K (ix2 k d) * q (ix2 l d) := by
  pointwise [score, k0_pay5]

theorem crest_at (s : FVec Ideal S512x1024 .f32) (l : Fin 1024) :
    crest (F := Ideal) s (ix2 (0 : Fin 1) l) = Finset.univ.fold max ⊥ fun k : Fin 512 => s (ix2 k l) := by
  pointwise [crest]
  rw [ninf]

theorem crestL_at (x : FVec Ideal S128x1024 .f32) (l : Fin 1024) :
    crestL (F := Ideal) x (ix2 (0 : Fin 1) l) = Finset.univ.fold max ⊥ fun k : Fin 128 => x (ix2 k l) := by
  pointwise [crestL]
  rw [ninf]

theorem weigh_at (v : FVec Ideal S1x80x512 .bf16) (s : FVec Ideal S512x1024 .f32) (m : FVec Ideal S1x1024 .f32) (r : Fin 80) (l : Fin 1024) :
    weigh (F := Ideal) v s m (ix2 r l) = ∑ k : Fin 512, v (ix3 (0 : Fin 1) r k) * Ideal.exp2 (s (ix2 k l) - m (ix2 (0 : Fin 1) l)) := by
  pointwise [weigh]
  rfl

theorem weighL_at (v : FVec Ideal S1x80x128 .bf16) (x : FVec Ideal S128x1024 .f32) (m : FVec Ideal S1x1024 .f32) (r : Fin 80) (l : Fin 1024) :
    weighL (F := Ideal) v x m (ix2 r l) = ∑ k : Fin 128, v (ix3 (0 : Fin 1) r k) * Ideal.exp2 (x (ix2 k l) - m (ix2 (0 : Fin 1) l)) := by
  pointwise [weighL]
  rfl

theorem over_at (m m' : FVec Ideal S1x1024 .f32) (a w : FVec Ideal S80x1024 .f32) (r : Fin 80) (l : Fin 1024) :
    over (F := Ideal) m m' a w (ix2 r l) = Ideal.exp2 (m (ix2 (0 : Fin 1) l) - m' (ix2 (0 : Fin 1) l)) * a (ix2 r l) + w (ix2 r l) := by
  pointwise [over, rowsOf]
  rfl

theorem overLate_at (m m' : FVec Ideal S1x1024 .f32) (a w : FVec Ideal S80x1024 .f32) (r : Fin 80) (l : Fin 1024) :
    overLate (F := Ideal) m m' a w (ix2 r l) = Ideal.exp2 (m (ix2 (0 : Fin 1) l) - m' (ix2 (0 : Fin 1) l)) * (a (ix2 r l) + w (ix2 r l)) := by
  pointwise [overLate, rowsOf]
  rfl

/-- Which of the 128 leading keys are the batch's. -/
theorem pay35_at : ∀ (g : grid0.Coords) (k : Fin 128), k0_pay35 g (ix2 k (0 : Fin 1)) = if k.val / 16 = (g 0).val % 8 then 1#1 else 0#1 := by
  decide +kernel

/-- The leading keys' scores: the bottom where the key is not the batch's. -/
theorem pay55_at (p : IVec S128x1 1) (q : FVec Ideal S1024x128 .bf16) (K : FVec Ideal S128x128 .bf16) (k : Fin 128) (l : Fin 1024) :
    k0_pay55 (F := Ideal) p q K (ix2 k l) = if p (ix2 k (0 : Fin 1)) = 1#1 then ∑ d : Fin 128, K (ix2 k d) * q (ix2 l d) else ⊥ := by
  pointwise [k0_pay55]
  rw [ninf]
  rfl

theorem pay4_0 (x y : FVec Ideal S80x1024 .f32) (l : Fin 1024) (d : Fin 64) :
    k0_pay4 (F := Ideal) x y (ix2 l (⟨d.val, by omega⟩ : Fin 128)) = Ideal.div (x (ix2 (⟨16 + d.val, by omega⟩ : Fin 80) l)) (x (ix2 (0 : Fin 80) l)) := by
  pointwise [k0_pay4]

theorem pay4_1 (x y : FVec Ideal S80x1024 .f32) (l : Fin 1024) (d : Fin 64) :
    k0_pay4 (F := Ideal) x y (ix2 l (⟨64 + d.val, by omega⟩ : Fin 128)) = Ideal.div (y (ix2 (⟨16 + d.val, by omega⟩ : Fin 80) l)) (y (ix2 (0 : Fin 80) l)) := by
  pointwise [k0_pay4]

/-- Where key `k` of chunk `n` sits among the 2064. -/
def kchunk (n : ℕ) (k : Fin 512) : Fin 2064 := ⟨(16 + (512 * n + k.val)) % 2064, by omega⟩
/-- Where the `j`-th of a batch's leading keys sits among the 2064. -/
def kfirst (j : Fin 16) : Fin 2064 := ⟨j.val, by omega⟩
/-- Where the `j`-th of a batch's leading keys sits among the 128 of the block. -/
def klead (a : Fin 8) (j : Fin 16) : Fin 128 := ⟨16 * a.val + j.val, by omega⟩

section
variable (s : ℕ → FVec Ideal S512x1024 .f32) (w : ℕ → FVec Ideal S1x80x512 .bf16) (m : FVec Ideal S1x1024 .f32) (r : Fin 80) (l : Fin 1024)

theorem tops_succ (n : ℕ) : tops (F := Ideal) s m (n + 1) (ix2 (0 : Fin 1) l)
    = max (tops (F := Ideal) s m n (ix2 (0 : Fin 1) l)) (Finset.univ.fold max ⊥ fun k : Fin 512 => s n (ix2 k l)) :=
  congrArg (max (tops (F := Ideal) s m n (ix2 (0 : Fin 1) l))) (crest_at (s n) l)

theorem accs_succ (n : ℕ) : accs (F := Ideal) s w m (n + 1) (ix2 r l)
    = Ideal.exp2 (tops (F := Ideal) s m n (ix2 (0 : Fin 1) l) - tops (F := Ideal) s m (n + 1) (ix2 (0 : Fin 1) l)) * accs (F := Ideal) s w m n (ix2 r l)
      + ∑ k : Fin 512, w n (ix3 (0 : Fin 1) r k) * Ideal.exp2 (s n (ix2 k l) - tops (F := Ideal) s m (n + 1) (ix2 (0 : Fin 1) l)) := by
  rw [accs, over_at, weigh_at]

theorem accsLate_succ (n : ℕ) : accsLate (F := Ideal) s w m (n + 1) (ix2 r l)
    = Ideal.exp2 (tops (F := Ideal) s m n (ix2 (0 : Fin 1) l) - tops (F := Ideal) s m (n + 1) (ix2 (0 : Fin 1) l)) * (accsLate (F := Ideal) s w m n (ix2 r l)
      + ∑ k : Fin 512, w n (ix3 (0 : Fin 1) r k) * Ideal.exp2 (s n (ix2 k l) - tops (F := Ideal) s m n (ix2 (0 : Fin 1) l))) := by
  rw [accsLate, overLate_at, weigh_at]
end

section
variable (a : Fin 8) (s : ℕ → FVec Ideal S512x1024 .f32) (w : ℕ → FVec Ideal S1x80x512 .bf16)
  (x : FVec Ideal S128x1024 .f32) (mv : FVec Ideal S1x80x128 .bf16) (l : Fin 1024)
  (S : Fin 2064 → EReal) (V : Fin 80 → Fin 2064 → EReal) (hS : ∀ j, ∃ r : ℝ, S j = (r : EReal))
  (hr : ∀ n k, ∃ r : ℝ, s n (ix2 k l) = (r : EReal))
  (hs : ∀ n < 4, ∀ k : Fin 512, s n (ix2 k l) = S (kchunk n k))
  (hw : ∀ n < 4, ∀ (r : Fin 80) (k : Fin 512), w n (ix3 (0 : Fin 1) r k) = V r (kchunk n k))
  (hm : ∀ j : Fin 16, x (ix2 (klead a j) l) = S (kfirst j)) (mask : ∀ k : Fin 128, k.val / 16 ≠ a.val → x (ix2 k l) = ⊥)
  (hv : ∀ (r : Fin 80) (j : Fin 16), mv (ix3 (0 : Fin 1) r (klead a j)) = V r (kfirst j))

include hS hm mask in
/-- The leading keys' scores are reals or, of another batch, the bottom. -/
theorem scoreL (k : Fin 128) : Cert.Mla.Pure.IsScore (x (ix2 k l)) := by
  by_cases hk : k.val / 16 = a.val
  · have e : k = klead a ⟨k.val % 16, by omega⟩ := Fin.ext (by show k.val = 16 * a.val + k.val % 16; omega)
    obtain ⟨y, hy⟩ := hS (kfirst ⟨k.val % 16, by omega⟩)
    rw [Cert.Mla.Pure.IsScore, e, hm ⟨k.val % 16, by omega⟩, hy]
    exact EReal.coe_ne_top y
  · rw [Cert.Mla.Pure.IsScore, mask k hk]
    simp

include hS hr hs hw hm mask hv

/-- Each chunk weighed over the maximum that includes it: every value row is the same multiple of its weighted sum over all the keys. -/
theorem full_at : ∃ M : ℝ, ∀ r : Fin 80, full (F := Ideal) s w x mv (ix2 r l) = ∑ j, V r j * ((Cert.Mla.Pure.pow2 (S j) * (2 : ℝ) ^ (-M) : ℝ) : EReal) := by
  have some : x (ix2 (klead a 0) l) ≠ ⊥ := by
    obtain ⟨y, hy⟩ := hS (kfirst 0)
    rw [hm, hy]
    exact EReal.coe_ne_bot y
  have inv : ∀ r : Fin 80, ∃ M : ℝ, max (tops (F := Ideal) s k0_pay6 4 (ix2 (0 : Fin 1) l)) (Finset.univ.fold max ⊥ fun k : Fin 128 => x (ix2 k l)) = (M : EReal)
      ∧ full (F := Ideal) s w x mv (ix2 r l) = ∑ j, V r j * ((Cert.Mla.Pure.pow2 (S j) * (2 : ℝ) ^ (-M) : ℝ) : EReal) := fun r => by
    have h := Cert.Mla.Pure.run_inv (fun n k => w n (ix3 (0 : Fin 1) r k)) (fun n k => s n (ix2 k l)) hr
      (fun n => tops (F := Ideal) s k0_pay6 n (ix2 (0 : Fin 1) l)) (fun n => accs (F := Ideal) s w k0_pay6 n (ix2 r l)) (pay6_at l) (pay36_at r l)
      (tops_succ s _ l) (accs_succ s w _ r l) 4
    obtain ⟨M, e, e'⟩ := Cert.Mla.Pure.step _ _ _ (fun c d hc => Cert.Mla.Pure.chunks_scale _ _ 4 c d hc) h (fun k => mv (ix3 (0 : Fin 1) r k))
      (fun k => x (ix2 k l)) (scoreL a x l S hS hm mask) (Or.inr ⟨_, some⟩)
    refine ⟨M, e, ?_⟩
    have hc : maximumf (tops (F := Ideal) s k0_pay6 4) (crestL x) (ix2 (0 : Fin 1) l)
        = max (tops (F := Ideal) s k0_pay6 4 (ix2 (0 : Fin 1) l)) (Finset.univ.fold max ⊥ fun k : Fin 128 => x (ix2 k l)) :=
      congrArg (max (tops (F := Ideal) s k0_pay6 4 (ix2 (0 : Fin 1) l))) (crestL_at x l)
    rw [full, over_at, weighL_at, hc]
    exact e'.trans (Cert.Mla.Pure.all_keys (by norm_num) S (V r) _ _ _ _ a.val (by omega) hs (fun n hn k => hw n hn r k) hm (hv r) mask _)
  obtain ⟨M, e, _⟩ := inv 0
  refine ⟨M, fun r => ?_⟩
  obtain ⟨N, e', h⟩ := inv r
  rw [h, EReal.coe_injective (e'.symm.trans e)]

/-- Each chunk weighed over the maximum before it: the same. -/
theorem late_at : ∃ M : ℝ, ∀ r : Fin 80, late (F := Ideal) s w x mv (ix2 r l) = ∑ j, V r j * ((Cert.Mla.Pure.pow2 (S j) * (2 : ℝ) ^ (-M) : ℝ) : EReal) := by
  have start : ∃ M : ℝ, crest (F := Ideal) (s 0) (ix2 (0 : Fin 1) l) = (M : EReal) := by
    rw [crest_at]
    obtain ⟨y, hy⟩ := hr 0 0
    exact Cert.Mla.Pure.fold_real _ (fun k => by obtain ⟨z, hz⟩ := hr 0 k; rw [Cert.Mla.Pure.IsScore, hz]; exact EReal.coe_ne_top z) 0 (by rw [hy]; exact EReal.coe_ne_bot y)
  have inv : ∀ r : Fin 80, ∃ M : ℝ, max (tops (F := Ideal) s (crest (s 0)) 4 (ix2 (0 : Fin 1) l)) (Finset.univ.fold max ⊥ fun k : Fin 128 => x (ix2 k l)) = (M : EReal)
      ∧ late (F := Ideal) s w x mv (ix2 r l) = ∑ j, V r j * ((Cert.Mla.Pure.pow2 (S j) * (2 : ℝ) ^ (-M) : ℝ) : EReal) := fun r => by
    have h := Cert.Mla.Pure.late_inv (fun n k => w n (ix3 (0 : Fin 1) r k)) (fun n k => s n (ix2 k l)) hr
      (fun n => tops (F := Ideal) s (crest (s 0)) n (ix2 (0 : Fin 1) l)) (fun n => accsLate (F := Ideal) s w (crest (s 0)) n (ix2 r l)) start (pay36_at r l)
      (tops_succ s _ l) (accsLate_succ s w _ r l) 4
    obtain ⟨M, e, e'⟩ := Cert.Mla.Pure.late _ _ _ (fun c d hc => Cert.Mla.Pure.chunks_scale _ _ 4 c d hc) h (fun k => mv (ix3 (0 : Fin 1) r k))
      (fun k => x (ix2 k l)) (scoreL a x l S hS hm mask)
    refine ⟨M, e, ?_⟩
    have hc : maximumf (tops (F := Ideal) s (crest (s 0)) 4) (crestL x) (ix2 (0 : Fin 1) l)
        = max (tops (F := Ideal) s (crest (s 0)) 4 (ix2 (0 : Fin 1) l)) (Finset.univ.fold max ⊥ fun k : Fin 128 => x (ix2 k l)) :=
      congrArg (max (tops (F := Ideal) s (crest (s 0)) 4 (ix2 (0 : Fin 1) l))) (crestL_at x l)
    rw [late, overLate_at, weighL_at, hc]
    exact e'.trans (Cert.Mla.Pure.all_keys (by norm_num) S (V r) _ _ _ _ a.val (by omega) hs (fun n hn k => hw n hn r k) hm (hv r) mask _)
  obtain ⟨M, e, _⟩ := inv 0
  refine ⟨M, fun r => ?_⟩
  obtain ⟨N, e', h⟩ := inv r
  rw [h, EReal.coe_injective (e'.symm.trans e)]

end

/-- Value rows that are one multiple of their weighted sums: the quotient by the row of ones is the softmax's mean. -/
theorem head (res : Fin 80 → EReal) (S : Fin 2064 → EReal) (V : Fin 80 → Fin 2064 → EReal) (hS : ∀ j, ∃ r : ℝ, S j = (r : EReal)) (one : ∀ j, V 0 j = 1)
    (h : ∃ M : ℝ, ∀ r : Fin 80, res r = ∑ j, V r j * ((Cert.Mla.Pure.pow2 (S j) * (2 : ℝ) ^ (-M) : ℝ) : EReal)) (r : Fin 80) :
    Ideal.div (res r) (res 0) = Cert.Mla.Pure.mean S (V r) := by
  obtain ⟨M, h⟩ := h
  rw [h, h, show (∑ j, V 0 j * ((Cert.Mla.Pure.pow2 (S j) * (2 : ℝ) ^ (-M) : ℝ) : EReal)) = ∑ j, 1 * ((Cert.Mla.Pure.pow2 (S j) * (2 : ℝ) ^ (-M) : ℝ) : EReal)
    from Finset.sum_congr rfl fun j _ => by rw [one]]
  exact Cert.Mla.Pure.softmax_at 0 S (V r) hS _ (by positivity)

end Cert.MlaP

end
-- ==== Proof.MlaPBlocks.lean ====
/- The prompt tokens' latent attention: the call's blocks, read at an index, and its result array's indices. -/
module

public import proofs.«01_k».proof.Proof.Gen.KernelMlaPIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlaP

open Cert.KernelMlaPIdeal Cert.KernelMlaPIdeal.Gen

/-- A grid point's batch. -/
def bat (t : Fin cfg0.N) : Fin 32 := ⟨(grid0.coords t 0).val, (grid0.coords t 0).isLt⟩
/-- A grid point's pair of heads. -/
def par (t : Fin cfg0.N) : Fin 3 := ⟨(grid0.coords t 1).val, (grid0.coords t 1).isLt⟩
/-- A grid point's tile of queries. -/
def til (t : Fin cfg0.N) : Fin 2 := ⟨(grid0.coords t 2).val, (grid0.coords t 2).isLt⟩

/-- Where the windows of a grid point sit. -/
theorem idx : ∀ t : Fin cfg0.N, win0_0.index t = ![2 * (bat t).val + (til t).val, (par t).val] ∧ win0_1.index t = ![(bat t).val, (par t).val]
    ∧ win0_2.index t = ![768 + (bat t).val / 8, (par t).val] ∧ win0_3.index t = ![(bat t).val, (par t).val, 0] ∧ win0_4.index t = ![192, (par t).val, (bat t).val / 8]
    ∧ win0_5.index t = ![2 * (bat t).val + (til t).val, (par t).val] :=
  (by decide +kernel : ∀ t : Fin grid0.N, _)

variable (m : (ℓ : Loc nD τ sig) → Buf (Elt Ideal) ℓ) (c : Dev nD) (t : Fin cfg0.N)

theorem q_at (l : Fin 1024) (d : Fin 256) :
    iblk m c 0 t (ix2 l d) = m ((c : Thread nD τ).loc main_arg0) (ix2 (⟨2048 * (bat t).val + 1024 * (til t).val + l.val, by omega⟩ : Fin 99328) (⟨256 * (par t).val + d.val, by omega⟩ : Fin 768)) := by
  blk_ext [iblk, V, idx t]

theorem mk_at (l : Fin 128) (d : Fin 256) :
    iblk m c 2 t (ix2 l d) = m ((c : Thread nD τ).loc main_arg1) (ix2 (⟨98304 + 128 * ((bat t).val / 8) + l.val, by omega⟩ : Fin 99328) (⟨256 * (par t).val + d.val, by omega⟩ : Fin 768)) := by
  blk_ext [iblk, V, idx t]

theorem mv_at (r : Fin 160) (l : Fin 128) :
    iblk m c 4 t (ix3 (0 : Fin 1) r l) = m ((c : Thread nD τ).loc main_arg2) (ix3 (⟨192, by omega⟩ : Fin 194) (⟨160 * (par t).val + r.val, by omega⟩ : Fin 480) (⟨128 * ((bat t).val / 8) + l.val, by omega⟩ : Fin 512)) := by
  blk_ext [iblk, V, idx t]

theorem k_at (r : Fin 2048) (d : Fin 256) :
    X0_1 m c t (ix2 r d) = m ((c : Thread nD τ).loc main_arg1) (ix2 (⟨2048 * (bat t).val + r.val, by omega⟩ : Fin 99328) (⟨256 * (par t).val + d.val, by omega⟩ : Fin 768)) := by
  unfold X0_1 Pipeline.Window.fill
  rw [dif_pos (moved0_1 t _)]
  blk_ext [iblk, V, idx t]

theorem v_at (a : Fin 4) (r : Fin 160) (l : Fin 512) :
    X0_3 m c t (ix3 a r l) = m ((c : Thread nD τ).loc main_arg2) (ix3 (⟨4 * (bat t).val + a.val, by omega⟩ : Fin 194) (⟨160 * (par t).val + r.val, by omega⟩ : Fin 480) l) := by
  unfold X0_3 Pipeline.Window.fill
  rw [dif_pos (moved0_3 t _)]
  blk_ext [iblk, V, idx t]

/-- Where an index of a grid point's result block sits in the result. -/
theorem out_idx (l : Fin 1024) (d : Fin 128) : ((View.whole main_v0).slice (win0_5.rect t)).emb (ix2 l d)
    = ix2 (⟨2048 * (bat t).val + (1024 * (til t).val + l.val), by omega⟩ : Fin 65536) (⟨128 * (par t).val + d.val, by omega⟩ : Fin 384) := by
  blk_ext [idx t]

end Cert.MlaP

end
-- ==== Proof.MlaPRefTerms.lean ====
/- The prompt tokens' latent attention: the reference as its steps. -/
module

public import proofs.«01_k».proof.Proof.Gen.ReferenceMlaPIdeal.Run
public import Idealize.ShloMosaic.Lib.Pointwise
public import Idealize.ShloMosaic.Lib.Pipeline.ValueKit
public import Idealize.ShloMosaic.PureOps.Reduce

@[expose] public section

set_option maxRecDepth 2048

noncomputable section

open Idealize.ShloMosaic Idealize.ShloMosaic.TcCoe Idealize.SL.Sem

namespace Cert.MlaP.Ref

open Cert.ReferenceMlaPIdeal Cert.ReferenceMlaPIdeal.Gen Cert.ReferenceMlaPIdeal.Value

/-- The values as rows of tokens. -/
def rows (v : FVec Ideal S194x480x512 .bf16) : FVec Ideal S99328x384 .bf16 :=
  shapeCast _ (transpose S194x512x6x64 [0, 3, 1, 2] (extractStridedSlice S194x6x64x512 ![0, 0, 16, 0] (shapeCast _ v shapeCasts_S194x480x512_S194x6x80x512) slices_S194x6x80x512_S194x6x64x512_0_0_16_0) transposes_S194x6x64x512_S194x512x6x64_0_3_1_2) shapeCasts_S194x512x6x64_S99328x384

/-- The queries, by batch, token and head. -/
def qs (q : FVec Ideal S99328x768 .bf16) : FVec Ideal S32x2048x6x128 .bf16 :=
  shapeCast _ (extractStridedSlice S65536x768 ![0, 0] q slices_S99328x768_S65536x768_0_0) shapeCasts_S65536x768_S32x2048x6x128

/-- The keys, the leading ones first. -/
def ks (k : FVec Ideal S99328x768 .bf16) : FVec Ideal S32x2064x6x128 .bf16 :=
  concatenate S32x2064x6x128 1 [⟨S32x16x6x128, (shapeCast _ (extractStridedSlice S512x768 ![98304, 0] k slices_S99328x768_S512x768_98304_0) shapeCasts_S512x768_S32x16x6x128)⟩, ⟨S32x2048x6x128, (shapeCast _ (extractStridedSlice S65536x768 ![0, 0] k slices_S99328x768_S65536x768_0_0) shapeCasts_S65536x768_S32x2048x6x128)⟩] concatenates_S32x16x6x128_S32x2048x6x128_S32x2064x6x128_d1

/-- The values, the leading ones first. -/
def vs (v : FVec Ideal S99328x384 .bf16) : FVec Ideal S32x2064x6x64 .bf16 :=
  concatenate S32x2064x6x64 1 [⟨S32x16x6x64, (shapeCast _ (extractStridedSlice S512x384 ![98304, 0] v slices_S99328x384_S512x384_98304_0) shapeCasts_S512x384_S32x16x6x64)⟩, ⟨S32x2048x6x64, (shapeCast _ (extractStridedSlice S65536x384 ![0, 0] v slices_S99328x384_S65536x384_0_0) shapeCasts_S65536x384_S32x2048x6x64)⟩] concatenates_S32x16x6x64_S32x2048x6x64_S32x2064x6x64_d1

/-- The products of queries and keys. -/
def dots (q : FVec Ideal S32x2048x6x128 .bf16) (k : FVec Ideal S32x2064x6x128 .bf16) : FVec Ideal S32x6x2048x2064 .f32 :=
  Host.dotGeneral (F := Ideal) (φ₁ := .bf16) (φ₂ := .bf16) dot_S32x2048x6x128_S32x2064x6x128_S32x6x2048x2064_3_3_1_1_02_02 none q k

/-- The scores: the products times the logarithm of two. -/
def sc (s : FVec Ideal S32x6x2048x2064 .f32) : FVec Ideal S32x6x2048x2064 .f32 :=
  mulf s (broadcastInDim S32x6x2048x2064 ![] bcast_S_S32x6x2048x2064 (Host.log (constant S_ .f32 0x40000000#32)))

/-- The largest score of each query. -/
def mx (s : FVec Ideal S32x6x2048x2064 .f32) : FVec Ideal S32x6x2048 .f32 :=
  maximumf (broadcastInDim S32x6x2048 ![] bcast_S_S32x6x2048 (constant S_ .f32 0xFF800000#32)) (Host.reduce FloatOps.maximumf s (constant S_ .f32 0xFF800000#32) reducesTo_S32x6x2048x2064_S32x6x2048_d3 h_S_)

/-- The exponentials of the scores over the largest. -/
def ex (s : FVec Ideal S32x6x2048x2064 .f32) : FVec Ideal S32x6x2048x2064 .f32 :=
  Host.exp (subf s (broadcastInDim S32x6x2048x2064 ![0, 1, 2, 3] bcast_S32x6x2048x1_S32x6x2048x2064_0_1_2_3 (broadcastInDim S32x6x2048x1 ![0, 1, 2] bcast_S32x6x2048_S32x6x2048x1_0_1_2 (mx s))))

/-- The exponentials over their sum. -/
def pr (e : FVec Ideal S32x6x2048x2064 .f32) : FVec Ideal S32x6x2048x2064 .bf16 :=
  truncf .bf16 (Host.divf e (broadcastInDim S32x6x2048x2064 ![0, 1, 2, 3] bcast_S32x6x2048x1_S32x6x2048x2064_0_1_2_3 (broadcastInDim S32x6x2048x1 ![0, 1, 2] bcast_S32x6x2048_S32x6x2048x1_0_1_2 (Host.reduceAdd e (constant S_ .f32 0x00000000#32) reducesTo_S32x6x2048x2064_S32x6x2048_d3 h_S_)))) bitsLt_bf16_f32

/-- The values weighted. -/
def mix (v : FVec Ideal S32x2064x6x64 .bf16) (p : FVec Ideal S32x6x2048x2064 .bf16) : FVec Ideal S65536x384 .bf16 :=
  shapeCast _ (truncf .bf16 (transpose S32x2048x6x64 [0, 3, 1, 2] (Host.dotGeneral (F := Ideal) (φ₁ := .bf16) (φ₂ := .bf16) dot_S32x2064x6x64_S32x6x2048x2064_S32x6x64x2048_1_3_3_2_02_01 none v p) transposes_S32x6x64x2048_S32x2048x6x64_0_3_1_2) bitsLt_bf16_f32) shapeCasts_S32x2048x6x64_S65536x384

/-- The reference's result as these steps. -/
def out (q k : FVec Ideal S99328x768 .bf16) (v : FVec Ideal S194x480x512 .bf16) : FVec Ideal S65536x384 .bf16 :=
  mix (vs (rows v)) (pr (ex (sc (dots (qs q) (ks k)))))

theorem res_eq (m : (ℓ : Loc nD τ sig) → Buf (Elt Ideal) ℓ) (c : Dev nD) :
    res_out0 m c = out (m ((c.tc : Thread nD τ).loc main_arg0)) (m ((c.tc : Thread nD τ).loc main_arg1)) (m ((c.tc : Thread nD τ).loc main_arg2)) := by
  unfold res_out0 res_main_v35
  rfl

end Cert.MlaP.Ref

end
-- ==== Proof.MlaPRef.lean ====
/- The prompt tokens' latent attention: the reference, read at an index. -/
module

public import proofs.«01_k».proof.Proof.MlaPRefTerms
public import proofs.«01_k».proof.Proof.MlaRef
public import Idealize.ShloMosaic.Lib.Pointwise
public import Idealize.ShloMosaic.Lib.Pipeline.ValueKit
public import Idealize.ShloMosaic.PureOps.Reduce

@[expose] public section

set_option maxRecDepth 2048

noncomputable section

open Idealize.ShloMosaic Idealize.ShloMosaic.TcCoe Idealize.SL.Sem

namespace Cert.MlaP.Ref

open Cert.ReferenceMlaPIdeal Cert.ReferenceMlaPIdeal.Gen Cert.ReferenceMlaPIdeal.Value
open Cert.Mla.Ref (hostMax two ninf)

/-- Where token `i` of the 2064 a batch `b` attends to sits among all the rows. -/
def row (b : Fin 32) (i : Fin 2064) : Fin 99328 :=
  if h : i.val < 16 then ⟨98304 + 16 * b.val + i.val, by omega⟩ else ⟨2048 * b.val + (i.val - 16), by omega⟩

theorem rows_at (v : FVec Ideal S194x480x512 .bf16) (r : Fin 99328) (h : Fin 6) (d : Fin 64) :
    rows v (ix2 r (⟨64 * h.val + d.val, by omega⟩ : Fin 384)) = v (ix3 (⟨r.val / 512, by omega⟩ : Fin 194) (⟨80 * h.val + 16 + d.val, by omega⟩ : Fin 480) (⟨r.val % 512, by omega⟩ : Fin 512)) := by
  pointwise [rows]
  blk_ext

theorem qs_at (q : FVec Ideal S99328x768 .bf16) (b : Fin 32) (i : Fin 2048) (h : Fin 6) (d : Fin 128) :
    qs q (ix4 b i h d) = q (ix2 (⟨2048 * b.val + i.val, by omega⟩ : Fin 99328) (⟨128 * h.val + d.val, by omega⟩ : Fin 768)) := by
  pointwise [qs]
  blk_ext

theorem ks_at (k : FVec Ideal S99328x768 .bf16) (b : Fin 32) (i : Fin 2064) (h : Fin 6) (d : Fin 128) :
    ks k (ix4 b i h d) = k (ix2 (row b i) (⟨128 * h.val + d.val, by omega⟩ : Fin 768)) := by
  pointwise [ks]
  unfold row
  split <;> blk_ext

theorem vs_at (v : FVec Ideal S99328x384 .bf16) (b : Fin 32) (i : Fin 2064) (h : Fin 6) (d : Fin 64) :
    vs v (ix4 b i h d) = v (ix2 (row b i) (⟨64 * h.val + d.val, by omega⟩ : Fin 384)) := by
  pointwise [vs]
  unfold row
  split <;> blk_ext

theorem dots_at (q : FVec Ideal S32x2048x6x128 .bf16) (k : FVec Ideal S32x2064x6x128 .bf16) (b : Fin 32) (h : Fin 6) (i : Fin 2048) (j : Fin 2064) :
    dots q k (ix4 b h i j) = ∑ d : Fin 128, q (ix4 b i h d) * k (ix4 b j h d) := by
  pointwise [dots]

theorem sc_at (s : FVec Ideal S32x6x2048x2064 .f32) (b : Fin 32) (h : Fin 6) (i : Fin 2048) (j : Fin 2064) :
    sc s (ix4 b h i j) = s (ix4 b h i j) * Real.log 2 := by
  pointwise [sc]
  rw [two, Ideal.log_coe, if_neg (by norm_num)]

theorem max_at (y : FVec Ideal S32x6x2048 .f32) (b : Fin 32) (h : Fin 6) (i : Fin 2048) :
    maximumf (broadcastInDim S32x6x2048 ![] bcast_S_S32x6x2048 (constant (F := Ideal) S_ .f32 0xFF800000#32)) y (ix3 b h i) = max (⊥ : EReal) (y (ix3 b h i)) := by
  pointwise
  rw [ninf]

theorem mx_at (s : FVec Ideal S32x6x2048x2064 .f32) (b : Fin 32) (h : Fin 6) (i : Fin 2048) :
    mx s (ix3 b h i) = max (⊥ : EReal) (Finset.univ.fold (FloatOps.maximumf (F := Ideal) (φ := .f32)) (⊥ : EReal) fun j : Fin 2064 => s (ix4 b h i j)) := by
  have z : (constant (F := Ideal) S_ .f32 0xFF800000#32) (Shape.Idx.first h_S_) = (⊥ : EReal) := ninf
  unfold mx
  rw [max_at, hostMax, z]

theorem ex_at (s : FVec Ideal S32x6x2048x2064 .f32) (b : Fin 32) (h : Fin 6) (i : Fin 2048) (j : Fin 2064) :
    ex s (ix4 b h i j) = Ideal.exp (s (ix4 b h i j) - mx s (ix3 b h i)) := by
  pointwise [ex]

theorem pr_at (e : FVec Ideal S32x6x2048x2064 .f32) (b : Fin 32) (h : Fin 6) (i : Fin 2048) (j : Fin 2064) :
    pr e (ix4 b h i j) = Ideal.div (e (ix4 b h i j)) (∑ j : Fin 2064, e (ix4 b h i j)) := by
  pointwise [pr]

theorem mix_at (v : FVec Ideal S32x2064x6x64 .bf16) (p : FVec Ideal S32x6x2048x2064 .bf16) (b : Fin 32) (h : Fin 6) (i : Fin 2048) (d : Fin 64) :
    mix v p (ix2 (⟨2048 * b.val + i.val, by omega⟩ : Fin 65536) (⟨64 * h.val + d.val, by omega⟩ : Fin 384)) = ∑ j : Fin 2064, v (ix4 b j h d) * p (ix4 b h i j) := by
  pointwise [mix]

end Cert.MlaP.Ref

end
-- ==== Proof.MlaPValue.lean ====
/- The prompt tokens' latent attention: the call's result array is the reference's, where the queries and keys are real and each head's values begin with a row of ones. -/
module

public import proofs.«01_k».proof.Proof.MlaPLane
public import proofs.«01_k».proof.Proof.MlaPBlocks
public import proofs.«01_k».proof.Proof.MlaPRef
public import proofs.«01_k».proof.Proof.MlaPre

@[expose] public section

set_option maxRecDepth 2048

noncomputable section

open Idealize.ShloMosaic Idealize.ShloMosaic.TcCoe Idealize.SL.Sem
open Idealize.ShloMosaic.Pipeline (Dat)

namespace Cert.MlaP

open Cert.KernelMlaPIdeal Cert.KernelMlaPIdeal.Gen

/-- The score, before the logarithm of two, of a batch's key and query under a head. -/
def logit (q k : FVec Ideal S99328x768 .bf16) (b : Fin 32) (h : Fin 6) (i : Fin 2048) (j : Fin 2064) : EReal :=
  ∑ d : Fin 128, q (ix2 (⟨2048 * b.val + i.val, by omega⟩ : Fin 99328) (⟨128 * h.val + d.val, by omega⟩ : Fin 768))
    * k (ix2 (Ref.row b j) (⟨128 * h.val + d.val, by omega⟩ : Fin 768))

/-- A head's value rows at a batch's keys. -/
def value (v : FVec Ideal S194x480x512 .bf16) (b : Fin 32) (h : Fin 6) (r : Fin 80) (j : Fin 2064) : EReal :=
  v (ix3 (⟨(Ref.row b j).val / 512, by omega⟩ : Fin 194) (⟨80 * h.val + r.val, by omega⟩ : Fin 480) (⟨(Ref.row b j).val % 512, by omega⟩ : Fin 512))

/-- The reference's result at an index. -/
theorem ref_at (q k : FVec Ideal S99328x768 .bf16) (v : FVec Ideal S194x480x512 .bf16) (b : Fin 32) (h : Fin 6) (i : Fin 2048) (d : Fin 64) :
    Ref.out q k v (ix2 (⟨2048 * b.val + i.val, by omega⟩ : Fin 65536) (⟨64 * h.val + d.val, by omega⟩ : Fin 384))
      = Cert.Mla.Pure.mean (logit q k b h i) (value v b h ⟨16 + d.val, by omega⟩) := by
  have hs : ∀ j, Ref.sc (Ref.dots (Ref.qs q) (Ref.ks k)) (ix4 b h i j) = logit q k b h i j * (Real.log 2 : ℝ) := fun j => by
    rw [Ref.sc_at, Ref.dots_at]
    unfold logit
    simp only [Ref.qs_at, Ref.ks_at]
  have hv : ∀ j, Ref.vs (Ref.rows v) (ix4 b j h d) = value v b h ⟨16 + d.val, by omega⟩ j := fun j => by
    rw [Ref.vs_at, Ref.rows_at]
    unfold value
    blk_ext
  unfold Ref.out
  rw [Ref.mix_at]
  unfold Cert.Mla.Pure.mean
  simp only [Ref.pr_at, Ref.ex_at, Ref.mx_at, hs, hv]
  rfl

variable (m : (ℓ : Loc nD τ sig) → Buf (Elt Ideal) ℓ) (c : Dev nD) (t : Fin cfg0.N) (i : Fin 2)

/-- The head a grid point's half is. -/
def hd : Fin 6 := ⟨2 * (par t).val + i.val, by omega⟩

/-- Where a grid point's batch sits among the eight whose leading keys are in its block. -/
def slot : Fin 8 := ⟨(bat t).val % 8, by omega⟩

/-- The query a grid point's lane is. -/
def qu (l : Fin 1024) : Fin 2048 := ⟨1024 * (til t).val + l.val, by omega⟩

theorem qhalf_at (l : Fin 1024) (d : Fin 128) :
    qhalf (F := Ideal) (iblk m c 0 t) i.val (ix2 l d) = m ((c : Thread nD τ).loc main_arg0) (ix2 (⟨2048 * (bat t).val + (qu t l).val, by omega⟩ : Fin 99328) (⟨128 * (hd t i).val + d.val, by omega⟩ : Fin 768)) := by
  refine (q_at m c t l ⟨(128 * i.val + d.val) % 256, by omega⟩).trans ?_
  blk_ext [qu, hd]

theorem keys_at (n : ℕ) (k : Fin 512) (d : Fin 128) :
    keys (F := Ideal) (X0_1 m c t) i.val n (ix2 k d) = m ((c : Thread nD τ).loc main_arg1) (ix2 (⟨2048 * (bat t).val + (512 * n + k.val) % 2048, by omega⟩ : Fin 99328) (⟨128 * (hd t i).val + d.val, by omega⟩ : Fin 768)) := by
  refine (k_at m c t ⟨(512 * n + k.val) % 2048, by omega⟩ ⟨(128 * i.val + d.val) % 256, by omega⟩).trans ?_
  blk_ext [hd]

theorem mkhalf_at (k : Fin 128) (d : Fin 128) :
    mkhalf (F := Ideal) (iblk m c 2 t) i.val (ix2 k d) = m ((c : Thread nD τ).loc main_arg1) (ix2 (⟨98304 + 128 * ((bat t).val / 8) + k.val, by omega⟩ : Fin 99328) (⟨128 * (hd t i).val + d.val, by omega⟩ : Fin 768)) := by
  refine (mk_at m c t k ⟨(128 * i.val + d.val) % 256, by omega⟩).trans ?_
  blk_ext [hd]

theorem vals_at (n : ℕ) (r : Fin 80) (k : Fin 512) :
    vals (F := Ideal) (X0_3 m c t) i.val n (ix3 (0 : Fin 1) r k) = m ((c : Thread nD τ).loc main_arg2) (ix3 (⟨4 * (bat t).val + n % 4, by omega⟩ : Fin 194) (⟨80 * (hd t i).val + r.val, by omega⟩ : Fin 480) k) := by
  refine (v_at m c t ⟨n % 4, by omega⟩ ⟨(80 * i.val + r.val) % 160, by omega⟩ k).trans ?_
  blk_ext [hd]

theorem mvhalf_at (r : Fin 80) (k : Fin 128) :
    mvhalf (F := Ideal) (iblk m c 4 t) i.val (ix3 (0 : Fin 1) r k) = m ((c : Thread nD τ).loc main_arg2) (ix3 (⟨192, by omega⟩ : Fin 194) (⟨80 * (hd t i).val + r.val, by omega⟩ : Fin 480) (⟨128 * ((bat t).val / 8) + k.val, by omega⟩ : Fin 512)) := by
  refine (mv_at m c t ⟨(80 * i.val + r.val) % 160, by omega⟩ k).trans ?_
  blk_ext [hd]

theorem row_chunk (b : Fin 32) (n : ℕ) (hn : n < 4) (k : Fin 512) : (Ref.row b (kchunk n k)).val = 2048 * b.val + (512 * n + k.val) := by
  have e : (kchunk n k).val = 16 + (512 * n + k.val) := Nat.mod_eq_of_lt (by omega)
  unfold Ref.row
  rw [dif_neg (by omega)]
  show 2048 * b.val + ((kchunk n k).val - 16) = _
  omega

theorem row_lead (b : Fin 32) (j : Fin 16) : (Ref.row b (kfirst j)).val = 98304 + 16 * b.val + j.val := by
  have e : (kfirst j).val = j.val := rfl
  unfold Ref.row
  rw [dif_pos (by omega)]
  exact congrArg _ e

variable (hq : ∀ r d, ∃ x : ℝ, m ((c : Thread nD τ).loc main_arg0) (ix2 (r : Fin 99328) (d : Fin 768)) = (x : EReal))
  (hk : ∀ r d, ∃ x : ℝ, m ((c : Thread nD τ).loc main_arg1) (ix2 (r : Fin 99328) (d : Fin 768)) = (x : EReal))
  (hv : ∀ a g l, m ((c : Thread nD τ).loc main_arg2) (ix3 (a : Fin 194) (Cert.Mla.Pre.first g) (l : Fin 512)) = (1 : EReal))
include hq hk hv

/-- A head's value rows at a grid point's query, either way of weighing them, are one multiple of their weighted sums. -/
theorem rows_at (l : Fin 1024) (R : Fin 80 → EReal)
    (hR : (∀ r, R r = full (F := Ideal) (scores (iblk m c 0 t) (X0_1 m c t) i.val) (vals (X0_3 m c t) i.val) (scoresL (grid0.coords t) (iblk m c 0 t) (iblk m c 2 t) i.val) (mvhalf (iblk m c 4 t) i.val) (ix2 r l))
      ∨ ∀ r, R r = late (F := Ideal) (scores (iblk m c 0 t) (X0_1 m c t) i.val) (vals (X0_3 m c t) i.val) (scoresL (grid0.coords t) (iblk m c 0 t) (iblk m c 2 t) i.val) (mvhalf (iblk m c 4 t) i.val) (ix2 r l)) :
    ∃ M : ℝ, ∀ r : Fin 80, R r = ∑ j, value (m ((c : Thread nD τ).loc main_arg2)) (bat t) (hd t i) r j
      * ((Cert.Mla.Pure.pow2 (logit (m ((c : Thread nD τ).loc main_arg0)) (m ((c : Thread nD τ).loc main_arg1)) (bat t) (hd t i) (qu t l) j) * (2 : ℝ) ^ (-M) : ℝ) : EReal) := by
  have hS : ∀ j, ∃ r : ℝ, logit (m ((c : Thread nD τ).loc main_arg0)) (m ((c : Thread nD τ).loc main_arg1)) (bat t) (hd t i) (qu t l) j = (r : EReal) :=
    fun j => Cert.Mla.Pure.sum_real _ _ (fun d => hq _ _) fun d => hk _ _
  have hr : ∀ n k, ∃ r : ℝ, scores (F := Ideal) (iblk m c 0 t) (X0_1 m c t) i.val n (ix2 k l) = (r : EReal) := fun n k => by
    unfold scores
    rw [score_at]
    exact Cert.Mla.Pure.sum_real _ _ (fun d => by rw [keys_at]; exact hk _ _) fun d => by rw [qhalf_at]; exact hq _ _
  have hs : ∀ n < 4, ∀ k : Fin 512, scores (F := Ideal) (iblk m c 0 t) (X0_1 m c t) i.val n (ix2 k l)
      = logit (m ((c : Thread nD τ).loc main_arg0)) (m ((c : Thread nD τ).loc main_arg1)) (bat t) (hd t i) (qu t l) (kchunk n k) := fun n hn k => by
    unfold scores logit
    rw [score_at]
    refine Finset.sum_congr rfl fun d _ => ?_
    rw [keys_at, qhalf_at, mul_comm]
    refine congrArg _ (congrArg _ (congrArg (fun z => ix2 z _) (Fin.ext ?_)))
    rw [row_chunk _ n hn]
    show 2048 * (bat t).val + (512 * n + k.val) % 2048 = _
    omega
  have hw : ∀ n < 4, ∀ (r : Fin 80) (k : Fin 512), vals (F := Ideal) (X0_3 m c t) i.val n (ix3 (0 : Fin 1) r k)
      = value (m ((c : Thread nD τ).loc main_arg2)) (bat t) (hd t i) r (kchunk n k) := fun n hn r k => by
    unfold value
    rw [vals_at]
    have e := row_chunk (bat t) n hn k
    refine congrArg _ (congrArg₂ (fun y z => ix3 y _ z) (Fin.ext ?_) (Fin.ext ?_))
    · show 4 * (bat t).val + n % 4 = _ / 512
      omega
    · show k.val = _ % 512
      omega
  have hm : ∀ j : Fin 16, scoresL (F := Ideal) (grid0.coords t) (iblk m c 0 t) (iblk m c 2 t) i.val (ix2 (klead (slot t) j) l)
      = logit (m ((c : Thread nD τ).loc main_arg0)) (m ((c : Thread nD τ).loc main_arg1)) (bat t) (hd t i) (qu t l) (kfirst j) := fun j => by
    unfold scoresL logit
    rw [pay55_at, pay35_at, if_pos (if_pos (by show (16 * ((bat t).val % 8) + j.val) / 16 = (bat t).val % 8; omega))]
    refine Finset.sum_congr rfl fun d _ => ?_
    rw [mkhalf_at, qhalf_at, mul_comm]
    refine congrArg _ (congrArg _ (congrArg (fun z => ix2 z _) (Fin.ext ?_)))
    rw [row_lead]
    show 98304 + 128 * ((bat t).val / 8) + (16 * ((bat t).val % 8) + j.val) = _
    omega
  have mask : ∀ k : Fin 128, k.val / 16 ≠ (slot t).val → scoresL (F := Ideal) (grid0.coords t) (iblk m c 0 t) (iblk m c 2 t) i.val (ix2 k l) = ⊥ := fun k hn => by
    unfold scoresL
    rw [pay55_at, pay35_at, if_neg (show ¬ k.val / 16 = (grid0.coords t 0).val % 8 from hn), if_neg (by decide)]
  have hv' : ∀ (r : Fin 80) (j : Fin 16), mvhalf (F := Ideal) (iblk m c 4 t) i.val (ix3 (0 : Fin 1) r (klead (slot t) j))
      = value (m ((c : Thread nD τ).loc main_arg2)) (bat t) (hd t i) r (kfirst j) := fun r j => by
    unfold value
    rw [mvhalf_at]
    have e := row_lead (bat t) j
    refine congrArg _ (congrArg₂ (fun y z => ix3 y _ z) (Fin.ext ?_) (Fin.ext ?_))
    · show 192 = _ / 512
      omega
    · show 128 * ((bat t).val / 8) + (16 * ((bat t).val % 8) + j.val) = _ % 512
      omega
  rcases hR with h | h
  · obtain ⟨M, e⟩ := full_at (slot t) _ _ _ _ l _ _ hS hr hs hw hm mask hv'
    exact ⟨M, fun r => (h r).trans (e r)⟩
  · obtain ⟨M, e⟩ := late_at (slot t) _ _ _ _ l _ _ hS hr hs hw hm mask hv'
    exact ⟨M, fun r => (h r).trans (e r)⟩

/-- A head's quotient at a grid point's query is the softmax's mean. -/
theorem head_at (l : Fin 1024) (R : Fin 80 → EReal)
    (hR : (∀ r, R r = full (F := Ideal) (scores (iblk m c 0 t) (X0_1 m c t) i.val) (vals (X0_3 m c t) i.val) (scoresL (grid0.coords t) (iblk m c 0 t) (iblk m c 2 t) i.val) (mvhalf (iblk m c 4 t) i.val) (ix2 r l))
      ∨ ∀ r, R r = late (F := Ideal) (scores (iblk m c 0 t) (X0_1 m c t) i.val) (vals (X0_3 m c t) i.val) (scoresL (grid0.coords t) (iblk m c 0 t) (iblk m c 2 t) i.val) (mvhalf (iblk m c 4 t) i.val) (ix2 r l)) (r : Fin 80) :
    Ideal.div (R r) (R 0) = Cert.Mla.Pure.mean (logit (m ((c : Thread nD τ).loc main_arg0)) (m ((c : Thread nD τ).loc main_arg1)) (bat t) (hd t i) (qu t l))
      (value (m ((c : Thread nD τ).loc main_arg2)) (bat t) (hd t i) r) :=
  head R _ _ (fun j => Cert.Mla.Pure.sum_real _ _ (fun d => hq _ _) fun d => hk _ _) (fun j => hv _ _ _) (rows_at m c t i hq hk hv l R hR) r

/-- Value rows of both heads whose quotients are the means make up the reference's block. -/
theorem block (A : Fin 2 → FVec Ideal S80x1024 .f32)
    (hA : ∀ (i : Fin 2) (l : Fin 1024) (r : Fin 80), Ideal.div (A i (ix2 r l)) (A i (ix2 0 l))
      = Cert.Mla.Pure.mean (logit (m ((c : Thread nD τ).loc main_arg0)) (m ((c : Thread nD τ).loc main_arg1)) (bat t) (hd t i) (qu t l)) (value (m ((c : Thread nD τ).loc main_arg2)) (bat t) (hd t i) r))
    (l : Fin 1024) (d : Fin 128) :
    k0_pay4 (F := Ideal) (A 0) (A 1) (ix2 l d)
      = Ref.out (m ((c : Thread nD τ).loc main_arg0)) (m ((c : Thread nD τ).loc main_arg1)) (m ((c : Thread nD τ).loc main_arg2))
          (ix2 (⟨2048 * (bat t).val + (1024 * (til t).val + l.val), by omega⟩ : Fin 65536) (⟨128 * (par t).val + d.val, by omega⟩ : Fin 384)) := by
  by_cases h : d.val < 64
  · have e : d = (⟨(⟨d.val, h⟩ : Fin 64).val, by omega⟩ : Fin 128) := rfl
    refine (congrArg (fun z => k0_pay4 (F := Ideal) (A 0) (A 1) (ix2 l z)) e).trans ?_
    refine (pay4_0 _ _ l ⟨d.val, h⟩).trans ((hA 0 l _).trans ((ref_at _ _ _ (bat t) (hd t 0) (qu t l) ⟨d.val, h⟩).symm.trans ?_))
    refine congrArg (Ref.out _ _ _) (congrArg₂ ix2 rfl (Fin.ext ?_))
    show 64 * (2 * (par t).val + 0) + d.val = 128 * (par t).val + d.val
    omega
  · have e : d = (⟨64 + (⟨d.val - 64, by omega⟩ : Fin 64).val, by omega⟩ : Fin 128) := Fin.ext (by show d.val = 64 + (d.val - 64); omega)
    refine (congrArg (fun z => k0_pay4 (F := Ideal) (A 0) (A 1) (ix2 l z)) e).trans ?_
    refine (pay4_1 _ _ l ⟨d.val - 64, by omega⟩).trans ((hA 1 l _).trans ((ref_at _ _ _ (bat t) (hd t 1) (qu t l) ⟨d.val - 64, by omega⟩).symm.trans ?_))
    refine congrArg (Ref.out _ _ _) (congrArg₂ ix2 rfl (Fin.ext ?_))
    show 64 * (2 * (par t).val + 1) + (d.val - 64) = 128 * (par t).val + d.val
    omega

/-- What a grid point stores at a block index is the reference's result at the array index it sits at. -/
theorem point (y : ((cfg0.win 5).xblock (cfg0.grid.coords t)).Idx) :
    out (F := Ideal) (grid0.coords t) (iblk m c 0 t) (X0_1 m c t) (iblk m c 2 t) (X0_3 m c t) (iblk m c 4 t) y
      = Ref.out (m ((c : Thread nD τ).loc main_arg0)) (m ((c : Thread nD τ).loc main_arg1)) (m ((c : Thread nD τ).loc main_arg2)) (((View.whole main_v0).slice (win0_5.rect t)).emb y) := by
  idx_vars y
  rw [out_idx]
  unfold out
  split
  · exact block m c t hq hk hv
      (fun i => full (F := Ideal) (scores (iblk m c 0 t) (X0_1 m c t) i.val) (vals (X0_3 m c t) i.val) (scoresL (grid0.coords t) (iblk m c 0 t) (iblk m c 2 t) i.val) (mvhalf (iblk m c 4 t) i.val))
      (fun i l r => head_at m c t i hq hk hv l _ (Or.inl fun _ => rfl) r) y0 y1
  · exact block m c t hq hk hv
      (fun i => late (F := Ideal) (scores (iblk m c 0 t) (X0_1 m c t) i.val) (vals (X0_3 m c t) i.val) (scoresL (grid0.coords t) (iblk m c 0 t) (iblk m c 2 t) i.val) (mvhalf (iblk m c 4 t) i.val))
      (fun i l r => head_at m c t i hq hk hv l _ (Or.inr fun _ => rfl) r) y0 y1

/-- The result array after the run. -/
theorem final : (dats m 0 c).arrAt 5 (cfgs 0).N
    = Ref.out (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after_5]
  exact point m c t hq hk hv y

end Cert.MlaP

end
-- ==== Proof.lean ====
/- The certificate's claims, assembled from the runs of the programs and the equations between their results. -/
module

public import proofs.«01_k».proof.Defs
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.FfnValue
public import proofs.«01_k».proof.Proof.Gen.ReferenceFfnIdeal
public import proofs.«01_k».proof.Proof.Gen.ReferenceFfnIdeal.Run
public import proofs.«01_k».proof.Proof.Gen.KernelMla
public import proofs.«01_k».proof.Proof.Gen.KernelMla.Skeleton
public import proofs.«01_k».proof.Proof.Gen.KernelMla.Frame
public import proofs.«01_k».proof.Proof.Gen.KernelMla.Loops
public import proofs.«01_k».proof.Proof.Gen.KernelMlaIdeal
public import proofs.«01_k».proof.Proof.Gen.KernelMlaIdeal.Skeleton
public import proofs.«01_k».proof.Proof.Gen.KernelMlaIdeal.Frame
public import proofs.«01_k».proof.Proof.Gen.KernelMlaIdeal.Loops
public import proofs.«01_k».proof.Proof.Gen.ReferenceMlaIdeal
public import proofs.«01_k».proof.Proof.Gen.ReferenceMlaIdeal.Run
public import proofs.«01_k».proof.Proof.Gen.Pre_mla_operands
public import proofs.«01_k».proof.Proof.Gen.KernelFfnB
public import proofs.«01_k».proof.Proof.Gen.KernelFfnB.Skeleton
public import proofs.«01_k».proof.Proof.Gen.KernelFfnB.Frame
public import proofs.«01_k».proof.Proof.Gen.KernelFfnBIdeal
public import proofs.«01_k».proof.Proof.Gen.KernelFfnBIdeal.Skeleton
public import proofs.«01_k».proof.Proof.Gen.KernelFfnBIdeal.Frame
public import proofs.«01_k».proof.Proof.Gen.ReferenceFfnBIdeal
public import proofs.«01_k».proof.Proof.Gen.ReferenceFfnBIdeal.Run
public import proofs.«01_k».proof.Proof.Gen.KernelFfnC
public import proofs.«01_k».proof.Proof.Gen.KernelFfnC.Skeleton
public import proofs.«01_k».proof.Proof.Gen.KernelFfnC.Frame
public import proofs.«01_k».proof.Proof.Gen.KernelFfnCIdeal
public import proofs.«01_k».proof.Proof.Gen.KernelFfnCIdeal.Skeleton
public import proofs.«01_k».proof.Proof.Gen.KernelFfnCIdeal.Frame
public import proofs.«01_k».proof.Proof.Gen.ReferenceFfnCIdeal
public import proofs.«01_k».proof.Proof.Gen.ReferenceFfnCIdeal.Run
public import proofs.«01_k».proof.Proof.Gen.KernelFfnD
public import proofs.«01_k».proof.Proof.Gen.KernelFfnDIdeal
public import proofs.«01_k».proof.Proof.Gen.KernelFfnDIdeal.Skeleton
public import proofs.«01_k».proof.Proof.Gen.KernelFfnDIdeal.Frame
public import proofs.«01_k».proof.Proof.Gen.ReferenceFfnDIdeal
public import proofs.«01_k».proof.Proof.FfnB
public import proofs.«01_k».proof.Proof.FfnC
public import proofs.«01_k».proof.Proof.MlaBits
public import proofs.«01_k».proof.Proof.FfnDBits
public import proofs.«01_k».proof.Proof.FfnDValue
public import proofs.«01_k».proof.Proof.FfnDRef
public import proofs.«01_k».proof.Proof.MlaValue
public import proofs.«01_k».proof.Proof.Gen.KernelGqa
public import proofs.«01_k».proof.Proof.Gen.KernelGqaIdeal
public import proofs.«01_k».proof.Proof.Gen.KernelGqaIdeal.Skeleton
public import proofs.«01_k».proof.Proof.Gen.KernelGqaIdeal.Frame
public import proofs.«01_k».proof.Proof.Gen.KernelGqaIdeal.Loops
public import proofs.«01_k».proof.Proof.Gen.ReferenceGqaIdeal
public import proofs.«01_k».proof.Proof.Gen.ReferenceGqaIdeal.Run
public import proofs.«01_k».proof.Proof.Gen.Pre_gqa_operands
public import proofs.«01_k».proof.Proof.GqaBits
public import proofs.«01_k».proof.Proof.MlaPBits
public import proofs.«01_k».proof.Proof.GqaValue
public import proofs.«01_k».proof.Proof.Gen.KernelMlaP
public import proofs.«01_k».proof.Proof.Gen.KernelMlaPIdeal
public import proofs.«01_k».proof.Proof.Gen.KernelMlaPIdeal.Skeleton
public import proofs.«01_k».proof.Proof.Gen.KernelMlaPIdeal.Frame
public import proofs.«01_k».proof.Proof.Gen.ReferenceMlaPIdeal
public import proofs.«01_k».proof.Proof.Gen.ReferenceMlaPIdeal.Run
public import proofs.«01_k».proof.Proof.MlaPValue
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

noncomputable section

namespace Cert.Proof

open Idealize.ShloMosaic Idealize.SL.Sem Cert.KernelFfn

set_option maxHeartbeats 1600000 in
/-- The claims: the frames and value claims of the three attention calls, each under its precondition, and those of the four feed-forward calls. -/
theorem claim : Cert.Claim := ⟨Cert.KernelMla.Gen.facts, Cert.KernelMlaIdeal.Gen.facts, Cert.ReferenceMlaIdeal.Gen.facts,
  Cert.KernelFfn.Gen.facts, Cert.KernelFfnIdeal.Gen.facts, Cert.ReferenceFfnIdeal.Gen.facts,
  Cert.KernelFfnB.Gen.facts, Cert.KernelFfnBIdeal.Gen.facts, Cert.ReferenceFfnBIdeal.Gen.facts,
  Cert.KernelFfnC.Gen.facts, Cert.KernelFfnCIdeal.Gen.facts, Cert.ReferenceFfnCIdeal.Gen.facts,
  Cert.KernelFfnD.Gen.facts, Cert.KernelFfnDIdeal.Gen.facts, Cert.ReferenceFfnDIdeal.Gen.facts,
  Cert.KernelGqa.Gen.facts, Cert.KernelGqaIdeal.Gen.facts, Cert.ReferenceGqaIdeal.Gen.facts,
  Cert.KernelMlaP.Gen.facts, Cert.KernelMlaPIdeal.Gen.facts, Cert.ReferenceMlaPIdeal.Gen.facts, Cert.Pre_mla_operands.Gen.facts, Cert.Pre_gqa_operands.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Mla.quiescent_printed m ρ
  · exact fun m ρ _ => Cert.Mla.quiescent m ρ
  · exact fun m ρ _ => Cert.Mla.quiescent m ρ
  · intro m ρ _
    exact (θ_run Cert.ReferenceMlaIdeal.defs _ _).mono (fun r h => ⟨fun c => (h c).2, sem_eq_zero_of_no_sems (by decide) r.2⟩)
      (Cert.ReferenceMlaIdeal.Value.run m ρ)
  · intro m ρ _
    exact (θ_run Cert.ReferenceMlaIdeal.defs _ _).mono (fun r h => ⟨fun c => (h c).2, sem_eq_zero_of_no_sems (by decide) r.2⟩)
      (Cert.ReferenceMlaIdeal.Value.run m ρ)
  · exact fun m ρ _ => Cert.KernelFfn.Gen.frame m ρ
  · exact fun m ρ _ => Cert.KernelFfnIdeal.Gen.frame m ρ
  · intro m ρ _
    exact (θ_run Cert.ReferenceFfnIdeal.defs _ _).mono (fun r h => ⟨fun c => (h c).2, sem_eq_zero_of_no_sems (by decide) r.2⟩)
      (Cert.ReferenceFfnIdeal.Value.run m ρ)
  · exact fun m ρ _ => Cert.KernelFfnB.Gen.frame m ρ
  · exact fun m ρ _ => Cert.KernelFfnBIdeal.Gen.frame m ρ
  · intro m ρ _
    exact (θ_run Cert.ReferenceFfnBIdeal.defs _ _).mono (fun r h => ⟨fun c => (h c).2, sem_eq_zero_of_no_sems (by decide) r.2⟩)
      (Cert.ReferenceFfnBIdeal.Value.run m ρ)
  · exact fun m ρ _ => Cert.KernelFfnC.Gen.frame m ρ
  · exact fun m ρ _ => Cert.KernelFfnCIdeal.Gen.frame m ρ
  · intro m ρ _
    exact (θ_run Cert.ReferenceFfnCIdeal.defs _ _).mono (fun r h => ⟨fun c => (h c).2, sem_eq_zero_of_no_sems (by decide) r.2⟩)
      (Cert.ReferenceFfnCIdeal.Value.run m ρ)
  · exact fun m ρ _ => Cert.FfnD.quiescent_printed m ρ
  · exact fun m ρ _ => Cert.FfnD.quiescent m ρ
  · intro m ρ _
    exact (θ_run Cert.ReferenceFfnDIdeal.defs _ _).mono (fun r h => ⟨fun c => (h c).2.2, sem_eq_zero_of_no_sems (by decide) r.2⟩)
      (Cert.FfnD.Ref.run m ρ)
  · exact fun m ρ _ => Cert.Gqa.quiescent_printed m ρ
  · exact fun m ρ _ => Cert.Gqa.quiescent m ρ
  · exact fun m ρ _ => Cert.Gqa.quiescent m ρ
  · intro m ρ _
    exact (θ_run Cert.ReferenceGqaIdeal.defs _ _).mono (fun r h => ⟨fun c => (h c).2, sem_eq_zero_of_no_sems (by decide) r.2⟩)
      (Cert.ReferenceGqaIdeal.Value.run m ρ)
  · intro m ρ _
    exact (θ_run Cert.ReferenceGqaIdeal.defs _ _).mono (fun r h => ⟨fun c => (h c).2, sem_eq_zero_of_no_sems (by decide) r.2⟩)
      (Cert.ReferenceGqaIdeal.Value.run m ρ)
  · exact fun m ρ _ => Cert.MlaP.quiescent_printed m ρ
  · exact fun m ρ _ => Cert.MlaP.quiescent m ρ
  · exact fun m ρ _ => Cert.MlaP.quiescent m ρ
  · intro m ρ _
    exact (θ_run Cert.ReferenceMlaPIdeal.defs _ _).mono (fun r h => ⟨fun c => (h c).2, sem_eq_zero_of_no_sems (by decide) r.2⟩)
      (Cert.ReferenceMlaPIdeal.Value.run m ρ)
  · intro m ρ _
    exact (θ_run Cert.ReferenceMlaPIdeal.defs _ _).mono (fun r h => ⟨fun c => (h c).2, sem_eq_zero_of_no_sems (by decide) r.2⟩)
      (Cert.ReferenceMlaPIdeal.Value.run m ρ)
  · trivial
  · pair_intro
    · run_from Cert.Mla.run_main m g
    · refine (θ_run Cert.ReferenceMlaIdeal.defs _ _).mono (fun r h c => ⟨(h c).1.trans ?_, (h c).2⟩) (Cert.ReferenceMlaIdeal.Value.run m' g')
      obtain ⟨h0, h1, h2⟩ := hagree c
      obtain ⟨p0, p1, p2⟩ := hpre c
      rw [Cert.Mla.final m c (Cert.Mla.Pre.q_real _ _ _ p0) (Cert.Mla.Pre.k_real _ _ _ p1) (Cert.Mla.Pre.v_one _ _ _ p2), ← h0, ← h1, ← h2]
      exact Cert.Mla.Ref.res_eq m' c
  · trivial
  · pair_intro
    · run_from Cert.KernelFfnIdeal.Gen.run_main m g
    · run_from Cert.ReferenceFfnIdeal.Value.run m' g'
      obtain ⟨h0, h1, h2, h3, h4, h5, h6⟩ := hagree c
      rw [Cert.Ffn.final]
      unfold Cert.ReferenceFfnIdeal.Value.res_main_v22
      rw [h0, h1, h2, h3, h4, h5, h6]
      rfl
  · trivial
  · pair_intro
    · run_from Cert.KernelFfnBIdeal.Gen.run_main m g
    · refine (θ_run Cert.ReferenceFfnBIdeal.defs _ _).mono (fun r h c => ⟨(h c).1.trans ?_, (h c).2⟩) (Cert.ReferenceFfnBIdeal.Value.run m' g')
      obtain ⟨h0, h1, h2, h3⟩ := hagree c
      refine Eq.trans ?_ (Cert.FfnB.final m c).symm
      rw [← h0, ← h1, ← h2, ← h3]
      rfl
  · trivial
  · intro m g m' g' _ hagree
    refine ⟨fun c => (Cert.KernelFfnCIdeal.Gen.dats m 0 c).arrAt 20 (Cert.KernelFfnCIdeal.cfgs 0).N, ?_, ?_⟩
    · exact (θ_run Cert.KernelFfnCIdeal.defs _ _).mono (fun r h c => ⟨(h.1 c).1 20, h.2 c⟩)
        (θ_run_and (Cert.KernelFfnCIdeal.Gen.run_main m g) (Cert.KernelFfnCIdeal.Gen.unchanged m g))
    · refine (θ_run Cert.ReferenceFfnCIdeal.defs _ _).mono (fun r h c => ⟨(h c).1.trans ?_, (h c).2⟩) (Cert.ReferenceFfnCIdeal.Value.run m' g')
      obtain ⟨h0, h1, h2, h3, h4, h5, h6, h7, h8, h9, h10, h11, h12, h13, h14, h15, h16⟩ := hagree c
      refine Eq.trans ?_ (Cert.FfnC.final m c).symm
      rw [← h0, ← h1, ← h2, ← h3, ← h4, ← h5, ← h6, ← h7, ← h8, ← h9, ← h10, ← h11, ← h12, ← h13, ← h14, ← h15, ← h16]
      rfl
  · trivial
  · intro m g m' g' _ hagree
    refine ⟨fun c => (Cert.FfnD.dats m 0 c).arrAt 21 (Cert.KernelFfnDIdeal.cfgs 0).N, fun c => (Cert.FfnD.dats m 0 c).arrAt 22 (Cert.KernelFfnDIdeal.cfgs 0).N, ?_, ?_⟩
    · exact (θ_run Cert.KernelFfnDIdeal.defs _ _).mono (fun r h c => ⟨(h.1 c).1 21, (h.1 c).1 22, h.2 c⟩)
        (θ_run_and (Cert.FfnD.run_main m g) (Cert.FfnD.unchanged m g))
    · refine (θ_run Cert.ReferenceFfnDIdeal.defs _ _).mono (fun r h c => ⟨(h c).1.trans ?_, (h c).2.1.trans ?_, (h c).2.2⟩) (Cert.FfnD.Ref.run m' g')
      · obtain ⟨h0, h1, h2, h3, h4, h5, h6, h7, h8, h9, h10, h11, h12, h13, h14, h15, h16, h17⟩ := hagree c
        refine Eq.trans ?_ (Cert.FfnD.final_p m c).symm
        unfold Cert.FfnD.normed Cert.FfnD.Ref.normed
        rw [← h0, ← h1, ← h2, ← h3, ← h4, ← h5, ← h6, ← h7, ← h8, ← h9, ← h10, ← h11, ← h12, ← h13, ← h14, ← h15, ← h16, ← h17]
      · obtain ⟨h0, h1, h2, h3, h4, h5, h6, h7, h8, h9, h10, h11, h12, h13, h14, h15, h16, h17⟩ := hagree c
        refine Eq.trans ?_ (Cert.FfnD.final_s m c).symm
        unfold Cert.FfnD.normed Cert.FfnD.Ref.normed
        rw [← h0, ← h1, ← h2, ← h3, ← h4, ← h5, ← h6, ← h7, ← h8, ← h9, ← h10, ← h11, ← h12, ← h13, ← h14, ← h15, ← h16, ← h17]
  · trivial
  · pair_intro
    · run_from Cert.Gqa.run_main m g
    · refine (θ_run Cert.ReferenceGqaIdeal.defs _ _).mono (fun r h c => ⟨(h c).1.trans ?_, (h c).2⟩) (Cert.ReferenceGqaIdeal.Value.run m' g')
      obtain ⟨h0, h1, h2⟩ := hagree c
      obtain ⟨p0, p1, p2, p3, p4⟩ := hpre c
      rw [Cert.Gqa.final m c (Cert.Gqa.Pre.q_real _ _ _ p0) (Cert.Gqa.Pre.k_real _ _ _ p1) (Cert.Gqa.Pre.v_one _ _ _ p2) (Cert.Gqa.Pre.off_zero _ _ _ p3 p4), ← h0, ← h1, ← h2]
      exact Cert.Gqa.Ref.res_eq m' c
  · trivial
  · pair_intro
    · run_from Cert.MlaP.run_main m g
    · refine (θ_run Cert.ReferenceMlaPIdeal.defs _ _).mono (fun r h c => ⟨(h c).1.trans ?_, (h c).2⟩) (Cert.ReferenceMlaPIdeal.Value.run m' g')
      obtain ⟨h0, h1, h2⟩ := hagree c
      obtain ⟨p0, p1, p2⟩ := hpre c
      rw [Cert.MlaP.final m c (Cert.Mla.Pre.q_real _ _ _ p0) (Cert.Mla.Pre.k_real _ _ _ p1) (Cert.Mla.Pre.v_one _ _ _ p2), ← h0, ← h1, ← h2]
      exact Cert.MlaP.Ref.res_eq m' c⟩

end Cert.Proof

end
